-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bitsLt_bf16_f32 : FTy.bits .bf16 < FTy.bits .f32
  bcast_S_S2x256x1024 : S_.BroadcastsInDim S2x256x1024 (![] : Fin 0 → Fin S2x256x1024.rank)
  bcast_S_S1024x64 : S_.BroadcastsInDim S1024x64 (![] : Fin 0 → Fin S1024x64.rank)
  bcast_S_S64x1024 : S_.BroadcastsInDim S64x1024 (![] : Fin 0 → Fin S64x1024.rank)
  bcast_S_S1024x1024 : S_.BroadcastsInDim S1024x1024 (![] : Fin 0 → Fin S1024x1024.rank)
  bcast_S_S1024x512 : S_.BroadcastsInDim S1024x512 (![] : Fin 0 → Fin S1024x512.rank)
  bcast_S_S1024x32 : S_.BroadcastsInDim S1024x32 (![] : Fin 0 → Fin S1024x32.rank)

variable [Facts]

def fn_part1 {F : FTy → Type} [FloatOps F] (main_arg6 : FVec F S1024x32 .bf16) (main_v3 : IVec S2x256x1024 1) (main_v7 : IVec S1024x64 1) (main_v11 : IVec S64x1024 1) (main_v15 : IVec S1024x1024 1) (main_v17 : FVec F S1024x512 .f32) (main_v18 : FVec F S1024x512 .f32) : IVec S2x256x1024 1 × IVec S1024x64 1 × IVec S64x1024 1 × IVec S1024x1024 1 × IVec S1024x512 1 × IVec S1024x32 1 :=
  let main_v19 : IVec S1024x512 1 := cmpf .olt main_v17 main_v18
  let main_v20 : FVec F S1024x32 .f32 := (extf .f32 · bitsLt_bf16_f32) main_arg6
  let main_v21 : FVec F S1024x32 .f32 := Host.absf main_v20
  let main_cst_4 : FVec F S_ .f32 := constant S_ .f32 0x7F800000#32
  let main_v22 : FVec F S1024x32 .f32 := broadcastInDim S1024x32 ![] bcast_S_S1024x32 main_cst_4
  let main_v23 : IVec S1024x32 1 := cmpf .olt main_v21 main_v22
  (main_v3, main_v7, main_v11, main_v15, main_v19, main_v23)

def fn {F : FTy → Type} [FloatOps F] (main_arg0 : FVec F S2x256x1024 .bf16) (main_arg1 : FVec F S1024x64 .bf16) (main_arg2 : FVec F S64x1024 .bf16) (main_arg3 : FVec F S64x1024 .bf16) (main_arg4 : FVec F S1024x1024 .bf16) (main_arg5 : FVec F S1024x512 .bf16) (main_arg6 : FVec F S1024x32 .bf16) (main_arg7 : FVec F S1024x1024 .bf16) : IVec S2x256x1024 1 × IVec S1024x64 1 × IVec S64x1024 1 × IVec S1024x1024 1 × IVec S1024x512 1 × IVec S1024x32 1 :=
  let main_v0 : FVec F S2x256x1024 .f32 := (extf .f32 · bitsLt_bf16_f32) main_arg0
  let main_v1 : FVec F S2x256x1024 .f32 := Host.absf main_v0
  let main_cst : FVec F S_ .f32 := constant S_ .f32 0x7F800000#32
  let main_v2 : FVec F S2x256x1024 .f32 := broadcastInDim S2x256x1024 ![] bcast_S_S2x256x1024 main_cst
  let main_v3 : IVec S2x256x1024 1 := cmpf .olt main_v1 main_v2
  let main_v4 : FVec F S1024x64 .f32 := (extf .f32 · bitsLt_bf16_f32) main_arg1
  let main_v5 : FVec F S1024x64 .f32 := Host.absf main_v4
  let main_cst_0 : FVec F S_ .f32 := constant S_ .f32 0x7F800000#32
  let main_v6 : FVec F S1024x64 .f32 := broadcastInDim S1024x64 ![] bcast_S_S1024x64 main_cst_0
  let main_v7 : IVec S1024x64 1 := cmpf .olt main_v5 main_v6
  let main_v8 : FVec F S64x1024 .f32 := (extf .f32 · bitsLt_bf16_f32) main_arg2
  let main_v9 : FVec F S64x1024 .f32 := Host.absf main_v8
  let main_cst_1 : FVec F S_ .f32 := constant S_ .f32 0x7F800000#32
  let main_v10 : FVec F S64x1024 .f32 := broadcastInDim S64x1024 ![] bcast_S_S64x1024 main_cst_1
  let main_v11 : IVec S64x1024 1 := cmpf .olt main_v9 main_v10
  let main_v12 : FVec F S1024x1024 .f32 := (extf .f32 · bitsLt_bf16_f32) main_arg4
  let main_v13 : FVec F S1024x1024 .f32 := Host.absf main_v12
  let main_cst_2 : FVec F S_ .f32 := constant S_ .f32 0x7F800000#32
  let main_v14 : FVec F S1024x1024 .f32 := broadcastInDim S1024x1024 ![] bcast_S_S1024x1024 main_cst_2
  let main_v15 : IVec S1024x1024 1 := cmpf .olt main_v13 main_v14
  let main_v16 : FVec F S1024x512 .f32 := (extf .f32 · bitsLt_bf16_f32) main_arg5
  let main_v17 : FVec F S1024x512 .f32 := Host.absf main_v16
  let main_cst_3 : FVec F S_ .f32 := constant S_ .f32 0x7F800000#32
  let main_v18 : FVec F S1024x512 .f32 := broadcastInDim S1024x512 ![] bcast_S_S1024x512 main_cst_3
  fn_part1 (F := F) main_arg6 main_v3 main_v7 main_v11 main_v15 main_v17 main_v18
-- ==== Pre_scores_finite_ReferenceIdeal.lean ====
abbrev S2x256x1024 : Shape := ⟨3, ![2, 256, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bitsLt_bf16_f32 : FTy.bits .bf16 < FTy.bits .f32
  bcast_S_S2x256x1024 : S_.BroadcastsInDim S2x256x1024 (![] : Fin 0 → Fin S2x256x1024.rank)
  bcast_S_S1024x1024 : S_.BroadcastsInDim S1024x1024 (![] : Fin 0 → Fin S1024x1024.rank)
  bcast_S_S1024x512 : S_.BroadcastsInDim S1024x512 (![] : Fin 0 → Fin S1024x512.rank)
  bcast_S_S1024x32 : S_.BroadcastsInDim S1024x32 (![] : Fin 0 → Fin S1024x32.rank)

variable [Facts]

def fn_part1 {F : FTy → Type} [FloatOps F] (main_arg6 : FVec F S1024x32 .bf16) (main_v3 : IVec S2x256x1024 1) (main_v7 : IVec S1024x1024 1) (main_v11 : IVec S1024x1024 1) (main_v15 : IVec S1024x1024 1) (main_v17 : FVec F S1024x512 .f32) (main_v18 : FVec F S1024x512 .f32) : IVec S2x256x1024 1 × IVec S1024x1024 1 × IVec S1024x1024 1 × IVec S1024x1024 1 × IVec S1024x512 1 × IVec S1024x32 1 :=
  let main_v19 : IVec S1024x512 1 := cmpf .olt main_v17 main_v18
  let main_v20 : FVec F S1024x32 .f32 := (extf .f32 · bitsLt_bf16_f32) main_arg6
  let main_v21 : FVec F S1024x32 .f32 := Host.absf main_v20
  let main_cst_4 : FVec F S_ .f32 := constant S_ .f32 0x7F800000#32
  let main_v22 : FVec F S1024x32 .f32 := broadcastInDim S1024x32 ![] bcast_S_S1024x32 main_cst_4
  let main_v23 : IVec S1024x32 1 := cmpf .olt main_v21 main_v22
  (main_v3, main_v7, main_v11, main_v15, main_v19, main_v23)

def fn {F : FTy → Type} [FloatOps F] (main_arg0 : FVec F S2x256x1024 .bf16) (main_arg1 : FVec F S1024x1024 .bf16) (main_arg2 : FVec F S1024x1024 .bf16) (main_arg3 : FVec F S1024x1024 .bf16) (main_arg4 : FVec F S1024x1024 .bf16) (main_arg5 : FVec F S1024x512 .bf16) (main_arg6 : FVec F S1024x32 .bf16) (main_arg7 : FVec F S1024x1024 .bf16) : IVec S2x256x1024 1 × IVec S1024x1024 1 × IVec S1024x1024 1 × IVec S1024x1024 1 × IVec S1024x512 1 × IVec S1024x32 1 :=
  let main_v0 : FVec F S2x256x1024 .f32 := (extf .f32 · bitsLt_bf16_f32) main_arg0
  let main_v1 : FVec F S2x256x1024 .f32 := Host.absf main_v0
  let main_cst : FVec F S_ .f32 := constant S_ .f32 0x7F800000#32
  let main_v2 : FVec F S2x256x1024 .f32 := broadcastInDim S2x256x1024 ![] bcast_S_S2x256x1024 main_cst
  let main_v3 : IVec S2x256x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S1024x1024 .f32 := (extf .f32 · bitsLt_bf16_f32) main_arg2
  let main_v9 : FVec F S1024x1024 .f32 := Host.absf main_v8
  let main_cst_1 : FVec F S_ .f32 := constant S_ .f32 0x7F800000#32
  let main_v10 : FVec F S1024x1024 .f32 := broadcastInDim S1024x1024 ![] bcast_S_S1024x1024 main_cst_1
  let main_v11 : IVec S1024x1024 1 := cmpf .olt main_v9 main_v10
  let main_v12 : FVec F S1024x1024 .f32 := (extf .f32 · bitsLt_bf16_f32) main_arg4
  let main_v13 : FVec F S1024x1024 .f32 := Host.absf main_v12
  let main_cst_2 : FVec F S_ .f32 := constant S_ .f32 0x7F800000#32
  let main_v14 : FVec F S1024x1024 .f32 := broadcastInDim S1024x1024 ![] bcast_S_S1024x1024 main_cst_2
  let main_v15 : IVec S1024x1024 1 := cmpf .olt main_v13 main_v14
  let main_v16 : FVec F S1024x512 .f32 := (extf .f32 · bitsLt_bf16_f32) main_arg5
  let main_v17 : FVec F S1024x512 .f32 := Host.absf main_v16
  let main_cst_3 : FVec F S_ .f32 := constant S_ .f32 0x7F800000#32
  let main_v18 : FVec F S1024x512 .f32 := broadcastInDim S1024x512 ![] bcast_S_S1024x512 main_cst_3
  fn_part1 (F := F) main_arg6 main_v3 main_v7 main_v11 main_v15 main_v17 main_v18
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S512x1024 : Shape := ⟨2, ![512, 1024]⟩
abbrev S512x4096 : Shape := ⟨2, ![512, 4096]⟩
abbrev S2x3x128x1024 : Shape := ⟨4, ![2, 3, 128, 1024]⟩
abbrev S2x64x1024 : Shape := ⟨3, ![2, 64, 1024]⟩
abbrev S2x32x1024 : Shape := ⟨3, ![2, 32, 1024]⟩
abbrev S256x1024 : Shape := ⟨2, ![256, 1024]⟩
abbrev S2x128x1024 : Shape := ⟨3, ![2, 128, 1024]⟩
abbrev S2x3 : Shape := ⟨2, ![2, 3]⟩
abbrev S2x2 : Shape := ⟨2, ![2, 2]⟩
abbrev S4 : Shape := ⟨1, ![4]⟩
abbrev S512x64 : Shape := ⟨2, ![512, 64]⟩
abbrev S_ : Shape := ⟨0, ![]⟩
abbrev S128x1024 : Shape := ⟨2, ![128, 1024]⟩
abbrev S1x1x128x1024 : Shape := ⟨4, ![1, 1, 128, 1024]⟩
abbrev S1x1 : Shape := ⟨2, ![1, 1]⟩
abbrev S512x512 : Shape := ⟨2, ![512, 512]⟩
abbrev S512x32 : Shape := ⟨2, ![512, 32]⟩
abbrev S256x32 : Shape := ⟨2, ![256, 32]⟩
abbrev S256x256 : Shape := ⟨2, ![256, 256]⟩
abbrev S1x64x1024 : Shape := ⟨3, ![1, 64, 1024]⟩
abbrev S32x1024 : Shape := ⟨2, ![32, 1024]⟩
abbrev S1x32x1024 : Shape := ⟨3, ![1, 32, 1024]⟩
abbrev S1 : Shape := ⟨1, ![1]⟩
abbrev S1x256x1024 : Shape := ⟨3, ![1, 256, 1024]⟩
abbrev S1x128x1024 : Shape := ⟨3, ![1, 128, 1024]⟩
abbrev S256x64 : Shape := ⟨2, ![256, 64]⟩
abbrev S256 : Shape := ⟨1, ![256]⟩
abbrev S256x1 : Shape := ⟨2, ![256, 1]⟩

abbrev nBuf : Space → Nat
  | .hbm => 9
  | .vmem => 26
  | .smem => 0
  | _ => 0

abbrev bufTy : (tb : Table) → Fin (tcTables nBuf tb) → BufTy
  | .hbm, ⟨0, _⟩ => ⟨S2x256x1024, .bf16⟩
  | .hbm, ⟨1, _⟩ => ⟨S1024x64, .bf16⟩
  | .hbm, ⟨2, _⟩ => ⟨S64x1024, .bf16⟩
  | .hbm, ⟨3, _⟩ => ⟨S64x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S2x256x1024, .f32⟩
  | .local _ .vmem, ⟨0, _⟩ => ⟨S2x256x1024, .bf16⟩
  | .local _ .vmem, ⟨1, _⟩ => ⟨S1024x64, .bf16⟩
  | .local _ .vmem, ⟨2, _⟩ => ⟨S64x1024, .bf16⟩
  | .local _ .vmem, ⟨3, _⟩ => ⟨S64x1024, .bf16⟩
  | .local _ .vmem, ⟨4, _⟩ => ⟨S1024x1024, .bf16⟩
  | .local _ .vmem, ⟨5, _⟩ => ⟨S1024x512, .bf16⟩
  | .local _ .vmem, ⟨6, _⟩ => ⟨S1024x32, .bf16⟩
  | .local _ .vmem, ⟨7, _⟩ => ⟨S1024x1024, .bf16⟩
  | .local _ .vmem, ⟨8, _⟩ => ⟨S2x256x1024, .f32⟩
  | .local _ .vmem, ⟨9, _⟩ => ⟨S1024x1024, .f32⟩
  | .local _ .vmem, ⟨10, _⟩ => ⟨S1024x1024, .bf16⟩
  | .local _ .vmem, ⟨11, _⟩ => ⟨S512x1024, .bf16⟩
  | .local _ .vmem, ⟨12, _⟩ => ⟨S512x4096, .f32⟩
  | .local _ .vmem, ⟨13, _⟩ => ⟨S2x3x128x1024, .bf16⟩
  | .local _ .vmem, ⟨14, _⟩ => ⟨S2x3x128x1024, .bf16⟩
  | .local _ .vmem, ⟨15, _⟩ => ⟨S2x64x1024, .bf16⟩
  | .local _ .vmem, ⟨16, _⟩ => ⟨S2x64x1024, .bf16⟩
  | .local _ .vmem, ⟨17, _⟩ => ⟨S2x32x1024, .bf16⟩
  | .local _ .vmem, ⟨18, _⟩ => ⟨S2x32x1024, .bf16⟩
  | .local _ .vmem, ⟨19, _⟩ => ⟨S2x32x1024, .bf16⟩
  | .local _ .vmem, ⟨20, _⟩ => ⟨S2x32x1024, .bf16⟩
  | .local _ .vmem, ⟨21, _⟩ => ⟨S2x64x1024, .bf16⟩
  | .local _ .vmem, ⟨22, _⟩ => ⟨S2x64x1024, .bf16⟩
  | .local _ .vmem, ⟨23, _⟩ => ⟨S256x1024, .bf16⟩
  | .local _ .vmem, ⟨24, _⟩ => ⟨S2x256x1024, .bf16⟩
  | .local _ .vmem, ⟨25, _⟩ => ⟨S2x128x1024, .bf16⟩
  | _, _ => ⟨S2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 2 → Bool
  | ⟨0, _⟩ => false
  | ⟨1, _⟩ => true
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 2 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_scratch9 : Ref sig .tc := ⟨.vmem, 18, rfl⟩
abbrev cc0_scratch10 : Ref sig .tc := ⟨.vmem, 19, rfl⟩
abbrev cc0_scratch11 : Ref sig .tc := ⟨.vmem, 20, rfl⟩
abbrev cc0_scratch12 : Ref sig .tc := ⟨.vmem, 21, rfl⟩
abbrev cc0_scratch13 : Ref sig .tc := ⟨.vmem, 22, rfl⟩
abbrev cc0_scratch14 : Ref sig .tc := ⟨.vmem, 23, rfl⟩
abbrev cc0_scratch15 : Ref sig .tc := ⟨.vmem, 24, rfl⟩
abbrev cc0_scratch16 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_36 : BitVec 32 := 1#32
  let v73 : BitVec 32 := Scalar.muli v24 c1_i32_36
  let v74 : BitVec 32 := Scalar.addi c0_i32_37 v73
  v74.toNat
def k0_dev2 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c3_i32 : BitVec 32 := 3#32
  let v25 : BitVec 32 := Scalar.addi v20 c3_i32
  let c4_i32_9 : BitVec 32 := 4#32
  let v26 : BitVec 32 := Scalar.remsi v25 c4_i32_9
  let v27 : BitVec 32 := Scalar.addi v21 v26
  let c1_i32_39 : BitVec 32 := 1#32
  let v75 : BitVec 32 := Scalar.muli v27 c1_i32_39
  let v76 : BitVec 32 := Scalar.addi c0_i32_40 v75
  v76.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_18 : BitVec 32 := 1#32
  let v47 : BitVec 32 := Scalar.xori v19 c1_i32_18
  let c4_i32_19 : BitVec 32 := 4#32
  let v48 : BitVec 32 := Scalar.muli v47 c4_i32_19
  let c4_i32_5 : BitVec 32 := 4#32
  let v20 : BitVec 32 := Scalar.remsi v2 c4_i32_5
  let v49 : BitVec 32 := Scalar.addi v48 v20
  let c1_i32_42 : BitVec 32 := 1#32
  let v77 : BitVec 32 := Scalar.muli v49 c1_i32_42
  let v78 : BitVec 32 := Scalar.addi c0_i32_43 v77
  v78.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_20 : BitVec 32 := 2#32
  let v50 : BitVec 32 := Scalar.xori v19 c2_i32_20
  let c4_i32_21 : BitVec 32 := 4#32
  let v51 : BitVec 32 := Scalar.muli v50 c4_i32_21
  let c4_i32_5 : BitVec 32 := 4#32
  let v20 : BitVec 32 := Scalar.remsi v2 c4_i32_5
  let v52 : BitVec 32 := Scalar.addi v51 v20
  let c1_i32_45 : BitVec 32 := 1#32
  let v79 : BitVec 32 := Scalar.muli v52 c1_i32_45
  let v80 : BitVec 32 := Scalar.addi c0_i32_46 v79
  v80.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_51 : BitVec 32 := 256#32
  let v86 : BitVec 32 := Scalar.muli v20 c256_i32_51
  let c0_i32_52 : BitVec 32 := 0#32
  let v87 : BitVec 32 := Scalar.addi v86 c0_i32_52
  let v88 : Index := Scalar.indexCast v87
  let c0_53 : Index := 0#32
  ![v88.toNat, 0]
def k0_off2 (d0 : Dev nD) (c2_i32_58 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v94 : BitVec 32 := Scalar.addi v20 c2_i32_58
  let c4_i32_59 : BitVec 32 := 4#32
  let v95 : BitVec 32 := Scalar.remsi v94 c4_i32_59
  let c256_i32_60 : BitVec 32 := 256#32
  let v96 : BitVec 32 := Scalar.muli v95 c256_i32_60
  let c128_i32_61 : BitVec 32 := 128#32
  let v97 : BitVec 32 := Scalar.addi v96 c128_i32_61
  let v98 : Index := Scalar.indexCast v97
  let c0_62 : Index := 0#32
  ![v98.toNat, 0]
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_74 : BitVec 32 := 1#32
  let v104 : BitVec 32 := Scalar.muli v24 c1_i32_74
  let v105 : BitVec 32 := Scalar.addi c0_i32_75 v104
  v105.toNat
def k0_dev6 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c3_i32 : BitVec 32 := 3#32
  let v25 : BitVec 32 := Scalar.addi v20 c3_i32
  let c4_i32_9 : BitVec 32 := 4#32
  let v26 : BitVec 32 := Scalar.remsi v25 c4_i32_9
  let v27 : BitVec 32 := Scalar.addi v21 v26
  let c1_i32_88 : BitVec 32 := 1#32
  let v114 : BitVec 32 := Scalar.muli v27 c1_i32_88
  let v115 : BitVec 32 := Scalar.addi c0_i32_89 v114
  v115.toNat
def k0_off3 (d0 : Dev nD) (c0_i32_151 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v156 : BitVec 32 := Scalar.subi v20 c0_i32_151
  let c1_i32_152 : BitVec 32 := 1#32
  let v157 : BitVec 32 := Scalar.subi v156 c1_i32_152
  let c8_i32 : BitVec 32 := 8#32
  let v158 : BitVec 32 := Scalar.addi v157 c8_i32
  let c4_i32_153 : BitVec 32 := 4#32
  let v159 : BitVec 32 := Scalar.remsi v158 c4_i32_153
  let c256_i32_154 : BitVec 32 := 256#32
  let v160 : BitVec 32 := Scalar.muli v159 c256_i32_154
  let c0_i32_155 : BitVec 32 := 0#32
  let v161 : BitVec 32 := Scalar.addi v160 c0_i32_155
  let v162 : Index := Scalar.indexCast v161
  let c0_156 : Index := 0#32
  ![v162.toNat, 0]
def k0_off4 (d0 : Dev nD) (c0_i32_168 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v178 : BitVec 32 := Scalar.addi v20 c0_i32_168
  let c3_i32_169 : BitVec 32 := 3#32
  let v179 : BitVec 32 := Scalar.addi v178 c3_i32_169
  let c4_i32_170 : BitVec 32 := 4#32
  let v180 : BitVec 32 := Scalar.remsi v179 c4_i32_170
  let c256_i32_171 : BitVec 32 := 256#32
  let v181 : BitVec 32 := Scalar.muli v180 c256_i32_171
  let c128_i32_172 : BitVec 32 := 128#32
  let v182 : BitVec 32 := Scalar.addi v181 c128_i32_172
  let v183 : Index := Scalar.indexCast v182
  let c0_173 : Index := 0#32
  ![v183.toNat, 0]
def k0_dev7 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_193 : BitVec 32 := 1#32
  let v199 : BitVec 32 := Scalar.muli v24 c1_i32_193
  let v200 : BitVec 32 := Scalar.addi c0_i32_194 v199
  v200.toNat
def k0_dev8 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c3_i32 : BitVec 32 := 3#32
  let v25 : BitVec 32 := Scalar.addi v20 c3_i32
  let c4_i32_9 : BitVec 32 := 4#32
  let v26 : BitVec 32 := Scalar.remsi v25 c4_i32_9
  let v27 : BitVec 32 := Scalar.addi v21 v26
  let c1_i32_207 : BitVec 32 := 1#32
  let v209 : BitVec 32 := Scalar.muli v27 c1_i32_207
  let v210 : BitVec 32 := Scalar.addi c0_i32_208 v209
  v210.toNat
def k0_dev9 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_315 : BitVec 32 := 1#32
  let v298 : BitVec 32 := Scalar.muli v24 c1_i32_315
  let v299 : BitVec 32 := Scalar.addi c0_i32_316 v298
  v299.toNat
def k0_dev10 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c3_i32 : BitVec 32 := 3#32
  let v25 : BitVec 32 := Scalar.addi v20 c3_i32
  let c4_i32_9 : BitVec 32 := 4#32
  let v26 : BitVec 32 := Scalar.remsi v25 c4_i32_9
  let v27 : BitVec 32 := Scalar.addi v21 v26
  let c1_i32_329 : BitVec 32 := 1#32
  let v308 : BitVec 32 := Scalar.muli v27 c1_i32_329
  let v309 : BitVec 32 := Scalar.addi c0_i32_330 v308
  v309.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_48 : BitVec 32 := 1#32
  let v81 : BitVec 32 := Scalar.addi v20 c1_i32_48
  let c4_i32_49 : BitVec 32 := 4#32
  let v82 : BitVec 32 := Scalar.remsi v81 c4_i32_49
  let c256_i32 : BitVec 32 := 256#32
  let v83 : BitVec 32 := Scalar.muli v82 c256_i32
  let c1_i32_453 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v28 : BitVec 32 := Scalar.remsi v19 c2_i32
  let v492 : BitVec 32 := Scalar.subi c1_i32_453 v28
  let c64_i32 : BitVec 32 := 64#32
  let v493 : BitVec 32 := Scalar.muli v492 c64_i32
  let v494 : BitVec 32 := Scalar.addi v83 v493
  let v495 : Index := Scalar.indexCast v494
  let c0_454 : Index := 0#32
  ![v495.toNat, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_48 : BitVec 32 := 1#32
  let v81 : BitVec 32 := Scalar.addi v20 c1_i32_48
  let c4_i32_49 : BitVec 32 := 4#32
  let v82 : BitVec 32 := Scalar.remsi v81 c4_i32_49
  let c256_i32_50 : BitVec 32 := 256#32
  let v84 : BitVec 32 := Scalar.muli v82 c256_i32_50
  let c128_i32 : BitVec 32 := 128#32
  let v85 : BitVec 32 := Scalar.addi v84 c128_i32
  let c1_i32_471 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v28 : BitVec 32 := Scalar.remsi v19 c2_i32
  let v518 : BitVec 32 := Scalar.subi c1_i32_471 v28
  let c64_i32_472 : BitVec 32 := 64#32
  let v519 : BitVec 32 := Scalar.muli v518 c64_i32_472
  let v520 : BitVec 32 := Scalar.addi v85 v519
  let v521 : Index := Scalar.indexCast v520
  let c0_473 : Index := 0#32
  ![v521.toNat, 0]
def k0_dev11 (d0 : Dev nD) : Nat :=
  let c0_i32_484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_18 : BitVec 32 := 1#32
  let v47 : BitVec 32 := Scalar.xori v19 c1_i32_18
  let c4_i32_19 : BitVec 32 := 4#32
  let v48 : BitVec 32 := Scalar.muli v47 c4_i32_19
  let c4_i32_5 : BitVec 32 := 4#32
  let v20 : BitVec 32 := Scalar.remsi v2 c4_i32_5
  let v49 : BitVec 32 := Scalar.addi v48 v20
  let c1_i32_483 : BitVec 32 := 1#32
  let v527 : BitVec 32 := Scalar.muli v49 c1_i32_483
  let v528 : BitVec 32 := Scalar.addi c0_i32_484 v527
  v528.toNat
def k0_dev12 (d0 : Dev nD) : Nat :=
  let c0_i32_496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_18 : BitVec 32 := 1#32
  let v47 : BitVec 32 := Scalar.xori v19 c1_i32_18
  let c4_i32_19 : BitVec 32 := 4#32
  let v48 : BitVec 32 := Scalar.muli v47 c4_i32_19
  let c4_i32_5 : BitVec 32 := 4#32
  let v20 : BitVec 32 := Scalar.remsi v2 c4_i32_5
  let v49 : BitVec 32 := Scalar.addi v48 v20
  let c1_i32_495 : BitVec 32 := 1#32
  let v537 : BitVec 32 := Scalar.muli v49 c1_i32_495
  let v538 : BitVec 32 := Scalar.addi c0_i32_496 v537
  v538.toNat
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_48 : BitVec 32 := 1#32
  let v81 : BitVec 32 := Scalar.addi v20 c1_i32_48
  let c4_i32_49 : BitVec 32 := 4#32
  let v82 : BitVec 32 := Scalar.remsi v81 c4_i32_49
  let c256_i32 : BitVec 32 := 256#32
  let v83 : BitVec 32 := Scalar.muli v82 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v28 : BitVec 32 := Scalar.remsi v19 c2_i32
  let c64_i32_611 : BitVec 32 := 64#32
  let v703 : BitVec 32 := Scalar.muli v28 c64_i32_611
  let v704 : BitVec 32 := Scalar.addi v83 v703
  let v705 : Index := Scalar.indexCast v704
  let c0_612 : Index := 0#32
  ![v705.toNat, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_48 : BitVec 32 := 1#32
  let v81 : BitVec 32 := Scalar.addi v20 c1_i32_48
  let c4_i32_49 : BitVec 32 := 4#32
  let v82 : BitVec 32 := Scalar.remsi v81 c4_i32_49
  let c256_i32 : BitVec 32 := 256#32
  let v83 : BitVec 32 := Scalar.muli v82 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v28 : BitVec 32 := Scalar.remsi v19 c2_i32
  let c64_i32_617 : BitVec 32 := 64#32
  let v715 : BitVec 32 := Scalar.muli v28 c64_i32_617
  let v716 : BitVec 32 := Scalar.addi v83 v715
  let c1_i32_618 : BitVec 32 := 1#32
  let c0_i32_11 : BitVec 32 := 0#32
  let v30 : BitVec 1 := Scalar.cmpi .sgt v19 c0_i32_11
  let v31 : BitVec 32 := Scalar.extui v30
  let c0_i32_12 : BitVec 32 := 0#32
  let v32 : BitVec 1 := Scalar.cmpi .slt v19 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v19 c2_i32_10
  let c0_i32_15 : BitVec 32 := 0#32
  let v42 : BitVec 1 := Scalar.cmpi .ne v41 c0_i32_15
  let v43 : BitVec 1 := Scalar.andi v40 v42
  let v29 : BitVec 32 := Scalar.divsi v19 c2_i32_10
  let c1_i32_16 : BitVec 32 := 1#32
  let v44 : BitVec 32 := Scalar.subi v29 c1_i32_16
  let v45 : BitVec 32 := Scalar.select v43 v44 v29
  let c2_i32_17 : BitVec 32 := 2#32
  let v46 : BitVec 32 := Scalar.remsi v45 c2_i32_17
  let v717 : BitVec 32 := Scalar.subi c1_i32_618 v46
  let c32_i32 : BitVec 32 := 32#32
  let v718 : BitVec 32 := Scalar.muli v717 c32_i32
  let v719 : BitVec 32 := Scalar.addi v716 v718
  let v720 : Index := Scalar.indexCast v719
  let c0_619 : Index := 0#32
  ![v720.toNat, 0]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_48 : BitVec 32 := 1#32
  let v81 : BitVec 32 := Scalar.addi v20 c1_i32_48
  let c4_i32_49 : BitVec 32 := 4#32
  let v82 : BitVec 32 := Scalar.remsi v81 c4_i32_49
  let c256_i32_50 : BitVec 32 := 256#32
  let v84 : BitVec 32 := Scalar.muli v82 c256_i32_50
  let c128_i32 : BitVec 32 := 128#32
  let v85 : BitVec 32 := Scalar.addi v84 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v28 : BitVec 32 := Scalar.remsi v19 c2_i32
  let c64_i32_623 : BitVec 32 := 64#32
  let v726 : BitVec 32 := Scalar.muli v28 c64_i32_623
  let v727 : BitVec 32 := Scalar.addi v85 v726
  let v728 : Index := Scalar.indexCast v727
  let c0_624 : Index := 0#32
  ![v728.toNat, 0]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_48 : BitVec 32 := 1#32
  let v81 : BitVec 32 := Scalar.addi v20 c1_i32_48
  let c4_i32_49 : BitVec 32 := 4#32
  let v82 : BitVec 32 := Scalar.remsi v81 c4_i32_49
  let c256_i32_50 : BitVec 32 := 256#32
  let v84 : BitVec 32 := Scalar.muli v82 c256_i32_50
  let c128_i32 : BitVec 32 := 128#32
  let v85 : BitVec 32 := Scalar.addi v84 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v28 : BitVec 32 := Scalar.remsi v19 c2_i32
  let c64_i32_629 : BitVec 32 := 64#32
  let v738 : BitVec 32 := Scalar.muli v28 c64_i32_629
  let v739 : BitVec 32 := Scalar.addi v85 v738
  let c1_i32_630 : BitVec 32 := 1#32
  let c0_i32_11 : BitVec 32 := 0#32
  let v30 : BitVec 1 := Scalar.cmpi .sgt v19 c0_i32_11
  let v31 : BitVec 32 := Scalar.extui v30
  let c0_i32_12 : BitVec 32 := 0#32
  let v32 : BitVec 1 := Scalar.cmpi .slt v19 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v19 c2_i32_10
  let c0_i32_15 : BitVec 32 := 0#32
  let v42 : BitVec 1 := Scalar.cmpi .ne v41 c0_i32_15
  let v43 : BitVec 1 := Scalar.andi v40 v42
  let v29 : BitVec 32 := Scalar.divsi v19 c2_i32_10
  let c1_i32_16 : BitVec 32 := 1#32
  let v44 : BitVec 32 := Scalar.subi v29 c1_i32_16
  let v45 : BitVec 32 := Scalar.select v43 v44 v29
  let c2_i32_17 : BitVec 32 := 2#32
  let v46 : BitVec 32 := Scalar.remsi v45 c2_i32_17
  let v740 : BitVec 32 := Scalar.subi c1_i32_630 v46
  let c32_i32_631 : BitVec 32 := 32#32
  let v741 : BitVec 32 := Scalar.muli v740 c32_i32_631
  let v742 : BitVec 32 := Scalar.addi v739 v741
  let v743 : Index := Scalar.indexCast v742
  let c0_632 : Index := 0#32
  ![v743.toNat, 0]
def k0_dev13 (d0 : Dev nD) : Nat :=
  let c0_i32_643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_20 : BitVec 32 := 2#32
  let v50 : BitVec 32 := Scalar.xori v19 c2_i32_20
  let c4_i32_21 : BitVec 32 := 4#32
  let v51 : BitVec 32 := Scalar.muli v50 c4_i32_21
  let c4_i32_5 : BitVec 32 := 4#32
  let v20 : BitVec 32 := Scalar.remsi v2 c4_i32_5
  let v52 : BitVec 32 := Scalar.addi v51 v20
  let c1_i32_642 : BitVec 32 := 1#32
  let v749 : BitVec 32 := Scalar.muli v52 c1_i32_642
  let v750 : BitVec 32 := Scalar.addi c0_i32_643 v749
  v750.toNat
def k0_dev14 (d0 : Dev nD) : Nat :=
  let c0_i32_655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_20 : BitVec 32 := 2#32
  let v50 : BitVec 32 := Scalar.xori v19 c2_i32_20
  let c4_i32_21 : BitVec 32 := 4#32
  let v51 : BitVec 32 := Scalar.muli v50 c4_i32_21
  let c4_i32_5 : BitVec 32 := 4#32
  let v20 : BitVec 32 := Scalar.remsi v2 c4_i32_5
  let v52 : BitVec 32 := Scalar.addi v51 v20
  let c1_i32_654 : BitVec 32 := 1#32
  let v759 : BitVec 32 := Scalar.muli v52 c1_i32_654
  let v760 : BitVec 32 := Scalar.addi c0_i32_655 v759
  v760.toNat
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_48 : BitVec 32 := 1#32
  let v81 : BitVec 32 := Scalar.addi v20 c1_i32_48
  let c4_i32_49 : BitVec 32 := 4#32
  let v82 : BitVec 32 := Scalar.remsi v81 c4_i32_49
  let c256_i32 : BitVec 32 := 256#32
  let v83 : BitVec 32 := Scalar.muli v82 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v28 : BitVec 32 := Scalar.remsi v19 c2_i32
  let c64_i32_706 : BitVec 32 := 64#32
  let v797 : BitVec 32 := Scalar.muli v28 c64_i32_706
  let v798 : BitVec 32 := Scalar.addi v83 v797
  let c0_i32_11 : BitVec 32 := 0#32
  let v30 : BitVec 1 := Scalar.cmpi .sgt v19 c0_i32_11
  let v31 : BitVec 32 := Scalar.extui v30
  let c0_i32_12 : BitVec 32 := 0#32
  let v32 : BitVec 1 := Scalar.cmpi .slt v19 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v19 c2_i32_10
  let c0_i32_15 : BitVec 32 := 0#32
  let v42 : BitVec 1 := Scalar.cmpi .ne v41 c0_i32_15
  let v43 : BitVec 1 := Scalar.andi v40 v42
  let v29 : BitVec 32 := Scalar.divsi v19 c2_i32_10
  let c1_i32_16 : BitVec 32 := 1#32
  let v44 : BitVec 32 := Scalar.subi v29 c1_i32_16
  let v45 : BitVec 32 := Scalar.select v43 v44 v29
  let c2_i32_17 : BitVec 32 := 2#32
  let v46 : BitVec 32 := Scalar.remsi v45 c2_i32_17
  let c32_i32_707 : BitVec 32 := 32#32
  let v799 : BitVec 32 := Scalar.muli v46 c32_i32_707
  let v800 : BitVec 32 := Scalar.addi v798 v799
  let v801 : Index := Scalar.indexCast v800
  let c0_708 : Index := 0#32
  ![v801.toNat, 0]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_48 : BitVec 32 := 1#32
  let v81 : BitVec 32 := Scalar.addi v20 c1_i32_48
  let c4_i32_49 : BitVec 32 := 4#32
  let v82 : BitVec 32 := Scalar.remsi v81 c4_i32_49
  let c256_i32_50 : BitVec 32 := 256#32
  let v84 : BitVec 32 := Scalar.muli v82 c256_i32_50
  let c128_i32 : BitVec 32 := 128#32
  let v85 : BitVec 32 := Scalar.addi v84 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v28 : BitVec 32 := Scalar.remsi v19 c2_i32
  let c64_i32_716 : BitVec 32 := 64#32
  let v815 : BitVec 32 := Scalar.muli v28 c64_i32_716
  let v816 : BitVec 32 := Scalar.addi v85 v815
  let c0_i32_11 : BitVec 32 := 0#32
  let v30 : BitVec 1 := Scalar.cmpi .sgt v19 c0_i32_11
  let v31 : BitVec 32 := Scalar.extui v30
  let c0_i32_12 : BitVec 32 := 0#32
  let v32 : BitVec 1 := Scalar.cmpi .slt v19 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v19 c2_i32_10
  let c0_i32_15 : BitVec 32 := 0#32
  let v42 : BitVec 1 := Scalar.cmpi .ne v41 c0_i32_15
  let v43 : BitVec 1 := Scalar.andi v40 v42
  let v29 : BitVec 32 := Scalar.divsi v19 c2_i32_10
  let c1_i32_16 : BitVec 32 := 1#32
  let v44 : BitVec 32 := Scalar.subi v29 c1_i32_16
  let v45 : BitVec 32 := Scalar.select v43 v44 v29
  let c2_i32_17 : BitVec 32 := 2#32
  let v46 : BitVec 32 := Scalar.remsi v45 c2_i32_17
  let c32_i32_717 : BitVec 32 := 32#32
  let v817 : BitVec 32 := Scalar.muli v46 c32_i32_717
  let v818 : BitVec 32 := Scalar.addi v816 v817
  let v819 : Index := Scalar.indexCast v818
  let c0_718 : Index := 0#32
  ![v819.toNat, 0]
def k0_dev15 (d0 : Dev nD) : Nat :=
  let c0_i32_733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_20 : BitVec 32 := 2#32
  let v50 : BitVec 32 := Scalar.xori v19 c2_i32_20
  let c4_i32_21 : BitVec 32 := 4#32
  let v51 : BitVec 32 := Scalar.muli v50 c4_i32_21
  let c4_i32_5 : BitVec 32 := 4#32
  let v20 : BitVec 32 := Scalar.remsi v2 c4_i32_5
  let v52 : BitVec 32 := Scalar.addi v51 v20
  let c1_i32_732 : BitVec 32 := 1#32
  let v833 : BitVec 32 := Scalar.muli v52 c1_i32_732
  let v834 : BitVec 32 := Scalar.addi c0_i32_733 v833
  v834.toNat
def k0_dev16 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_20 : BitVec 32 := 2#32
  let v50 : BitVec 32 := Scalar.xori v19 c2_i32_20
  let c4_i32_21 : BitVec 32 := 4#32
  let v51 : BitVec 32 := Scalar.muli v50 c4_i32_21
  let c4_i32_5 : BitVec 32 := 4#32
  let v20 : BitVec 32 := Scalar.remsi v2 c4_i32_5
  let v52 : BitVec 32 := Scalar.addi v51 v20
  let c1_i32_744 : BitVec 32 := 1#32
  let v843 : BitVec 32 := Scalar.muli v52 c1_i32_744
  let v844 : BitVec 32 := Scalar.addi c0_i32_745 v843
  v844.toNat
def k0_dev17 (d0 : Dev nD) : Nat :=
  let c0_i32_827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_18 : BitVec 32 := 1#32
  let v47 : BitVec 32 := Scalar.xori v19 c1_i32_18
  let c4_i32_19 : BitVec 32 := 4#32
  let v48 : BitVec 32 := Scalar.muli v47 c4_i32_19
  let c4_i32_5 : BitVec 32 := 4#32
  let v20 : BitVec 32 := Scalar.remsi v2 c4_i32_5
  let v49 : BitVec 32 := Scalar.addi v48 v20
  let c1_i32_826 : BitVec 32 := 1#32
  let v917 : BitVec 32 := Scalar.muli v49 c1_i32_826
  let v918 : BitVec 32 := Scalar.addi c0_i32_827 v917
  v918.toNat
def k0_dev18 (d0 : Dev nD) : Nat :=
  let c0_i32_839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_18 : BitVec 32 := 1#32
  let v47 : BitVec 32 := Scalar.xori v19 c1_i32_18
  let c4_i32_19 : BitVec 32 := 4#32
  let v48 : BitVec 32 := Scalar.muli v47 c4_i32_19
  let c4_i32_5 : BitVec 32 := 4#32
  let v20 : BitVec 32 := Scalar.remsi v2 c4_i32_5
  let v49 : BitVec 32 := Scalar.addi v48 v20
  let c1_i32_838 : BitVec 32 := 1#32
  let v927 : BitVec 32 := Scalar.muli v49 c1_i32_838
  let v928 : BitVec 32 := Scalar.addi c0_i32_839 v927
  v928.toNat
def k0_off13 (d0 : Dev nD) (c1_i32_48 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v81 : BitVec 32 := Scalar.addi v20 c1_i32_48
  let c4_i32_49 : BitVec 32 := 4#32
  let v82 : BitVec 32 := Scalar.remsi v81 c4_i32_49
  let c256_i32_902 : BitVec 32 := 256#32
  let v983 : BitVec 32 := Scalar.muli v82 c256_i32_902
  let v984 : Index := Scalar.indexCast v983
  let c0_903 : Index := 0#32
  ![v984.toNat, 0]
def k0_dev19 (d0 : Dev nD) : Nat :=
  let c0_i32_910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_909 : BitVec 32 := 1#32
  let v989 : BitVec 32 := Scalar.muli v24 c1_i32_909
  let v990 : BitVec 32 := Scalar.addi c0_i32_910 v989
  v990.toNat
def k0_dev20 (d0 : Dev nD) : Nat :=
  let c0_i32_917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c3_i32 : BitVec 32 := 3#32
  let v25 : BitVec 32 := Scalar.addi v20 c3_i32
  let c4_i32_9 : BitVec 32 := 4#32
  let v26 : BitVec 32 := Scalar.remsi v25 c4_i32_9
  let v27 : BitVec 32 := Scalar.addi v21 v26
  let c1_i32_916 : BitVec 32 := 1#32
  let v997 : BitVec 32 := Scalar.muli v27 c1_i32_916
  let v998 : BitVec 32 := Scalar.addi c0_i32_917 v997
  v998.toNat
def k0_dev21 (d0 : Dev nD) : Nat :=
  let c0_i32_951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_950 : BitVec 32 := 1#32
  let v1025 : BitVec 32 := Scalar.muli v24 c1_i32_950
  let v1026 : BitVec 32 := Scalar.addi c0_i32_951 v1025
  v1026.toNat
def k0_dev22 (d0 : Dev nD) : Nat :=
  let c0_i32_961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c3_i32 : BitVec 32 := 3#32
  let v25 : BitVec 32 := Scalar.addi v20 c3_i32
  let c4_i32_9 : BitVec 32 := 4#32
  let v26 : BitVec 32 := Scalar.remsi v25 c4_i32_9
  let v27 : BitVec 32 := Scalar.addi v21 v26
  let c1_i32_960 : BitVec 32 := 1#32
  let v1035 : BitVec 32 := Scalar.muli v27 c1_i32_960
  let v1036 : BitVec 32 := Scalar.addi c0_i32_961 v1035
  v1036.toNat
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_969 : BitVec 32 := 256#32
  let v1047 : BitVec 32 := Scalar.muli v20 c256_i32_969
  let v1048 : Index := Scalar.indexCast v1047
  let c0_970 : Index := 0#32
  ![v1048.toNat, 0]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_1016 : BitVec 32 := 3#32
  let v1089 : BitVec 32 := Scalar.addi v20 c3_i32_1016
  let c4_i32_1017 : BitVec 32 := 4#32
  let v1090 : BitVec 32 := Scalar.remsi v1089 c4_i32_1017
  let c256_i32_1021 : BitVec 32 := 256#32
  let v1093 : BitVec 32 := Scalar.muli v1090 c256_i32_1021
  let v1094 : Index := Scalar.indexCast v1093
  let c0_1022 : Index := 0#32
  ![v1094.toNat, 0]
def k0_dev23 (d0 : Dev nD) : Nat :=
  let c0_i32_1319_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1318_r0 : BitVec 32 := 1#32
  let v1787_r0 : BitVec 32 := Scalar.muli v24 c1_i32_1318_r0
  let v1788_r0 : BitVec 32 := Scalar.addi c0_i32_1319_r0 v1787_r0
  v1788_r0.toNat
def k0_dev24 (d0 : Dev nD) : Nat :=
  let c0_i32_1322_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c3_i32 : BitVec 32 := 3#32
  let v25 : BitVec 32 := Scalar.addi v20 c3_i32
  let c4_i32_9 : BitVec 32 := 4#32
  let v26 : BitVec 32 := Scalar.remsi v25 c4_i32_9
  let v27 : BitVec 32 := Scalar.addi v21 v26
  let c1_i32_1321_r0 : BitVec 32 := 1#32
  let v1789_r0 : BitVec 32 := Scalar.muli v27 c1_i32_1321_r0
  let v1790_r0 : BitVec 32 := Scalar.addi c0_i32_1322_r0 v1789_r0
  v1790_r0.toNat
def k0_dev25 (d0 : Dev nD) : Nat :=
  let c0_i32_1325_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_18 : BitVec 32 := 1#32
  let v47 : BitVec 32 := Scalar.xori v19 c1_i32_18
  let c4_i32_19 : BitVec 32 := 4#32
  let v48 : BitVec 32 := Scalar.muli v47 c4_i32_19
  let c4_i32_5 : BitVec 32 := 4#32
  let v20 : BitVec 32 := Scalar.remsi v2 c4_i32_5
  let v49 : BitVec 32 := Scalar.addi v48 v20
  let c1_i32_1324_r0 : BitVec 32 := 1#32
  let v1791_r0 : BitVec 32 := Scalar.muli v49 c1_i32_1324_r0
  let v1792_r0 : BitVec 32 := Scalar.addi c0_i32_1325_r0 v1791_r0
  v1792_r0.toNat
def k0_dev26 (d0 : Dev nD) : Nat :=
  let c0_i32_1328_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_20 : BitVec 32 := 2#32
  let v50 : BitVec 32 := Scalar.xori v19 c2_i32_20
  let c4_i32_21 : BitVec 32 := 4#32
  let v51 : BitVec 32 := Scalar.muli v50 c4_i32_21
  let c4_i32_5 : BitVec 32 := 4#32
  let v20 : BitVec 32 := Scalar.remsi v2 c4_i32_5
  let v52 : BitVec 32 := Scalar.addi v51 v20
  let c1_i32_1327_r0 : BitVec 32 := 1#32
  let v1793_r0 : BitVec 32 := Scalar.muli v52 c1_i32_1327_r0
  let v1794_r0 : BitVec 32 := Scalar.addi c0_i32_1328_r0 v1793_r0
  v1794_r0.toNat
abbrev stage0_0 : Fin 1 → Memref sig .tc .vmem S2x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S2x256x1024 : Shape := ⟨3, ![2, 256, 1024]⟩
abbrev S1024x1024 : Shape := ⟨2, ![1024, 1024]⟩
abbrev S1024x512 : Shape := ⟨2, ![1024, 512]⟩
abbrev S1024x32 : Shape := ⟨2, ![1024, 32]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S2x16x256x256 : Shape := ⟨4, ![2, 16, 256, 256]⟩
abbrev S_ : Shape := ⟨0, ![]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 49
  | .vmem => 0
  | .smem => 0
  | _ => 0

abbrev bufTy : (tb : Table) → Fin (tcTables nBuf tb) → BufTy
  | .hbm, ⟨0, _⟩ => ⟨S2x256x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S2x256x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x512, .f32⟩
  | .hbm, ⟨14, _⟩ => ⟨S1024x32, .f32⟩
  | .hbm, ⟨15, _⟩ => ⟨S1024x1024, .f32⟩
  | .hbm, ⟨16, _⟩ => ⟨S2x256x1024, .f32⟩
  | .hbm, ⟨17, _⟩ => ⟨S2x256x1024, .f32⟩
  | .hbm, ⟨18, _⟩ => ⟨S2x256x16x64, .f32⟩
  | .hbm, ⟨19, _⟩ => ⟨S2x256x1024, .f32⟩
  | .hbm, ⟨20, _⟩ => ⟨S2x256x16x64, .f32⟩
  | .hbm, ⟨21, _⟩ => ⟨S2x256x1024, .f32⟩
  | .hbm, ⟨22, _⟩ => ⟨S2x256x16x64, .f32⟩
  | .hbm, ⟨23, _⟩ => ⟨S2x256x512, .f32⟩
  | .hbm, ⟨24, _⟩ => ⟨S2x256x16x32, .f32⟩
  | .hbm, ⟨25, _⟩ => ⟨S2x256x32, .f32⟩
  | .hbm, ⟨26, _⟩ => ⟨S2x256x1x32, .f32⟩
  | .hbm, ⟨27, _⟩ => ⟨S2x16x256x256, .f32⟩
  | .hbm, ⟨28, _⟩ => ⟨S2x256x16x32, .f32⟩
  | .hbm, ⟨29, _⟩ => ⟨S2x16x256x256, .f32⟩
  | .hbm, ⟨30, _⟩ => ⟨S2x16x256x256, .f32⟩
  | .hbm, ⟨31, _⟩ => ⟨S_, .f32⟩
  | .hbm, ⟨32, _⟩ => ⟨S2x16x256x256, .f32⟩
  | .hbm, ⟨33, _⟩ => ⟨S2x16x256x256, .f32⟩
  | .hbm, ⟨34, _⟩ => ⟨S_, .f32⟩
  | .hbm, ⟨35, _⟩ => ⟨S2x16x256, .f32⟩
  | .hbm, ⟨36, _⟩ => ⟨S2x16x256x1, .f32⟩
  | .hbm, ⟨37, _⟩ => ⟨S2x16x256x256, .f32⟩
  | .hbm, ⟨38, _⟩ => ⟨S2x16x256x256, .f32⟩
  | .hbm, ⟨39, _⟩ => ⟨S2x16x256x256, .f32⟩
  | .hbm, ⟨40, _⟩ => ⟨S_, .f32⟩
  | .hbm, ⟨41, _⟩ => ⟨S2x16x256, .f32⟩
  | .hbm, ⟨42, _⟩ => ⟨S2x16x256x1, .f32⟩
  | .hbm, ⟨43, _⟩ => ⟨S2x16x256x256, .f32⟩
  | .hbm, ⟨44, _⟩ => ⟨S2x16x256x256, .f32⟩
  | .hbm, ⟨45, _⟩ => ⟨S2x16x64x256, .f32⟩
  | .hbm, ⟨46, _⟩ => ⟨S2x256x16x64, .f32⟩
  | .hbm, ⟨47, _⟩ => ⟨S2x256x1024, .f32⟩
  | .hbm, ⟨48, _⟩ => ⟨S2x256x1024, .f32⟩
  | _, _ => ⟨S2x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Proof.Proto.lean ====
/-
# The exchange of the kernel: who sends what to whom

Sixteen devices stand in four planes of four. Device `c` has four neighbours: the next and the previous device of its
plane (a ring), and two devices of other planes (an exchange along each bit of the plane number). A run makes eighteen
transfers, every one between neighbours, every one into a landing place and onto a pair of semaphores used only once:

* transfers 0–5, the reduce-scatter around the plane: step `s` of direction `d` is transfer `2 s + d`;
* transfers 6–9, the reduce-scatter across the planes, first exchange 6, 7 and second exchange 8, 9;
* transfers 10–13, the all-gather across the planes, 10, 11 along the second bit and 12, 13 along the first;
* transfers 14–17, the all-gather around the plane: 14, 15 pass a device's own quarter both ways, 16, 17 pass half of
  what 14 and 15 brought one device further.

Before the first transfer each device signals its four neighbours and waits for four signals (the barrier), and after
the last it does so again on a second semaphore.

This module names the neighbours, the transfers (`tx`) and the semaphores.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.Exch

open Cert.KernelIdeal Cert.KernelIdeal.Gen
open Idealize.ShloMosaic
open Idealize.ShloMosaic.TcCoe

/-! ## The neighbours -/

set_option backward.proofsInPublic true in
/-- The neighbour of device `c` in direction `k`: the next device of its plane (0), the previous one (1), the device
    across the low bit of the plane number (2), the device across its high bit (3). -/
def nb (k : Fin 4) (c : Dev nD) : Dev nD := match k with
  | 0 => ⟨4 * (c.val / 4) + (c.val + 1) % 4, by have := c.isLt; simp only [nD] at *; omega⟩
  | 1 => ⟨4 * (c.val / 4) + (c.val + 3) % 4, by have := c.isLt; simp only [nD] at *; omega⟩
  | 2 => ⟨(c.val + 4 - 8 * (c.val / 4 % 2)), by have := c.isLt; simp only [nD] at *; omega⟩
  | 3 => ⟨(c.val + 8) % 16, by simp only [nD]; omega⟩

/-- The direction back. -/
def opp (k : Fin 4) : Fin 4 := match k with | 0 => 1 | 1 => 0 | 2 => 2 | 3 => 3

theorem nb_opp : ∀ (k : Fin 4) (c : Dev nD), nb k (nb (opp k) c) = c := by decide +kernel
theorem opp_nb : ∀ (k : Fin 4) (c : Dev nD), nb (opp k) (nb k c) = c := by decide +kernel
theorem opp_opp : ∀ k : Fin 4, opp (opp k) = k := by decide

/-- Moving every device to its neighbour in direction `k` permutes the devices. -/
def nbEquiv (k : Fin 4) : Dev nD ≃ Dev nD := ⟨nb k, nb (opp k), opp_nb k, nb_opp k⟩

theorem dev1_eq (c : Dev nD) : (⟨k0_dev1 c, k0_dev1_lt c⟩ : Dev nD) = nb 0 c := by revert c; decide +kernel
theorem dev2_eq (c : Dev nD) : (⟨k0_dev2 c, k0_dev2_lt c⟩ : Dev nD) = nb 1 c := by revert c; decide +kernel
theorem dev3_eq (c : Dev nD) : (⟨k0_dev3 c, k0_dev3_lt c⟩ : Dev nD) = nb 2 c := by revert c; decide +kernel
theorem dev4_eq (c : Dev nD) : (⟨k0_dev4 c, k0_dev4_lt c⟩ : Dev nD) = nb 3 c := by revert c; decide +kernel
theorem dev5_eq (c : Dev nD) : (⟨k0_dev5 c, k0_dev5_lt c⟩ : Dev nD) = nb 0 c := by revert c; decide +kernel
theorem dev6_eq (c : Dev nD) : (⟨k0_dev6 c, k0_dev6_lt c⟩ : Dev nD) = nb 1 c := by revert c; decide +kernel
theorem dev7_eq (c : Dev nD) : (⟨k0_dev7 c, k0_dev7_lt c⟩ : Dev nD) = nb 0 c := by revert c; decide +kernel
theorem dev8_eq (c : Dev nD) : (⟨k0_dev8 c, k0_dev8_lt c⟩ : Dev nD) = nb 1 c := by revert c; decide +kernel
theorem dev9_eq (c : Dev nD) : (⟨k0_dev9 c, k0_dev9_lt c⟩ : Dev nD) = nb 0 c := by revert c; decide +kernel
theorem dev10_eq (c : Dev nD) : (⟨k0_dev10 c, k0_dev10_lt c⟩ : Dev nD) = nb 1 c := by revert c; decide +kernel
theorem dev11_eq (c : Dev nD) : (⟨k0_dev11 c, k0_dev11_lt c⟩ : Dev nD) = nb 2 c := by revert c; decide +kernel
theorem dev12_eq (c : Dev nD) : (⟨k0_dev12 c, k0_dev12_lt c⟩ : Dev nD) = nb 2 c := by revert c; decide +kernel
theorem dev13_eq (c : Dev nD) : (⟨k0_dev13 c, k0_dev13_lt c⟩ : Dev nD) = nb 3 c := by revert c; decide +kernel
theorem dev14_eq (c : Dev nD) : (⟨k0_dev14 c, k0_dev14_lt c⟩ : Dev nD) = nb 3 c := by revert c; decide +kernel
theorem dev15_eq (c : Dev nD) : (⟨k0_dev15 c, k0_dev15_lt c⟩ : Dev nD) = nb 3 c := by revert c; decide +kernel
theorem dev16_eq (c : Dev nD) : (⟨k0_dev16 c, k0_dev16_lt c⟩ : Dev nD) = nb 3 c := by revert c; decide +kernel
theorem dev17_eq (c : Dev nD) : (⟨k0_dev17 c, k0_dev17_lt c⟩ : Dev nD) = nb 2 c := by revert c; decide +kernel
theorem dev18_eq (c : Dev nD) : (⟨k0_dev18 c, k0_dev18_lt c⟩ : Dev nD) = nb 2 c := by revert c; decide +kernel
theorem dev19_eq (c : Dev nD) : (⟨k0_dev19 c, k0_dev19_lt c⟩ : Dev nD) = nb 0 c := by revert c; decide +kernel
theorem dev20_eq (c : Dev nD) : (⟨k0_dev20 c, k0_dev20_lt c⟩ : Dev nD) = nb 1 c := by revert c; decide +kernel
theorem dev21_eq (c : Dev nD) : (⟨k0_dev21 c, k0_dev21_lt c⟩ : Dev nD) = nb 0 c := by revert c; decide +kernel
theorem dev22_eq (c : Dev nD) : (⟨k0_dev22 c, k0_dev22_lt c⟩ : Dev nD) = nb 1 c := by revert c; decide +kernel
theorem dev23_eq (c : Dev nD) : (⟨k0_dev23 c, k0_dev23_lt c⟩ : Dev nD) = nb 0 c := by revert c; decide +kernel
theorem dev24_eq (c : Dev nD) : (⟨k0_dev24 c, k0_dev24_lt c⟩ : Dev nD) = nb 1 c := by revert c; decide +kernel
theorem dev25_eq (c : Dev nD) : (⟨k0_dev25 c, k0_dev25_lt c⟩ : Dev nD) = nb 2 c := by revert c; decide +kernel
theorem dev26_eq (c : Dev nD) : (⟨k0_dev26 c, k0_dev26_lt c⟩ : Dev nD) = nb 3 c := by revert c; decide +kernel

/-! ## The transfers -/

/-- A transfer: the shape it moves, where it reads, where it lands on the neighbour, the semaphore the sender waits on,
    the one the receiver waits on, and the neighbour's direction. -/
structure Tx where
  s : Shape
  src : Memref sig .tc .vmem s .bf16
  dst : Memref sig .tc .vmem s .bf16
  sS : DmaSem sig
  rS : DmaSem sig
  dir : Fin 4

/-- The eighteen transfers, in program order. -/
@[reducible] def tx (t : Fin 18) : Tx := match t with
  | 0 =>
    { s := S128x1024
      src := ((Memref.whole cc0_scratch4 : Memref sig .tc .vmem S2x3x128x1024 .bf16).slice (Rect.unit (s := S2x3x128x1024) ![0, 0, 0, 0] S1x1x128x1024.size inb_S2x3x128x1024_S1x1x128x1024_0_0_0_0) (fun _ => rfl)).squeeze S128x1024 squeezes_S1x1x128x1024_S128x1024
      dst := ((Memref.whole cc0_scratch5 : Memref sig .tc .vmem S2x3x128x1024 .bf16).slice (Rect.unit (s := S2x3x128x1024) ![0, 0, 0, 0] S1x1x128x1024.size inb_S2x3x128x1024_S1x1x128x1024_0_0_0_0) (fun _ => rfl)).squeeze S128x1024 squeezes_S1x1x128x1024_S128x1024
      sS := (((cc0_scratch17 : DmaSems sig S2x3).slice (Rect.unit (s := S2x3) ![0, 0] S1x1.size inb_S2x3_S1x1_0_0)).squeeze S_ squeezes_S1x1_S_).sem
      rS := (((cc0_scratch18 : DmaSems sig S2x3).slice (Rect.unit (s := S2x3) ![0, 0] S1x1.size inb_S2x3_S1x1_0_0)).squeeze S_ squeezes_S1x1_S_).sem
      dir := 0 }
  | 1 =>
    { s := S128x1024
      src := ((Memref.whole cc0_scratch4 : Memref sig .tc .vmem S2x3x128x1024 .bf16).slice (Rect.unit (s := S2x3x128x1024) ![1, 0, 0, 0] S1x1x128x1024.size inb_S2x3x128x1024_S1x1x128x1024_1_0_0_0) (fun _ => rfl)).squeeze S128x1024 squeezes_S1x1x128x1024_S128x1024
      dst := ((Memref.whole cc0_scratch5 : Memref sig .tc .vmem S2x3x128x1024 .bf16).slice (Rect.unit (s := S2x3x128x1024) ![1, 0, 0, 0] S1x1x128x1024.size inb_S2x3x128x1024_S1x1x128x1024_1_0_0_0) (fun _ => rfl)).squeeze S128x1024 squeezes_S1x1x128x1024_S128x1024
      sS := (((cc0_scratch17 : DmaSems sig S2x3).slice (Rect.unit (s := S2x3) ![1, 0] S1x1.size inb_S2x3_S1x1_1_0)).squeeze S_ squeezes_S1x1_S_).sem
      rS := (((cc0_scratch18 : DmaSems sig S2x3).slice (Rect.unit (s := S2x3) ![1, 0] S1x1.size inb_S2x3_S1x1_1_0)).squeeze S_ squeezes_S1x1_S_).sem
      dir := 1 }
  | 2 =>
    { s := S128x1024
      src := ((Memref.whole cc0_scratch4 : Memref sig .tc .vmem S2x3x128x1024 .bf16).slice (Rect.unit (s := S2x3x128x1024) ![0, 1, 0, 0] S1x1x128x1024.size inb_S2x3x128x1024_S1x1x128x1024_0_1_0_0) (fun _ => rfl)).squeeze S128x1024 squeezes_S1x1x128x1024_S128x1024
      dst := ((Memref.whole cc0_scratch5 : Memref sig .tc .vmem S2x3x128x1024 .bf16).slice (Rect.unit (s := S2x3x128x1024) ![0, 1, 0, 0] S1x1x128x1024.size inb_S2x3x128x1024_S1x1x128x1024_0_1_0_0) (fun _ => rfl)).squeeze S128x1024 squeezes_S1x1x128x1024_S128x1024
      sS := (((cc0_scratch17 : DmaSems sig S2x3).slice (Rect.unit (s := S2x3) ![0, 1] S1x1.size inb_S2x3_S1x1_0_1)).squeeze S_ squeezes_S1x1_S_).sem
      rS := (((cc0_scratch18 : DmaSems sig S2x3).slice (Rect.unit (s := S2x3) ![0, 1] S1x1.size inb_S2x3_S1x1_0_1)).squeeze S_ squeezes_S1x1_S_).sem
      dir := 0 }
  | 3 =>
    { s := S128x1024
      src := ((Memref.whole cc0_scratch4 : Memref sig .tc .vmem S2x3x128x1024 .bf16).slice (Rect.unit (s := S2x3x128x1024) ![1, 1, 0, 0] S1x1x128x1024.size inb_S2x3x128x1024_S1x1x128x1024_1_1_0_0) (fun _ => rfl)).squeeze S128x1024 squeezes_S1x1x128x1024_S128x1024
      dst := ((Memref.whole cc0_scratch5 : Memref sig .tc .vmem S2x3x128x1024 .bf16).slice (Rect.unit (s := S2x3x128x1024) ![1, 1, 0, 0] S1x1x128x1024.size inb_S2x3x128x1024_S1x1x128x1024_1_1_0_0) (fun _ => rfl)).squeeze S128x1024 squeezes_S1x1x128x1024_S128x1024
      sS := (((cc0_scratch17 : DmaSems sig S2x3).slice (Rect.unit (s := S2x3) ![1, 1] S1x1.size inb_S2x3_S1x1_1_1)).squeeze S_ squeezes_S1x1_S_).sem
      rS := (((cc0_scratch18 : DmaSems sig S2x3).slice (Rect.unit (s := S2x3) ![1, 1] S1x1.size inb_S2x3_S1x1_1_1)).squeeze S_ squeezes_S1x1_S_).sem
      dir := 1 }
  | 4 =>
    { s := S128x1024
      src := ((Memref.whole cc0_scratch4 : Memref sig .tc .vmem S2x3x128x1024 .bf16).slice (Rect.unit (s := S2x3x128x1024) ![0, 2, 0, 0] S1x1x128x1024.size inb_S2x3x128x1024_S1x1x128x1024_0_2_0_0) (fun _ => rfl)).squeeze S128x1024 squeezes_S1x1x128x1024_S128x1024
      dst := ((Memref.whole cc0_scratch5 : Memref sig .tc .vmem S2x3x128x1024 .bf16).slice (Rect.unit (s := S2x3x128x1024) ![0, 2, 0, 0] S1x1x128x1024.size inb_S2x3x128x1024_S1x1x128x1024_0_2_0_0) (fun _ => rfl)).squeeze S128x1024 squeezes_S1x1x128x1024_S128x1024
      sS := (((cc0_scratch17 : DmaSems sig S2x3).slice (Rect.unit (s := S2x3) ![0, 2] S1x1.size inb_S2x3_S1x1_0_2)).squeeze S_ squeezes_S1x1_S_).sem
      rS := (((cc0_scratch18 : DmaSems sig S2x3).slice (Rect.unit (s := S2x3) ![0, 2] S1x1.size inb_S2x3_S1x1_0_2)).squeeze S_ squeezes_S1x1_S_).sem
      dir := 0 }
  | 5 =>
    { s := S128x1024
      src := ((Memref.whole cc0_scratch4 : Memref sig .tc .vmem S2x3x128x1024 .bf16).slice (Rect.unit (s := S2x3x128x1024) ![1, 2, 0, 0] S1x1x128x1024.size inb_S2x3x128x1024_S1x1x128x1024_1_2_0_0) (fun _ => rfl)).squeeze S128x1024 squeezes_S1x1x128x1024_S128x1024
      dst := ((Memref.whole cc0_scratch5 : Memref sig .tc .vmem S2x3x128x1024 .bf16).slice (Rect.unit (s := S2x3x128x1024) ![1, 2, 0, 0] S1x1x128x1024.size inb_S2x3x128x1024_S1x1x128x1024_1_2_0_0) (fun _ => rfl)).squeeze S128x1024 squeezes_S1x1x128x1024_S128x1024
      sS := (((cc0_scratch17 : DmaSems sig S2x3).slice (Rect.unit (s := S2x3) ![1, 2] S1x1.size inb_S2x3_S1x1_1_2)).squeeze S_ squeezes_S1x1_S_).sem
      rS := (((cc0_scratch18 : DmaSems sig S2x3).slice (Rect.unit (s := S2x3) ![1, 2] S1x1.size inb_S2x3_S1x1_1_2)).squeeze S_ squeezes_S1x1_S_).sem
      dir := 1 }
  | 6 =>
    { s := S64x1024
      src := ((Memref.whole cc0_scratch6 : Memref sig .tc .vmem S2x64x1024 .bf16).slice (Rect.unit (s := S2x64x1024) ![0, 0, 0] S1x64x1024.size inb_S2x64x1024_S1x64x1024_0_0_0) (fun _ => rfl)).squeeze S64x1024 squeezes_S1x64x1024_S64x1024
      dst := ((Memref.whole cc0_scratch7 : Memref sig .tc .vmem S2x64x1024 .bf16).slice (Rect.unit (s := S2x64x1024) ![0, 0, 0] S1x64x1024.size inb_S2x64x1024_S1x64x1024_0_0_0) (fun _ => rfl)).squeeze S64x1024 squeezes_S1x64x1024_S64x1024
      sS := (((cc0_scratch19 : DmaSems sig S2x2).slice (Rect.unit (s := S2x2) ![0, 0] S1x1.size inb_S2x2_S1x1_0_0)).squeeze S_ squeezes_S1x1_S_).sem
      rS := (((cc0_scratch20 : DmaSems sig S2x2).slice (Rect.unit (s := S2x2) ![0, 0] S1x1.size inb_S2x2_S1x1_0_0)).squeeze S_ squeezes_S1x1_S_).sem
      dir := 2 }
  | 7 =>
    { s := S64x1024
      src := ((Memref.whole cc0_scratch6 : Memref sig .tc .vmem S2x64x1024 .bf16).slice (Rect.unit (s := S2x64x1024) ![1, 0, 0] S1x64x1024.size inb_S2x64x1024_S1x64x1024_1_0_0) (fun _ => rfl)).squeeze S64x1024 squeezes_S1x64x1024_S64x1024
      dst := ((Memref.whole cc0_scratch7 : Memref sig .tc .vmem S2x64x1024 .bf16).slice (Rect.unit (s := S2x64x1024) ![1, 0, 0] S1x64x1024.size inb_S2x64x1024_S1x64x1024_1_0_0) (fun _ => rfl)).squeeze S64x1024 squeezes_S1x64x1024_S64x1024
      sS := (((cc0_scratch19 : DmaSems sig S2x2).slice (Rect.unit (s := S2x2) ![1, 0] S1x1.size inb_S2x2_S1x1_1_0)).squeeze S_ squeezes_S1x1_S_).sem
      rS := (((cc0_scratch20 : DmaSems sig S2x2).slice (Rect.unit (s := S2x2) ![1, 0] S1x1.size inb_S2x2_S1x1_1_0)).squeeze S_ squeezes_S1x1_S_).sem
      dir := 2 }
  | 8 =>
    { s := S32x1024
      src := ((Memref.whole cc0_scratch8 : Memref sig .tc .vmem S2x32x1024 .bf16).slice (Rect.unit (s := S2x32x1024) ![0, 0, 0] S1x32x1024.size inb_S2x32x1024_S1x32x1024_0_0_0) (fun _ => rfl)).squeeze S32x1024 squeezes_S1x32x1024_S32x1024
      dst := ((Memref.whole cc0_scratch9 : Memref sig .tc .vmem S2x32x1024 .bf16).slice (Rect.unit (s := S2x32x1024) ![0, 0, 0] S1x32x1024.size inb_S2x32x1024_S1x32x1024_0_0_0) (fun _ => rfl)).squeeze S32x1024 squeezes_S1x32x1024_S32x1024
      sS := (((cc0_scratch19 : DmaSems sig S2x2).slice (Rect.unit (s := S2x2) ![0, 1] S1x1.size inb_S2x2_S1x1_0_1)).squeeze S_ squeezes_S1x1_S_).sem
      rS := (((cc0_scratch20 : DmaSems sig S2x2).slice (Rect.unit (s := S2x2) ![0, 1] S1x1.size inb_S2x2_S1x1_0_1)).squeeze S_ squeezes_S1x1_S_).sem
      dir := 3 }
  | 9 =>
    { s := S32x1024
      src := ((Memref.whole cc0_scratch8 : Memref sig .tc .vmem S2x32x1024 .bf16).slice (Rect.unit (s := S2x32x1024) ![1, 0, 0] S1x32x1024.size inb_S2x32x1024_S1x32x1024_1_0_0) (fun _ => rfl)).squeeze S32x1024 squeezes_S1x32x1024_S32x1024
      dst := ((Memref.whole cc0_scratch9 : Memref sig .tc .vmem S2x32x1024 .bf16).slice (Rect.unit (s := S2x32x1024) ![1, 0, 0] S1x32x1024.size inb_S2x32x1024_S1x32x1024_1_0_0) (fun _ => rfl)).squeeze S32x1024 squeezes_S1x32x1024_S32x1024
      sS := (((cc0_scratch19 : DmaSems sig S2x2).slice (Rect.unit (s := S2x2) ![1, 1] S1x1.size inb_S2x2_S1x1_1_1)).squeeze S_ squeezes_S1x1_S_).sem
      rS := (((cc0_scratch20 : DmaSems sig S2x2).slice (Rect.unit (s := S2x2) ![1, 1] S1x1.size inb_S2x2_S1x1_1_1)).squeeze S_ squeezes_S1x1_S_).sem
      dir := 3 }
  | 10 =>
    { s := S32x1024
      src := ((Memref.whole cc0_scratch10 : Memref sig .tc .vmem S2x32x1024 .bf16).slice (Rect.unit (s := S2x32x1024) ![0, 0, 0] S1x32x1024.size inb_S2x32x1024_S1x32x1024_0_0_0) (fun _ => rfl)).squeeze S32x1024 squeezes_S1x32x1024_S32x1024
      dst := ((Memref.whole cc0_scratch11 : Memref sig .tc .vmem S2x32x1024 .bf16).slice (Rect.unit (s := S2x32x1024) ![0, 0, 0] S1x32x1024.size inb_S2x32x1024_S1x32x1024_0_0_0) (fun _ => rfl)).squeeze S32x1024 squeezes_S1x32x1024_S32x1024
      sS := (((cc0_scratch21 : DmaSems sig S2x2).slice (Rect.unit (s := S2x2) ![0, 0] S1x1.size inb_S2x2_S1x1_0_0)).squeeze S_ squeezes_S1x1_S_).sem
      rS := (((cc0_scratch22 : DmaSems sig S2x2).slice (Rect.unit (s := S2x2) ![0, 0] S1x1.size inb_S2x2_S1x1_0_0)).squeeze S_ squeezes_S1x1_S_).sem
      dir := 3 }
  | 11 =>
    { s := S32x1024
      src := ((Memref.whole cc0_scratch10 : Memref sig .tc .vmem S2x32x1024 .bf16).slice (Rect.unit (s := S2x32x1024) ![1, 0, 0] S1x32x1024.size inb_S2x32x1024_S1x32x1024_1_0_0) (fun _ => rfl)).squeeze S32x1024 squeezes_S1x32x1024_S32x1024
      dst := ((Memref.whole cc0_scratch11 : Memref sig .tc .vmem S2x32x1024 .bf16).slice (Rect.unit (s := S2x32x1024) ![1, 0, 0] S1x32x1024.size inb_S2x32x1024_S1x32x1024_1_0_0) (fun _ => rfl)).squeeze S32x1024 squeezes_S1x32x1024_S32x1024
      sS := (((cc0_scratch21 : DmaSems sig S2x2).slice (Rect.unit (s := S2x2) ![1, 0] S1x1.size inb_S2x2_S1x1_1_0)).squeeze S_ squeezes_S1x1_S_).sem
      rS := (((cc0_scratch22 : DmaSems sig S2x2).slice (Rect.unit (s := S2x2) ![1, 0] S1x1.size inb_S2x2_S1x1_1_0)).squeeze S_ squeezes_S1x1_S_).sem
      dir := 3 }
  | 12 =>
    { s := S64x1024
      src := ((Memref.whole cc0_scratch12 : Memref sig .tc .vmem S2x64x1024 .bf16).slice (Rect.unit (s := S2x64x1024) ![0, 0, 0] S1x64x1024.size inb_S2x64x1024_S1x64x1024_0_0_0) (fun _ => rfl)).squeeze S64x1024 squeezes_S1x64x1024_S64x1024
      dst := ((Memref.whole cc0_scratch13 : Memref sig .tc .vmem S2x64x1024 .bf16).slice (Rect.unit (s := S2x64x1024) ![0, 0, 0] S1x64x1024.size inb_S2x64x1024_S1x64x1024_0_0_0) (fun _ => rfl)).squeeze S64x1024 squeezes_S1x64x1024_S64x1024
      sS := (((cc0_scratch21 : DmaSems sig S2x2).slice (Rect.unit (s := S2x2) ![0, 1] S1x1.size inb_S2x2_S1x1_0_1)).squeeze S_ squeezes_S1x1_S_).sem
      rS := (((cc0_scratch22 : DmaSems sig S2x2).slice (Rect.unit (s := S2x2) ![0, 1] S1x1.size inb_S2x2_S1x1_0_1)).squeeze S_ squeezes_S1x1_S_).sem
      dir := 2 }
  | 13 =>
    { s := S64x1024
      src := ((Memref.whole cc0_scratch12 : Memref sig .tc .vmem S2x64x1024 .bf16).slice (Rect.unit (s := S2x64x1024) ![1, 0, 0] S1x64x1024.size inb_S2x64x1024_S1x64x1024_1_0_0) (fun _ => rfl)).squeeze S64x1024 squeezes_S1x64x1024_S64x1024
      dst := ((Memref.whole cc0_scratch13 : Memref sig .tc .vmem S2x64x1024 .bf16).slice (Rect.unit (s := S2x64x1024) ![1, 0, 0] S1x64x1024.size inb_S2x64x1024_S1x64x1024_1_0_0) (fun _ => rfl)).squeeze S64x1024 squeezes_S1x64x1024_S64x1024
      sS := (((cc0_scratch21 : DmaSems sig S2x2).slice (Rect.unit (s := S2x2) ![1, 1] S1x1.size inb_S2x2_S1x1_1_1)).squeeze S_ squeezes_S1x1_S_).sem
      rS := (((cc0_scratch22 : DmaSems sig S2x2).slice (Rect.unit (s := S2x2) ![1, 1] S1x1.size inb_S2x2_S1x1_1_1)).squeeze S_ squeezes_S1x1_S_).sem
      dir := 2 }
  | 14 =>
    { s := S256x1024
      src := Memref.whole cc0_scratch14
      dst := ((Memref.whole cc0_scratch15 : Memref sig .tc .vmem S2x256x1024 .bf16).slice (Rect.unit (s := S2x256x1024) ![0, 0, 0] S1x256x1024.size inb_S2x256x1024_S1x256x1024_0_0_0) (fun _ => rfl)).squeeze S256x1024 squeezes_S1x256x1024_S256x1024
      sS := (((cc0_scratch23 : DmaSems sig S4).slice (Rect.unit (s := S4) ![0] S1.size inb_S4_S1_0)).squeeze S_ squeezes_S1_S_).sem
      rS := (((cc0_scratch24 : DmaSems sig S4).slice (Rect.unit (s := S4) ![0] S1.size inb_S4_S1_0)).squeeze S_ squeezes_S1_S_).sem
      dir := 0 }
  | 15 =>
    { s := S256x1024
      src := Memref.whole cc0_scratch14
      dst := ((Memref.whole cc0_scratch15 : Memref sig .tc .vmem S2x256x1024 .bf16).slice (Rect.unit (s := S2x256x1024) ![1, 0, 0] S1x256x1024.size inb_S2x256x1024_S1x256x1024_1_0_0) (fun _ => rfl)).squeeze S256x1024 squeezes_S1x256x1024_S256x1024
      sS := (((cc0_scratch23 : DmaSems sig S4).slice (Rect.unit (s := S4) ![1] S1.size inb_S4_S1_1)).squeeze S_ squeezes_S1_S_).sem
      rS := (((cc0_scratch24 : DmaSems sig S4).slice (Rect.unit (s := S4) ![1] S1.size inb_S4_S1_1)).squeeze S_ squeezes_S1_S_).sem
      dir := 1 }
  | 16 =>
    { s := S128x1024
      src := ((Memref.whole cc0_scratch15 : Memref sig .tc .vmem S2x256x1024 .bf16).slice (Rect.unit (s := S2x256x1024) ![0, 0, 0] S1x128x1024.size inb_S2x256x1024_S1x128x1024_0_0_0) (fun _ => rfl)).squeeze S128x1024 squeezes_S1x128x1024_S128x1024
      dst := ((Memref.whole cc0_scratch16 : Memref sig .tc .vmem S2x128x1024 .bf16).slice (Rect.unit (s := S2x128x1024) ![0, 0, 0] S1x128x1024.size inb_S2x128x1024_S1x128x1024_0_0_0) (fun _ => rfl)).squeeze S128x1024 squeezes_S1x128x1024_S128x1024
      sS := (((cc0_scratch23 : DmaSems sig S4).slice (Rect.unit (s := S4) ![2] S1.size inb_S4_S1_2)).squeeze S_ squeezes_S1_S_).sem
      rS := (((cc0_scratch24 : DmaSems sig S4).slice (Rect.unit (s := S4) ![2] S1.size inb_S4_S1_2)).squeeze S_ squeezes_S1_S_).sem
      dir := 0 }
  | 17 =>
    { s := S128x1024
      src := ((Memref.whole cc0_scratch15 : Memref sig .tc .vmem S2x256x1024 .bf16).slice (Rect.unit (s := S2x256x1024) ![1, 128, 0] S1x128x1024.size inb_S2x256x1024_S1x128x1024_1_128_0) (fun _ => rfl)).squeeze S128x1024 squeezes_S1x128x1024_S128x1024
      dst := ((Memref.whole cc0_scratch16 : Memref sig .tc .vmem S2x128x1024 .bf16).slice (Rect.unit (s := S2x128x1024) ![1, 0, 0] S1x128x1024.size inb_S2x128x1024_S1x128x1024_1_0_0) (fun _ => rfl)).squeeze S128x1024 squeezes_S1x128x1024_S128x1024
      sS := (((cc0_scratch23 : DmaSems sig S4).slice (Rect.unit (s := S4) ![3] S1.size inb_S4_S1_3)).squeeze S_ squeezes_S1_S_).sem
      rS := (((cc0_scratch24 : DmaSems sig S4).slice (Rect.unit (s := S4) ![3] S1.size inb_S4_S1_3)).squeeze S_ squeezes_S1_S_).sem
      dir := 1 }
  | ⟨_ + 18, h⟩ => absurd h (Nat.not_lt.2 (Nat.le_add_left _ _))

/-! ## The semaphores -/

/-- The semaphore of the entry barrier, and the one of the closing barrier. -/
abbrev barS : Sem sig := (SemArray.scalar (sig.barrier 0 rfl) : Sems sig S_).sem
abbrev finS : Sem sig := (cc0_scoped0 : Sems sig S_).sem

/-- The semaphores the kernel scopes itself: `none` the closing barrier's, `some (false, t)` the one transfer `t`'s sender
    waits on, `some (true, t)` the one its receiver waits on. -/
abbrev OK : Type := Option (Bool × Fin 18)
def osem : OK → SemLoc sig
  | none => .reg finS
  | some (false, t) => .dma (tx t).sS
  | some (true, t) => .dma (tx t).rS

/-- All the semaphores of the exchange: `none` is the entry barrier's. -/
abbrev CK : Type := Option OK
def csem : CK → SemLoc sig
  | none => .reg barS
  | some k => osem k

abbrev kBar : CK := none
abbrev kFin : CK := some none
abbrev kSnd (t : Fin 18) : CK := some (some (false, t))
abbrev kRcv (t : Fin 18) : CK := some (some (true, t))

theorem csem_injective : Function.Injective csem := by decide +kernel

/-- Which semaphore of the exchange a semaphore is. -/
def kOf (sm : SemLoc sig) : Option CK :=
  if sm = csem kBar then some kBar else if sm = csem kFin then some kFin
  else match (List.finRange 18).find? (fun t => decide (sm = csem (kSnd t))) with
    | some t => some (kSnd t)
    | none => match (List.finRange 18).find? (fun t => decide (sm = csem (kRcv t))) with
      | some t => some (kRcv t)
      | none => none

theorem kOf_csem : ∀ k : CK, kOf (csem k) = some k := by decide +kernel

/-- A cell of device `c`. -/
abbrev kcell (c : Dev nD) (k : CK) : GSem nD τ sig := ((c : Thread nD τ), csem k)

/-- The credit transfer `t` puts on its semaphores. -/
def N (t : Fin 18) : ℕ := (tx t).dst.view.dmaCredit
theorem N_pos : ∀ t, 0 < N t := by
  intro t; unfold N; fin_cases t <;> exact View.dmaCredit_pos _ (by decide)

theorem ownSemFacts : Pipeline.OwnSemFacts cfg0.spec osem := by decide +kernel

end Cert.Exch

end
-- ==== Proof.Sched.lean ====
/-
# The schedule of the exchange

Every semaphore of the exchange has one round. The two barrier semaphores of a device have four duties, one per
neighbour, of one unit each; a transfer's semaphores have one duty of the transfer's credit. This module states what
each duty hands over, what a device owes at each moment, and why no wait can block for ever (the levels).

The contents the transfers carry are a parameter `W`: `W t c` is what device `c` sends in transfer `t`.
-/
module

public import proofs.«01_k».proof.Proof.Proto

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's ghost state beside the pipeline's: rounds whose duties are numbered by directions. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- What every transfer carries, by sender. -/
abbrev Carried (F : FTy → Type) : Type := (t : Fin 18) → Dev nD → (tx t).s.Idx → Elt F .bf16

variable (W : Carried F)

/-! ## What the duties hand over -/

/-- Where transfer `t` lands on device `c`, holding anything. -/
def slotG (c : Dev nD) (t : Fin 18) : sProp 𝕄 := iprop(∃ X, owns (c : Thread nD τ) (tx t).dst fullShare X)

/-- The landing places of device `d` that a neighbour in direction `opp k` fills. -/
def slotsOf (d : Dev nD) (k : Fin 4) : sProp 𝕄 := match k with
  | 0 => iprop(slotG d 0 ∗ slotG d 2 ∗ slotG d 4 ∗ slotG d 14 ∗ slotG d 16)
  | 1 => iprop(slotG d 1 ∗ slotG d 3 ∗ slotG d 5 ∗ slotG d 15 ∗ slotG d 17)
  | 2 => iprop(slotG d 6 ∗ slotG d 7 ∗ slotG d 12 ∗ slotG d 13)
  | 3 => iprop(slotG d 8 ∗ slotG d 9 ∗ slotG d 10 ∗ slotG d 11)

/-- The share of its source a transfer holds while in flight: all of it, except where the source is read meanwhile or
    feeds two transfers. -/
def qs (t : Fin 18) : PosShare TreeShare := if t.val < 14 then fullShare else if t.val = 14 then fullShare.left else fullShare.right

/-- The source of transfer `t` on device `c`, holding what is sent. -/
def sendPay (t : Fin 18) (c : Dev nD) : sProp 𝕄 := owns (c : Thread nD τ) (tx t).src (qs t) (W t c)
/-- The landing place of transfer `t` on device `c`, holding what its sender sent. -/
def recvPay (t : Fin 18) (c : Dev nD) : sProp 𝕄 := owns (c : Thread nD τ) (tx t).dst fullShare (W t (nb (opp (tx t).dir) c))

/-- What the duty `d` of the semaphore `k` of device `c` hands over. -/
def payOf (c : Dev nD) (k : CK) (d : Fin 4) : sProp 𝕄 := match k with
  | none => slotsOf (nb d c) d
  | some none => iprop(emp)
  | some (some (false, t)) => sendPay W t c
  | some (some (true, t)) => recvPay W t c

def amtOf (k : CK) : ℕ := match k with
  | none => 1
  | some none => 1
  | some (some (_, t)) => N t

def dutOf (k : CK) : Finset (Fin 4) := match k with
  | none => Finset.univ
  | some none => Finset.univ
  | some (some _) => {0}

theorem amtOf_pos (k : CK) : 0 < amtOf k := match k with
  | none => Nat.one_pos
  | some none => Nat.one_pos
  | some (some (_, t)) => N_pos t

omit [FloatOps F] in
theorem slotG_storable' (c : Dev nD) (t : Fin 18) : BI.Storable (upEmb : UEmb _ 𝕄) (slotG (F := F) c t) := by unfold slotG; infer_instance
instance (c : Dev nD) (t : Fin 18) : BI.Storable (upEmb : UEmb _ 𝕄) (slotG (F := F) c t) := slotG_storable' c t
omit [FloatOps F] in
theorem slotsOf_storable' (c : Dev nD) (k : Fin 4) : BI.Storable (upEmb : UEmb _ 𝕄) (slotsOf (F := F) c k) := by
  unfold slotsOf; split <;> infer_instance
instance (c : Dev nD) (k : Fin 4) : BI.Storable (upEmb : UEmb _ 𝕄) (slotsOf (F := F) c k) := slotsOf_storable' c k
omit [FloatOps F] in
theorem payOf_storable' (c : Dev nD) (k : CK) (d : Fin 4) : BI.Storable (upEmb : UEmb _ 𝕄) (payOf W c k d) := by
  unfold payOf sendPay recvPay; split <;> infer_instance
instance (c : Dev nD) (k : CK) (d : Fin 4) : BI.Storable (upEmb : UEmb _ 𝕄) (payOf W c k d) := payOf_storable' W c k d

/-- The schedule: round 0 only. -/
def exRd : Rounds.Schedule (GSem nD τ sig) (Fin 4) 𝕄 where
  duties g r := if r = 0 ∧ g.1.2 = .tc then (kOf g.2).elim ∅ dutOf else ∅
  unitless _ := False
  amount g _ _ := (kOf g.2).elim 1 amtOf
  payload g _ d := (kOf g.2).elim iprop(emp) fun k => payOf W g.1.1 k d
  amount_pos g _ _ _ := by
    cases h : kOf g.2 with
    | none => exact Nat.one_pos
    | some k => exact amtOf_pos k

omit [FloatOps F] in
theorem exRd_storable' (g : GSem nD τ sig) (r : ℕ) (d : Fin 4) : BI.Storable (upEmb : UEmb _ 𝕄) ((exRd W).payload g r d) := by
  show BI.Storable upEmb ((kOf g.2).elim iprop(emp) fun k => payOf W g.1.1 k d)
  cases kOf g.2 with
  | none => show BI.Storable upEmb iprop(emp); infer_instance
  | some k => exact payOf_storable' W g.1.1 k d
instance (g : GSem nD τ sig) (r : ℕ) (d : Fin 4) : BI.Storable (upEmb : UEmb _ 𝕄) ((exRd W).payload g r d) := exRd_storable' W g r d

section Tables
variable (c : Dev nD) (k : CK)

omit [FloatOps F] in
theorem duties_eq : (exRd W).duties (kcell c k) 0 = dutOf k := by
  dsimp only [exRd]; rw [if_pos ⟨rfl, rfl⟩, kOf_csem]; rfl
omit [FloatOps F] in
theorem duties_later (g : GSem nD τ sig) : ∀ r, 1 ≤ r → (exRd W).duties g r = ∅ :=
  fun r hr => by dsimp only [exRd]; rw [if_neg fun h => by omega]
omit [FloatOps F] in
theorem amount_eq (d : Fin 4) : (exRd W).amount (kcell c k) 0 d = amtOf k := by
  dsimp only [exRd]; rw [kOf_csem]; rfl
omit [FloatOps F] in
theorem payload_eq (d : Fin 4) : (exRd W).payload (kcell c k) 0 d = payOf W c k d := by
  dsimp only [exRd]; rw [kOf_csem]; rfl
omit [FloatOps F] in
theorem expect_eq : (exRd W).expect (kcell c k) 0 = (dutOf k).sum fun _ => amtOf k := by
  unfold Schedule.expect Schedule.amountOf
  rw [duties_eq]; exact Finset.sum_congr rfl fun d _ => amount_eq W c k d
omit [FloatOps F] in
theorem rest_eq : bigSep ((exRd W).duties (kcell c k) 0 \ ∅) (fun d => (exRd W).payload (kcell c k) 0 d) = bigSep (dutOf k) fun d => payOf W c k d := by
  rw [Finset.sdiff_empty, duties_eq]; exact bigSep_congr fun d _ => payload_eq W c k d
omit [FloatOps F] in
theorem rest_bar : bigSep ((exRd W).duties (kcell c kBar) 0 \ ∅) (fun d => (exRd W).payload (kcell c kBar) 0 d)
    = iprop(slotsOf (nb 0 c) 0 ∗ slotsOf (nb 1 c) 1 ∗ slotsOf (nb 2 c) 2 ∗ slotsOf (nb 3 c) 3) := by
  rw [rest_eq]
  show bigSep (Finset.univ : Finset (Fin 4)) (fun d => payOf W c kBar d) = _
  rw [bigSep_univ_eq_bigSepL [0, 1, 2, 3] (by decide) (by decide)]
  rfl
omit [FloatOps F] in
theorem rest_xfer (b : Bool) (t : Fin 18) : bigSep ((exRd W).duties (kcell c (some (some (b, t)))) 0 \ ∅) (fun d => (exRd W).payload (kcell c (some (some (b, t)))) 0 d)
    = payOf W c (some (some (b, t))) 0 := by
  rw [rest_eq]; exact bigSep_singleton

end Tables

/-! ## What a device owes -/

/-- A device's twenty-six duties to others, counted from the last: the closing barrier's four signals, the eighteen
    transfers, the entry barrier's four signals. `obK r` is the semaphore, `obDir r` the neighbour. -/
def obK (r : ℕ) : CK := if r < 4 then kFin else if r < 22 then kRcv ⟨(21 - r) % 18, Nat.mod_lt _ (by decide)⟩ else kBar
def obDir (r : ℕ) : Fin 4 :=
  if r < 4 then ⟨(3 - r) % 4, Nat.mod_lt _ (by decide)⟩ else if r < 22 then (tx ⟨(21 - r) % 18, Nat.mod_lt _ (by decide)⟩).dir
  else ⟨(25 - r) % 4, Nat.mod_lt _ (by decide)⟩
def ob (c : Dev nD) (r : ℕ) : CellTallies nD τ sig Unit := tallyAt (kcell (nb (obDir r) c) (obK r)) () (amtOf (obK r))
/-- What device `c` still owes when `r` duties are left. -/
def owed (c : Dev nD) : ℕ → CellTallies nD τ sig Unit
  | 0 => 0
  | r + 1 => owed c r + ob c r

def L (g : GSem nD τ sig) : Finset Unit := if g.1.2 = .tc then {()} else ∅
def lvK (k : CK) : ℕ := match k with
  | none => 1
  | some none => 30
  | some (some (false, _)) => 0
  | some (some (true, t)) => 2 + t.val
/-- The levels: sends and the pipeline's own semaphores lowest, then the entry barrier, then the transfers' receive
    semaphores in program order, then the closing barrier. -/
def lv (g : GSem nD τ sig) (_ : Unit) : ℕ := (kOf g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : CK) (u : Unit) : lv (kcell c k) u = lvK k := by dsimp only [lv]; rw [kOf_csem]; rfl

theorem owed_pos {c : Dev nD} {g : GSem nD τ sig} {u : Unit} : ∀ {r : ℕ}, 0 < owed c r g u → ∃ r' < r, g = kcell (nb (obDir r') c) (obK r')
  | 0, h => absurd h (Nat.lt_irrefl 0)
  | r + 1, h => by
    rw [owed, Pi.add_apply, Finsupp.add_apply] at h
    by_cases h0 : 0 < owed c r g u
    · obtain ⟨r', hr', e⟩ := owed_pos h0; exact ⟨r', Nat.lt_succ_of_lt hr', e⟩
    · refine ⟨r, Nat.lt_succ_self r, ?_⟩
      have h1 : 0 < ob c r g u := by omega
      unfold ob at h1
      rw [tallyAt_apply] at h1
      by_contra hn
      rw [if_neg (fun h' => hn h'.1)] at h1
      exact Nat.lt_irrefl 0 h1

omit [FloatOps F] in
/-- A device owing its last `r` duties may wait on a semaphore below them all. -/
theorem mayWait (c : Dev nD) (sm : SemLoc sig) (r : ℕ) (n : ℕ) (h1 : (kOf sm).elim 0 lvK ≤ n) (h : ∀ r' < r, n < lvK (obK r')) :
    (levAts L lv : sProp 𝕄) ⊢ MayWait (c : Thread nD τ) sm () (owed c r) :=
  MayOwe.of_cut (L := L) (lev := lv) n (fun p hp => by rw [Finset.mem_singleton.mp hp, L_tc]; exact Finset.mem_singleton_self _)
    (fun g u hg => by obtain ⟨r', _, rfl⟩ := owed_pos hg; exact Finset.mem_singleton_self _)
    (fun p hp => by rw [Finset.mem_singleton.mp hp]; exact h1)
    (fun g u hg => by obtain ⟨r', hr', rfl⟩ := owed_pos hg; rw [lv_kcell]; exact h r' hr')

/-! ## The records and a device's ghost state -/

/-- What all devices know: every cell's invariant, under the name it was allocated at, and that every cell has reached
    round 0. -/
def records (K : Dev nD × CK → ℕ) : sProp 𝕄 :=
  iprop((bigSep Finset.univ fun ck : Dev nD × CK => cellInv ER (exRd W) (K ck) (kcell ck.1 ck.2))
    ∗ bigSep Finset.univ fun ck : Dev nD × CK => reached ER (kcell ck.1 ck.2) 0)
instance records_persistent (K : Dev nD × CK → ℕ) : BI.Persistent (records W K) := by unfold records; infer_instance

omit [FloatOps F] in
theorem inv_at (K : Dev nD × CK → ℕ) (c : Dev nD) (k : CK) : records W K ⊢ cellInv ER (exRd W) (K (c, k)) (kcell c k) := by
  unfold records; iintro ⟨H, -⟩
  exact bigSep_elim (Φ := fun ck : Dev nD × CK => cellInv ER (exRd W) (K ck) (kcell ck.1 ck.2)) (Finset.mem_univ (c, k))
omit [FloatOps F] in
theorem reached_at (K : Dev nD × CK → ℕ) (c : Dev nD) (k : CK) : records W K ⊢ reached ER (kcell c k) 0 := by
  unfold records; iintro ⟨-, H⟩
  exact bigSep_elim (Φ := fun ck : Dev nD × CK => (reached ER (kcell ck.1 ck.2) 0 : sProp 𝕄)) (Finset.mem_univ (c, k))

/-- What device `c` still owes, whatever waits it has recorded. -/
def ow (c : Dev nD) (r : ℕ) : sProp 𝕄 := iprop(∃ V, owes (c : Thread nD τ) (owed c r) V)

/-- What device `c` needs to make transfer `t` and wait for its completion. -/
def kitS (c : Dev nD) (t : Fin 18) : sProp 𝕄 :=
  iprop(dutyTok ER (kcell c (kSnd t)) 0 0 ∗ dutyTok ER (kcell (nb (tx t).dir c) (kRcv t)) 0 0 ∗ atPos ER (kcell c (kSnd t)) 0 ∅ 0)
/-- What it holds while the transfer is under way. -/
def flyS (c : Dev nD) (t : Fin 18) : sProp 𝕄 :=
  iprop(cred (tallyAt (kcell c (kSnd t)) () (N t)) ∗ atPos ER (kcell c (kSnd t)) 0 ∅ 0)
/-- What device `c` needs to wait for the arrival of transfer `t`. -/
def kitR (c : Dev nD) (t : Fin 18) : sProp 𝕄 :=
  iprop(cred (tallyAt (kcell c (kRcv t)) () (N t)) ∗ atPos ER (kcell c (kRcv t)) 0 ∅ 0)
/-- What device `c` needs to pass a barrier: `k` names the barrier. -/
def kitB (c : Dev nD) (k : CK) : sProp 𝕄 :=
  iprop((dutyTok ER (kcell (nb 0 c) k) 0 1 ∗ dutyTok ER (kcell (nb 1 c) k) 0 0 ∗ dutyTok ER (kcell (nb 2 c) k) 0 2 ∗ dutyTok ER (kcell (nb 3 c) k) 0 3)
    ∗ cred (tallyAt (kcell c k) () 4) ∗ atPos ER (kcell c k) 0 ∅ 0)

end Cert.Exch

end
-- ==== Proof.Steps.lean ====
/-
# The steps of the exchange

One rule for each kind of step a device takes: a barrier signal, a barrier wait, a transfer, the wait for its completion,
the wait for an arrival, a load from and a store into a transfer's place.
-/
module

public import proofs.«01_k».proof.Proof.Sched
public import Idealize.ShloMosaic.Lib.Pipeline.Value

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (W : Carried F) (K : Dev nD × CK → ℕ)

abbrev 𝒱₀ : Variants := Variants.none

section
variable {α : Type} {Q : α → sProp (MT nD τ sig Unit (Elt F) ℕ UU ℕ)} {k : PUnit → Prog (TpuEff nD τ sig (Elt F) Λ₀ .tc) α}

/-- A signal on a barrier semaphore of the neighbour in direction `d`. -/
theorem wp_sig (c n : Dev nD) (d : Fin 4) (hn : n = nb d c) (s : Sem sig) (kk : CK) (hs : csem kk = .reg s) (hdut : dutOf kk = Finset.univ) (ham : amtOf kk = 1)
    (r : ℕ) (hr : obK r = kk) (hd : obDir r = d) {k' : ℕ} (hk' : k' = 1) :
    iprop(records W K ∗ ow c (r + 1) ∗ dutyTok ER (kcell (nb d c) kk) 0 (opp d) ∗ payOf W (nb d c) kk (opp d))
      ⊢ iprop((ow c r -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) s k') k) Q) := by
  subst hn hk'
  unfold ow
  iintro ⟨#HR, ⟨%V, HO⟩, Ht, Hp⟩ Hk
  have hc : kcell (nb d c) kk = ((nb d c : Thread nD τ), .reg s) := by rw [← hs]
  iapply (Rounds.wp_signal 𝒱₀ ER (exRd W) (c : Thread nD τ) none (dst := (nb d c : Thread nD τ)) (κ := K (nb d c, kk)) (r := 0)
      (d := opp d) (by rw [← hc, duties_eq, hdut]; exact Finset.mem_univ _) (by rw [← hc, amount_eq, ham]) () (O₀ := owed c (r + 1)) (owed c r)
      (by rw [← hc, owed, ob, hr, hd, ham])) $$ [HO Ht Hp]
  · rw [← hc]
    isplitr; · iapply (inv_at W K (nb d c) kk); iexact HR
    isplitl [HO]; · iexact HO
    isplitl [Ht]; · iexact Ht
    isplitl [Hp]; · rw [payload_eq]; iexact Hp
    iapply (reached_at W K (nb d c) kk); iexact HR
  iintro HO
  iapply Hk; iexists V; iexact HO

/-- A wait for the four signals of a barrier. -/
theorem wp_barWait (c : Dev nD) (s : Sem sig) (kk : CK) (hs : csem kk = .reg s) (hdut : dutOf kk = Finset.univ) (ham : amtOf kk = 1)
    (r : ℕ) (hlv : ∀ r' < r, lvK kk < lvK (obK r')) {k' : ℕ} (hk' : k' = 4) :
    iprop(records W K ∗ levAts L lv ∗ ow c r ∗ cred (tallyAt (kcell c kk) () 4) ∗ atPos ER (kcell c kk) 0 ∅ 0)
      ⊢ iprop(((ow c r ∗ semVal (kcell c kk) 0 ∗ bigSep (dutOf kk) fun d => payOf W c kk d)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s k') k) Q) := by
  subst hk'
  unfold ow
  iintro ⟨#HR, #Hlev, ⟨%V, HO⟩, Hc, Hat⟩ Hk
  have hc : kcell c kk = ((c : Thread nD τ), .reg s) := by rw [← hs]
  iapply (Rounds.wp_wait_rest_token 𝒱₀ ER (exRd W) (c : Thread nD τ) none (κ := K (c, kk))
      (wpE_semWait_eq 𝒱₀ (c : Thread nD τ) none Set.univ) (Set.mem_univ _) () (O := owed c r) (W := V) (R := 0) (m := 0) (T := ∅)
      (by rw [← hc, expect_eq, hdut, ham, Finset.sum_const, Finset.card_univ, Fintype.card_fin]; rfl)) $$ [Hc HO Hat]
  · rw [← hc]
    isplitr; · iapply (inv_at W K c kk); iexact HR
    isplitl [Hc]; · iexact Hc
    isplitl [HO]; · iexact HO
    isplitr
    · rw [← hs]; iapply (mayWait c (csem kk) r (lvK kk) (by rw [kOf_csem]; exact le_rfl) hlv); iexact Hlev
    iexact Hat
  rw [← hc]
  iintro ⟨HO, Hat, -, Hpay⟩
  imod (Rounds.cell_close ER (exRd W) (Set.mem_univ (K (c, kk))) (fun h => h) (R := 0 + 1) (duties_later W (kcell c kk))) $$ [Hat] with Hz
  · isplitr; · iapply (inv_at W K c kk); iexact HR
    iexact Hat
  ihave Hpay := (Entails.of_eq (rest_eq W c kk)) $$ Hpay
  iapply Hk
  isplitl [HO]; · iexists _; iexact HO
  isplitl [Hz]; · iexact Hz
  iexact Hpay

/-- Transfer `t`, to the neighbour its table names. -/
theorem wp_send (c n : Dev nD) (t : Fin 18) (hn : n = nb (tx t).dir c) (r : ℕ) (hr : obK r = kRcv t) (hd : obDir r = (tx t).dir)
    {hsc : (tx t).dst.view.ref.isScScratch = false} {hsrc : (tx t).src.view.WordExact} {hdst : (tx t).dst.view.WordExact}
    {hsem : DmaTarget.Typed .vmem (.dma (tx t).rS) (.remote (Dev.tc n : Thread nD τ) (tx t).dst (.dma (tx t).sS) hsc)} :
    iprop(records W K ∗ sendPay W t c ∗ slotG (nb (tx t).dir c) t ∗ kitS c t ∗ ow c (r + 1))
      ⊢ iprop(((flyS c t ∗ ow c r) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (tx t).src (.remote (Dev.tc n : Thread nD τ) (tx t).dst (.dma (tx t).sS) hsc) (.dma (tx t).rS) hsrc hdst hsem) k) Q) := by
  subst hn
  unfold ow sendPay slotG kitS flyS owns
  iintro ⟨#HR, ⟨%fs, %hfs, Hs⟩, ⟨%X, %fd, -, Hd⟩, ⟨Ht1, Ht2, Hat⟩, ⟨%V, HO⟩⟩ Hk
  iapply (Rounds.wp_send_pointsTo 𝒱₀ ER (exRd W) (c : Thread nD τ) none (κ₁ := K (c, kSnd t)) (κ₂ := K (nb (tx t).dir c, kRcv t))
    (r₁ := 0) (r₂ := 0) (d₁ := 0) (d₂ := 0) (fs := fs) (fd := fd) (q := qs t)
    (by show _ ∈ (exRd W).duties (kcell c (kSnd t)) 0; rw [duties_eq]; exact Finset.mem_singleton_self _)
    (by show _ ∈ (exRd W).duties (kcell (nb (tx t).dir c) (kRcv t)) 0; rw [duties_eq]; exact Finset.mem_singleton_self _)
    () () (N t) rfl (amount_eq W c (kSnd t) 0) (amount_eq W (nb (tx t).dir c) (kRcv t) 0) (O₀ := owed c (r + 1)) (owed c r)
    (by rw [owed, ob, hr, hd]; rfl) (W := V)
    (by
      show _ ⊢ (exRd W).payload (kcell c (kSnd t)) 0 0
      rw [payload_eq]; show _ ⊢ sendPay W t c
      unfold sendPay; rw [← hfs]; exact owns_intro (c : Thread nD τ) (tx t).src (qs t) fs)
    (by
      show _ ⊢ (exRd W).payload (kcell (nb (tx t).dir c) (kRcv t)) 0 0
      rw [payload_eq]; show _ ⊢ recvPay W t (nb (tx t).dir c)
      unfold recvPay; rw [opp_nb, ← hfs]
      refine (owns_intro (nb (tx t).dir c : Thread nD τ) (tx t).dst fullShare _).trans (Entails.of_eq ?_)
      rw [View.read_write_univ])) $$ [Hs Hd Ht1 Ht2 HO]
  · isplitr; · iapply (inv_at W K c (kSnd t)); iexact HR
    isplitr; · iapply (inv_at W K (nb (tx t).dir c) (kRcv t)); iexact HR
    isplitl [Hs]; · iexact Hs
    isplitl [Hd]; · iexact Hd
    isplitl [HO]; · iexact HO
    isplitl [Ht1]; · iexact Ht1
    isplitr; · iapply (reached_at W K c (kSnd t)); iexact HR
    isplitl [Ht2]; · iexact Ht2
    iapply (reached_at W K (nb (tx t).dir c) (kRcv t)); iexact HR
  iintro ⟨Hc, HO⟩
  iapply Hk
  isplitl [Hc Hat]
  · isplitl [Hc]; · iexact Hc
    iexact Hat
  iexists V; iexact HO

/-- The wait for the completion of transfer `t` on its sender. -/
theorem wp_waitSnd (c : Dev nD) (t : Fin 18) (r : ℕ) (hlv : ∀ r' < r, 0 < lvK (obK r'))
    {hsrc : (tx t).dst.view.WordExact} {hdst : (tx t).src.view.WordExact} (hN : (tx t).src.view.dmaCredit = N t) :
    iprop(records W K ∗ levAts L lv ∗ flyS c t ∗ ow c r)
      ⊢ iprop(((ow c r ∗ semVal (kcell c (kSnd t)) 0 ∗ sendPay W t c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (tx t).sS (tx t).dst (tx t).src hsrc hdst) k) Q) := by
  unfold ow flyS
  iintro ⟨#HR, #Hlev, ⟨Hc, Hat⟩, ⟨%V, HO⟩⟩ Hk
  iapply (Rounds.wp_wait_rest_token 𝒱₀ ER (exRd W) (c : Thread nD τ) none (κ := K (c, kSnd t)) (sm := csem (kSnd t))
      (wpE_waitDma2_eq 𝒱₀ (c : Thread nD τ) none Set.univ) (Set.mem_univ _) () (O := owed c r) (W := V) (R := 0) (m := 0) (T := ∅)
      (by rw [expect_eq, hN, Nat.zero_add]; exact (Finset.sum_singleton _ _).symm)) $$ [Hc HO Hat]
  · isplitr; · iapply (inv_at W K c (kSnd t)); iexact HR
    isplitl [Hc]; · rw [hN]; iexact Hc
    isplitl [HO]; · iexact HO
    isplitr
    · iapply (mayWait c (csem (kSnd t)) r 0 (by rw [kOf_csem]; exact le_rfl) hlv); iexact Hlev
    iexact Hat
  iintro ⟨HO, Hat, -, Hpay⟩
  imod (Rounds.cell_close ER (exRd W) (Set.mem_univ (K (c, kSnd t))) (fun h => h) (R := 0 + 1) (duties_later W (kcell c (kSnd t)))) $$ [Hat] with Hz
  · isplitr; · iapply (inv_at W K c (kSnd t)); iexact HR
    iexact Hat
  ihave Hpay := (Entails.of_eq ((rest_xfer W c false t).trans (show _ = sendPay W t c from rfl))) $$ Hpay
  iapply Hk
  isplitl [HO]; · iexists _; iexact HO
  isplitl [Hz]; · iexact Hz
  iexact Hpay

/-- The wait for the arrival of transfer `t`. -/
theorem wp_waitRcv (c : Dev nD) (t : Fin 18) (r : ℕ) (hlv : ∀ r' < r, 2 + t.val < lvK (obK r'))
    {hsrc : (tx t).src.view.WordExact} {hdst : (tx t).dst.view.WordExact} :
    iprop(records W K ∗ levAts L lv ∗ kitR c t ∗ ow c r)
      ⊢ iprop(((ow c r ∗ semVal (kcell c (kRcv t)) 0 ∗ recvPay W t c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (tx t).rS (tx t).src (tx t).dst hsrc hdst) k) Q) := by
  unfold ow kitR
  iintro ⟨#HR, #Hlev, ⟨Hc, Hat⟩, ⟨%V, HO⟩⟩ Hk
  iapply (Rounds.wp_wait_rest_token 𝒱₀ ER (exRd W) (c : Thread nD τ) none (κ := K (c, kRcv t)) (sm := csem (kRcv t))
      (wpE_waitDma2_eq 𝒱₀ (c : Thread nD τ) none Set.univ) (Set.mem_univ _) () (O := owed c r) (W := V) (R := 0) (m := 0) (T := ∅)
      (by rw [expect_eq, Nat.zero_add]; exact (Finset.sum_singleton _ _).symm)) $$ [Hc HO Hat]
  · isplitr; · iapply (inv_at W K c (kRcv t)); iexact HR
    isplitl [Hc]; · iexact Hc
    isplitl [HO]; · iexact HO
    isplitr
    · iapply (mayWait c (csem (kRcv t)) r (2 + t.val) (by rw [kOf_csem]; exact le_rfl) hlv); iexact Hlev
    iexact Hat
  iintro ⟨HO, Hat, -, Hpay⟩
  imod (Rounds.cell_close ER (exRd W) (Set.mem_univ (K (c, kRcv t))) (fun h => h) (R := 0 + 1) (duties_later W (kcell c (kRcv t)))) $$ [Hat] with Hz
  · isplitr; · iapply (inv_at W K c (kRcv t)); iexact HR
    iexact Hat
  ihave Hpay := (Entails.of_eq ((rest_xfer W c true t).trans (show _ = recvPay W t c from rfl))) $$ Hpay
  iapply Hk
  isplitl [HO]; · iexists _; iexact HO
  isplitl [Hz]; · iexact Hz
  iexact Hpay

end

/-! ## Loads and stores through a part of a buffer -/

section
variable {α : Type} {Q : α → sProp (MT nD τ sig Unit (Elt F) ℕ UU ℕ)}

theorem part_set {sh : Shape} {e : EltTy} (M : Memref sig .tc .vmem sh e) (r : Rect sh) (hr : ∀ a, r.stride a = 1) {s' : Shape} (hq : r.shape.Squeezes s') :
    ((M.slice r hr).squeeze s' hq).view.set = (M.access r).set := View.set_reshape (M.view.slice r) hq.numel_eq

/-- A load through a rectangle of a memref of which the rectangle, as a memref of another shape, is owned: the value
    owned, in the rectangle's shape. -/
theorem wp_load_part (c : Dev nD) {sh : Shape} {e : EltTy} (M : Memref sig .tc .vmem sh e) (r : Rect sh) (hr : ∀ a, r.stride a = 1)
    {s' : Shape} (hq : r.shape.Squeezes s') (hc : r.shape.ShapeCasts s') (hb : s'.ShapeCasts r.shape) (q : PosShare TreeShare) (X : s'.Idx → Elt F e)
    {hl : M.view.LoadsAt r.toLoadRect} {k : (r.toLoadRect.shape.Idx → Elt F e) → Prog (TpuEff nD τ sig (Elt F) Λ₀ .tc) α} :
    (owns (c : Thread nD τ) ((M.slice r hr).squeeze s' hq) q X : sProp 𝕄)
      ⊢ iprop((owns (c : Thread nD τ) ((M.slice r hr).squeeze s' hq) q X
            -∗ wp frame (wpE (defs₀ (F := F)) 𝒱₀ (c : Thread nD τ) none) Set.univ (k (shapeCast r.shape X hb)) Q)
          -∗ wp frame (wpE (defs₀ (F := F)) 𝒱₀ (c : Thread nD τ) none) Set.univ (.op (.load M r.toLoadRect hl) k) Q) := by
  unfold owns
  iintro ⟨%f, %hf, H⟩ Hk
  iapply (wp_load 𝒱₀ (c : Thread nD τ) none Set.univ (m := M) (f := f) (q := q) (S := ((M.slice r hr).squeeze s' hq).view.set)
    (by
      exact (View.set_slice M.view r).symm.subset.trans (part_set M r hr hq).symm.subset)) $$ H
  iintro H
  have hX : (M.view.readAt (Elt F) r.toLoadRect f : r.shape.Idx → Elt F e) = shapeCast r.shape X hb := by
    rw [← hf, Memref.read_squeeze_slice M r hr hq hc f, shapeCast_shapeCast]
  rw [hX]
  iapply Hk
  iexists f
  isplitr; · ipureintro; exact hf
  iexact H

/-- A store through a rectangle of a memref of which the rectangle, as a memref of another shape, is owned at anything. -/
theorem wp_store_part (c : Dev nD) {sh : Shape} {e : EltTy} (M : Memref sig .tc .vmem sh e) (r : Rect sh) (hr : ∀ a, r.stride a = 1)
    {s' : Shape} (hq : r.shape.Squeezes s') (hc : r.shape.ShapeCasts s') (w : r.shape.Idx → Elt F e)
    {hx : (M.access r).Stores Finset.univ} {hm : (Finset.univ : Finset r.shape.Idx) = Finset.univ ∨ ∀ a, r.stride a = 1}
    {k : PUnit → Prog (TpuEff nD τ sig (Elt F) Λ₀ .tc) α} :
    (iprop(∃ X, owns (c : Thread nD τ) ((M.slice r hr).squeeze s' hq) fullShare X) : sProp 𝕄)
      ⊢ iprop((owns (c : Thread nD τ) ((M.slice r hr).squeeze s' hq) fullShare (shapeCast s' w hc)
            -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold owns
  iintro ⟨%X, %f, -, H⟩ Hk
  iapply (wp_store 𝒱₀ (c : Thread nD τ) none Set.univ (m := M) (r := r) (Mk := Finset.univ) (f := f) (S := ((M.slice r hr).squeeze s' hq).view.set)
    (by
      exact (part_set M r hr hq).symm.subset)) $$ H
  iintro H
  iapply Hk
  iexists _
  isplitr
  rotate_left
  · iexact H
  ipureintro
  rw [Memref.read_squeeze_slice M r hr hq hc]
  congr 1
  exact View.read_write_univ (v := M.access r) (Val := Elt F) f w

end

end Cert.Exch

end
-- ==== Proof.Buf.lean ====
/-
# Buffers read and written a rectangle at a time

`ld r X` is what a load of the rectangle `r` reads of contents `X`; `put r X w` is `X` with the rectangle overwritten by
`w`. A buffer being filled piece by piece towards an array `T` is held as `ag c M S T`: its contents agree with `T` where
`S` holds.
-/
module

public import proofs.«01_k».proof.Proof.Steps

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Pure
variable {s : Shape} {α : Type} (r : Rect s)

/-- What a load of the rectangle reads. -/
def ld (X : s.Idx → α) : r.shape.Idx → α := fun j => X (r.emb j)

open Classical in
/-- The contents with the rectangle overwritten. -/
def put (X : s.Idx → α) (w : r.shape.Idx → α) : s.Idx → α := fun i => if h : ∃ j, r.emb j = i then w h.choose else X i

theorem put_emb (X : s.Idx → α) (w : r.shape.Idx → α) (j : r.shape.Idx) : put r X w (r.emb j) = w j := by
  unfold put
  have h : ∃ j', r.emb j' = r.emb j := ⟨j, rfl⟩
  rw [dif_pos h]
  exact congrArg w (r.emb.injective h.choose_spec)

theorem put_off (X : s.Idx → α) (w : r.shape.Idx → α) {i : s.Idx} (h : ¬ ∃ j, r.emb j = i) : put r X w i = X i := by
  unfold put; rw [dif_neg h]

theorem ld_put (X : s.Idx → α) (w : r.shape.Idx → α) : ld r (put r X w) = w := funext fun j => put_emb r X w j

end Pure

section
variable {α : Type} {Q : α → sProp (MT nD τ sig Unit (Elt F) ℕ UU ℕ)}

/-- A load from a memref whose contents are known. -/
theorem wp_load_owns (c : Dev nD) {sh : Shape} {e : EltTy} (M : Memref sig .tc .vmem sh e) (r : Rect sh) (q : PosShare TreeShare) (X : sh.Idx → Elt F e)
    {hl : M.view.LoadsAt r.toLoadRect} {k : (r.toLoadRect.shape.Idx → Elt F e) → Prog (TpuEff nD τ sig (Elt F) Λ₀ .tc) α} :
    (owns (c : Thread nD τ) M q X : sProp 𝕄)
      ⊢ iprop((owns (c : Thread nD τ) M q X -∗ wp frame (wpE (defs₀ (F := F)) 𝒱₀ (c : Thread nD τ) none) Set.univ (k (ld r X)) Q)
          -∗ wp frame (wpE (defs₀ (F := F)) 𝒱₀ (c : Thread nD τ) none) Set.univ (.op (.load M r.toLoadRect hl) k) Q) := by
  unfold owns
  iintro ⟨%f, %hf, H⟩ Hk
  iapply (wp_load 𝒱₀ (c : Thread nD τ) none Set.univ (m := M) (f := f) (q := q) (S := M.view.set)
    ((View.set_slice M.view r).symm.subset.trans (View.set_slice_subset M.view r))) $$ H
  iintro H
  have hX : (M.view.readAt (Elt F) r.toLoadRect f : r.shape.Idx → Elt F e) = ld r X := by
    funext j; rw [← hf]; rfl
  rw [hX]
  iapply Hk
  iexists f
  isplitr; · ipureintro; exact hf
  iexact H

/-- A store into a memref whose contents are known. -/
theorem wp_store_owns (c : Dev nD) {sh : Shape} {e : EltTy} (M : Memref sig .tc .vmem sh e) (r : Rect sh) (X : sh.Idx → Elt F e) (w : r.shape.Idx → Elt F e)
    {hx : (M.access r).Stores Finset.univ} {hm : (Finset.univ : Finset r.shape.Idx) = Finset.univ ∨ ∀ a, r.stride a = 1}
    {k : PUnit → Prog (TpuEff nD τ sig (Elt F) Λ₀ .tc) α} :
    (owns (c : Thread nD τ) M fullShare X : sProp 𝕄)
      ⊢ iprop((owns (c : Thread nD τ) M fullShare (put r X w)
            -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold owns
  iintro ⟨%f, %hf, H⟩ Hk
  iapply (wp_store 𝒱₀ (c : Thread nD τ) none Set.univ (m := M) (r := r) (Mk := Finset.univ) (f := f) (S := M.view.set)
    (View.set_slice_subset M.view r)) $$ H
  iintro H
  iapply Hk
  iexists _
  isplitr
  rotate_left
  · iexact H
  ipureintro
  funext i
  by_cases h : ∃ j, r.emb j = i
  · obtain ⟨j, rfl⟩ := h
    rw [put_emb]
    exact View.read_slice_write_emb (v := M.view) (Val := Elt F) r f w (Finset.mem_univ j)
  · rw [put_off r X w h, ← hf]
    exact View.read_slice_write_of_not_mem (v := M.view) (Val := Elt F) r f w Finset.univ
      (fun hm => h (by obtain ⟨j, _, e⟩ := Finset.mem_map.mp hm; exact ⟨j, e⟩))

/-- A buffer whose contents agree with `T` where `S` holds. -/
def ag (c : Dev nD) {sh : Shape} {e : EltTy} (M : Memref sig .tc .vmem sh e) (S : sh.Idx → Prop) (T : sh.Idx → Elt F e) : sProp 𝕄 :=
  iprop(∃ X, ⌜∀ i, S i → X i = T i⌝ ∗ owns (c : Thread nD τ) M fullShare X)

/-- A load inside the filled part. -/
theorem wp_load_ag (c : Dev nD) {sh : Shape} {e : EltTy} (M : Memref sig .tc .vmem sh e) (r : Rect sh) (S : sh.Idx → Prop) (T : sh.Idx → Elt F e)
    (hS : ∀ j, S (r.emb j))
    {hl : M.view.LoadsAt r.toLoadRect} {k : (r.toLoadRect.shape.Idx → Elt F e) → Prog (TpuEff nD τ sig (Elt F) Λ₀ .tc) α} :
    (ag c M S T : sProp 𝕄)
      ⊢ iprop((ag c M S T -∗ wp frame (wpE (defs₀ (F := F)) 𝒱₀ (c : Thread nD τ) none) Set.univ (k (ld r T)) Q)
          -∗ wp frame (wpE (defs₀ (F := F)) 𝒱₀ (c : Thread nD τ) none) Set.univ (.op (.load M r.toLoadRect hl) k) Q) := by
  unfold ag
  iintro ⟨%X, %hX, H⟩ Hk
  iapply (wp_load_owns c M r fullShare X) $$ H
  iintro H
  have e : ld r X = ld r T := funext fun j => hX _ (hS j)
  rw [e]
  iapply Hk
  iexists X
  isplitr; · ipureintro; exact hX
  iexact H

/-- A load whose value is not used. -/
theorem wp_load_dead (c : Dev nD) {sh : Shape} {e : EltTy} (M : Memref sig .tc .vmem sh e) (r : Rect sh) (S : sh.Idx → Prop) (T : sh.Idx → Elt F e)
    {hl : M.view.LoadsAt r.toLoadRect} {k : (r.toLoadRect.shape.Idx → Elt F e) → Prog (TpuEff nD τ sig (Elt F) Λ₀ .tc) α} :
    (ag c M S T : sProp 𝕄)
      ⊢ iprop((∀ v, ag c M S T -∗ wp frame (wpE (defs₀ (F := F)) 𝒱₀ (c : Thread nD τ) none) Set.univ (k v) Q)
          -∗ wp frame (wpE (defs₀ (F := F)) 𝒱₀ (c : Thread nD τ) none) Set.univ (.op (.load M r.toLoadRect hl) k) Q) := by
  unfold ag
  iintro ⟨%X, %hX, H⟩ Hk
  iapply (wp_load_owns c M r fullShare X) $$ H
  iintro H
  iapply Hk
  iexists X
  isplitr; · ipureintro; exact hX
  iexact H

/-- A store of `T`'s own values: the filled part grows by the rectangle. -/
theorem wp_store_ag (c : Dev nD) {sh : Shape} {e : EltTy} (M : Memref sig .tc .vmem sh e) (r : Rect sh) (S S' : sh.Idx → Prop) (T : sh.Idx → Elt F e)
    (w : r.shape.Idx → Elt F e) (hw : w = ld r T) (hS : ∀ i, S' i → S i ∨ ∃ j, r.emb j = i)
    {hx : (M.access r).Stores Finset.univ} {hm : (Finset.univ : Finset r.shape.Idx) = Finset.univ ∨ ∀ a, r.stride a = 1}
    {k : PUnit → Prog (TpuEff nD τ sig (Elt F) Λ₀ .tc) α} :
    (ag c M S T : sProp 𝕄)
      ⊢ iprop((ag c M S' T -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold ag
  iintro ⟨%X, %hX, H⟩ Hk
  iapply (wp_store_owns c M r X w) $$ H
  iintro H
  iapply Hk
  iexists _
  isplitr
  rotate_left
  · iexact H
  ipureintro
  intro i hi
  by_cases h : ∃ j, r.emb j = i
  · obtain ⟨j, rfl⟩ := h
    rw [put_emb, hw]; rfl
  · rw [put_off r X w h]
    exact hX i ((hS i hi).resolve_right h)

/-- A buffer holding anything. -/
def anyB (c : Dev nD) {sh : Shape} {e : EltTy} (M : Memref sig .tc .vmem sh e) : sProp 𝕄 := iprop(∃ X, owns (c : Thread nD τ) M fullShare X)

omit [FloatOps F] in
theorem any_ag (c : Dev nD) {sh : Shape} {e : EltTy} (M : Memref sig .tc .vmem sh e) (S : sh.Idx → Prop) (hS : ∀ i, ¬ S i) (T : sh.Idx → Elt F e) :
    (anyB c M : sProp 𝕄) ⊢ ag c M S T := by
  unfold anyB ag
  iintro ⟨%X, H⟩
  iexists X
  isplitr; · ipureintro; exact fun i hi => absurd hi (hS i)
  iexact H

omit [FloatOps F] in
theorem ag_any (c : Dev nD) {sh : Shape} {e : EltTy} (M : Memref sig .tc .vmem sh e) (S : sh.Idx → Prop) (T : sh.Idx → Elt F e) :
    (ag c M S T : sProp 𝕄) ⊢ anyB c M := by
  unfold anyB ag
  iintro ⟨%X, -, H⟩
  iexists X
  iexact H

/-- A load, not used, through a rectangle of a memref of which that rectangle is owned at anything. -/
theorem wp_load_part_dead (c : Dev nD) {sh : Shape} {e : EltTy} (M : Memref sig .tc .vmem sh e) (r : Rect sh) (hr : ∀ a, r.stride a = 1)
    {s' : Shape} (hq : r.shape.Squeezes s') (hc : r.shape.ShapeCasts s') (hb : s'.ShapeCasts r.shape)
    {hl : M.view.LoadsAt r.toLoadRect} {k : (r.toLoadRect.shape.Idx → Elt F e) → Prog (TpuEff nD τ sig (Elt F) Λ₀ .tc) α} :
    (anyB c ((M.slice r hr).squeeze s' hq) : sProp 𝕄)
      ⊢ iprop((∀ v, anyB c ((M.slice r hr).squeeze s' hq)
            -∗ wp frame (wpE (defs₀ (F := F)) 𝒱₀ (c : Thread nD τ) none) Set.univ (k v) Q)
          -∗ wp frame (wpE (defs₀ (F := F)) 𝒱₀ (c : Thread nD τ) none) Set.univ (.op (.load M r.toLoadRect hl) k) Q) := by
  unfold anyB
  iintro ⟨%X, H⟩ Hk
  iapply (wp_load_part c M r hr hq hc hb fullShare X) $$ H
  iintro H
  iapply Hk
  iexists X
  iexact H

end

/-! ## Passing part of what arrived on, while all of it is read -/

section Share
variable (c : Dev nD) {sh : Shape} {e : EltTy} (M : Memref sig .tc .vmem sh e) (X : sh.Idx → Elt F e)

omit [FloatOps F] in
theorem owns_halves : (owns (c : Thread nD τ) M fullShare X : sProp 𝕄)
    ⊢ iprop(owns (c : Thread nD τ) M fullShare.left X ∗ owns (c : Thread nD τ) M fullShare.right X) := by
  unfold owns
  iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2

omit [FloatOps F] in
theorem owns_unhalve (Y : sh.Idx → Elt F e) : iprop(owns (c : Thread nD τ) M fullShare.left X ∗ owns (c : Thread nD τ) M fullShare.right Y)
    ⊢ (owns (c : Thread nD τ) M fullShare X : sProp 𝕄) := by
  unfold owns
  iintro ⟨⟨%f, %hf, H1⟩, ⟨%g, -, H2⟩⟩
  ihave %hag := (pointsTo_agree (ℓ := M.view.loc (c : Thread nD τ)) (I := M.view.set) (J := M.view.set)) $$ [H1 H2]
  · isplitl [H1]; · iexact H1
    iexact H2
  ihave H2 := (Entails.of_eq (pointsTo_congr (ℓ := M.view.loc (c : Thread nD τ)) (I := M.view.set) (f := g) (g := f)
    (fun i hi => ((hag i (Finset.mem_inter.mpr ⟨hi, hi⟩)).1).symm))) $$ H2
  iexists f
  isplitr; · ipureintro; exact hf
  iapply (pointsTo_share (PosShare.mem_left_op_right fullShare)).2
  isplitl [H1]; · iexact H1
  iexact H2

end Share

section Part
variable (c : Dev nD) {sh : Shape} {e : EltTy} (M : Memref sig .tc .vmem sh e)
  (r : Rect sh) (hr : ∀ a, r.stride a = 1) {s₁ : Shape} (hq : r.shape.Squeezes s₁) (hc : r.shape.ShapeCasts s₁) (hb : s₁.ShapeCasts r.shape)
  (r' : Rect sh) (hr' : ∀ a, r'.stride a = 1) {s₂ : Shape} (hq' : r'.shape.Squeezes s₂) (hc' : r'.shape.ShapeCasts s₂)
  (p : r'.shape.Idx → r.shape.Idx) (hp : ∀ j, r'.emb j = r.emb (p j))

omit [FloatOps F] in
include hp in
theorem part_subset : ((M.slice r' hr').squeeze s₂ hq').view.set ⊆ (((M.slice r hr).squeeze s₁ hq).view.set : Finset M.view.ty.Idx) := by
  refine (part_set M r' hr' hq').subset.trans (Finset.Subset.trans ?_ (part_set M r hr hq).symm.subset)
  intro i hi
  obtain ⟨j, -, rfl⟩ := Finset.mem_map.mp hi
  exact Finset.mem_map.mpr ⟨p j, Finset.mem_univ _, (congrArg M.view.emb (hp j)).symm⟩

omit [FloatOps F] in
include hc hp in
theorem part_read (f : M.view.ty.Contents (Elt F)) (X : s₁.Idx → Elt F e) (hX : ((M.slice r hr).squeeze s₁ hq).view.read (Elt F) f = X) :
    ((M.slice r' hr').squeeze s₂ hq').view.read (Elt F) f = shapeCast s₂ (fun j => shapeCast r.shape X hb (p j)) hc' := by
  rw [Memref.read_squeeze_slice M r' hr' hq' hc', ← hX, Memref.read_squeeze_slice M r hr hq hc, shapeCast_shapeCast]
  congr 1
  funext j
  exact congrArg (M.view.read (Elt F) f) (hp j)

omit [FloatOps F] in
include hc hp in
/-- A part of what is owned, as a memref of its own, and the way back. -/
theorem owns_part (q : PosShare TreeShare) (X : s₁.Idx → Elt F e) :
    (owns (c : Thread nD τ) ((M.slice r hr).squeeze s₁ hq) q X : sProp 𝕄)
      ⊢ iprop(owns (c : Thread nD τ) ((M.slice r' hr').squeeze s₂ hq') q (shapeCast s₂ (fun j => shapeCast r.shape X hb (p j)) hc')
          ∗ (owns (c : Thread nD τ) ((M.slice r' hr').squeeze s₂ hq') q (shapeCast s₂ (fun j => shapeCast r.shape X hb (p j)) hc')
              -∗ owns (c : Thread nD τ) ((M.slice r hr).squeeze s₁ hq) q X)) := by
  have hsub := part_subset M r hr hq r' hr' hq' p hp
  have hrd := part_read (F := F) M r hr hq hc hb r' hr' hq' hc' p hp
  unfold owns
  iintro ⟨%f, %hf, H⟩
  ihave H := (pointsTo_split_subset (ℓ := M.view.loc (c : Thread nD τ)) hsub).1 $$ H
  icases H with ⟨H1, H2⟩
  isplitl [H1]
  · iexists f
    isplitr; · ipureintro; exact hrd f X hf
    iexact H1
  iintro ⟨%g, %hg, H1⟩
  ihave H1 := (Entails.of_eq (pointsTo_congr (ℓ := M.view.loc (c : Thread nD τ)) (I := ((M.slice r' hr').squeeze s₂ hq').view.set) (f := g) (g := f)
    (fun i hi => by
      obtain ⟨j, -, rfl⟩ := Finset.mem_map.mp hi
      have h1 := congrFun (hg.trans (hrd f X hf).symm) j
      exact (cast_inj _).mp h1))) $$ H1
  iexists f
  isplitr; · ipureintro; exact hf
  iapply (pointsTo_split_subset (ℓ := M.view.loc (c : Thread nD τ)) hsub).2
  isplitl [H1]; · iexact H1
  iexact H2

end Part

end Cert.Exch

end
-- ==== Proof.Vals.lean ====
/-
# What every buffer holds

The contents of the kernel's buffers and transfers as functions of the initial memory `m`, named after the body's values.
`A0 … A8` is the buffer in which the partial keys and values are summed; `Y0 …` what each transfer carries; `KV` the keys
and values every device ends up with; `ropeT` the rotary scores; `outT` the attention output; `outV` the result.
-/
module

public import proofs.«01_k».proof.Proof.Buf
public import Idealize.ShloMosaic.Lib.Pointwise.Index
public import proofs.«01_k».proof.Proof.Gen.KernelIdeal.Frame

@[expose] public section

noncomputable section

namespace Cert.Exch

open Cert.KernelIdeal Cert.KernelIdeal.Gen
open Idealize.ShloMosaic Idealize.ShloMosaic.TcCoe

variable {F : FTy → Type} [FloatOps F]

theorem up_S1x1x128x1024 : S128x1024.ShapeCasts S1x1x128x1024 := shapeCasts_S128x1024_S1x1x128x1024
theorem up_S1x64x1024 : S64x1024.ShapeCasts S1x64x1024 := shapeCasts_S64x1024_S1x64x1024
theorem up_S1x32x1024 : S32x1024.ShapeCasts S1x32x1024 := shapeCasts_S32x1024_S1x32x1024
theorem up_S1x256x1024 : S256x1024.ShapeCasts S1x256x1024 := by decide
theorem up_S1x128x1024 : S128x1024.ShapeCasts S1x128x1024 := by decide

/-- The device that ends up summing the block `b` of 32 rows. -/
def ownB (b : ℕ) : Dev nD := ⟨(4 * ((b / 2) % 2 + 2 * (b % 2)) + (b / 8 + 3) % 4) % 16, Nat.mod_lt _ (by decide)⟩

/-- Row `j` of the first half of 256 rows. -/
def lo (j : S1x128x1024.Idx) : S1x256x1024.Idx := ix3 (j 0) ⟨(j 1).val, Nat.lt_trans (j 1).isLt (by decide)⟩ (j 2)
/-- Row `j` of the second half of 256 rows. -/
def hi (j : S1x128x1024.Idx) : S1x256x1024.Idx := ix3 (j 0) ⟨128 + (j 1).val, Nat.add_lt_add_left (j 1).isLt 128⟩ (j 2)

theorem slQr (b : Fin 2) (h : Fin 16) : S512x512.Slices ![256 * b.val, 32 * h.val] S256x32 := by
  revert b h; decide
theorem slKr (b : Fin 2) : S512x32.Slices ![256 * b.val, 0] S256x32 := by
  revert b; decide
theorem slQ (b : Fin 2) (h : Fin 16) : S512x1024.Slices ![256 * b.val, 64 * h.val] S256x64 := by
  revert b h; decide

/-- The rotary scores of batch `b`, head `h`. -/
def ropePay (b : Fin 2) (h : Fin 16) (qr : FVec F S512x512 .bf16) (kr : FVec F S512x32 .bf16) : FVec F S256x256 .f32 :=
  shapeCast S256x256 (mulf (broadcast S256x256 (Scalar.ofBits .f32 0x3DD105EC#32 : F .f32))
    (matmul dot_S256x32_S256x32_S256x256_1_1_0_0_n_n none (extractStridedSlice S256x32 ![256 * b.val, 32 * h.val] qr (slQr b h))
      (extractStridedSlice S256x32 ![256 * b.val, 0] kr (slKr b)) (constant S256x256 .f32 0x00000000#32))) shapeCasts_S256x256_S256x256

/-- The exponentials of the scores of batch `b`, head `h`, given the rotary scores. -/
def expPay (b : Fin 2) (h : Fin 16) (q k : FVec F S512x1024 .bf16) (rp : FVec F S256x256 .f32) : FVec F S256x256 .f32 :=
  exp (addf (mulf (broadcast S256x256 (Scalar.ofBits .f32 0x3DD105EC#32 : F .f32))
    (matmul dot_S256x64_S256x64_S256x256_1_1_0_0_n_n none (extractStridedSlice S256x64 ![256 * b.val, 64 * h.val] q (slQ b h))
      (extractStridedSlice S256x64 ![256 * b.val, 64 * h.val] k (slQ b h)) (constant S256x256 .f32 0x00000000#32))) rp)

/-- The attention output of batch `b`, head `h`, given the rotary scores. -/
def headPay (b : Fin 2) (h : Fin 16) (q k v : FVec F S512x1024 .bf16) (rp : FVec F S256x256 .f32) : FVec F S256x64 .bf16 :=
  shapeCast S256x64 (truncf .bf16 (mulf
    (matmul dot_S256x256_S256x64_S256x64_1_0_0_1_n_n none (truncf .bf16 (expPay b h q k rp) bitsLt_bf16_f32)
      (extractStridedSlice S256x64 ![256 * b.val, 64 * h.val] v (slQ b h)) (constant S256x64 .f32 0x00000000#32))
    (broadcastTo S256x64 (divf (broadcast S256x1 (Scalar.ofBits .f32 0x3F800000#32 : F .f32))
      (shapeCast S256x1 (multiReduction .add [1] S256 (expPay b h q k rp) 0x00000000#32 reduces_S256x256_S256 (.inl rfl) rfl) shapeCasts_S256_S256x1))
      broadcasts_S256x1_S256x64)) bitsLt_bf16_f32) shapeCasts_S256x64_S256x64

variable (m : (ℓ : Loc nD τ sig) → Buf (Elt F) ℓ)

/-- What the body reads as its argument 0 on device `c`. -/
def in0 (c : Dev nD) : S2x256x1024.Idx → Elt F .bf16 :=
  Gen.iblk m c 0 t0_0

/-- What the body reads as its argument 1 on device `c`. -/
def in1 (c : Dev nD) : S1024x64.Idx → Elt F .bf16 :=
  Gen.iblk m c 1 t0_0

/-- What the body reads as its argument 2 on device `c`. -/
def in2 (c : Dev nD) : S64x1024.Idx → Elt F .bf16 :=
  Gen.iblk m c 2 t0_0

/-- What the body reads as its argument 3 on device `c`. -/
def in3 (c : Dev nD) : S64x1024.Idx → Elt F .bf16 :=
  Gen.iblk m c 3 t0_0

/-- What the body reads as its argument 4 on device `c`. -/
def in4 (c : Dev nD) : S1024x1024.Idx → Elt F .bf16 :=
  Gen.iblk m c 4 t0_0

/-- What the body reads as its argument 5 on device `c`. -/
def in5 (c : Dev nD) : S1024x512.Idx → Elt F .bf16 :=
  Gen.iblk m c 5 t0_0

/-- What the body reads as its argument 6 on device `c`. -/
def in6 (c : Dev nD) : S1024x32.Idx → Elt F .bf16 :=
  Gen.iblk m c 6 t0_0

/-- What the body reads as its argument 7 on device `c`. -/
def in7 (c : Dev nD) : S1024x1024.Idx → Elt F .bf16 :=
  Gen.iblk m c 7 t0_0

/-- Argument 0 as loaded. -/
def v53 (c : Dev nD) : Vec F S2x256x1024 .bf16 :=
  ld (Rect.unit (s := S2x256x1024) ![0, 0, 0] S2x256x1024.size inb_S2x256x1024_S2x256x1024_0_0_0) (in0 m c)

/-- Argument 1 as loaded. -/
def v56 (c : Dev nD) : Vec F S1024x64 .bf16 :=
  ld (Rect.unit (s := S1024x64) ![0, 0] S1024x64.size inb_S1024x64_S1024x64_0_0) (in1 m c)

/-- Argument 2 as loaded. -/
def v60 (c : Dev nD) : Vec F S64x1024 .bf16 :=
  ld (Rect.unit (s := S64x1024) ![0, 0] S64x1024.size inb_S64x1024_S64x1024_0_0) (in2 m c)

/-- Argument 3 as loaded. -/
def v66 (c : Dev nD) : Vec F S64x1024 .bf16 :=
  ld (Rect.unit (s := S64x1024) ![0, 0] S64x1024.size inb_S64x1024_S64x1024_0_0) (in3 m c)

/-- Argument 4 as loaded. -/
def v124 (c : Dev nD) : Vec F S1024x1024 .bf16 :=
  ld (Rect.unit (s := S1024x1024) ![0, 0] S1024x1024.size inb_S1024x1024_S1024x1024_0_0) (in4 m c)

/-- Argument 5 as loaded. -/
def v219 (c : Dev nD) : Vec F S1024x512 .bf16 :=
  ld (Rect.unit (s := S1024x512) ![0, 0] S1024x512.size inb_S1024x512_S1024x512_0_0) (in5 m c)

/-- Argument 6 as loaded. -/
def v223 (c : Dev nD) : Vec F S1024x32 .bf16 :=
  ld (Rect.unit (s := S1024x32) ![0, 0] S1024x32.size inb_S1024x32_S1024x32_0_0) (in6 m c)

/-- Argument 7 as loaded. -/
def v1781 (c : Dev nD) : Vec F S1024x1024 .bf16 :=
  ld (Rect.unit (s := S1024x1024) ![0, 0] S1024x1024.size inb_S1024x1024_S1024x1024_0_0) (in7 m c)

/-- The flattened `x`. -/
def xf (c : Dev nD) : FVec F S512x1024 .bf16 :=
  k0_pay1 (v53 m c)

/-- The device's partial keys and values, all 1024 rows: the buffer the sums are formed in, at the start. -/
def A0 (c : Dev nD) : S1024x1024.Idx → Elt F .f32 :=
  put (Rect.unit (s := S1024x1024) ![512, 0] S512x1024.size inb_S1024x1024_S512x1024_512_0) (put (Rect.unit (s := S1024x1024) ![0, 0] S512x1024.size inb_S1024x1024_S512x1024_0_0) (fun _ => Scalar.ofBits .f32 0#32) (k0_pay3 (v53 m c) (v56 m c) (v60 m c))) (k0_pay4 (v53 m c) (v56 m c) (v66 m c))

/-- The queries. -/
def qv (c : Dev nD) : FVec F S512x1024 .bf16 :=
  k0_pay7 (xf m c) (v124 m c)

/-- The rotary queries. -/
def qrv (c : Dev nD) : FVec F S512x512 .bf16 :=
  k0_pay14 (xf m c) (v219 m c)

/-- The rotary keys. -/
def krv (c : Dev nD) : FVec F S512x32 .bf16 :=
  k0_pay16 (xf m c) (k0_pay15 (v223 m c)) (constant S512x32 .f32 0x00000000#32)

/-- The rows sent first to the right. -/
def v89 (c : Dev nD) : Vec F S128x1024 .f32 :=
  ld (Rect.unit (s := S1024x1024) (k0_off1 c) S128x1024.size (k0_off1_inb c)) (A0 m c)

/-- What transfer 0 carries. -/
def Y0 (c : Dev nD) : FVec F S128x1024 .bf16 :=
  shapeCast S128x1024 (k0_pay5 (v89 m c)) shapeCasts_S1x1x128x1024_S128x1024

/-- The rows sent first to the left. -/
def v99 (c : Dev nD) : Vec F S128x1024 .f32 :=
  ld (Rect.unit (s := S1024x1024) (k0_off2 c 2#32) S128x1024.size (k0_off2_inb c 0)) (A0 m c)

/-- What transfer 1 carries. -/
def Y1 (c : Dev nD) : FVec F S128x1024 .bf16 :=
  shapeCast S128x1024 (k0_pay6 (v99 m c)) shapeCasts_S1x1x128x1024_S128x1024

/-- Own rows. -/
def v163 (c : Dev nD) : Vec F S128x1024 .f32 :=
  ld (Rect.unit (s := S1024x1024) (k0_off3 c 0#32) S128x1024.size (k0_off3_inb c 0)) (A0 m c)

/-- Arrived from the left. -/
def v164 (c : Dev nD) : Vec F S1x1x128x1024 .bf16 :=
  shapeCast S1x1x128x1024 (Y0 m (nb 1 c)) up_S1x1x128x1024

/-- Step 1 of the sums. -/
def A1 (c : Dev nD) : S1024x1024.Idx → Elt F .f32 :=
  put (Rect.unit (s := S1024x1024) (k0_off3 c 0#32) S128x1024.size (k0_off3_inb c 0)) (A0 m c) (k0_pay9 (k0_pay8 (v163 m c) (v164 m c)))

/-- What transfer 2 carries. -/
def Y2 (c : Dev nD) : FVec F S128x1024 .bf16 :=
  shapeCast S128x1024 (k0_pay10 (k0_pay8 (v163 m c) (v164 m c))) shapeCasts_S1x1x128x1024_S128x1024

/-- Own rows. -/
def v184 (c : Dev nD) : Vec F S128x1024 .f32 :=
  ld (Rect.unit (s := S1024x1024) (k0_off4 c 0#32) S128x1024.size (k0_off4_inb c 0)) (A1 m c)

/-- Arrived from the right. -/
def v185 (c : Dev nD) : Vec F S1x1x128x1024 .bf16 :=
  shapeCast S1x1x128x1024 (Y1 m (nb 0 c)) up_S1x1x128x1024

/-- Step 2 of the sums. -/
def A2 (c : Dev nD) : S1024x1024.Idx → Elt F .f32 :=
  put (Rect.unit (s := S1024x1024) (k0_off4 c 0#32) S128x1024.size (k0_off4_inb c 0)) (A1 m c) (k0_pay12 (v184 m c) (v185 m c))

/-- What transfer 3 carries. -/
def Y3 (c : Dev nD) : FVec F S128x1024 .bf16 :=
  shapeCast S128x1024 (k0_pay13 (v184 m c) (v185 m c)) shapeCasts_S1x1x128x1024_S128x1024

/-- Own rows. -/
def v262 (c : Dev nD) : Vec F S128x1024 .f32 :=
  ld (Rect.unit (s := S1024x1024) (k0_off3 c 1#32) S128x1024.size (k0_off3_inb c 1)) (A2 m c)

/-- Arrived from the left. -/
def v263 (c : Dev nD) : Vec F S1x1x128x1024 .bf16 :=
  shapeCast S1x1x128x1024 (Y2 m (nb 1 c)) up_S1x1x128x1024

/-- Step 3 of the sums. -/
def A3 (c : Dev nD) : S1024x1024.Idx → Elt F .f32 :=
  put (Rect.unit (s := S1024x1024) (k0_off3 c 1#32) S128x1024.size (k0_off3_inb c 1)) (A2 m c) (k0_pay18 (v262 m c) (v263 m c))

/-- What transfer 4 carries. -/
def Y4 (c : Dev nD) : FVec F S128x1024 .bf16 :=
  shapeCast S128x1024 (k0_pay19 (k0_pay17 (v262 m c) (v263 m c))) shapeCasts_S1x1x128x1024_S128x1024

/-- Own rows. -/
def v283 (c : Dev nD) : Vec F S128x1024 .f32 :=
  ld (Rect.unit (s := S1024x1024) (k0_off4 c 1#32) S128x1024.size (k0_off4_inb c 1)) (A3 m c)

/-- Arrived from the right. -/
def v284 (c : Dev nD) : Vec F S1x1x128x1024 .bf16 :=
  shapeCast S1x1x128x1024 (Y3 m (nb 0 c)) up_S1x1x128x1024

/-- Step 4 of the sums. -/
def A4 (c : Dev nD) : S1024x1024.Idx → Elt F .f32 :=
  put (Rect.unit (s := S1024x1024) (k0_off4 c 1#32) S128x1024.size (k0_off4_inb c 1)) (A3 m c) (k0_pay21 (v283 m c) (v284 m c))

/-- What transfer 5 carries. -/
def Y5 (c : Dev nD) : FVec F S128x1024 .bf16 :=
  shapeCast S128x1024 (k0_pay22 (v283 m c) (v284 m c)) shapeCasts_S1x1x128x1024_S128x1024

/-- Own rows. -/
def v481 (c : Dev nD) : Vec F S128x1024 .f32 :=
  ld (Rect.unit (s := S1024x1024) (k0_off3 c 2#32) S128x1024.size (k0_off3_inb c 2)) (A4 m c)

/-- Arrived from the left. -/
def v482 (c : Dev nD) : Vec F S1x1x128x1024 .bf16 :=
  shapeCast S1x1x128x1024 (Y4 m (nb 1 c)) up_S1x1x128x1024

/-- Step 5 of the sums. -/
def A5 (c : Dev nD) : S1024x1024.Idx → Elt F .f32 :=
  put (Rect.unit (s := S1024x1024) (k0_off3 c 2#32) S128x1024.size (k0_off3_inb c 2)) (A4 m c) (k0_pay45 (k0_pay44 (v481 m c) (v482 m c)))

/-- Half of the own 128 rows. -/
def v496 (c : Dev nD) : Vec F S64x1024 .f32 :=
  ld (Rect.unit (s := S1024x1024) (k0_off5 c) S64x1024.size (k0_off5_inb c)) (A5 m c)

/-- What transfer 6 carries. -/
def Y6 (c : Dev nD) : FVec F S64x1024 .bf16 :=
  shapeCast S64x1024 (k0_pay46 (v496 m c)) shapeCasts_S1x64x1024_S64x1024

/-- Own rows. -/
def v507 (c : Dev nD) : Vec F S128x1024 .f32 :=
  ld (Rect.unit (s := S1024x1024) (k0_off4 c 2#32) S128x1024.size (k0_off4_inb c 2)) (A5 m c)

/-- Arrived from the right. -/
def v508 (c : Dev nD) : Vec F S1x1x128x1024 .bf16 :=
  shapeCast S1x1x128x1024 (Y5 m (nb 0 c)) up_S1x1x128x1024

/-- Step 6 of the sums. -/
def A6 (c : Dev nD) : S1024x1024.Idx → Elt F .f32 :=
  put (Rect.unit (s := S1024x1024) (k0_off4 c 2#32) S128x1024.size (k0_off4_inb c 2)) (A5 m c) (k0_pay47 (v507 m c) (v508 m c))

/-- Half of the other own 128 rows. -/
def v522 (c : Dev nD) : Vec F S64x1024 .f32 :=
  ld (Rect.unit (s := S1024x1024) (k0_off6 c) S64x1024.size (k0_off6_inb c)) (A6 m c)

/-- What transfer 7 carries. -/
def Y7 (c : Dev nD) : FVec F S64x1024 .bf16 :=
  shapeCast S64x1024 (k0_pay48 (v522 m c)) shapeCasts_S1x64x1024_S64x1024

/-- Own rows. -/
def v706 (c : Dev nD) : Vec F S64x1024 .f32 :=
  ld (Rect.unit (s := S1024x1024) (k0_off7 c) S64x1024.size (k0_off7_inb c)) (A6 m c)

/-- Arrived. -/
def v707 (c : Dev nD) : Vec F S1x64x1024 .bf16 :=
  shapeCast S1x64x1024 (Y6 m (nb 2 c)) up_S1x64x1024

/-- Step 7 of the sums. -/
def A7 (c : Dev nD) : S1024x1024.Idx → Elt F .f32 :=
  put (Rect.unit (s := S1024x1024) (k0_off7 c) S64x1024.size (k0_off7_inb c)) (A6 m c) (k0_pay69 (v706 m c) (v707 m c))

/-- Half of the own 64 rows. -/
def v721 (c : Dev nD) : Vec F S32x1024 .f32 :=
  ld (Rect.unit (s := S1024x1024) (k0_off8 c) S32x1024.size (k0_off8_inb c)) (A7 m c)

/-- What transfer 8 carries. -/
def Y8 (c : Dev nD) : FVec F S32x1024 .bf16 :=
  shapeCast S32x1024 (k0_pay70 (v721 m c)) shapeCasts_S1x32x1024_S32x1024

/-- Own rows. -/
def v729 (c : Dev nD) : Vec F S64x1024 .f32 :=
  ld (Rect.unit (s := S1024x1024) (k0_off9 c) S64x1024.size (k0_off9_inb c)) (A7 m c)

/-- Arrived. -/
def v730 (c : Dev nD) : Vec F S1x64x1024 .bf16 :=
  shapeCast S1x64x1024 (Y7 m (nb 2 c)) up_S1x64x1024

/-- Step 8 of the sums. -/
def A8 (c : Dev nD) : S1024x1024.Idx → Elt F .f32 :=
  put (Rect.unit (s := S1024x1024) (k0_off9 c) S64x1024.size (k0_off9_inb c)) (A7 m c) (k0_pay71 (v729 m c) (v730 m c))

/-- Half of the other own 64 rows. -/
def v744 (c : Dev nD) : Vec F S32x1024 .f32 :=
  ld (Rect.unit (s := S1024x1024) (k0_off10 c) S32x1024.size (k0_off10_inb c)) (A8 m c)

/-- What transfer 9 carries. -/
def Y9 (c : Dev nD) : FVec F S32x1024 .bf16 :=
  shapeCast S32x1024 (k0_pay72 (v744 m c)) shapeCasts_S1x32x1024_S32x1024

/-- Own rows. -/
def v802 (c : Dev nD) : Vec F S32x1024 .f32 :=
  ld (Rect.unit (s := S1024x1024) (k0_off11 c) S32x1024.size (k0_off11_inb c)) (A8 m c)

/-- Arrived. -/
def v803 (c : Dev nD) : Vec F S1x32x1024 .bf16 :=
  shapeCast S1x32x1024 (Y8 m (nb 3 c)) up_S1x32x1024

/-- The 32 rows the device ends up summing first. -/
def O0 (c : Dev nD) : FVec F S32x1024 .bf16 :=
  k0_pay74 (v802 m c) (v803 m c)

/-- What transfer 10 carries. -/
def Y10 (c : Dev nD) : FVec F S32x1024 .bf16 :=
  shapeCast S32x1024 (k0_pay75 (v802 m c) (v803 m c)) shapeCasts_S1x32x1024_S32x1024

/-- Own rows. -/
def v820 (c : Dev nD) : Vec F S32x1024 .f32 :=
  ld (Rect.unit (s := S1024x1024) (k0_off12 c) S32x1024.size (k0_off12_inb c)) (A8 m c)

/-- Arrived. -/
def v821 (c : Dev nD) : Vec F S1x32x1024 .bf16 :=
  shapeCast S1x32x1024 (Y9 m (nb 3 c)) up_S1x32x1024

/-- The 32 rows the device ends up summing second. -/
def O1 (c : Dev nD) : FVec F S32x1024 .bf16 :=
  k0_pay77 (v820 m c) (v821 m c)

/-- What transfer 11 carries. -/
def Y11 (c : Dev nD) : FVec F S32x1024 .bf16 :=
  shapeCast S32x1024 (k0_pay78 (k0_pay76 (v820 m c) (v821 m c))) shapeCasts_S1x32x1024_S32x1024

/-- The keys and values every device ends up with: 32 blocks of 32 rows, each summed on its owner. -/
def KV : S1024x1024.Idx → Elt F .bf16 :=
  fun i => if ((i 0).val / 32 / 4) % 2 = 0 then O0 m (ownB ((i 0).val / 32)) (ix2 ⟨(i 0).val % 32, Nat.mod_lt _ (by decide)⟩ (i 1))
    else O1 m (ownB ((i 0).val / 32)) (ix2 ⟨(i 0).val % 32, Nat.mod_lt _ (by decide)⟩ (i 1))

/-- 64 rows of the keys and values. -/
def v895 (c : Dev nD) : Vec F S64x1024 .bf16 :=
  ld (Rect.unit (s := S1024x1024) (k0_off7 c) S64x1024.size (k0_off7_inb c)) (KV m)

/-- What transfer 12 carries. -/
def Y12 (c : Dev nD) : FVec F S64x1024 .bf16 :=
  shapeCast S64x1024 (k0_pay80 (v895 m c)) shapeCasts_S1x64x1024_S64x1024

/-- 64 rows of the keys and values. -/
def v913 (c : Dev nD) : Vec F S64x1024 .bf16 :=
  ld (Rect.unit (s := S1024x1024) (k0_off9 c) S64x1024.size (k0_off9_inb c)) (KV m)

/-- What transfer 13 carries. -/
def Y13 (c : Dev nD) : FVec F S64x1024 .bf16 :=
  shapeCast S64x1024 (k0_pay82 (v913 m c)) shapeCasts_S1x64x1024_S64x1024

/-- 256 rows of the keys and values. -/
def v985 (c : Dev nD) : Vec F S256x1024 .bf16 :=
  ld (Rect.unit (s := S1024x1024) (k0_off13 c 1#32) S256x1024.size (k0_off13_inb c 0)) (KV m)

/-- What transfers 14 and 15 carry. -/
def Y14 (c : Dev nD) : FVec F S256x1024 .bf16 :=
  k0_pay85 (v985 m c)

/-- Arrived from the left. -/
def v1045 (c : Dev nD) : Vec F S1x256x1024 .bf16 :=
  shapeCast S1x256x1024 (Y14 m (nb 1 c)) up_S1x256x1024

/-- Arrived from the right. -/
def v1052 (c : Dev nD) : Vec F S1x256x1024 .bf16 :=
  shapeCast S1x256x1024 (Y14 m (nb 0 c)) up_S1x256x1024

/-- What transfer 16 carries: the first half of what arrived from the left. -/
def Y16 (c : Dev nD) : FVec F S128x1024 .bf16 :=
  shapeCast S128x1024 (fun j : S1x128x1024.Idx => v1045 m c (lo j)) shapeCasts_S1x128x1024_S128x1024

/-- What transfer 17 carries: the second half of what arrived from the right. -/
def Y17 (c : Dev nD) : FVec F S128x1024 .bf16 :=
  shapeCast S128x1024 (fun j : S1x128x1024.Idx => v1052 m c (hi j)) shapeCasts_S1x128x1024_S128x1024

/-- Arrived. -/
def v881 (c : Dev nD) : Vec F S1x32x1024 .bf16 :=
  shapeCast S1x32x1024 (Y10 m (nb 3 c)) up_S1x32x1024

/-- Arrived. -/
def v899 (c : Dev nD) : Vec F S1x32x1024 .bf16 :=
  shapeCast S1x32x1024 (Y11 m (nb 3 c)) up_S1x32x1024

/-- Arrived. -/
def v965 (c : Dev nD) : Vec F S1x64x1024 .bf16 :=
  shapeCast S1x64x1024 (Y12 m (nb 2 c)) up_S1x64x1024

/-- Arrived. -/
def v974 (c : Dev nD) : Vec F S1x64x1024 .bf16 :=
  shapeCast S1x64x1024 (Y13 m (nb 2 c)) up_S1x64x1024

/-- Arrived. -/
def v1091 (c : Dev nD) : Vec F S1x128x1024 .bf16 :=
  shapeCast S1x128x1024 (Y16 m (nb 1 c)) up_S1x128x1024

/-- Arrived. -/
def v1098 (c : Dev nD) : Vec F S1x128x1024 .bf16 :=
  shapeCast S1x128x1024 (Y17 m (nb 0 c)) up_S1x128x1024

/-- What every transfer carries. -/
def Wm : Carried F :=
  fun t => match t with
    | 0 => fun c => Y0 m c
    | 1 => fun c => Y1 m c
    | 2 => fun c => Y2 m c
    | 3 => fun c => Y3 m c
    | 4 => fun c => Y4 m c
    | 5 => fun c => Y5 m c
    | 6 => fun c => Y6 m c
    | 7 => fun c => Y7 m c
    | 8 => fun c => Y8 m c
    | 9 => fun c => Y9 m c
    | 10 => fun c => Y10 m c
    | 11 => fun c => Y11 m c
    | 12 => fun c => Y12 m c
    | 13 => fun c => Y13 m c
    | 14 => fun c => Y14 m c
    | 15 => fun c => Y14 m c
    | 16 => fun c => Y16 m c
    | 17 => fun c => Y17 m c
    | ⟨n + 18, h⟩ => absurd h (by omega)

/-- The keys. -/
def keys : FVec F S512x1024 .bf16 :=
  ld (Rect.unit (s := S1024x1024) ![0, 0] S512x1024.size inb_S1024x1024_S512x1024_0_0) (KV m)

/-- The values. -/
def vals : FVec F S512x1024 .bf16 :=
  ld (Rect.unit (s := S1024x1024) ![512, 0] S512x1024.size inb_S1024x1024_S512x1024_512_0) (KV m)

/-- The rotary scores of all batches and heads, side by side. -/
def ropeT (c : Dev nD) : S512x4096.Idx → Elt F .f32 :=
  fun i => ropePay ⟨(i 0).val / 256, Nat.div_lt_of_lt_mul (i 0).isLt⟩ ⟨(i 1).val / 256, Nat.div_lt_of_lt_mul (i 1).isLt⟩ (qrv m c) (krv m c)
    (ix2 ⟨(i 0).val % 256, Nat.mod_lt _ (by decide)⟩ ⟨(i 1).val % 256, Nat.mod_lt _ (by decide)⟩)

/-- The attention output of all batches and heads. -/
def outT (c : Dev nD) : S512x1024.Idx → Elt F .bf16 :=
  fun i => headPay ⟨(i 0).val / 256, Nat.div_lt_of_lt_mul (i 0).isLt⟩ ⟨(i 1).val / 64, Nat.div_lt_of_lt_mul (i 1).isLt⟩ (qv m c) (keys m) (vals m)
    (ropePay ⟨(i 0).val / 256, Nat.div_lt_of_lt_mul (i 0).isLt⟩ ⟨(i 1).val / 64, Nat.div_lt_of_lt_mul (i 1).isLt⟩ (qrv m c) (krv m c))
    (ix2 ⟨(i 0).val % 256, Nat.mod_lt _ (by decide)⟩ ⟨(i 1).val % 64, Nat.mod_lt _ (by decide)⟩)

/-- The attention output as loaded. -/
def v1780 (c : Dev nD) : Vec F S512x1024 .bf16 :=
  ld (Rect.unit (s := S512x1024) ![0, 0] S512x1024.size inb_S512x1024_S512x1024_0_0) (outT m c)

/-- The device's result. -/
def outV (c : Dev nD) : FVec F S2x256x1024 .f32 :=
  k0_pay157 (k0_pay156 (v1780 m c) (v1781 m c))

end Cert.Exch

end
-- ==== Proof.Cover.lean ====
/-
# Which part of a buffer is filled, and with what

The rotary scores, the attention output and the gathered keys and values are each written rectangle by rectangle; every
rectangle written is the whole array's own, and every rectangle read is written before.
-/
module

public import proofs.«01_k».proof.Proof.Vals
public import Idealize.ShloMosaic.Lib.ValueLayout

@[expose] public section

noncomputable section

namespace Cert.Exch

open Cert.KernelIdeal Cert.KernelIdeal.Gen
open Idealize.ShloMosaic Idealize.ShloMosaic.TcCoe

variable {F : FTy → Type} [FloatOps F] {α : Type}

/-! ## Rectangles of a rank-2 array -/

theorem emb_val {s : Shape} (off size : Fin s.rank → ℕ) (inb) (j : (Rect.unit (s := s) off size inb).shape.Idx) (a : Fin s.rank) :
    (((Rect.unit (s := s) off size inb).emb j) a).val = off a + (j a).val := by
  show off a + 1 * (j a).val = _
  rw [Nat.one_mul]

theorem exists_emb {s : Shape} (off size : Fin s.rank → ℕ) (inb) (i : s.Idx) (h : ∀ a, off a ≤ (i a).val ∧ (i a).val < off a + size a) :
    ∃ j, (Rect.unit (s := s) off size inb).emb j = i := by
  refine ⟨fun a => ⟨(i a).val - off a, ?_⟩, ?_⟩
  · have := h a
    show (i a).val - off a < size a
    omega
  · funext a
    apply Fin.ext
    rw [emb_val]
    have := h a
    show off a + ((i a).val - off a) = _
    omega

theorem ld_off {s : Shape} {off off' size : Fin s.rank → ℕ} {inb inb'} (h : off = off') (X : s.Idx → α) :
    ld (Rect.unit (s := s) off size inb) X = ld (Rect.unit (s := s) off' size inb') X := by
  subst h; rfl

/-! ## The rotary scores -/

/-- The first `k` blocks of 256 by 256 of the rotary scores. -/
def ropeS (k : ℕ) : S512x4096.Idx → Prop := fun i => (i 0).val / 256 * 16 + (i 1).val / 256 < k

theorem ropeS_zero (i : S512x4096.Idx) : ¬ ropeS 0 i := Nat.not_lt_zero _

theorem ropeS_all (i : S512x4096.Idx) : ropeS 32 i := by
  have h0 : (i 0).val < 512 := (i 0).isLt
  have h1 : (i 1).val < 4096 := (i 1).isLt
  unfold ropeS; omega

theorem ropeS_step (b h : ℕ) (hh : h < 16) (off : Fin 2 → ℕ) (h0 : off 0 = 256 * b) (h1 : off 1 = 256 * h) (inb) (k : ℕ) (hk : k = b * 16 + h) (i : S512x4096.Idx)
    (hi : ropeS (k + 1) i) : ropeS k i ∨ ∃ j, (Rect.unit (s := S512x4096) off S256x256.size inb).emb j = i := by
  have l1 : (i 1).val < 4096 := (i 1).isLt
  by_cases hlt : ropeS k i
  · exact Or.inl hlt
  refine Or.inr (exists_emb off _ inb i ?_)
  unfold ropeS at hi hlt
  refine Fin.forall_fin_two.mpr ⟨?_, ?_⟩
  · show off 0 ≤ (i 0).val ∧ (i 0).val < off 0 + 256
    omega
  · show off 1 ≤ (i 1).val ∧ (i 1).val < off 1 + 256
    omega

variable (m : (ℓ : Loc nD τ sig) → Buf (Elt F) ℓ)

theorem rope_ld (c : Dev nD) (b : Fin 2) (h : Fin 16) (off : Fin 2 → ℕ) (h0 : off 0 = 256 * b.val) (h1 : off 1 = 256 * h.val) (inb) :
    ld (Rect.unit (s := S512x4096) off S256x256.size inb) (ropeT m c) = ropePay b h (qrv m c) (krv m c) := by
  funext j
  have j0 : (j 0).val < 256 := (j 0).isLt
  have j1 : (j 1).val < 256 := (j 1).isLt
  have e0 := emb_val (s := S512x4096) off S256x256.size inb j 0
  have e1 := emb_val (s := S512x4096) off S256x256.size inb j 1
  unfold ld ropeT
  have a0 : (⟨(((Rect.unit (s := S512x4096) off S256x256.size inb).emb j) 0).val / 256, Nat.div_lt_of_lt_mul (((Rect.unit (s := S512x4096) off S256x256.size inb).emb j) 0).isLt⟩ : Fin 2) = b :=
    Fin.ext (by show _ / 256 = b.val; rw [e0]; omega)
  have a1 : (⟨(((Rect.unit (s := S512x4096) off S256x256.size inb).emb j) 1).val / 256, Nat.div_lt_of_lt_mul (((Rect.unit (s := S512x4096) off S256x256.size inb).emb j) 1).isLt⟩ : Fin 16) = h :=
    Fin.ext (by show _ / 256 = h.val; rw [e1]; omega)
  have a2 : (ix2 ⟨(((Rect.unit (s := S512x4096) off S256x256.size inb).emb j) 0).val % 256, Nat.mod_lt _ (by decide)⟩
      ⟨(((Rect.unit (s := S512x4096) off S256x256.size inb).emb j) 1).val % 256, Nat.mod_lt _ (by decide)⟩ : S256x256.Idx) = j :=
    funext (Fin.forall_fin_two.mpr ⟨Fin.ext (by show _ % 256 = (j 0).val; rw [e0]; omega), Fin.ext (by show _ % 256 = (j 1).val; rw [e1]; omega)⟩)
  have key : ∀ (b' : Fin 2) (h' : Fin 16) (j' : S256x256.Idx), b' = b → h' = h → j' = j
      → ropePay b' h' (qrv m c) (krv m c) j' = ropePay b h (qrv m c) (krv m c) j := by
    rintro _ _ _ rfl rfl rfl; rfl
  exact key _ _ _ a0 a1 a2

/-! ## The attention output -/

/-- The first `k` blocks of 256 by 64 of the attention output. -/
def outS (k : ℕ) : S512x1024.Idx → Prop := fun i => (i 0).val / 256 * 16 + (i 1).val / 64 < k

theorem outS_zero (i : S512x1024.Idx) : ¬ outS 0 i := Nat.not_lt_zero _

theorem outS_all (i : S512x1024.Idx) : outS 32 i := by
  have h0 : (i 0).val < 512 := (i 0).isLt
  have h1 : (i 1).val < 1024 := (i 1).isLt
  unfold outS; omega

theorem outS_step (b h : ℕ) (hh : h < 16) (off : Fin 2 → ℕ) (h0 : off 0 = 256 * b) (h1 : off 1 = 64 * h) (inb) (k : ℕ) (hk : k = b * 16 + h) (i : S512x1024.Idx)
    (hi : outS (k + 1) i) : outS k i ∨ ∃ j, (Rect.unit (s := S512x1024) off S256x64.size inb).emb j = i := by
  have l1 : (i 1).val < 1024 := (i 1).isLt
  by_cases hlt : outS k i
  · exact Or.inl hlt
  refine Or.inr (exists_emb off _ inb i ?_)
  unfold outS at hi hlt
  refine Fin.forall_fin_two.mpr ⟨?_, ?_⟩
  · show off 0 ≤ (i 0).val ∧ (i 0).val < off 0 + 256
    omega
  · show off 1 ≤ (i 1).val ∧ (i 1).val < off 1 + 64
    omega

theorem out_ld (c : Dev nD) (b : Fin 2) (h : Fin 16) (off : Fin 2 → ℕ) (h0 : off 0 = 256 * b.val) (h1 : off 1 = 64 * h.val) (inb) :
    ld (Rect.unit (s := S512x1024) off S256x64.size inb) (outT m c)
      = headPay b h (qv m c) (keys m) (vals m) (ropePay b h (qrv m c) (krv m c)) := by
  funext j
  have j0 : (j 0).val < 256 := (j 0).isLt
  have j1 : (j 1).val < 64 := (j 1).isLt
  have e0 := emb_val (s := S512x1024) off S256x64.size inb j 0
  have e1 := emb_val (s := S512x1024) off S256x64.size inb j 1
  unfold ld outT
  have a0 : (⟨(((Rect.unit (s := S512x1024) off S256x64.size inb).emb j) 0).val / 256, Nat.div_lt_of_lt_mul (((Rect.unit (s := S512x1024) off S256x64.size inb).emb j) 0).isLt⟩ : Fin 2) = b :=
    Fin.ext (by show _ / 256 = b.val; rw [e0]; omega)
  have a1 : (⟨(((Rect.unit (s := S512x1024) off S256x64.size inb).emb j) 1).val / 64, Nat.div_lt_of_lt_mul (((Rect.unit (s := S512x1024) off S256x64.size inb).emb j) 1).isLt⟩ : Fin 16) = h :=
    Fin.ext (by show _ / 64 = h.val; rw [e1]; omega)
  have a2 : (ix2 ⟨(((Rect.unit (s := S512x1024) off S256x64.size inb).emb j) 0).val % 256, Nat.mod_lt _ (by decide)⟩
      ⟨(((Rect.unit (s := S512x1024) off S256x64.size inb).emb j) 1).val % 64, Nat.mod_lt _ (by decide)⟩ : S256x64.Idx) = j :=
    funext (Fin.forall_fin_two.mpr ⟨Fin.ext (by show _ % 256 = (j 0).val; rw [e0]; omega), Fin.ext (by show _ % 64 = (j 1).val; rw [e1]; omega)⟩)
  have key : ∀ (b' : Fin 2) (h' : Fin 16) (j' : S256x64.Idx), b' = b → h' = h → j' = j
      → headPay b' h' (qv m c) (keys m) (vals m) (ropePay b' h' (qrv m c) (krv m c)) j'
        = headPay b h (qv m c) (keys m) (vals m) (ropePay b h (qrv m c) (krv m c)) j := by
    rintro _ _ _ rfl rfl rfl; rfl
  exact key _ _ _ a0 a1 a2

/-! ## The keys and values -/

/-- The first row of the piece of the keys and values written `n`-th, and how many rows it has. -/
def kvOff (n : ℕ) (c : Dev nD) : ℕ := match n with
  | 0 => k0_off11 c 0 | 1 => k0_off12 c 0 | 2 => k0_off8 c 0 | 3 => k0_off10 c 0 | 4 => k0_off5 c 0 | 5 => k0_off6 c 0
  | 6 => k0_off14 c 0 | 7 => k0_off13 c 2#32 0 | 8 => k0_off15 c 0 | _ => k0_off2 c 3#32 0
def kvLen (n : ℕ) : ℕ := match n with
  | 0 => 32 | 1 => 32 | 2 => 32 | 3 => 32 | 4 => 64 | 5 => 64 | 6 => 256 | 7 => 256 | 8 => 128 | _ => 128

/-- The rows in the first `n` pieces. -/
def kvR (n : ℕ) (c : Dev nD) (x : ℕ) : Prop := match n with
  | 0 => False
  | n + 1 => kvR n c x ∨ (kvOff n c ≤ x ∧ x < kvOff n c + kvLen n)

def kvS (n : ℕ) (c : Dev nD) : S1024x1024.Idx → Prop := fun i => kvR n c (i 0).val

theorem kvS_zero (c : Dev nD) (i : S1024x1024.Idx) : ¬ kvS 0 c i := id

theorem kvS_step (n : ℕ) (c : Dev nD) (off : Fin 2 → ℕ) (size : Fin 2 → ℕ) (inb) (h0 : off 0 = kvOff n c) (h1 : off 1 = 0) (s0 : size 0 = kvLen n) (s1 : size 1 = 1024)
    (i : S1024x1024.Idx) (hi : kvS (n + 1) c i) : kvS n c i ∨ ∃ j, (Rect.unit (s := S1024x1024) off size inb).emb j = i := by
  rcases hi with hi | ⟨ha, hb⟩
  · exact Or.inl hi
  refine Or.inr (exists_emb off size inb i (Fin.forall_fin_two.mpr ⟨?_, ?_⟩))
  · omega
  · have l1 : (i 1).val < 1024 := (i 1).isLt
    omega

theorem off_b0 : ∀ c : Dev nD, k0_off11 c = ![k0_off11 c 0, 0] ∧ k0_off12 c = ![k0_off12 c 0, 0] ∧ k0_off8 c = ![k0_off8 c 0, 0]
    ∧ k0_off10 c = ![k0_off10 c 0, 0] ∧ k0_off5 c = ![k0_off5 c 0, 0] ∧ k0_off6 c = ![k0_off6 c 0, 0]
    ∧ k0_off7 c = ![k0_off7 c 0, 0] ∧ k0_off9 c = ![k0_off9 c 0, 0] := by decide +kernel

/-- Rows 64 to 64 and 256 to 256: what is passed on has been written. -/
theorem kv_sub7 : ∀ c : Dev nD, (k0_off7 c 0 = k0_off8 c 0 ∧ k0_off8 c 0 + 32 = k0_off11 c 0) ∨ (k0_off7 c 0 = k0_off11 c 0 ∧ k0_off11 c 0 + 32 = k0_off8 c 0) := by
  decide +kernel
theorem kv_sub9 : ∀ c : Dev nD, (k0_off9 c 0 = k0_off10 c 0 ∧ k0_off10 c 0 + 32 = k0_off12 c 0) ∨ (k0_off9 c 0 = k0_off12 c 0 ∧ k0_off12 c 0 + 32 = k0_off10 c 0) := by
  decide +kernel
theorem kv_sub13 : ∀ c : Dev nD, ((k0_off13 c 1#32 0 = k0_off7 c 0 ∧ k0_off7 c 0 + 64 = k0_off5 c 0) ∨ (k0_off13 c 1#32 0 = k0_off5 c 0 ∧ k0_off5 c 0 + 64 = k0_off7 c 0))
    ∧ ((k0_off13 c 1#32 0 + 128 = k0_off9 c 0 ∧ k0_off9 c 0 + 64 = k0_off6 c 0) ∨ (k0_off13 c 1#32 0 + 128 = k0_off6 c 0 ∧ k0_off6 c 0 + 64 = k0_off9 c 0)) := by
  decide +kernel

theorem kv_cov7 (c : Dev nD) (x : ℕ) (h : k0_off7 c 0 ≤ x) (h' : x < k0_off7 c 0 + 64) : kvR 3 c x := by
  have := kv_sub7 c
  show ((False ∨ (k0_off11 c 0 ≤ x ∧ x < k0_off11 c 0 + 32)) ∨ (k0_off12 c 0 ≤ x ∧ x < k0_off12 c 0 + 32)) ∨ (k0_off8 c 0 ≤ x ∧ x < k0_off8 c 0 + 32)
  omega

theorem kv_cov9 (c : Dev nD) (x : ℕ) (h : k0_off9 c 0 ≤ x) (h' : x < k0_off9 c 0 + 64) : kvR 4 c x := by
  have := kv_sub9 c
  show (((False ∨ (k0_off11 c 0 ≤ x ∧ x < k0_off11 c 0 + 32)) ∨ (k0_off12 c 0 ≤ x ∧ x < k0_off12 c 0 + 32)) ∨ (k0_off8 c 0 ≤ x ∧ x < k0_off8 c 0 + 32))
    ∨ (k0_off10 c 0 ≤ x ∧ x < k0_off10 c 0 + 32)
  omega

theorem kv_cov13 (c : Dev nD) (x : ℕ) (h : k0_off13 c 1#32 0 ≤ x) (h' : x < k0_off13 c 1#32 0 + 256) : kvR 6 c x := by
  obtain ⟨h1, h2⟩ := kv_sub13 c
  show (kvR 4 c x ∨ (k0_off5 c 0 ≤ x ∧ x < k0_off5 c 0 + 64)) ∨ (k0_off6 c 0 ≤ x ∧ x < k0_off6 c 0 + 64)
  by_cases h7 : k0_off7 c 0 ≤ x ∧ x < k0_off7 c 0 + 64
  · exact Or.inl (Or.inl (Or.inl (kv_cov7 c x h7.1 h7.2)))
  by_cases h9 : k0_off9 c 0 ≤ x ∧ x < k0_off9 c 0 + 64
  · exact Or.inl (Or.inl (kv_cov9 c x h9.1 h9.2))
  omega

theorem kv_cover (c : Dev nD) (x : ℕ) (h : x < 1024) : kvR 10 c x := by
  have e13 : k0_off13 c 1#32 0 = 256 * ((c.val % 4 + 0 + 1) % 4) := congrFun (k0_off13_eq c ⟨0, by decide⟩) 0
  have e13' : k0_off13 c 2#32 0 = 256 * ((c.val % 4 + 1 + 1) % 4) := congrFun (k0_off13_eq c ⟨1, by decide⟩) 0
  have e14 : k0_off14 c 0 = 256 * (c.val % 4) := congrFun (k0_off14_eq c) 0
  have e15 : k0_off15 c 0 = 256 * ((c.val % 4 + 3) % 4) := congrFun (k0_off15_eq c) 0
  have e2 : k0_off2 c 3#32 0 = 256 * ((c.val % 4 + 1 + 2) % 4) + 128 := congrFun (k0_off2_eq c ⟨1, by decide⟩) 0
  by_cases h13 : k0_off13 c 1#32 0 ≤ x ∧ x < k0_off13 c 1#32 0 + 256
  · exact Or.inl (Or.inl (Or.inl (Or.inl (kv_cov13 c x h13.1 h13.2))))
  show (((kvR 6 c x ∨ (k0_off14 c 0 ≤ x ∧ x < k0_off14 c 0 + 256)) ∨ (k0_off13 c 2#32 0 ≤ x ∧ x < k0_off13 c 2#32 0 + 256))
    ∨ (k0_off15 c 0 ≤ x ∧ x < k0_off15 c 0 + 128)) ∨ (k0_off2 c 3#32 0 ≤ x ∧ x < k0_off2 c 3#32 0 + 128)
  omega

theorem kvS_all (c : Dev nD) (i : S1024x1024.Idx) : kvS 10 c i := kv_cover c _ (i 0).isLt

theorem kv_ld7 (c : Dev nD) (inb) (j) : kvS 3 c ((Rect.unit (s := S1024x1024) (k0_off7 c) S64x1024.size inb).emb j) := by
  unfold kvS; rw [emb_val]
  exact kv_cov7 c _ (Nat.le_add_right _ _) (Nat.add_lt_add_left (j 0).isLt _)
theorem kv_ld9 (c : Dev nD) (inb) (j) : kvS 4 c ((Rect.unit (s := S1024x1024) (k0_off9 c) S64x1024.size inb).emb j) := by
  unfold kvS; rw [emb_val]
  exact kv_cov9 c _ (Nat.le_add_right _ _) (Nat.add_lt_add_left (j 0).isLt _)
theorem kv_ld13 (c : Dev nD) (inb) (j) : kvS 6 c ((Rect.unit (s := S1024x1024) (k0_off13 c 1#32) S256x1024.size inb).emb j) := by
  unfold kvS; rw [emb_val]
  exact kv_cov13 c _ (Nat.le_add_right _ _) (Nat.add_lt_add_left (j 0).isLt _)

/-- The rows from `a` are the owner's 32. -/
theorem kv_own0 (a : ℕ) (o : Dev nD) (ha : a % 32 = 0) (ho : ownB (a / 32) = o) (hd : a / 32 / 4 % 2 = 0) (off : Fin 2 → ℕ) (h0 : off 0 = a) (h1 : off 1 = 0) (inb) :
    ld (Rect.unit (s := S1024x1024) off S32x1024.size inb) (KV m) = O0 m o := by
  subst ho
  funext j
  have j0 : (j 0).val < 32 := (j 0).isLt
  have e0 := emb_val (s := S1024x1024) off S32x1024.size inb j 0
  have e1 := emb_val (s := S1024x1024) off S32x1024.size inb j 1
  have hb : (((Rect.unit (s := S1024x1024) off S32x1024.size inb).emb j) 0).val / 32 = a / 32 := by rw [e0]; omega
  unfold ld KV
  rw [if_pos (by rw [hb]; exact hd), hb]
  congr 1
  exact funext (Fin.forall_fin_two.mpr ⟨Fin.ext (by show _ % 32 = (j 0).val; rw [e0]; omega), Fin.ext (e1.trans (by rw [h1]; exact Nat.zero_add _))⟩)

theorem kv_own1 (a : ℕ) (o : Dev nD) (ha : a % 32 = 0) (ho : ownB (a / 32) = o) (hd : a / 32 / 4 % 2 = 1) (off : Fin 2 → ℕ) (h0 : off 0 = a) (h1 : off 1 = 0) (inb) :
    ld (Rect.unit (s := S1024x1024) off S32x1024.size inb) (KV m) = O1 m o := by
  subst ho
  funext j
  have j0 : (j 0).val < 32 := (j 0).isLt
  have e0 := emb_val (s := S1024x1024) off S32x1024.size inb j 0
  have e1 := emb_val (s := S1024x1024) off S32x1024.size inb j 1
  have hb : (((Rect.unit (s := S1024x1024) off S32x1024.size inb).emb j) 0).val / 32 = a / 32 := by rw [e0]; omega
  unfold ld KV
  rw [if_neg (by rw [hb, hd]; decide), hb]
  congr 1
  exact funext (Fin.forall_fin_two.mpr ⟨Fin.ext (by show _ % 32 = (j 0).val; rw [e0]; omega), Fin.ext (e1.trans (by rw [h1]; exact Nat.zero_add _))⟩)

theorem own_facts : ∀ c : Dev nD, (k0_off11 c 0 % 32 = 0 ∧ ownB (k0_off11 c 0 / 32) = c ∧ k0_off11 c 0 / 32 / 4 % 2 = 0)
    ∧ (k0_off12 c 0 % 32 = 0 ∧ ownB (k0_off12 c 0 / 32) = c ∧ k0_off12 c 0 / 32 / 4 % 2 = 1)
    ∧ (k0_off8 c 0 % 32 = 0 ∧ ownB (k0_off8 c 0 / 32) = nb 3 c ∧ k0_off8 c 0 / 32 / 4 % 2 = 0)
    ∧ (k0_off10 c 0 % 32 = 0 ∧ ownB (k0_off10 c 0 / 32) = nb 3 c ∧ k0_off10 c 0 / 32 / 4 % 2 = 1) := by decide +kernel

theorem kv_st0 (c : Dev nD) (inb) : k0_pay74 (v802 m c) (v803 m c) = ld (Rect.unit (s := S1024x1024) (k0_off11 c) S32x1024.size inb) (KV m) :=
  have h := (own_facts c).1
  (kv_own0 m _ c h.1 h.2.1 h.2.2 _ rfl (congrFun (off_b0 c).1 1) inb).symm

theorem kv_st1 (c : Dev nD) (inb) : k0_pay77 (v820 m c) (v821 m c) = ld (Rect.unit (s := S1024x1024) (k0_off12 c) S32x1024.size inb) (KV m) :=
  have h := (own_facts c).2.1
  (kv_own1 m _ c h.1 h.2.1 h.2.2 _ rfl (congrFun (off_b0 c).2.1 1) inb).symm

theorem kv_st2 (c : Dev nD) (inb) : k0_pay79 (v881 m c) = ld (Rect.unit (s := S1024x1024) (k0_off8 c) S32x1024.size inb) (KV m) := by
  have h := (own_facts c).2.2.1
  rw [kv_own0 m _ (nb 3 c) h.1 h.2.1 h.2.2 _ rfl (congrFun (off_b0 c).2.2.1 1) inb]
  unfold k0_pay79 v881 Y10 O0 k0_pay75 k0_pay74
  simp only [shapeCast_shapeCast, shapeCast_self]

theorem kv_st3 (c : Dev nD) (inb) : k0_pay81 (v899 m c) = ld (Rect.unit (s := S1024x1024) (k0_off10 c) S32x1024.size inb) (KV m) := by
  have h := (own_facts c).2.2.2
  rw [kv_own1 m _ (nb 3 c) h.1 h.2.1 h.2.2 _ rfl (congrFun (off_b0 c).2.2.2.1 1) inb]
  unfold k0_pay81 v899 Y11 O1 k0_pay78 k0_pay77 k0_pay76
  simp only [shapeCast_shapeCast, shapeCast_self]

theorem off7_nb : ∀ c : Dev nD, k0_off7 (nb 2 c) = k0_off5 c ∧ k0_off9 (nb 2 c) = k0_off6 c := by decide +kernel
theorem off13_nb : ∀ c : Dev nD, k0_off13 (nb 1 c) 1#32 = k0_off14 c ∧ k0_off13 (nb 0 c) 1#32 = k0_off13 c 2#32 := by decide +kernel
theorem off15_nb : ∀ c : Dev nD, k0_off13 (nb 1 (nb 1 c)) 1#32 = k0_off15 c ∧ k0_off2 c 3#32 = ![k0_off13 (nb 0 (nb 0 c)) 1#32 0 + 128, 0]
    ∧ k0_off13 (nb 0 (nb 0 c)) 1#32 1 = 0 := by decide +kernel

theorem kv_st4 (c : Dev nD) (inb) : k0_pay83 (v965 m c) = ld (Rect.unit (s := S1024x1024) (k0_off5 c) S64x1024.size inb) (KV m) := by
  have e : v895 m (nb 2 c) = ld (Rect.unit (s := S1024x1024) (k0_off5 c) S64x1024.size inb) (KV m) := ld_off (off7_nb c).1 _
  rw [← e]
  unfold k0_pay83 v965 Y12 k0_pay80
  simp only [shapeCast_shapeCast, shapeCast_self]

theorem kv_st5 (c : Dev nD) (inb) : k0_pay84 (v974 m c) = ld (Rect.unit (s := S1024x1024) (k0_off6 c) S64x1024.size inb) (KV m) := by
  have e : v913 m (nb 2 c) = ld (Rect.unit (s := S1024x1024) (k0_off6 c) S64x1024.size inb) (KV m) := ld_off (off7_nb c).2 _
  rw [← e]
  unfold k0_pay84 v974 Y13 k0_pay82
  simp only [shapeCast_shapeCast, shapeCast_self]

theorem kv_st6 (c : Dev nD) (inb) : k0_pay86 (v1045 m c) = ld (Rect.unit (s := S1024x1024) (k0_off14 c) S256x1024.size inb) (KV m) := by
  have e : v985 m (nb 1 c) = ld (Rect.unit (s := S1024x1024) (k0_off14 c) S256x1024.size inb) (KV m) := ld_off (off13_nb c).1 _
  rw [← e]
  unfold k0_pay86 v1045 Y14 k0_pay85
  simp only [shapeCast_shapeCast, shapeCast_self]

theorem kv_st7 (c : Dev nD) (inb) : k0_pay87 (v1052 m c) = ld (Rect.unit (s := S1024x1024) (k0_off13 c 2#32) S256x1024.size inb) (KV m) := by
  have e : v985 m (nb 0 c) = ld (Rect.unit (s := S1024x1024) (k0_off13 c 2#32) S256x1024.size inb) (KV m) := ld_off (off13_nb c).2 _
  rw [← e]
  unfold k0_pay87 v1052 Y14 k0_pay85
  simp only [shapeCast_shapeCast, shapeCast_self]

theorem lo_cast (X : S256x1024.Idx → α) (a : Fin 128) (b : Fin 1024) :
    shapeCast S128x1024 (fun j : S1x128x1024.Idx => shapeCast S1x256x1024 X up_S1x256x1024 (lo j)) shapeCasts_S1x128x1024_S128x1024 (ValueIdx.ix2 a b)
      = X (ValueIdx.ix2 (⟨a.val, Nat.lt_trans a.isLt (by decide)⟩ : Fin 256) b) :=
  (ValueIdx.shapeCast_1ab_ab_apply _ _ a b).trans
    (ValueIdx.shapeCast_ab_1ab_apply X up_S1x256x1024 (0 : Fin 1) (⟨a.val, Nat.lt_trans a.isLt (by decide)⟩ : Fin 256) b)

theorem hi_cast (X : S256x1024.Idx → α) (a : Fin 128) (b : Fin 1024) :
    shapeCast S128x1024 (fun j : S1x128x1024.Idx => shapeCast S1x256x1024 X up_S1x256x1024 (hi j)) shapeCasts_S1x128x1024_S128x1024 (ValueIdx.ix2 a b)
      = X (ValueIdx.ix2 (⟨128 + a.val, Nat.add_lt_add_left a.isLt 128⟩ : Fin 256) b) :=
  (ValueIdx.shapeCast_1ab_ab_apply _ _ a b).trans
    (ValueIdx.shapeCast_ab_1ab_apply X up_S1x256x1024 (0 : Fin 1) (⟨128 + a.val, Nat.add_lt_add_left a.isLt 128⟩ : Fin 256) b)

theorem eta2 {n0 n1 : ℕ} (f : (⟨2, ![n0, n1]⟩ : Shape).Idx) : ∃ (a : Fin n0) (b : Fin n1), f = ValueIdx.ix2 a b :=
  ⟨f 0, f 1, funext (Fin.forall_fin_two.mpr ⟨rfl, rfl⟩)⟩

theorem kv_st8 (c : Dev nD) (inb) : k0_pay88 (v1091 m c) = ld (Rect.unit (s := S1024x1024) (k0_off15 c) S128x1024.size inb) (KV m) := by
  unfold k0_pay88 v1091 Y16 v1045 Y14 k0_pay85
  simp only [shapeCast_shapeCast, shapeCast_self]
  funext j
  obtain ⟨a, b, rfl⟩ := eta2 j
  refine (lo_cast _ a b).trans ?_
  unfold v985 ld
  refine congrArg (KV m) (funext (Fin.forall_fin_two.mpr ⟨Fin.ext ?_, Fin.ext ?_⟩))
  · rw [emb_val, emb_val, ← congrFun (off15_nb c).1 0]
  · rw [emb_val, emb_val, ← congrFun (off15_nb c).1 1]

theorem kv_st9 (c : Dev nD) (inb) : k0_pay89 (v1098 m c) = ld (Rect.unit (s := S1024x1024) (k0_off2 c 3#32) S128x1024.size inb) (KV m) := by
  unfold k0_pay89 v1098 Y17 v1052 Y14 k0_pay85
  simp only [shapeCast_shapeCast, shapeCast_self]
  funext j
  obtain ⟨a, b, rfl⟩ := eta2 j
  refine (hi_cast _ a b).trans ?_
  unfold v985 ld
  obtain ⟨-, h2, h3⟩ := off15_nb c
  have h0 := congrFun h2 0
  have h1 := congrFun h2 1
  refine congrArg (KV m) (funext (Fin.forall_fin_two.mpr ⟨Fin.ext ?_, Fin.ext ?_⟩))
  · rw [emb_val, emb_val, h0]
    show k0_off13 (nb 0 (nb 0 c)) 1#32 0 + (128 + a.val) = k0_off13 (nb 0 (nb 0 c)) 1#32 0 + 128 + a.val
    omega
  · rw [emb_val, emb_val, h1, h3]
    rfl

/-! ## The sums' buffer, filled -/

/-- After both halves are stored nothing of the buffer's first contents is left. -/
theorem acc_filled (c : Dev nD) (X : S1024x1024.Idx → Elt F .f32) :
    put (Rect.unit (s := S1024x1024) ![512, 0] S512x1024.size inb_S1024x1024_S512x1024_512_0)
      (put (Rect.unit (s := S1024x1024) ![0, 0] S512x1024.size inb_S1024x1024_S512x1024_0_0) X (k0_pay3 (v53 m c) (v56 m c) (v60 m c)))
      (k0_pay4 (v53 m c) (v56 m c) (v66 m c)) = A0 m c := by
  funext i
  unfold A0
  have l0 : (i 0).val < 1024 := (i 0).isLt
  have l1 : (i 1).val < 1024 := (i 1).isLt
  by_cases h : ∃ j, (Rect.unit (s := S1024x1024) ![512, 0] S512x1024.size inb_S1024x1024_S512x1024_512_0).emb j = i
  · obtain ⟨j, rfl⟩ := h
    rw [put_emb, put_emb]
  rw [put_off _ _ _ h, put_off _ _ _ h]
  have h' : ∃ j, (Rect.unit (s := S1024x1024) ![0, 0] S512x1024.size inb_S1024x1024_S512x1024_0_0).emb j = i := by
    by_contra hn
    by_cases hc : (i 0).val < 512
    · exact hn (exists_emb _ _ _ i (Fin.forall_fin_two.mpr ⟨⟨Nat.zero_le _, by show _ < 0 + 512; omega⟩, ⟨Nat.zero_le _, by show _ < 0 + 1024; omega⟩⟩))
    · exact h (exists_emb _ _ _ i (Fin.forall_fin_two.mpr ⟨⟨by show 512 ≤ _; omega, by show _ < 512 + 512; omega⟩, ⟨Nat.zero_le _, by show _ < 0 + 1024; omega⟩⟩))
  obtain ⟨j, rfl⟩ := h'
  rw [put_emb, put_emb]

/-- The whole of the result is written at once. -/
theorem put_out (X w : S2x256x1024.Idx → Elt F .f32) :
    put (Rect.unit (s := S2x256x1024) ![0, 0, 0] S2x256x1024.size inb_S2x256x1024_S2x256x1024_0_0_0) X w = w := by
  funext i
  have e : (Rect.unit (s := S2x256x1024) ![0, 0, 0] S2x256x1024.size inb_S2x256x1024_S2x256x1024_0_0_0).emb i = i := by
    refine funext fun a => Fin.ext ?_
    rw [emb_val]
    revert a
    refine Fin.forall_fin_succ.mpr ⟨Nat.zero_add _, Fin.forall_fin_two.mpr ⟨Nat.zero_add _, Nat.zero_add _⟩⟩
  have h := put_emb (Rect.unit (s := S2x256x1024) ![0, 0, 0] S2x256x1024.size inb_S2x256x1024_S2x256x1024_0_0_0) X w i
  rwa [e] at h

theorem kvOff9 (c : Dev nD) : kvOff 9 c = k0_off2 c 3#32 0 := by unfold kvOff; rfl

theorem kvLen9 : kvLen 9 = 128 := by unfold kvLen; rfl

/-- The last piece of the sums, taken by itself. -/
theorem kvS_step9 (c : Dev nD) (inb) (i : S1024x1024.Idx) (hi : kvS 10 c i) :
    kvS 9 c i ∨ ∃ j, (Rect.unit (s := S1024x1024) (k0_off2 c 3#32) S128x1024.size inb).emb j = i :=
  kvS_step 9 c _ _ inb (kvOff9 c).symm (congrFun (k0_off2_eq c ⟨1, by decide⟩) 1) kvLen9.symm rfl i hi

end Cert.Exch

end
-- ==== Proof.Slots.lean ====
/-
# The transfers' buffers, one by one

For every transfer: its source and landing place by name, a store into the source, and a load from the landing place.
-/
module

public import proofs.«01_k».proof.Proof.Cover

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable {α : Type} {Q : α → sProp (MT nD τ sig Unit (Elt F) ℕ UU ℕ)}

/-- A load whose value is `v`. -/
theorem wp_load_as (c : Dev nD) {sh : Shape} {e : EltTy} (M : Memref sig .tc .vmem sh e) (r : Rect sh) (X : sh.Idx → Elt F e)
    (v : r.shape.Idx → Elt F e) (hv : ld r X = v)
    {hl : M.view.LoadsAt r.toLoadRect} {k : (r.toLoadRect.shape.Idx → Elt F e) → Prog (TpuEff nD τ sig (Elt F) Λ₀ .tc) α} :
    (owns (c : Thread nD τ) M fullShare X : sProp 𝕄)
      ⊢ iprop((owns (c : Thread nD τ) M fullShare X -∗ wp frame (wpE (defs₀ (F := F)) 𝒱₀ (c : Thread nD τ) none) Set.univ (k v) Q)
          -∗ wp frame (wpE (defs₀ (F := F)) 𝒱₀ (c : Thread nD τ) none) Set.univ (.op (.load M r.toLoadRect hl) k) Q) := by
  rw [← hv]; exact wp_load_owns c M r fullShare X

/-- A load inside the filled part, whose value is `v`. -/
theorem wp_load_ag_as (c : Dev nD) {sh : Shape} {e : EltTy} (M : Memref sig .tc .vmem sh e) (r : Rect sh) (S : sh.Idx → Prop) (T : sh.Idx → Elt F e)
    (v : r.shape.Idx → Elt F e) (hv : ld r T = v) (hS : ∀ j, S (r.emb j))
    {hl : M.view.LoadsAt r.toLoadRect} {k : (r.toLoadRect.shape.Idx → Elt F e) → Prog (TpuEff nD τ sig (Elt F) Λ₀ .tc) α} :
    (ag c M S T : sProp 𝕄)
      ⊢ iprop((ag c M S T -∗ wp frame (wpE (defs₀ (F := F)) 𝒱₀ (c : Thread nD τ) none) Set.univ (k v) Q)
          -∗ wp frame (wpE (defs₀ (F := F)) 𝒱₀ (c : Thread nD τ) none) Set.univ (.op (.load M r.toLoadRect hl) k) Q) := by
  rw [← hv]; exact wp_load_ag c M r S T hS

/-- A store after which the contents are `X'`. -/
theorem wp_store_as (c : Dev nD) {sh : Shape} {e : EltTy} (M : Memref sig .tc .vmem sh e) (r : Rect sh) (X X' : sh.Idx → Elt F e) (w : r.shape.Idx → Elt F e)
    (hX : put r X w = X')
    {hx : (M.access r).Stores Finset.univ} {hm : (Finset.univ : Finset r.shape.Idx) = Finset.univ ∨ ∀ a, r.stride a = 1}
    {k : PUnit → Prog (TpuEff nD τ sig (Elt F) Λ₀ .tc) α} :
    (owns (c : Thread nD τ) M fullShare X : sProp 𝕄)
      ⊢ iprop((owns (c : Thread nD τ) M fullShare X'
            -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  rw [← hX]; exact wp_store_owns c M r X w

section
variable (W : Carried F) (c : Dev nD)

omit [FloatOps F] in
/-- What the entry barrier's wait hands over. -/
theorem bar_pay : bigSep (dutOf kBar) (fun d => payOf W c kBar d)
    = iprop(slotsOf (nb 0 c) 0 ∗ slotsOf (nb 1 c) 1 ∗ slotsOf (nb 2 c) 2 ∗ slotsOf (nb 3 c) 3) := by
  show bigSep (Finset.univ : Finset (Fin 4)) (fun d => payOf W c kBar d) = _
  rw [bigSep_univ_eq_bigSepL [0, 1, 2, 3] (by decide) (by decide)]
  rfl

omit [FloatOps F] in
/-- What the entry signal in direction `d` hands over. -/
theorem sig_pay (d : Fin 4) : slotsOf (F := F) c (opp d) ⊢ payOf W (nb d c) kBar (opp d) :=
  Entails.of_eq (by show _ = slotsOf (nb (opp d) (nb d c)) (opp d); rw [opp_nb])

end

variable (m : (ℓ : Loc nD τ sig) → Buf (Elt F) ℓ) (c : Dev nD)

theorem spay0 : sendPay (Wm m) 0 c = (owns (c : Thread nD τ) (((Memref.whole cc0_scratch4 : Memref sig .tc .vmem S2x3x128x1024 .bf16).slice (Rect.unit (s := S2x3x128x1024) ![0, 0, 0, 0] S1x1x128x1024.size inb_S2x3x128x1024_S1x1x128x1024_0_0_0_0) (fun _ => rfl)).squeeze S128x1024 squeezes_S1x1x128x1024_S128x1024) fullShare (Y0 m c) : sProp 𝕄) := rfl
theorem rpay0 : recvPay (Wm m) 0 c = (owns (c : Thread nD τ) (((Memref.whole cc0_scratch5 : Memref sig .tc .vmem S2x3x128x1024 .bf16).slice (Rect.unit (s := S2x3x128x1024) ![0, 0, 0, 0] S1x1x128x1024.size inb_S2x3x128x1024_S1x1x128x1024_0_0_0_0) (fun _ => rfl)).squeeze S128x1024 squeezes_S1x1x128x1024_S128x1024) fullShare (Y0 m (nb 1 c)) : sProp 𝕄) := rfl

theorem st_send0 (w : ((Rect.unit (s := S2x3x128x1024) ![0, 0, 0, 0] S1x1x128x1024.size inb_S2x3x128x1024_S1x1x128x1024_0_0_0_0 : Rect _)).shape.Idx → Elt F .bf16) (hw : shapeCast S128x1024 w shapeCasts_S1x1x128x1024_S128x1024 = Y0 m c)
    {hx : (((Memref.whole cc0_scratch4 : Memref sig .tc .vmem S2x3x128x1024 .bf16)).access (Rect.unit (s := S2x3x128x1024) ![0, 0, 0, 0] S1x1x128x1024.size inb_S2x3x128x1024_S1x1x128x1024_0_0_0_0)).Stores Finset.univ} {hm : (Finset.univ : Finset (Rect.unit (s := S2x3x128x1024) ![0, 0, 0, 0] S1x1x128x1024.size inb_S2x3x128x1024_S1x1x128x1024_0_0_0_0 : Rect _).shape.Idx) = Finset.univ ∨ ∀ a, (Rect.unit (s := S2x3x128x1024) ![0, 0, 0, 0] S1x1x128x1024.size inb_S2x3x128x1024_S1x1x128x1024_0_0_0_0 : Rect _).stride a = 1}
    {k : PUnit → Prog (TpuEff nD τ sig (Elt F) Λ₀ .tc) α} :
    (anyB c (tx 0).src : sProp 𝕄)
      ⊢ iprop((sendPay (Wm m) 0 c -∗ wp frame (wpE (defs₀ (F := F)) 𝒱₀ (c : Thread nD τ) none) Set.univ (k ⟨⟩) Q)
          -∗ wp frame (wpE (defs₀ (F := F)) 𝒱₀ (c : Thread nD τ) none) Set.univ
            (.op (.store (Memref.whole cc0_scratch4 : Memref sig .tc .vmem S2x3x128x1024 .bf16) (Rect.unit (s := S2x3x128x1024) ![0, 0, 0, 0] S1x1x128x1024.size inb_S2x3x128x1024_S1x1x128x1024_0_0_0_0) w Finset.univ hx hm) k) Q) := by
  rw [spay0, ← hw]
  exact wp_store_part c (Memref.whole cc0_scratch4 : Memref sig .tc .vmem S2x3x128x1024 .bf16) (Rect.unit (s := S2x3x128x1024) ![0, 0, 0, 0] S1x1x128x1024.size inb_S2x3x128x1024_S1x1x128x1024_0_0_0_0) (fun _ => rfl) squeezes_S1x1x128x1024_S128x1024 shapeCasts_S1x1x128x1024_S128x1024 w

theorem ld_send0 {hl : (Memref.whole cc0_scratch4 : Memref sig .tc .vmem S2x3x128x1024 .bf16).view.LoadsAt (Rect.unit (s := S2x3x128x1024) ![0, 0, 0, 0] S1x1x128x1024.size inb_S2x3x128x1024_S1x1x128x1024_0_0_0_0 : Rect _).toLoadRect}
    {k : ((Rect.unit (s := S2x3x128x1024) ![0, 0, 0, 0] S1x1x128x1024.size inb_S2x3x128x1024_S1x1x128x1024_0_0_0_0 : Rect _).toLoadRect.shape.Idx → Elt F .bf16) → Prog (TpuEff nD τ sig (Elt F) Λ₀ .tc) α} :
    (anyB c (tx 0).src : sProp 𝕄)
      ⊢ iprop((∀ v, anyB c (tx 0).src -∗ wp frame (wpE (defs₀ (F := F)) 𝒱₀ (c : Thread nD τ) none) Set.univ (k v) Q)
          -∗ wp frame (wpE (defs₀ (F := F)) 𝒱₀ (c : Thread nD τ) none) Set.univ
            (.op (.load (Memref.whole cc0_scratch4 : Memref sig .tc .vmem S2x3x128x1024 .bf16) (Rect.unit (s := S2x3x128x1024) ![0, 0, 0, 0] S1x1x128x1024.size inb_S2x3x128x1024_S1x1x128x1024_0_0_0_0 : Rect _).toLoadRect hl) k) Q) :=
  wp_load_part_dead c (Memref.whole cc0_scratch4 : Memref sig .tc .vmem S2x3x128x1024 .bf16) (Rect.unit (s := S2x3x128x1024) ![0, 0, 0, 0] S1x1x128x1024.size inb_S2x3x128x1024_S1x1x128x1024_0_0_0_0) (fun _ => rfl) squeezes_S1x1x128x1024_S128x1024 shapeCasts_S1x1x128x1024_S128x1024 up_S1x1x128x1024

theorem ld_recv0 {hl : (Memref.whole cc0_scratch5 : Memref sig .tc .vmem S2x3x128x1024 .bf16).view.LoadsAt (Rect.unit (s := S2x3x128x1024) ![0, 0, 0, 0] S1x1x128x1024.size inb_S2x3x128x1024_S1x1x128x1024_0_0_0_0 : Rect _).toLoadRect}
    {k : ((Rect.unit (s := S2x3x128x1024) ![0, 0, 0, 0] S1x1x128x1024.size inb_S2x3x128x1024_S1x1x128x1024_0_0_0_0 : Rect _).toLoadRect.shape.Idx → Elt F .bf16) → Prog (TpuEff nD τ sig (Elt F) Λ₀ .tc) α} :
    (recvPay (Wm m) 0 c : sProp 𝕄)
      ⊢ iprop((recvPay (Wm m) 0 c -∗ wp frame (wpE (defs₀ (F := F)) 𝒱₀ (c : Thread nD τ) none) Set.univ (k (v164 m c)) Q)
          -∗ wp frame (wpE (defs₀ (F := F)) 𝒱₀ (c : Thread nD τ) none) Set.univ
            (.op (.load (Memref.whole cc0_scratch5 : Memref sig .tc .vmem S2x3x128x1024 .bf16) (Rect.unit (s := S2x3x128x1024) ![0, 0, 0, 0] S1x1x128x1024.size inb_S2x3x128x1024_S1x1x128x1024_0_0_0_0 : Rect _).toLoadRect hl) k) Q) := by
  rw [rpay0]
  exact wp_load_part c (Memref.whole cc0_scratch5 : Memref sig .tc .vmem S2x3x128x1024 .bf16) (Rect.unit (s := S2x3x128x1024) ![0, 0, 0, 0] S1x1x128x1024.size inb_S2x3x128x1024_S1x1x128x1024_0_0_0_0) (fun _ => rfl) squeezes_S1x1x128x1024_S128x1024 shapeCasts_S1x1x128x1024_S128x1024 up_S1x1x128x1024 fullShare _

theorem spay1 : sendPay (Wm m) 1 c = (owns (c : Thread nD τ) (((Memref.whole cc0_scratch4 : Memref sig .tc .vmem S2x3x128x1024 .bf16).slice (Rect.unit (s := S2x3x128x1024) ![1, 0, 0, 0] S1x1x128x1024.size inb_S2x3x128x1024_S1x1x128x1024_1_0_0_0) (fun _ => rfl)).squeeze S128x1024 squeezes_S1x1x128x1024_S128x1024) fullShare (Y1 m c) : sProp 𝕄) := rfl
theorem rpay1 : recvPay (Wm m) 1 c = (owns (c : Thread nD τ) (((Memref.whole cc0_scratch5 : Memref sig .tc .vmem S2x3x128x1024 .bf16).slice (Rect.unit (s := S2x3x128x1024) ![1, 0, 0, 0] S1x1x128x1024.size inb_S2x3x128x1024_S1x1x128x1024_1_0_0_0) (fun _ => rfl)).squeeze S128x1024 squeezes_S1x1x128x1024_S128x1024) fullShare (Y1 m (nb 0 c)) : sProp 𝕄) := rfl

theorem st_send1 (w : ((Rect.unit (s := S2x3x128x1024) ![1, 0, 0, 0] S1x1x128x1024.size inb_S2x3x128x1024_S1x1x128x1024_1_0_0_0 : Rect _)).shape.Idx → Elt F .bf16) (hw : shapeCast S128x1024 w shapeCasts_S1x1x128x1024_S128x1024 = Y1 m c)
    {hx : (((Memref.whole cc0_scratch4 : Memref sig .tc .vmem S2x3x128x1024 .bf16)).access (Rect.unit (s := S2x3x128x1024) ![1, 0, 0, 0] S1x1x128x1024.size inb_S2x3x128x1024_S1x1x128x1024_1_0_0_0)).Stores Finset.univ} {hm : (Finset.univ : Finset (Rect.unit (s := S2x3x128x1024) ![1, 0, 0, 0] S1x1x128x1024.size inb_S2x3x128x1024_S1x1x128x1024_1_0_0_0 : Rect _).shape.Idx) = Finset.univ ∨ ∀ a, (Rect.unit (s := S2x3x128x1024) ![1, 0, 0, 0] S1x1x128x1024.size inb_S2x3x128x1024_S1x1x128x1024_1_0_0_0 : Rect _).stride a = 1}
    {k : PUnit → Prog (TpuEff nD τ sig (Elt F) Λ₀ .tc) α} :
    (anyB c (tx 1).src : sProp 𝕄)
      ⊢ iprop((sendPay (Wm m) 1 c -∗ wp frame (wpE (defs₀ (F := F)) 𝒱₀ (c : Thread nD τ) none) Set.univ (k ⟨⟩) Q)
          -∗ wp frame (wpE (defs₀ (F := F)) 𝒱₀ (c : Thread nD τ) none) Set.univ
            (.op (.store (Memref.whole cc0_scratch4 : Memref sig .tc .vmem S2x3x128x1024 .bf16) (Rect.unit (s := S2x3x128x1024) ![1, 0, 0, 0] S1x1x128x1024.size inb_S2x3x128x1024_S1x1x128x1024_1_0_0_0) w Finset.univ hx hm) k) Q) := by
  rw [spay1, ← hw]
  exact wp_store_part c (Memref.whole cc0_scratch4 : Memref sig .tc .vmem S2x3x128x1024 .bf16) (Rect.unit (s := S2x3x128x1024) ![1, 0, 0, 0] S1x1x128x1024.size inb_S2x3x128x1024_S1x1x128x1024_1_0_0_0) (fun _ => rfl) squeezes_S1x1x128x1024_S128x1024 shapeCasts_S1x1x128x1024_S128x1024 w

theorem ld_send1 {hl : (Memref.whole cc0_scratch4 : Memref sig .tc .vmem S2x3x128x1024 .bf16).view.LoadsAt (Rect.unit (s := S2x3x128x1024) ![1, 0, 0, 0] S1x1x128x1024.size inb_S2x3x128x1024_S1x1x128x1024_1_0_0_0 : Rect _).toLoadRect}
    {k : ((Rect.unit (s := S2x3x128x1024) ![1, 0, 0, 0] S1x1x128x1024.size inb_S2x3x128x1024_S1x1x128x1024_1_0_0_0 : Rect _).toLoadRect.shape.Idx → Elt F .bf16) → Prog (TpuEff nD τ sig (Elt F) Λ₀ .tc) α} :
    (anyB c (tx 1).src : sProp 𝕄)
      ⊢ iprop((∀ v, anyB c (tx 1).src -∗ wp frame (wpE (defs₀ (F := F)) 𝒱₀ (c : Thread nD τ) none) Set.univ (k v) Q)
          -∗ wp frame (wpE (defs₀ (F := F)) 𝒱₀ (c : Thread nD τ) none) Set.univ
            (.op (.load (Memref.whole cc0_scratch4 : Memref sig .tc .vmem S2x3x128x1024 .bf16) (Rect.unit (s := S2x3x128x1024) ![1, 0, 0, 0] S1x1x128x1024.size inb_S2x3x128x1024_S1x1x128x1024_1_0_0_0 : Rect _).toLoadRect hl) k) Q) :=
  wp_load_part_dead c (Memref.whole cc0_scratch4 : Memref sig .tc .vmem S2x3x128x1024 .bf16) (Rect.unit (s := S2x3x128x1024) ![1, 0, 0, 0] S1x1x128x1024.size inb_S2x3x128x1024_S1x1x128x1024_1_0_0_0) (fun _ => rfl) squeezes_S1x1x128x1024_S128x1024 shapeCasts_S1x1x128x1024_S128x1024 up_S1x1x128x1024

theorem ld_recv1 {hl : (Memref.whole cc0_scratch5 : Memref sig .tc .vmem S2x3x128x1024 .bf16).view.LoadsAt (Rect.unit (s := S2x3x128x1024) ![1, 0, 0, 0] S1x1x128x1024.size inb_S2x3x128x1024_S1x1x128x1024_1_0_0_0 : Rect _).toLoadRect}
    {k : ((Rect.unit (s := S2x3x128x1024) ![1, 0, 0, 0] S1x1x128x1024.size inb_S2x3x128x1024_S1x1x128x1024_1_0_0_0 : Rect _).toLoadRect.shape.Idx → Elt F .bf16) → Prog (TpuEff nD τ sig (Elt F) Λ₀ .tc) α} :
    (recvPay (Wm m) 1 c : sProp 𝕄)
      ⊢ iprop((recvPay (Wm m) 1 c -∗ wp frame (wpE (defs₀ (F := F)) 𝒱₀ (c : Thread nD τ) none) Set.univ (k (v185 m c)) Q)
          -∗ wp frame (wpE (defs₀ (F := F)) 𝒱₀ (c : Thread nD τ) none) Set.univ
            (.op (.load (Memref.whole cc0_scratch5 : Memref sig .tc .vmem S2x3x128x1024 .bf16) (Rect.unit (s := S2x3x128x1024) ![1, 0, 0, 0] S1x1x128x1024.size inb_S2x3x128x1024_S1x1x128x1024_1_0_0_0 : Rect _).toLoadRect hl) k) Q) := by
  rw [rpay1]
  exact wp_load_part c (Memref.whole cc0_scratch5 : Memref sig .tc .vmem S2x3x128x1024 .bf16) (Rect.unit (s := S2x3x128x1024) ![1, 0, 0, 0] S1x1x128x1024.size inb_S2x3x128x1024_S1x1x128x1024_1_0_0_0) (fun _ => rfl) squeezes_S1x1x128x1024_S128x1024 shapeCasts_S1x1x128x1024_S128x1024 up_S1x1x128x1024 fullShare _

theorem spay2 : sendPay (Wm m) 2 c = (owns (c : Thread nD τ) (((Memref.whole cc0_scratch4 : Memref sig .tc .vmem S2x3x128x1024 .bf16).slice (Rect.unit (s := S2x3x128x1024) ![0, 1, 0, 0] S1x1x128x1024.size inb_S2x3x128x1024_S1x1x128x1024_0_1_0_0) (fun _ => rfl)).squeeze S128x1024 squeezes_S1x1x128x1024_S128x1024) fullShare (Y2 m c) : sProp 𝕄) := rfl
theorem rpay2 : recvPay (Wm m) 2 c = (owns (c : Thread nD τ) (((Memref.whole cc0_scratch5 : Memref sig .tc .vmem S2x3x128x1024 .bf16).slice (Rect.unit (s := S2x3x128x1024) ![0, 1, 0, 0] S1x1x128x1024.size inb_S2x3x128x1024_S1x1x128x1024_0_1_0_0) (fun _ => rfl)).squeeze S128x1024 squeezes_S1x1x128x1024_S128x1024) fullShare (Y2 m (nb 1 c)) : sProp 𝕄) := rfl

theorem st_send2 (w : ((Rect.unit (s := S2x3x128x1024) ![0, 1, 0, 0] S1x1x128x1024.size inb_S2x3x128x1024_S1x1x128x1024_0_1_0_0 : Rect _)).shape.Idx → Elt F .bf16) (hw : shapeCast S128x1024 w shapeCasts_S1x1x128x1024_S128x1024 = Y2 m c)
    {hx : (((Memref.whole cc0_scratch4 : Memref sig .tc .vmem S2x3x128x1024 .bf16)).access (Rect.unit (s := S2x3x128x1024) ![0, 1, 0, 0] S1x1x128x1024.size inb_S2x3x128x1024_S1x1x128x1024_0_1_0_0)).Stores Finset.univ} {hm : (Finset.univ : Finset (Rect.unit (s := S2x3x128x1024) ![0, 1, 0, 0] S1x1x128x1024.size inb_S2x3x128x1024_S1x1x128x1024_0_1_0_0 : Rect _).shape.Idx) = Finset.univ ∨ ∀ a, (Rect.unit (s := S2x3x128x1024) ![0, 1, 0, 0] S1x1x128x1024.size inb_S2x3x128x1024_S1x1x128x1024_0_1_0_0 : Rect _).stride a = 1}
    {k : PUnit → Prog (TpuEff nD τ sig (Elt F) Λ₀ .tc) α} :
    (anyB c (tx 2).src : sProp 𝕄)
      ⊢ iprop((sendPay (Wm m) 2 c -∗ wp frame (wpE (defs₀ (F := F)) 𝒱₀ (c : Thread nD τ) none) Set.univ (k ⟨⟩) Q)
          -∗ wp frame (wpE (defs₀ (F := F)) 𝒱₀ (c : Thread nD τ) none) Set.univ
            (.op (.store (Memref.whole cc0_scratch4 : Memref sig .tc .vmem S2x3x128x1024 .bf16) (Rect.unit (s := S2x3x128x1024) ![0, 1, 0, 0] S1x1x128x1024.size inb_S2x3x128x1024_S1x1x128x1024_0_1_0_0) w Finset.univ hx hm) k) Q) := by
  rw [spay2, ← hw]
  exact wp_store_part c (Memref.whole cc0_scratch4 : Memref sig .tc .vmem S2x3x128x1024 .bf16) (Rect.unit (s := S2x3x128x1024) ![0, 1, 0, 0] S1x1x128x1024.size inb_S2x3x128x1024_S1x1x128x1024_0_1_0_0) (fun _ => rfl) squeezes_S1x1x128x1024_S128x1024 shapeCasts_S1x1x128x1024_S128x1024 w

theorem ld_send2 {hl : (Memref.whole cc0_scratch4 : Memref sig .tc .vmem S2x3x128x1024 .bf16).view.LoadsAt (Rect.unit (s := S2x3x128x1024) ![0, 1, 0, 0] S1x1x128x1024.size inb_S2x3x128x1024_S1x1x128x1024_0_1_0_0 : Rect _).toLoadRect}
    {k : ((Rect.unit (s := S2x3x128x1024) ![0, 1, 0, 0] S1x1x128x1024.size inb_S2x3x128x1024_S1x1x128x1024_0_1_0_0 : Rect _).toLoadRect.shape.Idx → Elt F .bf16) → Prog (TpuEff nD τ sig (Elt F) Λ₀ .tc) α} :
    (anyB c (tx 2).src : sProp 𝕄)
      ⊢ iprop((∀ v, anyB c (tx 2).src -∗ wp frame (wpE (defs₀ (F := F)) 𝒱₀ (c : Thread nD τ) none) Set.univ (k v) Q)
          -∗ wp frame (wpE (defs₀ (F := F)) 𝒱₀ (c : Thread nD τ) none) Set.univ
            (.op (.load (Memref.whole cc0_scratch4 : Memref sig .tc .vmem S2x3x128x1024 .bf16) (Rect.unit (s := S2x3x128x1024) ![0, 1, 0, 0] S1x1x128x1024.size inb_S2x3x128x1024_S1x1x128x1024_0_1_0_0 : Rect _).toLoadRect hl) k) Q) :=
  wp_load_part_dead c (Memref.whole cc0_scratch4 : Memref sig .tc .vmem S2x3x128x1024 .bf16) (Rect.unit (s := S2x3x128x1024) ![0, 1, 0, 0] S1x1x128x1024.size inb_S2x3x128x1024_S1x1x128x1024_0_1_0_0) (fun _ => rfl) squeezes_S1x1x128x1024_S128x1024 shapeCasts_S1x1x128x1024_S128x1024 up_S1x1x128x1024

theorem ld_recv2 {hl : (Memref.whole cc0_scratch5 : Memref sig .tc .vmem S2x3x128x1024 .bf16).view.LoadsAt (Rect.unit (s := S2x3x128x1024) ![0, 1, 0, 0] S1x1x128x1024.size inb_S2x3x128x1024_S1x1x128x1024_0_1_0_0 : Rect _).toLoadRect}
    {k : ((Rect.unit (s := S2x3x128x1024) ![0, 1, 0, 0] S1x1x128x1024.size inb_S2x3x128x1024_S1x1x128x1024_0_1_0_0 : Rect _).toLoadRect.shape.Idx → Elt F .bf16) → Prog (TpuEff nD τ sig (Elt F) Λ₀ .tc) α} :
    (recvPay (Wm m) 2 c : sProp 𝕄)
      ⊢ iprop((recvPay (Wm m) 2 c -∗ wp frame (wpE (defs₀ (F := F)) 𝒱₀ (c : Thread nD τ) none) Set.univ (k (v263 m c)) Q)
          -∗ wp frame (wpE (defs₀ (F := F)) 𝒱₀ (c : Thread nD τ) none) Set.univ
            (.op (.load (Memref.whole cc0_scratch5 : Memref sig .tc .vmem S2x3x128x1024 .bf16) (Rect.unit (s := S2x3x128x1024) ![0, 1, 0, 0] S1x1x128x1024.size inb_S2x3x128x1024_S1x1x128x1024_0_1_0_0 : Rect _).toLoadRect hl) k) Q) := by
  rw [rpay2]
  exact wp_load_part c (Memref.whole cc0_scratch5 : Memref sig .tc .vmem S2x3x128x1024 .bf16) (Rect.unit (s := S2x3x128x1024) ![0, 1, 0, 0] S1x1x128x1024.size inb_S2x3x128x1024_S1x1x128x1024_0_1_0_0) (fun _ => rfl) squeezes_S1x1x128x1024_S128x1024 shapeCasts_S1x1x128x1024_S128x1024 up_S1x1x128x1024 fullShare _

theorem spay3 : sendPay (Wm m) 3 c = (owns (c : Thread nD τ) (((Memref.whole cc0_scratch4 : Memref sig .tc .vmem S2x3x128x1024 .bf16).slice (Rect.unit (s := S2x3x128x1024) ![1, 1, 0, 0] S1x1x128x1024.size inb_S2x3x128x1024_S1x1x128x1024_1_1_0_0) (fun _ => rfl)).squeeze S128x1024 squeezes_S1x1x128x1024_S128x1024) fullShare (Y3 m c) : sProp 𝕄) := rfl
theorem rpay3 : recvPay (Wm m) 3 c = (owns (c : Thread nD τ) (((Memref.whole cc0_scratch5 : Memref sig .tc .vmem S2x3x128x1024 .bf16).slice (Rect.unit (s := S2x3x128x1024) ![1, 1, 0, 0] S1x1x128x1024.size inb_S2x3x128x1024_S1x1x128x1024_1_1_0_0) (fun _ => rfl)).squeeze S128x1024 squeezes_S1x1x128x1024_S128x1024) fullShare (Y3 m (nb 0 c)) : sProp 𝕄) := rfl

theorem st_send3 (w : ((Rect.unit (s := S2x3x128x1024) ![1, 1, 0, 0] S1x1x128x1024.size inb_S2x3x128x1024_S1x1x128x1024_1_1_0_0 : Rect _)).shape.Idx → Elt F .bf16) (hw : shapeCast S128x1024 w shapeCasts_S1x1x128x1024_S128x1024 = Y3 m c)
    {hx : (((Memref.whole cc0_scratch4 : Memref sig .tc .vmem S2x3x128x1024 .bf16)).access (Rect.unit (s := S2x3x128x1024) ![1, 1, 0, 0] S1x1x128x1024.size inb_S2x3x128x1024_S1x1x128x1024_1_1_0_0)).Stores Finset.univ} {hm : (Finset.univ : Finset (Rect.unit (s := S2x3x128x1024) ![1, 1, 0, 0] S1x1x128x1024.size inb_S2x3x128x1024_S1x1x128x1024_1_1_0_0 : Rect _).shape.Idx) = Finset.univ ∨ ∀ a, (Rect.unit (s := S2x3x128x1024) ![1, 1, 0, 0] S1x1x128x1024.size inb_S2x3x128x1024_S1x1x128x1024_1_1_0_0 : Rect _).stride a = 1}
    {k : PUnit → Prog (TpuEff nD τ sig (Elt F) Λ₀ .tc) α} :
    (anyB c (tx 3).src : sProp 𝕄)
      ⊢ iprop((sendPay (Wm m) 3 c -∗ wp frame (wpE (defs₀ (F := F)) 𝒱₀ (c : Thread nD τ) none) Set.univ (k ⟨⟩) Q)
          -∗ wp frame (wpE (defs₀ (F := F)) 𝒱₀ (c : Thread nD τ) none) Set.univ
            (.op (.store (Memref.whole cc0_scratch4 : Memref sig .tc .vmem S2x3x128x1024 .bf16) (Rect.unit (s := S2x3x128x1024) ![1, 1, 0, 0] S1x1x128x1024.size inb_S2x3x128x1024_S1x1x128x1024_1_1_0_0) w Finset.univ hx hm) k) Q) := by
  rw [spay3, ← hw]
  exact wp_store_part c (Memref.whole cc0_scratch4 : Memref sig .tc .vmem S2x3x128x1024 .bf16) (Rect.unit (s := S2x3x128x1024) ![1, 1, 0, 0] S1x1x128x1024.size inb_S2x3x128x1024_S1x1x128x1024_1_1_0_0) (fun _ => rfl) squeezes_S1x1x128x1024_S128x1024 shapeCasts_S1x1x128x1024_S128x1024 w

theorem ld_send3 {hl : (Memref.whole cc0_scratch4 : Memref sig .tc .vmem S2x3x128x1024 .bf16).view.LoadsAt (Rect.unit (s := S2x3x128x1024) ![1, 1, 0, 0] S1x1x128x1024.size inb_S2x3x128x1024_S1x1x128x1024_1_1_0_0 : Rect _).toLoadRect}
    {k : ((Rect.unit (s := S2x3x128x1024) ![1, 1, 0, 0] S1x1x128x1024.size inb_S2x3x128x1024_S1x1x128x1024_1_1_0_0 : Rect _).toLoadRect.shape.Idx → Elt F .bf16) → Prog (TpuEff nD τ sig (Elt F) Λ₀ .tc) α} :
    (anyB c (tx 3).src : sProp 𝕄)
      ⊢ iprop((∀ v, anyB c (tx 3).src -∗ wp frame (wpE (defs₀ (F := F)) 𝒱₀ (c : Thread nD τ) none) Set.univ (k v) Q)
          -∗ wp frame (wpE (defs₀ (F := F)) 𝒱₀ (c : Thread nD τ) none) Set.univ
            (.op (.load (Memref.whole cc0_scratch4 : Memref sig .tc .vmem S2x3x128x1024 .bf16) (Rect.unit (s := S2x3x128x1024) ![1, 1, 0, 0] S1x1x128x1024.size inb_S2x3x128x1024_S1x1x128x1024_1_1_0_0 : Rect _).toLoadRect hl) k) Q) :=
  wp_load_part_dead c (Memref.whole cc0_scratch4 : Memref sig .tc .vmem S2x3x128x1024 .bf16) (Rect.unit (s := S2x3x128x1024) ![1, 1, 0, 0] S1x1x128x1024.size inb_S2x3x128x1024_S1x1x128x1024_1_1_0_0) (fun _ => rfl) squeezes_S1x1x128x1024_S128x1024 shapeCasts_S1x1x128x1024_S128x1024 up_S1x1x128x1024

theorem ld_recv3 {hl : (Memref.whole cc0_scratch5 : Memref sig .tc .vmem S2x3x128x1024 .bf16).view.LoadsAt (Rect.unit (s := S2x3x128x1024) ![1, 1, 0, 0] S1x1x128x1024.size inb_S2x3x128x1024_S1x1x128x1024_1_1_0_0 : Rect _).toLoadRect}
    {k : ((Rect.unit (s := S2x3x128x1024) ![1, 1, 0, 0] S1x1x128x1024.size inb_S2x3x128x1024_S1x1x128x1024_1_1_0_0 : Rect _).toLoadRect.shape.Idx → Elt F .bf16) → Prog (TpuEff nD τ sig (Elt F) Λ₀ .tc) α} :
    (recvPay (Wm m) 3 c : sProp 𝕄)
      ⊢ iprop((recvPay (Wm m) 3 c -∗ wp frame (wpE (defs₀ (F := F)) 𝒱₀ (c : Thread nD τ) none) Set.univ (k (v284 m c)) Q)
          -∗ wp frame (wpE (defs₀ (F := F)) 𝒱₀ (c : Thread nD τ) none) Set.univ
            (.op (.load (Memref.whole cc0_scratch5 : Memref sig .tc .vmem S2x3x128x1024 .bf16) (Rect.unit (s := S2x3x128x1024) ![1, 1, 0, 0] S1x1x128x1024.size inb_S2x3x128x1024_S1x1x128x1024_1_1_0_0 : Rect _).toLoadRect hl) k) Q) := by
  rw [rpay3]
  exact wp_load_part c (Memref.whole cc0_scratch5 : Memref sig .tc .vmem S2x3x128x1024 .bf16) (Rect.unit (s := S2x3x128x1024) ![1, 1, 0, 0] S1x1x128x1024.size inb_S2x3x128x1024_S1x1x128x1024_1_1_0_0) (fun _ => rfl) squeezes_S1x1x128x1024_S128x1024 shapeCasts_S1x1x128x1024_S128x1024 up_S1x1x128x1024 fullShare _

theorem spay4 : sendPay (Wm m) 4 c = (owns (c : Thread nD τ) (((Memref.whole cc0_scratch4 : Memref sig .tc .vmem S2x3x128x1024 .bf16).slice (Rect.unit (s := S2x3x128x1024) ![0, 2, 0, 0] S1x1x128x1024.size inb_S2x3x128x1024_S1x1x128x1024_0_2_0_0) (fun _ => rfl)).squeeze S128x1024 squeezes_S1x1x128x1024_S128x1024) fullShare (Y4 m c) : sProp 𝕄) := rfl
theorem rpay4 : recvPay (Wm m) 4 c = (owns (c : Thread nD τ) (((Memref.whole cc0_scratch5 : Memref sig .tc .vmem S2x3x128x1024 .bf16).slice (Rect.unit (s := S2x3x128x1024) ![0, 2, 0, 0] S1x1x128x1024.size inb_S2x3x128x1024_S1x1x128x1024_0_2_0_0) (fun _ => rfl)).squeeze S128x1024 squeezes_S1x1x128x1024_S128x1024) fullShare (Y4 m (nb 1 c)) : sProp 𝕄) := rfl

theorem st_send4 (w : ((Rect.unit (s := S2x3x128x1024) ![0, 2, 0, 0] S1x1x128x1024.size inb_S2x3x128x1024_S1x1x128x1024_0_2_0_0 : Rect _)).shape.Idx → Elt F .bf16) (hw : shapeCast S128x1024 w shapeCasts_S1x1x128x1024_S128x1024 = Y4 m c)
    {hx : (((Memref.whole cc0_scratch4 : Memref sig .tc .vmem S2x3x128x1024 .bf16)).access (Rect.unit (s := S2x3x128x1024) ![0, 2, 0, 0] S1x1x128x1024.size inb_S2x3x128x1024_S1x1x128x1024_0_2_0_0)).Stores Finset.univ} {hm : (Finset.univ : Finset (Rect.unit (s := S2x3x128x1024) ![0, 2, 0, 0] S1x1x128x1024.size inb_S2x3x128x1024_S1x1x128x1024_0_2_0_0 : Rect _).shape.Idx) = Finset.univ ∨ ∀ a, (Rect.unit (s := S2x3x128x1024) ![0, 2, 0, 0] S1x1x128x1024.size inb_S2x3x128x1024_S1x1x128x1024_0_2_0_0 : Rect _).stride a = 1}
    {k : PUnit → Prog (TpuEff nD τ sig (Elt F) Λ₀ .tc) α} :
    (anyB c (tx 4).src : sProp 𝕄)
      ⊢ iprop((sendPay (Wm m) 4 c -∗ wp frame (wpE (defs₀ (F := F)) 𝒱₀ (c : Thread nD τ) none) Set.univ (k ⟨⟩) Q)
          -∗ wp frame (wpE (defs₀ (F := F)) 𝒱₀ (c : Thread nD τ) none) Set.univ
            (.op (.store (Memref.whole cc0_scratch4 : Memref sig .tc .vmem S2x3x128x1024 .bf16) (Rect.unit (s := S2x3x128x1024) ![0, 2, 0, 0] S1x1x128x1024.size inb_S2x3x128x1024_S1x1x128x1024_0_2_0_0) w Finset.univ hx hm) k) Q) := by
  rw [spay4, ← hw]
  exact wp_store_part c (Memref.whole cc0_scratch4 : Memref sig .tc .vmem S2x3x128x1024 .bf16) (Rect.unit (s := S2x3x128x1024) ![0, 2, 0, 0] S1x1x128x1024.size inb_S2x3x128x1024_S1x1x128x1024_0_2_0_0) (fun _ => rfl) squeezes_S1x1x128x1024_S128x1024 shapeCasts_S1x1x128x1024_S128x1024 w

theorem ld_send4 {hl : (Memref.whole cc0_scratch4 : Memref sig .tc .vmem S2x3x128x1024 .bf16).view.LoadsAt (Rect.unit (s := S2x3x128x1024) ![0, 2, 0, 0] S1x1x128x1024.size inb_S2x3x128x1024_S1x1x128x1024_0_2_0_0 : Rect _).toLoadRect}
    {k : ((Rect.unit (s := S2x3x128x1024) ![0, 2, 0, 0] S1x1x128x1024.size inb_S2x3x128x1024_S1x1x128x1024_0_2_0_0 : Rect _).toLoadRect.shape.Idx → Elt F .bf16) → Prog (TpuEff nD τ sig (Elt F) Λ₀ .tc) α} :
    (anyB c (tx 4).src : sProp 𝕄)
      ⊢ iprop((∀ v, anyB c (tx 4).src -∗ wp frame (wpE (defs₀ (F := F)) 𝒱₀ (c : Thread nD τ) none) Set.univ (k v) Q)
          -∗ wp frame (wpE (defs₀ (F := F)) 𝒱₀ (c : Thread nD τ) none) Set.univ
            (.op (.load (Memref.whole cc0_scratch4 : Memref sig .tc .vmem S2x3x128x1024 .bf16) (Rect.unit (s := S2x3x128x1024) ![0, 2, 0, 0] S1x1x128x1024.size inb_S2x3x128x1024_S1x1x128x1024_0_2_0_0 : Rect _).toLoadRect hl) k) Q) :=
  wp_load_part_dead c (Memref.whole cc0_scratch4 : Memref sig .tc .vmem S2x3x128x1024 .bf16) (Rect.unit (s := S2x3x128x1024) ![0, 2, 0, 0] S1x1x128x1024.size inb_S2x3x128x1024_S1x1x128x1024_0_2_0_0) (fun _ => rfl) squeezes_S1x1x128x1024_S128x1024 shapeCasts_S1x1x128x1024_S128x1024 up_S1x1x128x1024

theorem ld_recv4 {hl : (Memref.whole cc0_scratch5 : Memref sig .tc .vmem S2x3x128x1024 .bf16).view.LoadsAt (Rect.unit (s := S2x3x128x1024) ![0, 2, 0, 0] S1x1x128x1024.size inb_S2x3x128x1024_S1x1x128x1024_0_2_0_0 : Rect _).toLoadRect}
    {k : ((Rect.unit (s := S2x3x128x1024) ![0, 2, 0, 0] S1x1x128x1024.size inb_S2x3x128x1024_S1x1x128x1024_0_2_0_0 : Rect _).toLoadRect.shape.Idx → Elt F .bf16) → Prog (TpuEff nD τ sig (Elt F) Λ₀ .tc) α} :
    (recvPay (Wm m) 4 c : sProp 𝕄)
      ⊢ iprop((recvPay (Wm m) 4 c -∗ wp frame (wpE (defs₀ (F := F)) 𝒱₀ (c : Thread nD τ) none) Set.univ (k (v482 m c)) Q)
          -∗ wp frame (wpE (defs₀ (F := F)) 𝒱₀ (c : Thread nD τ) none) Set.univ
            (.op (.load (Memref.whole cc0_scratch5 : Memref sig .tc .vmem S2x3x128x1024 .bf16) (Rect.unit (s := S2x3x128x1024) ![0, 2, 0, 0] S1x1x128x1024.size inb_S2x3x128x1024_S1x1x128x1024_0_2_0_0 : Rect _).toLoadRect hl) k) Q) := by
  rw [rpay4]
  exact wp_load_part c (Memref.whole cc0_scratch5 : Memref sig .tc .vmem S2x3x128x1024 .bf16) (Rect.unit (s := S2x3x128x1024) ![0, 2, 0, 0] S1x1x128x1024.size inb_S2x3x128x1024_S1x1x128x1024_0_2_0_0) (fun _ => rfl) squeezes_S1x1x128x1024_S128x1024 shapeCasts_S1x1x128x1024_S128x1024 up_S1x1x128x1024 fullShare _

theorem spay5 : sendPay (Wm m) 5 c = (owns (c : Thread nD τ) (((Memref.whole cc0_scratch4 : Memref sig .tc .vmem S2x3x128x1024 .bf16).slice (Rect.unit (s := S2x3x128x1024) ![1, 2, 0, 0] S1x1x128x1024.size inb_S2x3x128x1024_S1x1x128x1024_1_2_0_0) (fun _ => rfl)).squeeze S128x1024 squeezes_S1x1x128x1024_S128x1024) fullShare (Y5 m c) : sProp 𝕄) := rfl
theorem rpay5 : recvPay (Wm m) 5 c = (owns (c : Thread nD τ) (((Memref.whole cc0_scratch5 : Memref sig .tc .vmem S2x3x128x1024 .bf16).slice (Rect.unit (s := S2x3x128x1024) ![1, 2, 0, 0] S1x1x128x1024.size inb_S2x3x128x1024_S1x1x128x1024_1_2_0_0) (fun _ => rfl)).squeeze S128x1024 squeezes_S1x1x128x1024_S128x1024) fullShare (Y5 m (nb 0 c)) : sProp 𝕄) := rfl

theorem st_send5 (w : ((Rect.unit (s := S2x3x128x1024) ![1, 2, 0, 0] S1x1x128x1024.size inb_S2x3x128x1024_S1x1x128x1024_1_2_0_0 : Rect _)).shape.Idx → Elt F .bf16) (hw : shapeCast S128x1024 w shapeCasts_S1x1x128x1024_S128x1024 = Y5 m c)
    {hx : (((Memref.whole cc0_scratch4 : Memref sig .tc .vmem S2x3x128x1024 .bf16)).access (Rect.unit (s := S2x3x128x1024) ![1, 2, 0, 0] S1x1x128x1024.size inb_S2x3x128x1024_S1x1x128x1024_1_2_0_0)).Stores Finset.univ} {hm : (Finset.univ : Finset (Rect.unit (s := S2x3x128x1024) ![1, 2, 0, 0] S1x1x128x1024.size inb_S2x3x128x1024_S1x1x128x1024_1_2_0_0 : Rect _).shape.Idx) = Finset.univ ∨ ∀ a, (Rect.unit (s := S2x3x128x1024) ![1, 2, 0, 0] S1x1x128x1024.size inb_S2x3x128x1024_S1x1x128x1024_1_2_0_0 : Rect _).stride a = 1}
    {k : PUnit → Prog (TpuEff nD τ sig (Elt F) Λ₀ .tc) α} :
    (anyB c (tx 5).src : sProp 𝕄)
      ⊢ iprop((sendPay (Wm m) 5 c -∗ wp frame (wpE (defs₀ (F := F)) 𝒱₀ (c : Thread nD τ) none) Set.univ (k ⟨⟩) Q)
          -∗ wp frame (wpE (defs₀ (F := F)) 𝒱₀ (c : Thread nD τ) none) Set.univ
            (.op (.store (Memref.whole cc0_scratch4 : Memref sig .tc .vmem S2x3x128x1024 .bf16) (Rect.unit (s := S2x3x128x1024) ![1, 2, 0, 0] S1x1x128x1024.size inb_S2x3x128x1024_S1x1x128x1024_1_2_0_0) w Finset.univ hx hm) k) Q) := by
  rw [spay5, ← hw]
  exact wp_store_part c (Memref.whole cc0_scratch4 : Memref sig .tc .vmem S2x3x128x1024 .bf16) (Rect.unit (s := S2x3x128x1024) ![1, 2, 0, 0] S1x1x128x1024.size inb_S2x3x128x1024_S1x1x128x1024_1_2_0_0) (fun _ => rfl) squeezes_S1x1x128x1024_S128x1024 shapeCasts_S1x1x128x1024_S128x1024 w

theorem ld_send5 {hl : (Memref.whole cc0_scratch4 : Memref sig .tc .vmem S2x3x128x1024 .bf16).view.LoadsAt (Rect.unit (s := S2x3x128x1024) ![1, 2, 0, 0] S1x1x128x1024.size inb_S2x3x128x1024_S1x1x128x1024_1_2_0_0 : Rect _).toLoadRect}
    {k : ((Rect.unit (s := S2x3x128x1024) ![1, 2, 0, 0] S1x1x128x1024.size inb_S2x3x128x1024_S1x1x128x1024_1_2_0_0 : Rect _).toLoadRect.shape.Idx → Elt F .bf16) → Prog (TpuEff nD τ sig (Elt F) Λ₀ .tc) α} :
    (anyB c (tx 5).src : sProp 𝕄)
      ⊢ iprop((∀ v, anyB c (tx 5).src -∗ wp frame (wpE (defs₀ (F := F)) 𝒱₀ (c : Thread nD τ) none) Set.univ (k v) Q)
          -∗ wp frame (wpE (defs₀ (F := F)) 𝒱₀ (c : Thread nD τ) none) Set.univ
            (.op (.load (Memref.whole cc0_scratch4 : Memref sig .tc .vmem S2x3x128x1024 .bf16) (Rect.unit (s := S2x3x128x1024) ![1, 2, 0, 0] S1x1x128x1024.size inb_S2x3x128x1024_S1x1x128x1024_1_2_0_0 : Rect _).toLoadRect hl) k) Q) :=
  wp_load_part_dead c (Memref.whole cc0_scratch4 : Memref sig .tc .vmem S2x3x128x1024 .bf16) (Rect.unit (s := S2x3x128x1024) ![1, 2, 0, 0] S1x1x128x1024.size inb_S2x3x128x1024_S1x1x128x1024_1_2_0_0) (fun _ => rfl) squeezes_S1x1x128x1024_S128x1024 shapeCasts_S1x1x128x1024_S128x1024 up_S1x1x128x1024

theorem ld_recv5 {hl : (Memref.whole cc0_scratch5 : Memref sig .tc .vmem S2x3x128x1024 .bf16).view.LoadsAt (Rect.unit (s := S2x3x128x1024) ![1, 2, 0, 0] S1x1x128x1024.size inb_S2x3x128x1024_S1x1x128x1024_1_2_0_0 : Rect _).toLoadRect}
    {k : ((Rect.unit (s := S2x3x128x1024) ![1, 2, 0, 0] S1x1x128x1024.size inb_S2x3x128x1024_S1x1x128x1024_1_2_0_0 : Rect _).toLoadRect.shape.Idx → Elt F .bf16) → Prog (TpuEff nD τ sig (Elt F) Λ₀ .tc) α} :
    (recvPay (Wm m) 5 c : sProp 𝕄)
      ⊢ iprop((recvPay (Wm m) 5 c -∗ wp frame (wpE (defs₀ (F := F)) 𝒱₀ (c : Thread nD τ) none) Set.univ (k (v508 m c)) Q)
          -∗ wp frame (wpE (defs₀ (F := F)) 𝒱₀ (c : Thread nD τ) none) Set.univ
            (.op (.load (Memref.whole cc0_scratch5 : Memref sig .tc .vmem S2x3x128x1024 .bf16) (Rect.unit (s := S2x3x128x1024) ![1, 2, 0, 0] S1x1x128x1024.size inb_S2x3x128x1024_S1x1x128x1024_1_2_0_0 : Rect _).toLoadRect hl) k) Q) := by
  rw [rpay5]
  exact wp_load_part c (Memref.whole cc0_scratch5 : Memref sig .tc .vmem S2x3x128x1024 .bf16) (Rect.unit (s := S2x3x128x1024) ![1, 2, 0, 0] S1x1x128x1024.size inb_S2x3x128x1024_S1x1x128x1024_1_2_0_0) (fun _ => rfl) squeezes_S1x1x128x1024_S128x1024 shapeCasts_S1x1x128x1024_S128x1024 up_S1x1x128x1024 fullShare _

theorem spay6 : sendPay (Wm m) 6 c = (owns (c : Thread nD τ) (((Memref.whole cc0_scratch6 : Memref sig .tc .vmem S2x64x1024 .bf16).slice (Rect.unit (s := S2x64x1024) ![0, 0, 0] S1x64x1024.size inb_S2x64x1024_S1x64x1024_0_0_0) (fun _ => rfl)).squeeze S64x1024 squeezes_S1x64x1024_S64x1024) fullShare (Y6 m c) : sProp 𝕄) := rfl
theorem rpay6 : recvPay (Wm m) 6 c = (owns (c : Thread nD τ) (((Memref.whole cc0_scratch7 : Memref sig .tc .vmem S2x64x1024 .bf16).slice (Rect.unit (s := S2x64x1024) ![0, 0, 0] S1x64x1024.size inb_S2x64x1024_S1x64x1024_0_0_0) (fun _ => rfl)).squeeze S64x1024 squeezes_S1x64x1024_S64x1024) fullShare (Y6 m (nb 2 c)) : sProp 𝕄) := rfl

theorem st_send6 (w : ((Rect.unit (s := S2x64x1024) ![0, 0, 0] S1x64x1024.size inb_S2x64x1024_S1x64x1024_0_0_0 : Rect _)).shape.Idx → Elt F .bf16) (hw : shapeCast S64x1024 w shapeCasts_S1x64x1024_S64x1024 = Y6 m c)
    {hx : (((Memref.whole cc0_scratch6 : Memref sig .tc .vmem S2x64x1024 .bf16)).access (Rect.unit (s := S2x64x1024) ![0, 0, 0] S1x64x1024.size inb_S2x64x1024_S1x64x1024_0_0_0)).Stores Finset.univ} {hm : (Finset.univ : Finset (Rect.unit (s := S2x64x1024) ![0, 0, 0] S1x64x1024.size inb_S2x64x1024_S1x64x1024_0_0_0 : Rect _).shape.Idx) = Finset.univ ∨ ∀ a, (Rect.unit (s := S2x64x1024) ![0, 0, 0] S1x64x1024.size inb_S2x64x1024_S1x64x1024_0_0_0 : Rect _).stride a = 1}
    {k : PUnit → Prog (TpuEff nD τ sig (Elt F) Λ₀ .tc) α} :
    (anyB c (tx 6).src : sProp 𝕄)
      ⊢ iprop((sendPay (Wm m) 6 c -∗ wp frame (wpE (defs₀ (F := F)) 𝒱₀ (c : Thread nD τ) none) Set.univ (k ⟨⟩) Q)
          -∗ wp frame (wpE (defs₀ (F := F)) 𝒱₀ (c : Thread nD τ) none) Set.univ
            (.op (.store (Memref.whole cc0_scratch6 : Memref sig .tc .vmem S2x64x1024 .bf16) (Rect.unit (s := S2x64x1024) ![0, 0, 0] S1x64x1024.size inb_S2x64x1024_S1x64x1024_0_0_0) w Finset.univ hx hm) k) Q) := by
  rw [spay6, ← hw]
  exact wp_store_part c (Memref.whole cc0_scratch6 : Memref sig .tc .vmem S2x64x1024 .bf16) (Rect.unit (s := S2x64x1024) ![0, 0, 0] S1x64x1024.size inb_S2x64x1024_S1x64x1024_0_0_0) (fun _ => rfl) squeezes_S1x64x1024_S64x1024 shapeCasts_S1x64x1024_S64x1024 w

theorem ld_send6 {hl : (Memref.whole cc0_scratch6 : Memref sig .tc .vmem S2x64x1024 .bf16).view.LoadsAt (Rect.unit (s := S2x64x1024) ![0, 0, 0] S1x64x1024.size inb_S2x64x1024_S1x64x1024_0_0_0 : Rect _).toLoadRect}
    {k : ((Rect.unit (s := S2x64x1024) ![0, 0, 0] S1x64x1024.size inb_S2x64x1024_S1x64x1024_0_0_0 : Rect _).toLoadRect.shape.Idx → Elt F .bf16) → Prog (TpuEff nD τ sig (Elt F) Λ₀ .tc) α} :
    (anyB c (tx 6).src : sProp 𝕄)
      ⊢ iprop((∀ v, anyB c (tx 6).src -∗ wp frame (wpE (defs₀ (F := F)) 𝒱₀ (c : Thread nD τ) none) Set.univ (k v) Q)
          -∗ wp frame (wpE (defs₀ (F := F)) 𝒱₀ (c : Thread nD τ) none) Set.univ
            (.op (.load (Memref.whole cc0_scratch6 : Memref sig .tc .vmem S2x64x1024 .bf16) (Rect.unit (s := S2x64x1024) ![0, 0, 0] S1x64x1024.size inb_S2x64x1024_S1x64x1024_0_0_0 : Rect _).toLoadRect hl) k) Q) :=
  wp_load_part_dead c (Memref.whole cc0_scratch6 : Memref sig .tc .vmem S2x64x1024 .bf16) (Rect.unit (s := S2x64x1024) ![0, 0, 0] S1x64x1024.size inb_S2x64x1024_S1x64x1024_0_0_0) (fun _ => rfl) squeezes_S1x64x1024_S64x1024 shapeCasts_S1x64x1024_S64x1024 up_S1x64x1024

theorem ld_recv6 {hl : (Memref.whole cc0_scratch7 : Memref sig .tc .vmem S2x64x1024 .bf16).view.LoadsAt (Rect.unit (s := S2x64x1024) ![0, 0, 0] S1x64x1024.size inb_S2x64x1024_S1x64x1024_0_0_0 : Rect _).toLoadRect}
    {k : ((Rect.unit (s := S2x64x1024) ![0, 0, 0] S1x64x1024.size inb_S2x64x1024_S1x64x1024_0_0_0 : Rect _).toLoadRect.shape.Idx → Elt F .bf16) → Prog (TpuEff nD τ sig (Elt F) Λ₀ .tc) α} :
    (recvPay (Wm m) 6 c : sProp 𝕄)
      ⊢ iprop((recvPay (Wm m) 6 c -∗ wp frame (wpE (defs₀ (F := F)) 𝒱₀ (c : Thread nD τ) none) Set.univ (k (v707 m c)) Q)
          -∗ wp frame (wpE (defs₀ (F := F)) 𝒱₀ (c : Thread nD τ) none) Set.univ
            (.op (.load (Memref.whole cc0_scratch7 : Memref sig .tc .vmem S2x64x1024 .bf16) (Rect.unit (s := S2x64x1024) ![0, 0, 0] S1x64x1024.size inb_S2x64x1024_S1x64x1024_0_0_0 : Rect _).toLoadRect hl) k) Q) := by
  rw [rpay6]
  exact wp_load_part c (Memref.whole cc0_scratch7 : Memref sig .tc .vmem S2x64x1024 .bf16) (Rect.unit (s := S2x64x1024) ![0, 0, 0] S1x64x1024.size inb_S2x64x1024_S1x64x1024_0_0_0) (fun _ => rfl) squeezes_S1x64x1024_S64x1024 shapeCasts_S1x64x1024_S64x1024 up_S1x64x1024 fullShare _

theorem spay7 : sendPay (Wm m) 7 c = (owns (c : Thread nD τ) (((Memref.whole cc0_scratch6 : Memref sig .tc .vmem S2x64x1024 .bf16).slice (Rect.unit (s := S2x64x1024) ![1, 0, 0] S1x64x1024.size inb_S2x64x1024_S1x64x1024_1_0_0) (fun _ => rfl)).squeeze S64x1024 squeezes_S1x64x1024_S64x1024) fullShare (Y7 m c) : sProp 𝕄) := rfl
theorem rpay7 : recvPay (Wm m) 7 c = (owns (c : Thread nD τ) (((Memref.whole cc0_scratch7 : Memref sig .tc .vmem S2x64x1024 .bf16).slice (Rect.unit (s := S2x64x1024) ![1, 0, 0] S1x64x1024.size inb_S2x64x1024_S1x64x1024_1_0_0) (fun _ => rfl)).squeeze S64x1024 squeezes_S1x64x1024_S64x1024) fullShare (Y7 m (nb 2 c)) : sProp 𝕄) := rfl

theorem st_send7 (w : ((Rect.unit (s := S2x64x1024) ![1, 0, 0] S1x64x1024.size inb_S2x64x1024_S1x64x1024_1_0_0 : Rect _)).shape.Idx → Elt F .bf16) (hw : shapeCast S64x1024 w shapeCasts_S1x64x1024_S64x1024 = Y7 m c)
    {hx : (((Memref.whole cc0_scratch6 : Memref sig .tc .vmem S2x64x1024 .bf16)).access (Rect.unit (s := S2x64x1024) ![1, 0, 0] S1x64x1024.size inb_S2x64x1024_S1x64x1024_1_0_0)).Stores Finset.univ} {hm : (Finset.univ : Finset (Rect.unit (s := S2x64x1024) ![1, 0, 0] S1x64x1024.size inb_S2x64x1024_S1x64x1024_1_0_0 : Rect _).shape.Idx) = Finset.univ ∨ ∀ a, (Rect.unit (s := S2x64x1024) ![1, 0, 0] S1x64x1024.size inb_S2x64x1024_S1x64x1024_1_0_0 : Rect _).stride a = 1}
    {k : PUnit → Prog (TpuEff nD τ sig (Elt F) Λ₀ .tc) α} :
    (anyB c (tx 7).src : sProp 𝕄)
      ⊢ iprop((sendPay (Wm m) 7 c -∗ wp frame (wpE (defs₀ (F := F)) 𝒱₀ (c : Thread nD τ) none) Set.univ (k ⟨⟩) Q)
          -∗ wp frame (wpE (defs₀ (F := F)) 𝒱₀ (c : Thread nD τ) none) Set.univ
            (.op (.store (Memref.whole cc0_scratch6 : Memref sig .tc .vmem S2x64x1024 .bf16) (Rect.unit (s := S2x64x1024) ![1, 0, 0] S1x64x1024.size inb_S2x64x1024_S1x64x1024_1_0_0) w Finset.univ hx hm) k) Q) := by
  rw [spay7, ← hw]
  exact wp_store_part c (Memref.whole cc0_scratch6 : Memref sig .tc .vmem S2x64x1024 .bf16) (Rect.unit (s := S2x64x1024) ![1, 0, 0] S1x64x1024.size inb_S2x64x1024_S1x64x1024_1_0_0) (fun _ => rfl) squeezes_S1x64x1024_S64x1024 shapeCasts_S1x64x1024_S64x1024 w

theorem ld_send7 {hl : (Memref.whole cc0_scratch6 : Memref sig .tc .vmem S2x64x1024 .bf16).view.LoadsAt (Rect.unit (s := S2x64x1024) ![1, 0, 0] S1x64x1024.size inb_S2x64x1024_S1x64x1024_1_0_0 : Rect _).toLoadRect}
    {k : ((Rect.unit (s := S2x64x1024) ![1, 0, 0] S1x64x1024.size inb_S2x64x1024_S1x64x1024_1_0_0 : Rect _).toLoadRect.shape.Idx → Elt F .bf16) → Prog (TpuEff nD τ sig (Elt F) Λ₀ .tc) α} :
    (anyB c (tx 7).src : sProp 𝕄)
      ⊢ iprop((∀ v, anyB c (tx 7).src -∗ wp frame (wpE (defs₀ (F := F)) 𝒱₀ (c : Thread nD τ) none) Set.univ (k v) Q)
          -∗ wp frame (wpE (defs₀ (F := F)) 𝒱₀ (c : Thread nD τ) none) Set.univ
            (.op (.load (Memref.whole cc0_scratch6 : Memref sig .tc .vmem S2x64x1024 .bf16) (Rect.unit (s := S2x64x1024) ![1, 0, 0] S1x64x1024.size inb_S2x64x1024_S1x64x1024_1_0_0 : Rect _).toLoadRect hl) k) Q) :=
  wp_load_part_dead c (Memref.whole cc0_scratch6 : Memref sig .tc .vmem S2x64x1024 .bf16) (Rect.unit (s := S2x64x1024) ![1, 0, 0] S1x64x1024.size inb_S2x64x1024_S1x64x1024_1_0_0) (fun _ => rfl) squeezes_S1x64x1024_S64x1024 shapeCasts_S1x64x1024_S64x1024 up_S1x64x1024

theorem ld_recv7 {hl : (Memref.whole cc0_scratch7 : Memref sig .tc .vmem S2x64x1024 .bf16).view.LoadsAt (Rect.unit (s := S2x64x1024) ![1, 0, 0] S1x64x1024.size inb_S2x64x1024_S1x64x1024_1_0_0 : Rect _).toLoadRect}
    {k : ((Rect.unit (s := S2x64x1024) ![1, 0, 0] S1x64x1024.size inb_S2x64x1024_S1x64x1024_1_0_0 : Rect _).toLoadRect.shape.Idx → Elt F .bf16) → Prog (TpuEff nD τ sig (Elt F) Λ₀ .tc) α} :
    (recvPay (Wm m) 7 c : sProp 𝕄)
      ⊢ iprop((recvPay (Wm m) 7 c -∗ wp frame (wpE (defs₀ (F := F)) 𝒱₀ (c : Thread nD τ) none) Set.univ (k (v730 m c)) Q)
          -∗ wp frame (wpE (defs₀ (F := F)) 𝒱₀ (c : Thread nD τ) none) Set.univ
            (.op (.load (Memref.whole cc0_scratch7 : Memref sig .tc .vmem S2x64x1024 .bf16) (Rect.unit (s := S2x64x1024) ![1, 0, 0] S1x64x1024.size inb_S2x64x1024_S1x64x1024_1_0_0 : Rect _).toLoadRect hl) k) Q) := by
  rw [rpay7]
  exact wp_load_part c (Memref.whole cc0_scratch7 : Memref sig .tc .vmem S2x64x1024 .bf16) (Rect.unit (s := S2x64x1024) ![1, 0, 0] S1x64x1024.size inb_S2x64x1024_S1x64x1024_1_0_0) (fun _ => rfl) squeezes_S1x64x1024_S64x1024 shapeCasts_S1x64x1024_S64x1024 up_S1x64x1024 fullShare _

theorem spay8 : sendPay (Wm m) 8 c = (owns (c : Thread nD τ) (((Memref.whole cc0_scratch8 : Memref sig .tc .vmem S2x32x1024 .bf16).slice (Rect.unit (s := S2x32x1024) ![0, 0, 0] S1x32x1024.size inb_S2x32x1024_S1x32x1024_0_0_0) (fun _ => rfl)).squeeze S32x1024 squeezes_S1x32x1024_S32x1024) fullShare (Y8 m c) : sProp 𝕄) := rfl
theorem rpay8 : recvPay (Wm m) 8 c = (owns (c : Thread nD τ) (((Memref.whole cc0_scratch9 : Memref sig .tc .vmem S2x32x1024 .bf16).slice (Rect.unit (s := S2x32x1024) ![0, 0, 0] S1x32x1024.size inb_S2x32x1024_S1x32x1024_0_0_0) (fun _ => rfl)).squeeze S32x1024 squeezes_S1x32x1024_S32x1024) fullShare (Y8 m (nb 3 c)) : sProp 𝕄) := rfl

theorem st_send8 (w : ((Rect.unit (s := S2x32x1024) ![0, 0, 0] S1x32x1024.size inb_S2x32x1024_S1x32x1024_0_0_0 : Rect _)).shape.Idx → Elt F .bf16) (hw : shapeCast S32x1024 w shapeCasts_S1x32x1024_S32x1024 = Y8 m c)
    {hx : (((Memref.whole cc0_scratch8 : Memref sig .tc .vmem S2x32x1024 .bf16)).access (Rect.unit (s := S2x32x1024) ![0, 0, 0] S1x32x1024.size inb_S2x32x1024_S1x32x1024_0_0_0)).Stores Finset.univ} {hm : (Finset.univ : Finset (Rect.unit (s := S2x32x1024) ![0, 0, 0] S1x32x1024.size inb_S2x32x1024_S1x32x1024_0_0_0 : Rect _).shape.Idx) = Finset.univ ∨ ∀ a, (Rect.unit (s := S2x32x1024) ![0, 0, 0] S1x32x1024.size inb_S2x32x1024_S1x32x1024_0_0_0 : Rect _).stride a = 1}
    {k : PUnit → Prog (TpuEff nD τ sig (Elt F) Λ₀ .tc) α} :
    (anyB c (tx 8).src : sProp 𝕄)
      ⊢ iprop((sendPay (Wm m) 8 c -∗ wp frame (wpE (defs₀ (F := F)) 𝒱₀ (c : Thread nD τ) none) Set.univ (k ⟨⟩) Q)
          -∗ wp frame (wpE (defs₀ (F := F)) 𝒱₀ (c : Thread nD τ) none) Set.univ
            (.op (.store (Memref.whole cc0_scratch8 : Memref sig .tc .vmem S2x32x1024 .bf16) (Rect.unit (s := S2x32x1024) ![0, 0, 0] S1x32x1024.size inb_S2x32x1024_S1x32x1024_0_0_0) w Finset.univ hx hm) k) Q) := by
  rw [spay8, ← hw]
  exact wp_store_part c (Memref.whole cc0_scratch8 : Memref sig .tc .vmem S2x32x1024 .bf16) (Rect.unit (s := S2x32x1024) ![0, 0, 0] S1x32x1024.size inb_S2x32x1024_S1x32x1024_0_0_0) (fun _ => rfl) squeezes_S1x32x1024_S32x1024 shapeCasts_S1x32x1024_S32x1024 w

theorem ld_send8 {hl : (Memref.whole cc0_scratch8 : Memref sig .tc .vmem S2x32x1024 .bf16).view.LoadsAt (Rect.unit (s := S2x32x1024) ![0, 0, 0] S1x32x1024.size inb_S2x32x1024_S1x32x1024_0_0_0 : Rect _).toLoadRect}
    {k : ((Rect.unit (s := S2x32x1024) ![0, 0, 0] S1x32x1024.size inb_S2x32x1024_S1x32x1024_0_0_0 : Rect _).toLoadRect.shape.Idx → Elt F .bf16) → Prog (TpuEff nD τ sig (Elt F) Λ₀ .tc) α} :
    (anyB c (tx 8).src : sProp 𝕄)
      ⊢ iprop((∀ v, anyB c (tx 8).src -∗ wp frame (wpE (defs₀ (F := F)) 𝒱₀ (c : Thread nD τ) none) Set.univ (k v) Q)
          -∗ wp frame (wpE (defs₀ (F := F)) 𝒱₀ (c : Thread nD τ) none) Set.univ
            (.op (.load (Memref.whole cc0_scratch8 : Memref sig .tc .vmem S2x32x1024 .bf16) (Rect.unit (s := S2x32x1024) ![0, 0, 0] S1x32x1024.size inb_S2x32x1024_S1x32x1024_0_0_0 : Rect _).toLoadRect hl) k) Q) :=
  wp_load_part_dead c (Memref.whole cc0_scratch8 : Memref sig .tc .vmem S2x32x1024 .bf16) (Rect.unit (s := S2x32x1024) ![0, 0, 0] S1x32x1024.size inb_S2x32x1024_S1x32x1024_0_0_0) (fun _ => rfl) squeezes_S1x32x1024_S32x1024 shapeCasts_S1x32x1024_S32x1024 up_S1x32x1024

theorem ld_recv8 {hl : (Memref.whole cc0_scratch9 : Memref sig .tc .vmem S2x32x1024 .bf16).view.LoadsAt (Rect.unit (s := S2x32x1024) ![0, 0, 0] S1x32x1024.size inb_S2x32x1024_S1x32x1024_0_0_0 : Rect _).toLoadRect}
    {k : ((Rect.unit (s := S2x32x1024) ![0, 0, 0] S1x32x1024.size inb_S2x32x1024_S1x32x1024_0_0_0 : Rect _).toLoadRect.shape.Idx → Elt F .bf16) → Prog (TpuEff nD τ sig (Elt F) Λ₀ .tc) α} :
    (recvPay (Wm m) 8 c : sProp 𝕄)
      ⊢ iprop((recvPay (Wm m) 8 c -∗ wp frame (wpE (defs₀ (F := F)) 𝒱₀ (c : Thread nD τ) none) Set.univ (k (v803 m c)) Q)
          -∗ wp frame (wpE (defs₀ (F := F)) 𝒱₀ (c : Thread nD τ) none) Set.univ
            (.op (.load (Memref.whole cc0_scratch9 : Memref sig .tc .vmem S2x32x1024 .bf16) (Rect.unit (s := S2x32x1024) ![0, 0, 0] S1x32x1024.size inb_S2x32x1024_S1x32x1024_0_0_0 : Rect _).toLoadRect hl) k) Q) := by
  rw [rpay8]
  exact wp_load_part c (Memref.whole cc0_scratch9 : Memref sig .tc .vmem S2x32x1024 .bf16) (Rect.unit (s := S2x32x1024) ![0, 0, 0] S1x32x1024.size inb_S2x32x1024_S1x32x1024_0_0_0) (fun _ => rfl) squeezes_S1x32x1024_S32x1024 shapeCasts_S1x32x1024_S32x1024 up_S1x32x1024 fullShare _

theorem spay9 : sendPay (Wm m) 9 c = (owns (c : Thread nD τ) (((Memref.whole cc0_scratch8 : Memref sig .tc .vmem S2x32x1024 .bf16).slice (Rect.unit (s := S2x32x1024) ![1, 0, 0] S1x32x1024.size inb_S2x32x1024_S1x32x1024_1_0_0) (fun _ => rfl)).squeeze S32x1024 squeezes_S1x32x1024_S32x1024) fullShare (Y9 m c) : sProp 𝕄) := rfl
theorem rpay9 : recvPay (Wm m) 9 c = (owns (c : Thread nD τ) (((Memref.whole cc0_scratch9 : Memref sig .tc .vmem S2x32x1024 .bf16).slice (Rect.unit (s := S2x32x1024) ![1, 0, 0] S1x32x1024.size inb_S2x32x1024_S1x32x1024_1_0_0) (fun _ => rfl)).squeeze S32x1024 squeezes_S1x32x1024_S32x1024) fullShare (Y9 m (nb 3 c)) : sProp 𝕄) := rfl

theorem st_send9 (w : ((Rect.unit (s := S2x32x1024) ![1, 0, 0] S1x32x1024.size inb_S2x32x1024_S1x32x1024_1_0_0 : Rect _)).shape.Idx → Elt F .bf16) (hw : shapeCast S32x1024 w shapeCasts_S1x32x1024_S32x1024 = Y9 m c)
    {hx : (((Memref.whole cc0_scratch8 : Memref sig .tc .vmem S2x32x1024 .bf16)).access (Rect.unit (s := S2x32x1024) ![1, 0, 0] S1x32x1024.size inb_S2x32x1024_S1x32x1024_1_0_0)).Stores Finset.univ} {hm : (Finset.univ : Finset (Rect.unit (s := S2x32x1024) ![1, 0, 0] S1x32x1024.size inb_S2x32x1024_S1x32x1024_1_0_0 : Rect _).shape.Idx) = Finset.univ ∨ ∀ a, (Rect.unit (s := S2x32x1024) ![1, 0, 0] S1x32x1024.size inb_S2x32x1024_S1x32x1024_1_0_0 : Rect _).stride a = 1}
    {k : PUnit → Prog (TpuEff nD τ sig (Elt F) Λ₀ .tc) α} :
    (anyB c (tx 9).src : sProp 𝕄)
      ⊢ iprop((sendPay (Wm m) 9 c -∗ wp frame (wpE (defs₀ (F := F)) 𝒱₀ (c : Thread nD τ) none) Set.univ (k ⟨⟩) Q)
          -∗ wp frame (wpE (defs₀ (F := F)) 𝒱₀ (c : Thread nD τ) none) Set.univ
            (.op (.store (Memref.whole cc0_scratch8 : Memref sig .tc .vmem S2x32x1024 .bf16) (Rect.unit (s := S2x32x1024) ![1, 0, 0] S1x32x1024.size inb_S2x32x1024_S1x32x1024_1_0_0) w Finset.univ hx hm) k) Q) := by
  rw [spay9, ← hw]
  exact wp_store_part c (Memref.whole cc0_scratch8 : Memref sig .tc .vmem S2x32x1024 .bf16) (Rect.unit (s := S2x32x1024) ![1, 0, 0] S1x32x1024.size inb_S2x32x1024_S1x32x1024_1_0_0) (fun _ => rfl) squeezes_S1x32x1024_S32x1024 shapeCasts_S1x32x1024_S32x1024 w

theorem ld_send9 {hl : (Memref.whole cc0_scratch8 : Memref sig .tc .vmem S2x32x1024 .bf16).view.LoadsAt (Rect.unit (s := S2x32x1024) ![1, 0, 0] S1x32x1024.size inb_S2x32x1024_S1x32x1024_1_0_0 : Rect _).toLoadRect}
    {k : ((Rect.unit (s := S2x32x1024) ![1, 0, 0] S1x32x1024.size inb_S2x32x1024_S1x32x1024_1_0_0 : Rect _).toLoadRect.shape.Idx → Elt F .bf16) → Prog (TpuEff nD τ sig (Elt F) Λ₀ .tc) α} :
    (anyB c (tx 9).src : sProp 𝕄)
      ⊢ iprop((∀ v, anyB c (tx 9).src -∗ wp frame (wpE (defs₀ (F := F)) 𝒱₀ (c : Thread nD τ) none) Set.univ (k v) Q)
          -∗ wp frame (wpE (defs₀ (F := F)) 𝒱₀ (c : Thread nD τ) none) Set.univ
            (.op (.load (Memref.whole cc0_scratch8 : Memref sig .tc .vmem S2x32x1024 .bf16) (Rect.unit (s := S2x32x1024) ![1, 0, 0] S1x32x1024.size inb_S2x32x1024_S1x32x1024_1_0_0 : Rect _).toLoadRect hl) k) Q) :=
  wp_load_part_dead c (Memref.whole cc0_scratch8 : Memref sig .tc .vmem S2x32x1024 .bf16) (Rect.unit (s := S2x32x1024) ![1, 0, 0] S1x32x1024.size inb_S2x32x1024_S1x32x1024_1_0_0) (fun _ => rfl) squeezes_S1x32x1024_S32x1024 shapeCasts_S1x32x1024_S32x1024 up_S1x32x1024

theorem ld_recv9 {hl : (Memref.whole cc0_scratch9 : Memref sig .tc .vmem S2x32x1024 .bf16).view.LoadsAt (Rect.unit (s := S2x32x1024) ![1, 0, 0] S1x32x1024.size inb_S2x32x1024_S1x32x1024_1_0_0 : Rect _).toLoadRect}
    {k : ((Rect.unit (s := S2x32x1024) ![1, 0, 0] S1x32x1024.size inb_S2x32x1024_S1x32x1024_1_0_0 : Rect _).toLoadRect.shape.Idx → Elt F .bf16) → Prog (TpuEff nD τ sig (Elt F) Λ₀ .tc) α} :
    (recvPay (Wm m) 9 c : sProp 𝕄)
      ⊢ iprop((recvPay (Wm m) 9 c -∗ wp frame (wpE (defs₀ (F := F)) 𝒱₀ (c : Thread nD τ) none) Set.univ (k (v821 m c)) Q)
          -∗ wp frame (wpE (defs₀ (F := F)) 𝒱₀ (c : Thread nD τ) none) Set.univ
            (.op (.load (Memref.whole cc0_scratch9 : Memref sig .tc .vmem S2x32x1024 .bf16) (Rect.unit (s := S2x32x1024) ![1, 0, 0] S1x32x1024.size inb_S2x32x1024_S1x32x1024_1_0_0 : Rect _).toLoadRect hl) k) Q) := by
  rw [rpay9]
  exact wp_load_part c (Memref.whole cc0_scratch9 : Memref sig .tc .vmem S2x32x1024 .bf16) (Rect.unit (s := S2x32x1024) ![1, 0, 0] S1x32x1024.size inb_S2x32x1024_S1x32x1024_1_0_0) (fun _ => rfl) squeezes_S1x32x1024_S32x1024 shapeCasts_S1x32x1024_S32x1024 up_S1x32x1024 fullShare _

theorem spay10 : sendPay (Wm m) 10 c = (owns (c : Thread nD τ) (((Memref.whole cc0_scratch10 : Memref sig .tc .vmem S2x32x1024 .bf16).slice (Rect.unit (s := S2x32x1024) ![0, 0, 0] S1x32x1024.size inb_S2x32x1024_S1x32x1024_0_0_0) (fun _ => rfl)).squeeze S32x1024 squeezes_S1x32x1024_S32x1024) fullShare (Y10 m c) : sProp 𝕄) := rfl
theorem rpay10 : recvPay (Wm m) 10 c = (owns (c : Thread nD τ) (((Memref.whole cc0_scratch11 : Memref sig .tc .vmem S2x32x1024 .bf16).slice (Rect.unit (s := S2x32x1024) ![0, 0, 0] S1x32x1024.size inb_S2x32x1024_S1x32x1024_0_0_0) (fun _ => rfl)).squeeze S32x1024 squeezes_S1x32x1024_S32x1024) fullShare (Y10 m (nb 3 c)) : sProp 𝕄) := rfl

theorem st_send10 (w : ((Rect.unit (s := S2x32x1024) ![0, 0, 0] S1x32x1024.size inb_S2x32x1024_S1x32x1024_0_0_0 : Rect _)).shape.Idx → Elt F .bf16) (hw : shapeCast S32x1024 w shapeCasts_S1x32x1024_S32x1024 = Y10 m c)
    {hx : (((Memref.whole cc0_scratch10 : Memref sig .tc .vmem S2x32x1024 .bf16)).access (Rect.unit (s := S2x32x1024) ![0, 0, 0] S1x32x1024.size inb_S2x32x1024_S1x32x1024_0_0_0)).Stores Finset.univ} {hm : (Finset.univ : Finset (Rect.unit (s := S2x32x1024) ![0, 0, 0] S1x32x1024.size inb_S2x32x1024_S1x32x1024_0_0_0 : Rect _).shape.Idx) = Finset.univ ∨ ∀ a, (Rect.unit (s := S2x32x1024) ![0, 0, 0] S1x32x1024.size inb_S2x32x1024_S1x32x1024_0_0_0 : Rect _).stride a = 1}
    {k : PUnit → Prog (TpuEff nD τ sig (Elt F) Λ₀ .tc) α} :
    (anyB c (tx 10).src : sProp 𝕄)
      ⊢ iprop((sendPay (Wm m) 10 c -∗ wp frame (wpE (defs₀ (F := F)) 𝒱₀ (c : Thread nD τ) none) Set.univ (k ⟨⟩) Q)
          -∗ wp frame (wpE (defs₀ (F := F)) 𝒱₀ (c : Thread nD τ) none) Set.univ
            (.op (.store (Memref.whole cc0_scratch10 : Memref sig .tc .vmem S2x32x1024 .bf16) (Rect.unit (s := S2x32x1024) ![0, 0, 0] S1x32x1024.size inb_S2x32x1024_S1x32x1024_0_0_0) w Finset.univ hx hm) k) Q) := by
  rw [spay10, ← hw]
  exact wp_store_part c (Memref.whole cc0_scratch10 : Memref sig .tc .vmem S2x32x1024 .bf16) (Rect.unit (s := S2x32x1024) ![0, 0, 0] S1x32x1024.size inb_S2x32x1024_S1x32x1024_0_0_0) (fun _ => rfl) squeezes_S1x32x1024_S32x1024 shapeCasts_S1x32x1024_S32x1024 w

theorem ld_send10 {hl : (Memref.whole cc0_scratch10 : Memref sig .tc .vmem S2x32x1024 .bf16).view.LoadsAt (Rect.unit (s := S2x32x1024) ![0, 0, 0] S1x32x1024.size inb_S2x32x1024_S1x32x1024_0_0_0 : Rect _).toLoadRect}
    {k : ((Rect.unit (s := S2x32x1024) ![0, 0, 0] S1x32x1024.size inb_S2x32x1024_S1x32x1024_0_0_0 : Rect _).toLoadRect.shape.Idx → Elt F .bf16) → Prog (TpuEff nD τ sig (Elt F) Λ₀ .tc) α} :
    (anyB c (tx 10).src : sProp 𝕄)
      ⊢ iprop((∀ v, anyB c (tx 10).src -∗ wp frame (wpE (defs₀ (F := F)) 𝒱₀ (c : Thread nD τ) none) Set.univ (k v) Q)
          -∗ wp frame (wpE (defs₀ (F := F)) 𝒱₀ (c : Thread nD τ) none) Set.univ
            (.op (.load (Memref.whole cc0_scratch10 : Memref sig .tc .vmem S2x32x1024 .bf16) (Rect.unit (s := S2x32x1024) ![0, 0, 0] S1x32x1024.size inb_S2x32x1024_S1x32x1024_0_0_0 : Rect _).toLoadRect hl) k) Q) :=
  wp_load_part_dead c (Memref.whole cc0_scratch10 : Memref sig .tc .vmem S2x32x1024 .bf16) (Rect.unit (s := S2x32x1024) ![0, 0, 0] S1x32x1024.size inb_S2x32x1024_S1x32x1024_0_0_0) (fun _ => rfl) squeezes_S1x32x1024_S32x1024 shapeCasts_S1x32x1024_S32x1024 up_S1x32x1024

theorem ld_recv10 {hl : (Memref.whole cc0_scratch11 : Memref sig .tc .vmem S2x32x1024 .bf16).view.LoadsAt (Rect.unit (s := S2x32x1024) ![0, 0, 0] S1x32x1024.size inb_S2x32x1024_S1x32x1024_0_0_0 : Rect _).toLoadRect}
    {k : ((Rect.unit (s := S2x32x1024) ![0, 0, 0] S1x32x1024.size inb_S2x32x1024_S1x32x1024_0_0_0 : Rect _).toLoadRect.shape.Idx → Elt F .bf16) → Prog (TpuEff nD τ sig (Elt F) Λ₀ .tc) α} :
    (recvPay (Wm m) 10 c : sProp 𝕄)
      ⊢ iprop((recvPay (Wm m) 10 c -∗ wp frame (wpE (defs₀ (F := F)) 𝒱₀ (c : Thread nD τ) none) Set.univ (k (v881 m c)) Q)
          -∗ wp frame (wpE (defs₀ (F := F)) 𝒱₀ (c : Thread nD τ) none) Set.univ
            (.op (.load (Memref.whole cc0_scratch11 : Memref sig .tc .vmem S2x32x1024 .bf16) (Rect.unit (s := S2x32x1024) ![0, 0, 0] S1x32x1024.size inb_S2x32x1024_S1x32x1024_0_0_0 : Rect _).toLoadRect hl) k) Q) := by
  rw [rpay10]
  exact wp_load_part c (Memref.whole cc0_scratch11 : Memref sig .tc .vmem S2x32x1024 .bf16) (Rect.unit (s := S2x32x1024) ![0, 0, 0] S1x32x1024.size inb_S2x32x1024_S1x32x1024_0_0_0) (fun _ => rfl) squeezes_S1x32x1024_S32x1024 shapeCasts_S1x32x1024_S32x1024 up_S1x32x1024 fullShare _

theorem spay11 : sendPay (Wm m) 11 c = (owns (c : Thread nD τ) (((Memref.whole cc0_scratch10 : Memref sig .tc .vmem S2x32x1024 .bf16).slice (Rect.unit (s := S2x32x1024) ![1, 0, 0] S1x32x1024.size inb_S2x32x1024_S1x32x1024_1_0_0) (fun _ => rfl)).squeeze S32x1024 squeezes_S1x32x1024_S32x1024) fullShare (Y11 m c) : sProp 𝕄) := rfl
theorem rpay11 : recvPay (Wm m) 11 c = (owns (c : Thread nD τ) (((Memref.whole cc0_scratch11 : Memref sig .tc .vmem S2x32x1024 .bf16).slice (Rect.unit (s := S2x32x1024) ![1, 0, 0] S1x32x1024.size inb_S2x32x1024_S1x32x1024_1_0_0) (fun _ => rfl)).squeeze S32x1024 squeezes_S1x32x1024_S32x1024) fullShare (Y11 m (nb 3 c)) : sProp 𝕄) := rfl

theorem st_send11 (w : ((Rect.unit (s := S2x32x1024) ![1, 0, 0] S1x32x1024.size inb_S2x32x1024_S1x32x1024_1_0_0 : Rect _)).shape.Idx → Elt F .bf16) (hw : shapeCast S32x1024 w shapeCasts_S1x32x1024_S32x1024 = Y11 m c)
    {hx : (((Memref.whole cc0_scratch10 : Memref sig .tc .vmem S2x32x1024 .bf16)).access (Rect.unit (s := S2x32x1024) ![1, 0, 0] S1x32x1024.size inb_S2x32x1024_S1x32x1024_1_0_0)).Stores Finset.univ} {hm : (Finset.univ : Finset (Rect.unit (s := S2x32x1024) ![1, 0, 0] S1x32x1024.size inb_S2x32x1024_S1x32x1024_1_0_0 : Rect _).shape.Idx) = Finset.univ ∨ ∀ a, (Rect.unit (s := S2x32x1024) ![1, 0, 0] S1x32x1024.size inb_S2x32x1024_S1x32x1024_1_0_0 : Rect _).stride a = 1}
    {k : PUnit → Prog (TpuEff nD τ sig (Elt F) Λ₀ .tc) α} :
    (anyB c (tx 11).src : sProp 𝕄)
      ⊢ iprop((sendPay (Wm m) 11 c -∗ wp frame (wpE (defs₀ (F := F)) 𝒱₀ (c : Thread nD τ) none) Set.univ (k ⟨⟩) Q)
          -∗ wp frame (wpE (defs₀ (F := F)) 𝒱₀ (c : Thread nD τ) none) Set.univ
            (.op (.store (Memref.whole cc0_scratch10 : Memref sig .tc .vmem S2x32x1024 .bf16) (Rect.unit (s := S2x32x1024) ![1, 0, 0] S1x32x1024.size inb_S2x32x1024_S1x32x1024_1_0_0) w Finset.univ hx hm) k) Q) := by
  rw [spay11, ← hw]
  exact wp_store_part c (Memref.whole cc0_scratch10 : Memref sig .tc .vmem S2x32x1024 .bf16) (Rect.unit (s := S2x32x1024) ![1, 0, 0] S1x32x1024.size inb_S2x32x1024_S1x32x1024_1_0_0) (fun _ => rfl) squeezes_S1x32x1024_S32x1024 shapeCasts_S1x32x1024_S32x1024 w

theorem ld_send11 {hl : (Memref.whole cc0_scratch10 : Memref sig .tc .vmem S2x32x1024 .bf16).view.LoadsAt (Rect.unit (s := S2x32x1024) ![1, 0, 0] S1x32x1024.size inb_S2x32x1024_S1x32x1024_1_0_0 : Rect _).toLoadRect}
    {k : ((Rect.unit (s := S2x32x1024) ![1, 0, 0] S1x32x1024.size inb_S2x32x1024_S1x32x1024_1_0_0 : Rect _).toLoadRect.shape.Idx → Elt F .bf16) → Prog (TpuEff nD τ sig (Elt F) Λ₀ .tc) α} :
    (anyB c (tx 11).src : sProp 𝕄)
      ⊢ iprop((∀ v, anyB c (tx 11).src -∗ wp frame (wpE (defs₀ (F := F)) 𝒱₀ (c : Thread nD τ) none) Set.univ (k v) Q)
          -∗ wp frame (wpE (defs₀ (F := F)) 𝒱₀ (c : Thread nD τ) none) Set.univ
            (.op (.load (Memref.whole cc0_scratch10 : Memref sig .tc .vmem S2x32x1024 .bf16) (Rect.unit (s := S2x32x1024) ![1, 0, 0] S1x32x1024.size inb_S2x32x1024_S1x32x1024_1_0_0 : Rect _).toLoadRect hl) k) Q) :=
  wp_load_part_dead c (Memref.whole cc0_scratch10 : Memref sig .tc .vmem S2x32x1024 .bf16) (Rect.unit (s := S2x32x1024) ![1, 0, 0] S1x32x1024.size inb_S2x32x1024_S1x32x1024_1_0_0) (fun _ => rfl) squeezes_S1x32x1024_S32x1024 shapeCasts_S1x32x1024_S32x1024 up_S1x32x1024

theorem ld_recv11 {hl : (Memref.whole cc0_scratch11 : Memref sig .tc .vmem S2x32x1024 .bf16).view.LoadsAt (Rect.unit (s := S2x32x1024) ![1, 0, 0] S1x32x1024.size inb_S2x32x1024_S1x32x1024_1_0_0 : Rect _).toLoadRect}
    {k : ((Rect.unit (s := S2x32x1024) ![1, 0, 0] S1x32x1024.size inb_S2x32x1024_S1x32x1024_1_0_0 : Rect _).toLoadRect.shape.Idx → Elt F .bf16) → Prog (TpuEff nD τ sig (Elt F) Λ₀ .tc) α} :
    (recvPay (Wm m) 11 c : sProp 𝕄)
      ⊢ iprop((recvPay (Wm m) 11 c -∗ wp frame (wpE (defs₀ (F := F)) 𝒱₀ (c : Thread nD τ) none) Set.univ (k (v899 m c)) Q)
          -∗ wp frame (wpE (defs₀ (F := F)) 𝒱₀ (c : Thread nD τ) none) Set.univ
            (.op (.load (Memref.whole cc0_scratch11 : Memref sig .tc .vmem S2x32x1024 .bf16) (Rect.unit (s := S2x32x1024) ![1, 0, 0] S1x32x1024.size inb_S2x32x1024_S1x32x1024_1_0_0 : Rect _).toLoadRect hl) k) Q) := by
  rw [rpay11]
  exact wp_load_part c (Memref.whole cc0_scratch11 : Memref sig .tc .vmem S2x32x1024 .bf16) (Rect.unit (s := S2x32x1024) ![1, 0, 0] S1x32x1024.size inb_S2x32x1024_S1x32x1024_1_0_0) (fun _ => rfl) squeezes_S1x32x1024_S32x1024 shapeCasts_S1x32x1024_S32x1024 up_S1x32x1024 fullShare _

theorem spay12 : sendPay (Wm m) 12 c = (owns (c : Thread nD τ) (((Memref.whole cc0_scratch12 : Memref sig .tc .vmem S2x64x1024 .bf16).slice (Rect.unit (s := S2x64x1024) ![0, 0, 0] S1x64x1024.size inb_S2x64x1024_S1x64x1024_0_0_0) (fun _ => rfl)).squeeze S64x1024 squeezes_S1x64x1024_S64x1024) fullShare (Y12 m c) : sProp 𝕄) := rfl
theorem rpay12 : recvPay (Wm m) 12 c = (owns (c : Thread nD τ) (((Memref.whole cc0_scratch13 : Memref sig .tc .vmem S2x64x1024 .bf16).slice (Rect.unit (s := S2x64x1024) ![0, 0, 0] S1x64x1024.size inb_S2x64x1024_S1x64x1024_0_0_0) (fun _ => rfl)).squeeze S64x1024 squeezes_S1x64x1024_S64x1024) fullShare (Y12 m (nb 2 c)) : sProp 𝕄) := rfl

theorem st_send12 (w : ((Rect.unit (s := S2x64x1024) ![0, 0, 0] S1x64x1024.size inb_S2x64x1024_S1x64x1024_0_0_0 : Rect _)).shape.Idx → Elt F .bf16) (hw : shapeCast S64x1024 w shapeCasts_S1x64x1024_S64x1024 = Y12 m c)
    {hx : (((Memref.whole cc0_scratch12 : Memref sig .tc .vmem S2x64x1024 .bf16)).access (Rect.unit (s := S2x64x1024) ![0, 0, 0] S1x64x1024.size inb_S2x64x1024_S1x64x1024_0_0_0)).Stores Finset.univ} {hm : (Finset.univ : Finset (Rect.unit (s := S2x64x1024) ![0, 0, 0] S1x64x1024.size inb_S2x64x1024_S1x64x1024_0_0_0 : Rect _).shape.Idx) = Finset.univ ∨ ∀ a, (Rect.unit (s := S2x64x1024) ![0, 0, 0] S1x64x1024.size inb_S2x64x1024_S1x64x1024_0_0_0 : Rect _).stride a = 1}
    {k : PUnit → Prog (TpuEff nD τ sig (Elt F) Λ₀ .tc) α} :
    (anyB c (tx 12).src : sProp 𝕄)
      ⊢ iprop((sendPay (Wm m) 12 c -∗ wp frame (wpE (defs₀ (F := F)) 𝒱₀ (c : Thread nD τ) none) Set.univ (k ⟨⟩) Q)
          -∗ wp frame (wpE (defs₀ (F := F)) 𝒱₀ (c : Thread nD τ) none) Set.univ
            (.op (.store (Memref.whole cc0_scratch12 : Memref sig .tc .vmem S2x64x1024 .bf16) (Rect.unit (s := S2x64x1024) ![0, 0, 0] S1x64x1024.size inb_S2x64x1024_S1x64x1024_0_0_0) w Finset.univ hx hm) k) Q) := by
  rw [spay12, ← hw]
  exact wp_store_part c (Memref.whole cc0_scratch12 : Memref sig .tc .vmem S2x64x1024 .bf16) (Rect.unit (s := S2x64x1024) ![0, 0, 0] S1x64x1024.size inb_S2x64x1024_S1x64x1024_0_0_0) (fun _ => rfl) squeezes_S1x64x1024_S64x1024 shapeCasts_S1x64x1024_S64x1024 w

theorem ld_send12 {hl : (Memref.whole cc0_scratch12 : Memref sig .tc .vmem S2x64x1024 .bf16).view.LoadsAt (Rect.unit (s := S2x64x1024) ![0, 0, 0] S1x64x1024.size inb_S2x64x1024_S1x64x1024_0_0_0 : Rect _).toLoadRect}
    {k : ((Rect.unit (s := S2x64x1024) ![0, 0, 0] S1x64x1024.size inb_S2x64x1024_S1x64x1024_0_0_0 : Rect _).toLoadRect.shape.Idx → Elt F .bf16) → Prog (TpuEff nD τ sig (Elt F) Λ₀ .tc) α} :
    (anyB c (tx 12).src : sProp 𝕄)
      ⊢ iprop((∀ v, anyB c (tx 12).src -∗ wp frame (wpE (defs₀ (F := F)) 𝒱₀ (c : Thread nD τ) none) Set.univ (k v) Q)
          -∗ wp frame (wpE (defs₀ (F := F)) 𝒱₀ (c : Thread nD τ) none) Set.univ
            (.op (.load (Memref.whole cc0_scratch12 : Memref sig .tc .vmem S2x64x1024 .bf16) (Rect.unit (s := S2x64x1024) ![0, 0, 0] S1x64x1024.size inb_S2x64x1024_S1x64x1024_0_0_0 : Rect _).toLoadRect hl) k) Q) :=
  wp_load_part_dead c (Memref.whole cc0_scratch12 : Memref sig .tc .vmem S2x64x1024 .bf16) (Rect.unit (s := S2x64x1024) ![0, 0, 0] S1x64x1024.size inb_S2x64x1024_S1x64x1024_0_0_0) (fun _ => rfl) squeezes_S1x64x1024_S64x1024 shapeCasts_S1x64x1024_S64x1024 up_S1x64x1024

theorem ld_recv12 {hl : (Memref.whole cc0_scratch13 : Memref sig .tc .vmem S2x64x1024 .bf16).view.LoadsAt (Rect.unit (s := S2x64x1024) ![0, 0, 0] S1x64x1024.size inb_S2x64x1024_S1x64x1024_0_0_0 : Rect _).toLoadRect}
    {k : ((Rect.unit (s := S2x64x1024) ![0, 0, 0] S1x64x1024.size inb_S2x64x1024_S1x64x1024_0_0_0 : Rect _).toLoadRect.shape.Idx → Elt F .bf16) → Prog (TpuEff nD τ sig (Elt F) Λ₀ .tc) α} :
    (recvPay (Wm m) 12 c : sProp 𝕄)
      ⊢ iprop((recvPay (Wm m) 12 c -∗ wp frame (wpE (defs₀ (F := F)) 𝒱₀ (c : Thread nD τ) none) Set.univ (k (v965 m c)) Q)
          -∗ wp frame (wpE (defs₀ (F := F)) 𝒱₀ (c : Thread nD τ) none) Set.univ
            (.op (.load (Memref.whole cc0_scratch13 : Memref sig .tc .vmem S2x64x1024 .bf16) (Rect.unit (s := S2x64x1024) ![0, 0, 0] S1x64x1024.size inb_S2x64x1024_S1x64x1024_0_0_0 : Rect _).toLoadRect hl) k) Q) := by
  rw [rpay12]
  exact wp_load_part c (Memref.whole cc0_scratch13 : Memref sig .tc .vmem S2x64x1024 .bf16) (Rect.unit (s := S2x64x1024) ![0, 0, 0] S1x64x1024.size inb_S2x64x1024_S1x64x1024_0_0_0) (fun _ => rfl) squeezes_S1x64x1024_S64x1024 shapeCasts_S1x64x1024_S64x1024 up_S1x64x1024 fullShare _

theorem spay13 : sendPay (Wm m) 13 c = (owns (c : Thread nD τ) (((Memref.whole cc0_scratch12 : Memref sig .tc .vmem S2x64x1024 .bf16).slice (Rect.unit (s := S2x64x1024) ![1, 0, 0] S1x64x1024.size inb_S2x64x1024_S1x64x1024_1_0_0) (fun _ => rfl)).squeeze S64x1024 squeezes_S1x64x1024_S64x1024) fullShare (Y13 m c) : sProp 𝕄) := rfl
theorem rpay13 : recvPay (Wm m) 13 c = (owns (c : Thread nD τ) (((Memref.whole cc0_scratch13 : Memref sig .tc .vmem S2x64x1024 .bf16).slice (Rect.unit (s := S2x64x1024) ![1, 0, 0] S1x64x1024.size inb_S2x64x1024_S1x64x1024_1_0_0) (fun _ => rfl)).squeeze S64x1024 squeezes_S1x64x1024_S64x1024) fullShare (Y13 m (nb 2 c)) : sProp 𝕄) := rfl

theorem st_send13 (w : ((Rect.unit (s := S2x64x1024) ![1, 0, 0] S1x64x1024.size inb_S2x64x1024_S1x64x1024_1_0_0 : Rect _)).shape.Idx → Elt F .bf16) (hw : shapeCast S64x1024 w shapeCasts_S1x64x1024_S64x1024 = Y13 m c)
    {hx : (((Memref.whole cc0_scratch12 : Memref sig .tc .vmem S2x64x1024 .bf16)).access (Rect.unit (s := S2x64x1024) ![1, 0, 0] S1x64x1024.size inb_S2x64x1024_S1x64x1024_1_0_0)).Stores Finset.univ} {hm : (Finset.univ : Finset (Rect.unit (s := S2x64x1024) ![1, 0, 0] S1x64x1024.size inb_S2x64x1024_S1x64x1024_1_0_0 : Rect _).shape.Idx) = Finset.univ ∨ ∀ a, (Rect.unit (s := S2x64x1024) ![1, 0, 0] S1x64x1024.size inb_S2x64x1024_S1x64x1024_1_0_0 : Rect _).stride a = 1}
    {k : PUnit → Prog (TpuEff nD τ sig (Elt F) Λ₀ .tc) α} :
    (anyB c (tx 13).src : sProp 𝕄)
      ⊢ iprop((sendPay (Wm m) 13 c -∗ wp frame (wpE (defs₀ (F := F)) 𝒱₀ (c : Thread nD τ) none) Set.univ (k ⟨⟩) Q)
          -∗ wp frame (wpE (defs₀ (F := F)) 𝒱₀ (c : Thread nD τ) none) Set.univ
            (.op (.store (Memref.whole cc0_scratch12 : Memref sig .tc .vmem S2x64x1024 .bf16) (Rect.unit (s := S2x64x1024) ![1, 0, 0] S1x64x1024.size inb_S2x64x1024_S1x64x1024_1_0_0) w Finset.univ hx hm) k) Q) := by
  rw [spay13, ← hw]
  exact wp_store_part c (Memref.whole cc0_scratch12 : Memref sig .tc .vmem S2x64x1024 .bf16) (Rect.unit (s := S2x64x1024) ![1, 0, 0] S1x64x1024.size inb_S2x64x1024_S1x64x1024_1_0_0) (fun _ => rfl) squeezes_S1x64x1024_S64x1024 shapeCasts_S1x64x1024_S64x1024 w

theorem ld_send13 {hl : (Memref.whole cc0_scratch12 : Memref sig .tc .vmem S2x64x1024 .bf16).view.LoadsAt (Rect.unit (s := S2x64x1024) ![1, 0, 0] S1x64x1024.size inb_S2x64x1024_S1x64x1024_1_0_0 : Rect _).toLoadRect}
    {k : ((Rect.unit (s := S2x64x1024) ![1, 0, 0] S1x64x1024.size inb_S2x64x1024_S1x64x1024_1_0_0 : Rect _).toLoadRect.shape.Idx → Elt F .bf16) → Prog (TpuEff nD τ sig (Elt F) Λ₀ .tc) α} :
    (anyB c (tx 13).src : sProp 𝕄)
      ⊢ iprop((∀ v, anyB c (tx 13).src -∗ wp frame (wpE (defs₀ (F := F)) 𝒱₀ (c : Thread nD τ) none) Set.univ (k v) Q)
          -∗ wp frame (wpE (defs₀ (F := F)) 𝒱₀ (c : Thread nD τ) none) Set.univ
            (.op (.load (Memref.whole cc0_scratch12 : Memref sig .tc .vmem S2x64x1024 .bf16) (Rect.unit (s := S2x64x1024) ![1, 0, 0] S1x64x1024.size inb_S2x64x1024_S1x64x1024_1_0_0 : Rect _).toLoadRect hl) k) Q) :=
  wp_load_part_dead c (Memref.whole cc0_scratch12 : Memref sig .tc .vmem S2x64x1024 .bf16) (Rect.unit (s := S2x64x1024) ![1, 0, 0] S1x64x1024.size inb_S2x64x1024_S1x64x1024_1_0_0) (fun _ => rfl) squeezes_S1x64x1024_S64x1024 shapeCasts_S1x64x1024_S64x1024 up_S1x64x1024

theorem ld_recv13 {hl : (Memref.whole cc0_scratch13 : Memref sig .tc .vmem S2x64x1024 .bf16).view.LoadsAt (Rect.unit (s := S2x64x1024) ![1, 0, 0] S1x64x1024.size inb_S2x64x1024_S1x64x1024_1_0_0 : Rect _).toLoadRect}
    {k : ((Rect.unit (s := S2x64x1024) ![1, 0, 0] S1x64x1024.size inb_S2x64x1024_S1x64x1024_1_0_0 : Rect _).toLoadRect.shape.Idx → Elt F .bf16) → Prog (TpuEff nD τ sig (Elt F) Λ₀ .tc) α} :
    (recvPay (Wm m) 13 c : sProp 𝕄)
      ⊢ iprop((recvPay (Wm m) 13 c -∗ wp frame (wpE (defs₀ (F := F)) 𝒱₀ (c : Thread nD τ) none) Set.univ (k (v974 m c)) Q)
          -∗ wp frame (wpE (defs₀ (F := F)) 𝒱₀ (c : Thread nD τ) none) Set.univ
            (.op (.load (Memref.whole cc0_scratch13 : Memref sig .tc .vmem S2x64x1024 .bf16) (Rect.unit (s := S2x64x1024) ![1, 0, 0] S1x64x1024.size inb_S2x64x1024_S1x64x1024_1_0_0 : Rect _).toLoadRect hl) k) Q) := by
  rw [rpay13]
  exact wp_load_part c (Memref.whole cc0_scratch13 : Memref sig .tc .vmem S2x64x1024 .bf16) (Rect.unit (s := S2x64x1024) ![1, 0, 0] S1x64x1024.size inb_S2x64x1024_S1x64x1024_1_0_0) (fun _ => rfl) squeezes_S1x64x1024_S64x1024 shapeCasts_S1x64x1024_S64x1024 up_S1x64x1024 fullShare _

theorem spay14 : sendPay (Wm m) 14 c = (owns (c : Thread nD τ) (Memref.whole cc0_scratch14 : Memref sig .tc .vmem S256x1024 .bf16) fullShare.left (Y14 m c) : sProp 𝕄) := rfl
theorem rpay14 : recvPay (Wm m) 14 c = (owns (c : Thread nD τ) (((Memref.whole cc0_scratch15 : Memref sig .tc .vmem S2x256x1024 .bf16).slice (Rect.unit (s := S2x256x1024) ![0, 0, 0] S1x256x1024.size inb_S2x256x1024_S1x256x1024_0_0_0) (fun _ => rfl)).squeeze S256x1024 squeezes_S1x256x1024_S256x1024) fullShare (Y14 m (nb 1 c)) : sProp 𝕄) := rfl

theorem spay15 : sendPay (Wm m) 15 c = (owns (c : Thread nD τ) (Memref.whole cc0_scratch14 : Memref sig .tc .vmem S256x1024 .bf16) fullShare.right (Y14 m c) : sProp 𝕄) := rfl
theorem rpay15 : recvPay (Wm m) 15 c = (owns (c : Thread nD τ) (((Memref.whole cc0_scratch15 : Memref sig .tc .vmem S2x256x1024 .bf16).slice (Rect.unit (s := S2x256x1024) ![1, 0, 0] S1x256x1024.size inb_S2x256x1024_S1x256x1024_1_0_0) (fun _ => rfl)).squeeze S256x1024 squeezes_S1x256x1024_S256x1024) fullShare (Y14 m (nb 0 c)) : sProp 𝕄) := rfl

theorem spay16 : sendPay (Wm m) 16 c = (owns (c : Thread nD τ) (((Memref.whole cc0_scratch15 : Memref sig .tc .vmem S2x256x1024 .bf16).slice (Rect.unit (s := S2x256x1024) ![0, 0, 0] S1x128x1024.size inb_S2x256x1024_S1x128x1024_0_0_0) (fun _ => rfl)).squeeze S128x1024 squeezes_S1x128x1024_S128x1024) fullShare.right (Y16 m c) : sProp 𝕄) := rfl
theorem rpay16 : recvPay (Wm m) 16 c = (owns (c : Thread nD τ) (((Memref.whole cc0_scratch16 : Memref sig .tc .vmem S2x128x1024 .bf16).slice (Rect.unit (s := S2x128x1024) ![0, 0, 0] S1x128x1024.size inb_S2x128x1024_S1x128x1024_0_0_0) (fun _ => rfl)).squeeze S128x1024 squeezes_S1x128x1024_S128x1024) fullShare (Y16 m (nb 1 c)) : sProp 𝕄) := rfl

theorem ld_recv16 {hl : (Memref.whole cc0_scratch16 : Memref sig .tc .vmem S2x128x1024 .bf16).view.LoadsAt (Rect.unit (s := S2x128x1024) ![0, 0, 0] S1x128x1024.size inb_S2x128x1024_S1x128x1024_0_0_0 : Rect _).toLoadRect}
    {k : ((Rect.unit (s := S2x128x1024) ![0, 0, 0] S1x128x1024.size inb_S2x128x1024_S1x128x1024_0_0_0 : Rect _).toLoadRect.shape.Idx → Elt F .bf16) → Prog (TpuEff nD τ sig (Elt F) Λ₀ .tc) α} :
    (recvPay (Wm m) 16 c : sProp 𝕄)
      ⊢ iprop((recvPay (Wm m) 16 c -∗ wp frame (wpE (defs₀ (F := F)) 𝒱₀ (c : Thread nD τ) none) Set.univ (k (v1091 m c)) Q)
          -∗ wp frame (wpE (defs₀ (F := F)) 𝒱₀ (c : Thread nD τ) none) Set.univ
            (.op (.load (Memref.whole cc0_scratch16 : Memref sig .tc .vmem S2x128x1024 .bf16) (Rect.unit (s := S2x128x1024) ![0, 0, 0] S1x128x1024.size inb_S2x128x1024_S1x128x1024_0_0_0 : Rect _).toLoadRect hl) k) Q) := by
  rw [rpay16]
  exact wp_load_part c (Memref.whole cc0_scratch16 : Memref sig .tc .vmem S2x128x1024 .bf16) (Rect.unit (s := S2x128x1024) ![0, 0, 0] S1x128x1024.size inb_S2x128x1024_S1x128x1024_0_0_0) (fun _ => rfl) squeezes_S1x128x1024_S128x1024 shapeCasts_S1x128x1024_S128x1024 up_S1x128x1024 fullShare _

theorem spay17 : sendPay (Wm m) 17 c = (owns (c : Thread nD τ) (((Memref.whole cc0_scratch15 : Memref sig .tc .vmem S2x256x1024 .bf16).slice (Rect.unit (s := S2x256x1024) ![1, 128, 0] S1x128x1024.size inb_S2x256x1024_S1x128x1024_1_128_0) (fun _ => rfl)).squeeze S128x1024 squeezes_S1x128x1024_S128x1024) fullShare.right (Y17 m c) : sProp 𝕄) := rfl
theorem rpay17 : recvPay (Wm m) 17 c = (owns (c : Thread nD τ) (((Memref.whole cc0_scratch16 : Memref sig .tc .vmem S2x128x1024 .bf16).slice (Rect.unit (s := S2x128x1024) ![1, 0, 0] S1x128x1024.size inb_S2x128x1024_S1x128x1024_1_0_0) (fun _ => rfl)).squeeze S128x1024 squeezes_S1x128x1024_S128x1024) fullShare (Y17 m (nb 0 c)) : sProp 𝕄) := rfl

theorem ld_recv17 {hl : (Memref.whole cc0_scratch16 : Memref sig .tc .vmem S2x128x1024 .bf16).view.LoadsAt (Rect.unit (s := S2x128x1024) ![1, 0, 0] S1x128x1024.size inb_S2x128x1024_S1x128x1024_1_0_0 : Rect _).toLoadRect}
    {k : ((Rect.unit (s := S2x128x1024) ![1, 0, 0] S1x128x1024.size inb_S2x128x1024_S1x128x1024_1_0_0 : Rect _).toLoadRect.shape.Idx → Elt F .bf16) → Prog (TpuEff nD τ sig (Elt F) Λ₀ .tc) α} :
    (recvPay (Wm m) 17 c : sProp 𝕄)
      ⊢ iprop((recvPay (Wm m) 17 c -∗ wp frame (wpE (defs₀ (F := F)) 𝒱₀ (c : Thread nD τ) none) Set.univ (k (v1098 m c)) Q)
          -∗ wp frame (wpE (defs₀ (F := F)) 𝒱₀ (c : Thread nD τ) none) Set.univ
            (.op (.load (Memref.whole cc0_scratch16 : Memref sig .tc .vmem S2x128x1024 .bf16) (Rect.unit (s := S2x128x1024) ![1, 0, 0] S1x128x1024.size inb_S2x128x1024_S1x128x1024_1_0_0 : Rect _).toLoadRect hl) k) Q) := by
  rw [rpay17]
  exact wp_load_part c (Memref.whole cc0_scratch16 : Memref sig .tc .vmem S2x128x1024 .bf16) (Rect.unit (s := S2x128x1024) ![1, 0, 0] S1x128x1024.size inb_S2x128x1024_S1x128x1024_1_0_0) (fun _ => rfl) squeezes_S1x128x1024_S128x1024 shapeCasts_S1x128x1024_S128x1024 up_S1x128x1024 fullShare _

/-- What is kept of the landing place of transfer 14 while transfer 16 reads its part of it: a half share of all of it,
    and the way to get the other half back. -/
def keep14 : sProp 𝕄 :=
  iprop(owns (c : Thread nD τ) (((Memref.whole cc0_scratch15 : Memref sig .tc .vmem S2x256x1024 .bf16).slice (Rect.unit (s := S2x256x1024) ![0, 0, 0] S1x256x1024.size inb_S2x256x1024_S1x256x1024_0_0_0) (fun _ => rfl)).squeeze S256x1024 squeezes_S1x256x1024_S256x1024) fullShare.left (Y14 m (nb 1 c))
    ∗ (sendPay (Wm m) 16 c -∗ owns (c : Thread nD τ) (((Memref.whole cc0_scratch15 : Memref sig .tc .vmem S2x256x1024 .bf16).slice (Rect.unit (s := S2x256x1024) ![0, 0, 0] S1x256x1024.size inb_S2x256x1024_S1x256x1024_0_0_0) (fun _ => rfl)).squeeze S256x1024 squeezes_S1x256x1024_S256x1024) fullShare.right (Y14 m (nb 1 c))))

theorem split14 : (recvPay (Wm m) 14 c : sProp 𝕄) ⊢ iprop(keep14 m c ∗ sendPay (Wm m) 16 c) := by
  rw [rpay14]
  unfold keep14
  iintro H
  ihave H := (owns_halves c _ _) $$ H
  icases H with ⟨H1, H2⟩
  ihave H2 := (owns_part c (Memref.whole cc0_scratch15 : Memref sig .tc .vmem S2x256x1024 .bf16) (Rect.unit (s := S2x256x1024) ![0, 0, 0] S1x256x1024.size inb_S2x256x1024_S1x256x1024_0_0_0) (fun _ => rfl) squeezes_S1x256x1024_S256x1024 shapeCasts_S1x256x1024_S256x1024 up_S1x256x1024
    (Rect.unit (s := S2x256x1024) ![0, 0, 0] S1x128x1024.size inb_S2x256x1024_S1x128x1024_0_0_0) (fun _ => rfl) squeezes_S1x128x1024_S128x1024 shapeCasts_S1x128x1024_S128x1024 lo (by
      intro j
      refine funext fun a => Fin.ext ?_
      rw [emb_val, emb_val]
      revert a
      refine Fin.forall_fin_succ.mpr ⟨?_, Fin.forall_fin_two.mpr ⟨?_, ?_⟩⟩ <;> simp [lo, ix3]) fullShare.right _) $$ H2
  icases H2 with ⟨H2, H3⟩
  rw [spay16]
  isplitl [H1 H3]
  · isplitl [H1]; · iexact H1
    iexact H3
  iexact H2

theorem join14 : iprop(keep14 m c ∗ sendPay (Wm m) 16 c) ⊢ (recvPay (Wm m) 14 c : sProp 𝕄) := by
  rw [rpay14]
  unfold keep14
  iintro ⟨⟨H1, H3⟩, H2⟩
  ihave H2 := H3 $$ H2
  iapply (owns_unhalve c _ _ _)
  isplitl [H1]; · iexact H1
  iexact H2

theorem ld_keep14 {hl : (Memref.whole cc0_scratch15 : Memref sig .tc .vmem S2x256x1024 .bf16).view.LoadsAt (Rect.unit (s := S2x256x1024) ![0, 0, 0] S1x256x1024.size inb_S2x256x1024_S1x256x1024_0_0_0 : Rect _).toLoadRect}
    {k : ((Rect.unit (s := S2x256x1024) ![0, 0, 0] S1x256x1024.size inb_S2x256x1024_S1x256x1024_0_0_0 : Rect _).toLoadRect.shape.Idx → Elt F .bf16) → Prog (TpuEff nD τ sig (Elt F) Λ₀ .tc) α} :
    (keep14 m c : sProp 𝕄)
      ⊢ iprop((keep14 m c -∗ wp frame (wpE (defs₀ (F := F)) 𝒱₀ (c : Thread nD τ) none) Set.univ (k (v1045 m c)) Q)
          -∗ wp frame (wpE (defs₀ (F := F)) 𝒱₀ (c : Thread nD τ) none) Set.univ
            (.op (.load (Memref.whole cc0_scratch15 : Memref sig .tc .vmem S2x256x1024 .bf16) (Rect.unit (s := S2x256x1024) ![0, 0, 0] S1x256x1024.size inb_S2x256x1024_S1x256x1024_0_0_0 : Rect _).toLoadRect hl) k) Q) := by
  unfold keep14
  iintro ⟨H1, H2⟩ Hk
  iapply (wp_load_part c (Memref.whole cc0_scratch15 : Memref sig .tc .vmem S2x256x1024 .bf16) (Rect.unit (s := S2x256x1024) ![0, 0, 0] S1x256x1024.size inb_S2x256x1024_S1x256x1024_0_0_0) (fun _ => rfl) squeezes_S1x256x1024_S256x1024 shapeCasts_S1x256x1024_S256x1024 up_S1x256x1024 fullShare.left _) $$ H1
  iintro H1
  iapply Hk
  isplitl [H1]; · iexact H1
  iexact H2

/-- What is kept of the landing place of transfer 15 while transfer 17 reads its part of it: a half share of all of it,
    and the way to get the other half back. -/
def keep15 : sProp 𝕄 :=
  iprop(owns (c : Thread nD τ) (((Memref.whole cc0_scratch15 : Memref sig .tc .vmem S2x256x1024 .bf16).slice (Rect.unit (s := S2x256x1024) ![1, 0, 0] S1x256x1024.size inb_S2x256x1024_S1x256x1024_1_0_0) (fun _ => rfl)).squeeze S256x1024 squeezes_S1x256x1024_S256x1024) fullShare.left (Y14 m (nb 0 c))
    ∗ (sendPay (Wm m) 17 c -∗ owns (c : Thread nD τ) (((Memref.whole cc0_scratch15 : Memref sig .tc .vmem S2x256x1024 .bf16).slice (Rect.unit (s := S2x256x1024) ![1, 0, 0] S1x256x1024.size inb_S2x256x1024_S1x256x1024_1_0_0) (fun _ => rfl)).squeeze S256x1024 squeezes_S1x256x1024_S256x1024) fullShare.right (Y14 m (nb 0 c))))

theorem split15 : (recvPay (Wm m) 15 c : sProp 𝕄) ⊢ iprop(keep15 m c ∗ sendPay (Wm m) 17 c) := by
  rw [rpay15]
  unfold keep15
  iintro H
  ihave H := (owns_halves c _ _) $$ H
  icases H with ⟨H1, H2⟩
  ihave H2 := (owns_part c (Memref.whole cc0_scratch15 : Memref sig .tc .vmem S2x256x1024 .bf16) (Rect.unit (s := S2x256x1024) ![1, 0, 0] S1x256x1024.size inb_S2x256x1024_S1x256x1024_1_0_0) (fun _ => rfl) squeezes_S1x256x1024_S256x1024 shapeCasts_S1x256x1024_S256x1024 up_S1x256x1024
    (Rect.unit (s := S2x256x1024) ![1, 128, 0] S1x128x1024.size inb_S2x256x1024_S1x128x1024_1_128_0) (fun _ => rfl) squeezes_S1x128x1024_S128x1024 shapeCasts_S1x128x1024_S128x1024 hi (by
      intro j
      refine funext fun a => Fin.ext ?_
      rw [emb_val, emb_val]
      revert a
      refine Fin.forall_fin_succ.mpr ⟨?_, Fin.forall_fin_two.mpr ⟨?_, ?_⟩⟩ <;> simp [hi, ix3]) fullShare.right _) $$ H2
  icases H2 with ⟨H2, H3⟩
  rw [spay17]
  isplitl [H1 H3]
  · isplitl [H1]; · iexact H1
    iexact H3
  iexact H2

theorem join15 : iprop(keep15 m c ∗ sendPay (Wm m) 17 c) ⊢ (recvPay (Wm m) 15 c : sProp 𝕄) := by
  rw [rpay15]
  unfold keep15
  iintro ⟨⟨H1, H3⟩, H2⟩
  ihave H2 := H3 $$ H2
  iapply (owns_unhalve c _ _ _)
  isplitl [H1]; · iexact H1
  iexact H2

theorem ld_keep15 {hl : (Memref.whole cc0_scratch15 : Memref sig .tc .vmem S2x256x1024 .bf16).view.LoadsAt (Rect.unit (s := S2x256x1024) ![1, 0, 0] S1x256x1024.size inb_S2x256x1024_S1x256x1024_1_0_0 : Rect _).toLoadRect}
    {k : ((Rect.unit (s := S2x256x1024) ![1, 0, 0] S1x256x1024.size inb_S2x256x1024_S1x256x1024_1_0_0 : Rect _).toLoadRect.shape.Idx → Elt F .bf16) → Prog (TpuEff nD τ sig (Elt F) Λ₀ .tc) α} :
    (keep15 m c : sProp 𝕄)
      ⊢ iprop((keep15 m c -∗ wp frame (wpE (defs₀ (F := F)) 𝒱₀ (c : Thread nD τ) none) Set.univ (k (v1052 m c)) Q)
          -∗ wp frame (wpE (defs₀ (F := F)) 𝒱₀ (c : Thread nD τ) none) Set.univ
            (.op (.load (Memref.whole cc0_scratch15 : Memref sig .tc .vmem S2x256x1024 .bf16) (Rect.unit (s := S2x256x1024) ![1, 0, 0] S1x256x1024.size inb_S2x256x1024_S1x256x1024_1_0_0 : Rect _).toLoadRect hl) k) Q) := by
  unfold keep15
  iintro ⟨H1, H2⟩ Hk
  iapply (wp_load_part c (Memref.whole cc0_scratch15 : Memref sig .tc .vmem S2x256x1024 .bf16) (Rect.unit (s := S2x256x1024) ![1, 0, 0] S1x256x1024.size inb_S2x256x1024_S1x256x1024_1_0_0) (fun _ => rfl) squeezes_S1x256x1024_S256x1024 shapeCasts_S1x256x1024_S256x1024 up_S1x256x1024 fullShare.left _) $$ H1
  iintro H1
  iapply Hk
  isplitl [H1]; · iexact H1
  iexact H2

/-- The last send buffer feeds two transfers, half a share each. -/
theorem split_pag : (owns (c : Thread nD τ) (Memref.whole cc0_scratch14 : Memref sig .tc .vmem S256x1024 .bf16) fullShare (Y14 m c) : sProp 𝕄)
    ⊢ iprop(sendPay (Wm m) 14 c ∗ sendPay (Wm m) 15 c) := by
  rw [spay14, spay15]
  exact owns_halves c _ _

theorem join_pag : iprop(sendPay (Wm m) 14 c ∗ sendPay (Wm m) 15 c)
    ⊢ (owns (c : Thread nD τ) (Memref.whole cc0_scratch14 : Memref sig .tc .vmem S256x1024 .bf16) fullShare (Y14 m c) : sProp 𝕄) := by
  rw [spay14, spay15]
  exact owns_unhalve c _ _ _

/-- The whole of the last send buffer is written at once. -/
theorem put_pag (X w : S256x1024.Idx → Elt F .bf16) :
    put (Rect.unit (s := S256x1024) ![0, 0] S256x1024.size inb_S256x1024_S256x1024_0_0) X w = w := by
  funext i
  have e : (Rect.unit (s := S256x1024) ![0, 0] S256x1024.size inb_S256x1024_S256x1024_0_0).emb i = i := by
    refine funext fun a => Fin.ext ?_
    rw [emb_val]
    revert a
    exact Fin.forall_fin_two.mpr ⟨Nat.zero_add _, Nat.zero_add _⟩
  have h := put_emb (Rect.unit (s := S256x1024) ![0, 0] S256x1024.size inb_S256x1024_S256x1024_0_0) X w i
  rwa [e] at h

end Cert.Exch

end
-- ==== Proof.Body1.lean ====
/-
# The body, up to the second round of the ring
-/
module

public import proofs.«01_k».proof.Proof.Slots
public import proofs.«01_k».proof.Proof.Gen.KernelIdeal.Skeleton

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

theorem part1 (Q : (Σ' (d0 : Dev nD) (v19 : BitVec 32) (v20 : BitVec 32) (v24 : BitVec 32) (v27 : BitVec 32) (v28 : BitVec 32) (c2_i32_10 : BitVec 32) (v29 : BitVec 32) (v34 : BitVec 32) (v36 : BitVec 32), BitVec 1) → sProp (MT nD τ sig Unit (Elt F) ℕ UU ℕ))  :
    iprop((∀ v19 : BitVec 32, ∀ v20 : BitVec 32, ∀ v24 : BitVec 32, ∀ v27 : BitVec 32, ∀ v28 : BitVec 32, ∀ c2_i32_10 : BitVec 32, ∀ v29 : BitVec 32, ∀ v34 : BitVec 32, ∀ v36 : BitVec 32, ∀ v37 : BitVec 1, Q ⟨c, v19, v20, v24, v27, v28, c2_i32_10, v29, v34, v36, v37⟩))
      ⊢ wp frame (wpE (defs₀ (F := F)) 𝒱₀ (c : Thread nD τ) none) Set.univ
            (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 ) Q := by
  rw [k0_part1_eq_skeleton]; unfold k0_part1_skel
  simp only [semSignalWord, semWaitWord, Prog.lift, Prog.bind_op, Prog.bind_ret, Prog.pure_eq_ret, wp_deviceId]
  iintro Hk
  rw [wp_ret]; imodintro
  iapply Hk

theorem part2 (Q : (Σ' (v46 : BitVec 32) (v49 : BitVec 32) (v52 : BitVec 32) (v55 : FVec F S512x1024 .bf16), Sems sig S_) → sProp (MT nD τ sig Unit (Elt F) ℕ UU ℕ)) (v19 : BitVec 32) (v20 : BitVec 32) (c2_i32_10 : BitVec 32) (v29 : BitVec 32) (v34 : BitVec 32) (v36 : BitVec 32) (v37 : BitVec 1) :
    iprop(owns (c : Thread nD τ) (Memref.whole cc0_stg0_0) fullShare (in0 m c) ∗ owns (c : Thread nD τ) (Memref.whole cc0_stg1_0) fullShare (in1 m c) ∗ owns (c : Thread nD τ) (Memref.whole cc0_stg2_0) fullShare (in2 m c) ∗ anyB c (Memref.whole cc0_scratch0) ∗ owns (c : Thread nD τ) (Memref.whole cc0_stg3_0) fullShare (in3 m c))
      ⊢ iprop((∀ v46 : BitVec 32, ∀ v49 : BitVec 32, ∀ v52 : BitVec 32, (owns (c : Thread nD τ) (Memref.whole cc0_stg0_0) fullShare (in0 m c) ∗ owns (c : Thread nD τ) (Memref.whole cc0_stg1_0) fullShare (in1 m c) ∗ owns (c : Thread nD τ) (Memref.whole cc0_stg2_0) fullShare (in2 m c) ∗ owns (c : Thread nD τ) (Memref.whole cc0_scratch0) fullShare (A0 m c) ∗ owns (c : Thread nD τ) (Memref.whole cc0_stg3_0) fullShare (in3 m c)) -∗ Q ⟨v46, v49, v52, (xf m c), (SemArray.scalar (sig.barrier 0 rfl))⟩)
          -∗ wp frame (wpE (defs₀ (F := F)) 𝒱₀ (c : Thread nD τ) none) Set.univ
            (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 v19 v20 c2_i32_10 v29 v34 v36 v37) Q) := by
  rw [k0_part2_eq_skeleton]; unfold k0_part2_skel
  simp only [semSignalWord, semWaitWord, Prog.lift, Prog.bind_op, Prog.bind_ret, Prog.pure_eq_ret, wp_deviceId]
  iintro ⟨In0, In1, In2, A, In3⟩ Hk
  iapply (wp_load_as c (Memref.whole cc0_stg0_0) (Rect.unit (s := S2x256x1024) ![0, 0, 0] S2x256x1024.size inb_S2x256x1024_S2x256x1024_0_0_0) (in0 m c) (v53 m c) rfl) $$ In0
  iintro In0
  iapply (wp_load_as c (Memref.whole cc0_stg1_0) (Rect.unit (s := S1024x64) ![0, 0] S1024x64.size inb_S1024x64_S1024x64_0_0) (in1 m c) (v56 m c) rfl) $$ In1
  iintro In1
  iapply (wp_load_as c (Memref.whole cc0_stg2_0) (Rect.unit (s := S64x1024) ![0, 0] S64x1024.size inb_S64x1024_S64x1024_0_0) (in2 m c) (v60 m c) rfl) $$ In2
  iintro In2
  unfold anyB
  icases A with ⟨%X, A⟩
  iapply (wp_load_as c (Memref.whole cc0_scratch0) (Rect.unit (s := S1024x1024) ![0, 0] S512x1024.size inb_S1024x1024_S512x1024_0_0) X _ rfl) $$ A
  iintro A
  iapply (wp_store_as c (Memref.whole cc0_scratch0) (Rect.unit (s := S1024x1024) ![0, 0] S512x1024.size inb_S1024x1024_S512x1024_0_0) X (put (Rect.unit (s := S1024x1024) ![0, 0] S512x1024.size inb_S1024x1024_S512x1024_0_0) X (k0_pay3 (v53 m c) (v56 m c) (v60 m c))) (k0_pay3 (v53 m c) (v56 m c) (v60 m c)) rfl) $$ A
  iintro A
  iapply (wp_load_as c (Memref.whole cc0_stg3_0) (Rect.unit (s := S64x1024) ![0, 0] S64x1024.size inb_S64x1024_S64x1024_0_0) (in3 m c) (v66 m c) rfl) $$ In3
  iintro In3
  iapply (wp_load_as c (Memref.whole cc0_scratch0) (Rect.unit (s := S1024x1024) ![512, 0] S512x1024.size inb_S1024x1024_S512x1024_512_0) (put (Rect.unit (s := S1024x1024) ![0, 0] S512x1024.size inb_S1024x1024_S512x1024_0_0) X (k0_pay3 (v53 m c) (v56 m c) (v60 m c))) _ rfl) $$ A
  iintro A
  iapply (wp_store_as c (Memref.whole cc0_scratch0) (Rect.unit (s := S1024x1024) ![512, 0] S512x1024.size inb_S1024x1024_S512x1024_512_0) (put (Rect.unit (s := S1024x1024) ![0, 0] S512x1024.size inb_S1024x1024_S512x1024_0_0) X (k0_pay3 (v53 m c) (v56 m c) (v60 m c))) (A0 m c) (k0_pay4 (v53 m c) (v56 m c) (v66 m c)) (acc_filled m c X)) $$ A
  iintro A
  rw [show (k0_pay1 (v53 m c)) = (xf m c) from rfl]
  rw [wp_ret]; imodintro
  iapply Hk
  isplitl [In0]; · iexact In0
  isplitl [In1]; · iexact In1
  isplitl [In2]; · iexact In2
  isplitl [A]; · iexact A
  iexact In3

theorem part3 (Q : (Σ' (v82 : BitVec 32) (v83 : BitVec 32) (v85 : BitVec 32) (v96 : BitVec 32), BitVec 32) → sProp (MT nD τ sig Unit (Elt F) ℕ UU ℕ)) (v20 : BitVec 32) (v24 : BitVec 32) (v27 : BitVec 32) (v49 : BitVec 32) (v52 : BitVec 32) :
    iprop(records (Wm m) K ∗ levAts L lv ∗ kitB c kBar ∗ ow c 26 ∗ slotsOf c 0 ∗ slotsOf c 1 ∗ slotsOf c 2 ∗ slotsOf c 3 ∗ owns (c : Thread nD τ) (Memref.whole cc0_scratch0) fullShare (A0 m c) ∗ anyB c (tx 0).src)
      ⊢ iprop((∀ v82 : BitVec 32, ∀ v83 : BitVec 32, ∀ v85 : BitVec 32, ∀ v96 : BitVec 32, ∀ c128_i32_61 : BitVec 32, (ow c 22 ∗ semVal (kcell c kBar) 0 ∗ slotsOf (nb 0 c) 0 ∗ slotsOf (nb 1 c) 1 ∗ slotsOf (nb 2 c) 2 ∗ slotsOf (nb 3 c) 3 ∗ owns (c : Thread nD τ) (Memref.whole cc0_scratch0) fullShare (A0 m c) ∗ sendPay (Wm m) 0 c) -∗ Q ⟨v82, v83, v85, v96, c128_i32_61⟩)
          -∗ wp frame (wpE (defs₀ (F := F)) 𝒱₀ (c : Thread nD τ) none) Set.univ
            (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v20 v24 v27 v49 v52 (SemArray.scalar (sig.barrier 0 rfl))) Q) := by
  rw [k0_part3_eq_skeleton]; unfold k0_part3_skel
  simp only [semSignalWord, semWaitWord, Prog.lift, Prog.bind_op, Prog.bind_ret, Prog.pure_eq_ret, wp_deviceId]
  iintro ⟨#HR, #Hlev, Kb, OW, SL0, SL1, SL2, SL3, A, S0⟩ Hk
  unfold kitB
  icases Kb with ⟨⟨T0, T1, T2, T3⟩, Cb, Ab⟩
  iapply (wp_sig (Wm m) K c _ 0 (dev1_eq c) _ kBar rfl rfl rfl 25 rfl rfl rfl) $$ [OW T0 SL1]
  · isplitr; · iexact HR
    isplitl [OW]; · iexact OW
    isplitl [T0]; · iexact T0
    iapply (sig_pay (Wm m) c 0); iexact SL1
  iintro OW
  iapply (wp_sig (Wm m) K c _ 1 (dev2_eq c) _ kBar rfl rfl rfl 24 rfl rfl rfl) $$ [OW T1 SL0]
  · isplitr; · iexact HR
    isplitl [OW]; · iexact OW
    isplitl [T1]; · iexact T1
    iapply (sig_pay (Wm m) c 1); iexact SL0
  iintro OW
  iapply (wp_sig (Wm m) K c _ 2 (dev3_eq c) _ kBar rfl rfl rfl 23 rfl rfl rfl) $$ [OW T2 SL2]
  · isplitr; · iexact HR
    isplitl [OW]; · iexact OW
    isplitl [T2]; · iexact T2
    iapply (sig_pay (Wm m) c 2); iexact SL2
  iintro OW
  iapply (wp_sig (Wm m) K c _ 3 (dev4_eq c) _ kBar rfl rfl rfl 22 rfl rfl rfl) $$ [OW T3 SL3]
  · isplitr; · iexact HR
    isplitl [OW]; · iexact OW
    isplitl [T3]; · iexact T3
    iapply (sig_pay (Wm m) c 3); iexact SL3
  iintro OW
  iapply (wp_barWait (Wm m) K c _ kBar rfl rfl rfl 22 (by decide) rfl) $$ [OW Cb Ab]
  · isplitr; · iexact HR
    isplitr; · iexact Hlev
    isplitl [OW]; · iexact OW
    isplitl [Cb]; · iexact Cb
    iexact Ab
  iintro ⟨OW, Zb, HG⟩
  ihave HG := (Entails.of_eq (bar_pay (Wm m) c)) $$ HG
  icases HG with ⟨GN0, GN1, GN2, GN3⟩
  iapply (wp_load_as c (Memref.whole cc0_scratch0) (Rect.unit (s := S1024x1024) (k0_off1 c) S128x1024.size (k0_off1_inb c)) (A0 m c) (v89 m c) rfl) $$ A
  iintro A
  iapply (ld_send0 c) $$ S0
  iintro %_ S0
  iapply (st_send0 m c (k0_pay5 (v89 m c)) rfl) $$ S0
  iintro S0
  rw [wp_ret]; imodintro
  iapply Hk
  isplitl [OW]; · iexact OW
  isplitl [Zb]; · iexact Zb
  isplitl [GN0]; · iexact GN0
  isplitl [GN1]; · iexact GN1
  isplitl [GN2]; · iexact GN2
  isplitl [GN3]; · iexact GN3
  isplitl [A]; · iexact A
  iexact S0

theorem part4 (Q : (PUnit) → sProp (MT nD τ sig Unit (Elt F) ℕ UU ℕ)) (v24 : BitVec 32) (v27 : BitVec 32) (v96 : BitVec 32) (c128_i32_61 : BitVec 32) :
    iprop(records (Wm m) K ∗ owns (c : Thread nD τ) (Memref.whole cc0_scratch0) fullShare (A0 m c) ∗ anyB c (tx 1).src ∗ sendPay (Wm m) 0 c ∗ slotG (nb 0 c) 0 ∗ kitS c 0 ∗ ow c 22)
      ⊢ iprop(((owns (c : Thread nD τ) (Memref.whole cc0_scratch0) fullShare (A0 m c) ∗ sendPay (Wm m) 1 c ∗ ow c 21 ∗ flyS c 0) -∗ Q ⟨⟩)
          -∗ wp frame (wpE (defs₀ (F := F)) 𝒱₀ (c : Thread nD τ) none) Set.univ
            (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v24 v27 v96 c128_i32_61) Q) := by
  rw [k0_part4_eq_skeleton]; unfold k0_part4_skel
  simp only [semSignalWord, semWaitWord, Prog.lift, Prog.bind_op, Prog.bind_ret, Prog.pure_eq_ret, wp_deviceId]
  iintro ⟨#HR, A, S1, S0, G0, Ks0, OW⟩ Hk
  iapply (wp_load_as c (Memref.whole cc0_scratch0) (Rect.unit (s := S1024x1024) (k0_off2 c 2#32) S128x1024.size (k0_off2_inb c 0)) (A0 m c) (v99 m c) rfl) $$ A
  iintro A
  iapply (ld_send1 c) $$ S1
  iintro %_ S1
  iapply (st_send1 m c (k0_pay6 (v99 m c)) rfl) $$ S1
  iintro S1
  iapply (wp_send (Wm m) K c _ 0 (dev5_eq c) 21 rfl rfl) $$ [S0 G0 Ks0 OW]
  · isplitr; · iexact HR
    isplitl [S0]; · iexact S0
    isplitl [G0]; · iexact G0
    isplitl [Ks0]; · iexact Ks0
    iexact OW
  iintro ⟨Fl0, OW⟩
  rw [wp_ret]; imodintro
  iapply Hk
  isplitl [A]; · iexact A
  isplitl [S1]; · iexact S1
  isplitl [OW]; · iexact OW
  iexact Fl0

theorem part5 (Q : (FVec F S512x1024 .bf16) → sProp (MT nD τ sig Unit (Elt F) ℕ UU ℕ)) (v24 : BitVec 32) :
    iprop(records (Wm m) K ∗ levAts L lv ∗ sendPay (Wm m) 1 c ∗ slotG (nb 1 c) 1 ∗ kitS c 1 ∗ ow c 21 ∗ owns (c : Thread nD τ) (Memref.whole cc0_stg4_0) fullShare (in4 m c) ∗ flyS c 0 ∗ kitR c 0)
      ⊢ iprop(((ow c 20 ∗ flyS c 1 ∗ owns (c : Thread nD τ) (Memref.whole cc0_stg4_0) fullShare (in4 m c) ∗ semVal (kcell c (kSnd 0)) 0 ∗ sendPay (Wm m) 0 c ∗ semVal (kcell c (kRcv 0)) 0 ∗ recvPay (Wm m) 0 c) -∗ Q (qv m c))
          -∗ wp frame (wpE (defs₀ (F := F)) 𝒱₀ (c : Thread nD τ) none) Set.univ
            (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v24 (xf m c)) Q) := by
  rw [k0_part5_eq_skeleton]; unfold k0_part5_skel
  simp only [semSignalWord, semWaitWord, Prog.lift, Prog.bind_op, Prog.bind_ret, Prog.pure_eq_ret, wp_deviceId]
  iintro ⟨#HR, #Hlev, S1, G1, Ks1, OW, In4, Fl0, Kr0⟩ Hk
  iapply (wp_send (Wm m) K c _ 1 (dev6_eq c) 20 rfl rfl) $$ [S1 G1 Ks1 OW]
  · isplitr; · iexact HR
    isplitl [S1]; · iexact S1
    isplitl [G1]; · iexact G1
    isplitl [Ks1]; · iexact Ks1
    iexact OW
  iintro ⟨Fl1, OW⟩
  iapply (wp_load_as c (Memref.whole cc0_stg4_0) (Rect.unit (s := S1024x1024) ![0, 0] S1024x1024.size inb_S1024x1024_S1024x1024_0_0) (in4 m c) (v124 m c) rfl) $$ In4
  iintro In4
  iapply (wp_waitSnd (Wm m) K c 0 20 (by decide) rfl) $$ [Fl0 OW]
  · isplitr; · iexact HR
    isplitr; · iexact Hlev
    isplitl [Fl0]; · iexact Fl0
    iexact OW
  iintro ⟨OW, Zs0, S0⟩
  iapply (wp_waitRcv (Wm m) K c 0 20 (by decide)) $$ [Kr0 OW]
  · isplitr; · iexact HR
    isplitr; · iexact Hlev
    isplitl [Kr0]; · iexact Kr0
    iexact OW
  iintro ⟨OW, Zr0, V0⟩
  rw [show (k0_pay7 (xf m c) (v124 m c)) = (qv m c) from rfl]
  rw [wp_ret]; imodintro
  iapply Hk
  isplitl [OW]; · iexact OW
  isplitl [Fl1]; · iexact Fl1
  isplitl [In4]; · iexact In4
  isplitl [Zs0]; · iexact Zs0
  isplitl [S0]; · iexact S0
  isplitl [Zr0]; · iexact Zr0
  iexact V0

theorem part6 (Q : (Σ' (v159 : BitVec 32) (v167 : FVec F S128x1024 .f32), BitVec 32) → sProp (MT nD τ sig Unit (Elt F) ℕ UU ℕ)) (v20 : BitVec 32) (v27 : BitVec 32) :
    iprop(records (Wm m) K ∗ levAts L lv ∗ flyS c 1 ∗ ow c 20 ∗ kitR c 1 ∗ owns (c : Thread nD τ) (Memref.whole cc0_scratch0) fullShare (A0 m c) ∗ recvPay (Wm m) 0 c)
      ⊢ iprop((∀ v159 : BitVec 32, ∀ c256_i32_161 : BitVec 32, (ow c 20 ∗ semVal (kcell c (kSnd 1)) 0 ∗ sendPay (Wm m) 1 c ∗ semVal (kcell c (kRcv 1)) 0 ∗ recvPay (Wm m) 1 c ∗ owns (c : Thread nD τ) (Memref.whole cc0_scratch0) fullShare (A0 m c) ∗ recvPay (Wm m) 0 c) -∗ Q ⟨v159, (k0_pay8 (v163 m c) (v164 m c)), c256_i32_161⟩)
          -∗ wp frame (wpE (defs₀ (F := F)) 𝒱₀ (c : Thread nD τ) none) Set.univ
            (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v20 v27) Q) := by
  rw [k0_part6_eq_skeleton]; unfold k0_part6_skel
  simp only [semSignalWord, semWaitWord, Prog.lift, Prog.bind_op, Prog.bind_ret, Prog.pure_eq_ret, wp_deviceId]
  iintro ⟨#HR, #Hlev, Fl1, OW, Kr1, A, V0⟩ Hk
  iapply (wp_waitSnd (Wm m) K c 1 20 (by decide) rfl) $$ [Fl1 OW]
  · isplitr; · iexact HR
    isplitr; · iexact Hlev
    isplitl [Fl1]; · iexact Fl1
    iexact OW
  iintro ⟨OW, Zs1, S1⟩
  iapply (wp_waitRcv (Wm m) K c 1 20 (by decide)) $$ [Kr1 OW]
  · isplitr; · iexact HR
    isplitr; · iexact Hlev
    isplitl [Kr1]; · iexact Kr1
    iexact OW
  iintro ⟨OW, Zr1, V1⟩
  iapply (wp_load_as c (Memref.whole cc0_scratch0) (Rect.unit (s := S1024x1024) (k0_off3 c 0#32) S128x1024.size (k0_off3_inb c 0)) (A0 m c) (v163 m c) rfl) $$ A
  iintro A
  iapply (ld_recv0 m c) $$ V0
  iintro V0
  rw [wp_ret]; imodintro
  iapply Hk
  isplitl [OW]; · iexact OW
  isplitl [Zs1]; · iexact Zs1
  isplitl [S1]; · iexact S1
  isplitl [Zr1]; · iexact Zr1
  isplitl [V1]; · iexact V1
  isplitl [A]; · iexact A
  iexact V0

theorem part7 (Q : (PUnit) → sProp (MT nD τ sig Unit (Elt F) ℕ UU ℕ)) (v20 : BitVec 32) (v159 : BitVec 32) (c256_i32_161 : BitVec 32) :
    iprop(owns (c : Thread nD τ) (Memref.whole cc0_scratch0) fullShare (A0 m c) ∗ anyB c (tx 2).src ∗ recvPay (Wm m) 1 c ∗ anyB c (tx 3).src)
      ⊢ iprop(((owns (c : Thread nD τ) (Memref.whole cc0_scratch0) fullShare (A2 m c) ∗ sendPay (Wm m) 2 c ∗ recvPay (Wm m) 1 c ∗ sendPay (Wm m) 3 c) -∗ Q ⟨⟩)
          -∗ wp frame (wpE (defs₀ (F := F)) 𝒱₀ (c : Thread nD τ) none) Set.univ
            (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v20 v159 (k0_pay8 (v163 m c) (v164 m c)) c256_i32_161) Q) := by
  rw [k0_part7_eq_skeleton]; unfold k0_part7_skel
  simp only [semSignalWord, semWaitWord, Prog.lift, Prog.bind_op, Prog.bind_ret, Prog.pure_eq_ret, wp_deviceId]
  iintro ⟨A, S2, V1, S3⟩ Hk
  iapply (wp_load_as c (Memref.whole cc0_scratch0) (Rect.unit (s := S1024x1024) (k0_off3 c 0#32) S128x1024.size (k0_off3_inb c 0)) (A0 m c) _ rfl) $$ A
  iintro A
  iapply (wp_store_as c (Memref.whole cc0_scratch0) (Rect.unit (s := S1024x1024) (k0_off3 c 0#32) S128x1024.size (k0_off3_inb c 0)) (A0 m c) (A1 m c) (k0_pay9 (k0_pay8 (v163 m c) (v164 m c))) rfl) $$ A
  iintro A
  iapply (ld_send2 c) $$ S2
  iintro %_ S2
  iapply (st_send2 m c (k0_pay10 (k0_pay8 (v163 m c) (v164 m c))) rfl) $$ S2
  iintro S2
  iapply (wp_load_as c (Memref.whole cc0_scratch0) (Rect.unit (s := S1024x1024) (k0_off4 c 0#32) S128x1024.size (k0_off4_inb c 0)) (A1 m c) (v184 m c) rfl) $$ A
  iintro A
  iapply (ld_recv1 m c) $$ V1
  iintro V1
  iapply (wp_load_as c (Memref.whole cc0_scratch0) (Rect.unit (s := S1024x1024) (k0_off4 c 0#32) S128x1024.size (k0_off4_inb c 0)) (A1 m c) _ rfl) $$ A
  iintro A
  iapply (wp_store_as c (Memref.whole cc0_scratch0) (Rect.unit (s := S1024x1024) (k0_off4 c 0#32) S128x1024.size (k0_off4_inb c 0)) (A1 m c) (A2 m c) (k0_pay12 (v184 m c) (v185 m c)) rfl) $$ A
  iintro A
  iapply (ld_send3 c) $$ S3
  iintro %_ S3
  iapply (st_send3 m c (k0_pay13 (v184 m c) (v185 m c)) rfl) $$ S3
  iintro S3
  rw [wp_ret]; imodintro
  iapply Hk
  isplitl [A]; · iexact A
  isplitl [S2]; · iexact S2
  isplitl [V1]; · iexact V1
  iexact S3

theorem part8 (Q : (Σ' (v222 : FVec F S512x512 .bf16) (v224 : FVec F S1024x32 .bf16), FVec F S512x32 .f32) → sProp (MT nD τ sig Unit (Elt F) ℕ UU ℕ)) (v24 : BitVec 32) (v27 : BitVec 32) :
    iprop(records (Wm m) K ∗ sendPay (Wm m) 2 c ∗ slotG (nb 0 c) 2 ∗ kitS c 2 ∗ ow c 20 ∗ sendPay (Wm m) 3 c ∗ slotG (nb 1 c) 3 ∗ kitS c 3 ∗ owns (c : Thread nD τ) (Memref.whole cc0_stg5_0) fullShare (in5 m c) ∗ owns (c : Thread nD τ) (Memref.whole cc0_stg6_0) fullShare (in6 m c))
      ⊢ iprop(((ow c 18 ∗ flyS c 2 ∗ flyS c 3 ∗ owns (c : Thread nD τ) (Memref.whole cc0_stg5_0) fullShare (in5 m c) ∗ owns (c : Thread nD τ) (Memref.whole cc0_stg6_0) fullShare (in6 m c)) -∗ Q ⟨(qrv m c), (k0_pay15 (v223 m c)), ((constant S512x32 .f32 0x00000000#32))⟩)
          -∗ wp frame (wpE (defs₀ (F := F)) 𝒱₀ (c : Thread nD τ) none) Set.univ
            (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v24 v27 (xf m c)) Q) := by
  rw [k0_part8_eq_skeleton]; unfold k0_part8_skel
  simp only [semSignalWord, semWaitWord, Prog.lift, Prog.bind_op, Prog.bind_ret, Prog.pure_eq_ret, wp_deviceId]
  iintro ⟨#HR, S2, G2, Ks2, OW, S3, G3, Ks3, In5, In6⟩ Hk
  iapply (wp_send (Wm m) K c _ 2 (dev7_eq c) 19 rfl rfl) $$ [S2 G2 Ks2 OW]
  · isplitr; · iexact HR
    isplitl [S2]; · iexact S2
    isplitl [G2]; · iexact G2
    isplitl [Ks2]; · iexact Ks2
    iexact OW
  iintro ⟨Fl2, OW⟩
  iapply (wp_send (Wm m) K c _ 3 (dev8_eq c) 18 rfl rfl) $$ [S3 G3 Ks3 OW]
  · isplitr; · iexact HR
    isplitl [S3]; · iexact S3
    isplitl [G3]; · iexact G3
    isplitl [Ks3]; · iexact Ks3
    iexact OW
  iintro ⟨Fl3, OW⟩
  iapply (wp_load_as c (Memref.whole cc0_stg5_0) (Rect.unit (s := S1024x512) ![0, 0] S1024x512.size inb_S1024x512_S1024x512_0_0) (in5 m c) (v219 m c) rfl) $$ In5
  iintro In5
  iapply (wp_load_as c (Memref.whole cc0_stg6_0) (Rect.unit (s := S1024x32) ![0, 0] S1024x32.size inb_S1024x32_S1024x32_0_0) (in6 m c) (v223 m c) rfl) $$ In6
  iintro In6
  rw [show (k0_pay14 (xf m c) (v219 m c)) = (qrv m c) from rfl]
  rw [wp_ret]; imodintro
  iapply Hk
  isplitl [OW]; · iexact OW
  isplitl [Fl2]; · iexact Fl2
  isplitl [Fl3]; · iexact Fl3
  isplitl [In5]; · iexact In5
  iexact In6

theorem part9 (Q : (FVec F S512x32 .bf16) → sProp (MT nD τ sig Unit (Elt F) ℕ UU ℕ)) (v24 : BitVec 32) :
    iprop(records (Wm m) K ∗ levAts L lv ∗ flyS c 2 ∗ ow c 18 ∗ kitR c 2)
      ⊢ iprop(((ow c 18 ∗ semVal (kcell c (kSnd 2)) 0 ∗ sendPay (Wm m) 2 c ∗ semVal (kcell c (kRcv 2)) 0 ∗ recvPay (Wm m) 2 c) -∗ Q (krv m c))
          -∗ wp frame (wpE (defs₀ (F := F)) 𝒱₀ (c : Thread nD τ) none) Set.univ
            (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 v24 (xf m c) (k0_pay15 (v223 m c)) ((constant S512x32 .f32 0x00000000#32))) Q) := by
  rw [k0_part9_eq_skeleton]; unfold k0_part9_skel
  simp only [semSignalWord, semWaitWord, Prog.lift, Prog.bind_op, Prog.bind_ret, Prog.pure_eq_ret, wp_deviceId]
  iintro ⟨#HR, #Hlev, Fl2, OW, Kr2⟩ Hk
  iapply (wp_waitSnd (Wm m) K c 2 18 (by decide) rfl) $$ [Fl2 OW]
  · isplitr; · iexact HR
    isplitr; · iexact Hlev
    isplitl [Fl2]; · iexact Fl2
    iexact OW
  iintro ⟨OW, Zs2, S2⟩
  iapply (wp_waitRcv (Wm m) K c 2 18 (by decide)) $$ [Kr2 OW]
  · isplitr; · iexact HR
    isplitr; · iexact Hlev
    isplitl [Kr2]; · iexact Kr2
    iexact OW
  iintro ⟨OW, Zr2, V2⟩
  rw [show (k0_pay16 (xf m c) (k0_pay15 (v223 m c)) ((constant S512x32 .f32 0x00000000#32))) = (krv m c) from rfl]
  rw [wp_ret]; imodintro
  iapply Hk
  isplitl [OW]; · iexact OW
  isplitl [Zs2]; · iexact Zs2
  isplitl [S2]; · iexact S2
  isplitl [Zr2]; · iexact Zr2
  iexact V2

theorem part10 (Q : (Σ' (v266 : FVec F S128x1024 .f32), FVec F S128x1024 .f32) → sProp (MT nD τ sig Unit (Elt F) ℕ UU ℕ)) (v20 : BitVec 32) (v27 : BitVec 32) :
    iprop(records (Wm m) K ∗ levAts L lv ∗ flyS c 3 ∗ ow c 18 ∗ kitR c 3 ∗ owns (c : Thread nD τ) (Memref.whole cc0_scratch0) fullShare (A2 m c) ∗ recvPay (Wm m) 2 c)
      ⊢ iprop(((ow c 18 ∗ semVal (kcell c (kSnd 3)) 0 ∗ sendPay (Wm m) 3 c ∗ semVal (kcell c (kRcv 3)) 0 ∗ recvPay (Wm m) 3 c ∗ owns (c : Thread nD τ) (Memref.whole cc0_scratch0) fullShare (A2 m c) ∗ recvPay (Wm m) 2 c) -∗ Q ⟨(k0_pay17 (v262 m c) (v263 m c)), (k0_pay18 (v262 m c) (v263 m c))⟩)
          -∗ wp frame (wpE (defs₀ (F := F)) 𝒱₀ (c : Thread nD τ) none) Set.univ
            (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v20 v27) Q) := by
  rw [k0_part10_eq_skeleton]; unfold k0_part10_skel
  simp only [semSignalWord, semWaitWord, Prog.lift, Prog.bind_op, Prog.bind_ret, Prog.pure_eq_ret, wp_deviceId]
  iintro ⟨#HR, #Hlev, Fl3, OW, Kr3, A, V2⟩ Hk
  iapply (wp_waitSnd (Wm m) K c 3 18 (by decide) rfl) $$ [Fl3 OW]
  · isplitr; · iexact HR
    isplitr; · iexact Hlev
    isplitl [Fl3]; · iexact Fl3
    iexact OW
  iintro ⟨OW, Zs3, S3⟩
  iapply (wp_waitRcv (Wm m) K c 3 18 (by decide)) $$ [Kr3 OW]
  · isplitr; · iexact HR
    isplitr; · iexact Hlev
    isplitl [Kr3]; · iexact Kr3
    iexact OW
  iintro ⟨OW, Zr3, V3⟩
  iapply (wp_load_as c (Memref.whole cc0_scratch0) (Rect.unit (s := S1024x1024) (k0_off3 c 1#32) S128x1024.size (k0_off3_inb c 1)) (A2 m c) (v262 m c) rfl) $$ A
  iintro A
  iapply (ld_recv2 m c) $$ V2
  iintro V2
  iapply (wp_load_as c (Memref.whole cc0_scratch0) (Rect.unit (s := S1024x1024) (k0_off3 c 1#32) S128x1024.size (k0_off3_inb c 1)) (A2 m c) _ rfl) $$ A
  iintro A
  rw [wp_ret]; imodintro
  iapply Hk
  isplitl [OW]; · iexact OW
  isplitl [Zs3]; · iexact Zs3
  isplitl [S3]; · iexact S3
  isplitl [Zr3]; · iexact Zr3
  isplitl [V3]; · iexact V3
  isplitl [A]; · iexact A
  iexact V2

theorem part11 (Q : (BitVec 32) → sProp (MT nD τ sig Unit (Elt F) ℕ UU ℕ)) (v20 : BitVec 32) (v24 : BitVec 32) :
    iprop(owns (c : Thread nD τ) (Memref.whole cc0_scratch0) fullShare (A2 m c) ∗ anyB c (tx 4).src ∗ recvPay (Wm m) 3 c ∗ anyB c (tx 5).src)
      ⊢ iprop((∀ v298 : BitVec 32, (owns (c : Thread nD τ) (Memref.whole cc0_scratch0) fullShare (A4 m c) ∗ sendPay (Wm m) 4 c ∗ recvPay (Wm m) 3 c ∗ sendPay (Wm m) 5 c) -∗ Q v298)
          -∗ wp frame (wpE (defs₀ (F := F)) 𝒱₀ (c : Thread nD τ) none) Set.univ
            (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v20 v24 (k0_pay17 (v262 m c) (v263 m c)) (k0_pay18 (v262 m c) (v263 m c))) Q) := by
  rw [k0_part11_eq_skeleton]; unfold k0_part11_skel
  simp only [semSignalWord, semWaitWord, Prog.lift, Prog.bind_op, Prog.bind_ret, Prog.pure_eq_ret, wp_deviceId]
  iintro ⟨A, S4, V3, S5⟩ Hk
  iapply (wp_store_as c (Memref.whole cc0_scratch0) (Rect.unit (s := S1024x1024) (k0_off3 c 1#32) S128x1024.size (k0_off3_inb c 1)) (A2 m c) (A3 m c) (k0_pay18 (v262 m c) (v263 m c)) rfl) $$ A
  iintro A
  iapply (ld_send4 c) $$ S4
  iintro %_ S4
  iapply (st_send4 m c (k0_pay19 (k0_pay17 (v262 m c) (v263 m c))) rfl) $$ S4
  iintro S4
  iapply (wp_load_as c (Memref.whole cc0_scratch0) (Rect.unit (s := S1024x1024) (k0_off4 c 1#32) S128x1024.size (k0_off4_inb c 1)) (A3 m c) (v283 m c) rfl) $$ A
  iintro A
  iapply (ld_recv3 m c) $$ V3
  iintro V3
  iapply (wp_load_as c (Memref.whole cc0_scratch0) (Rect.unit (s := S1024x1024) (k0_off4 c 1#32) S128x1024.size (k0_off4_inb c 1)) (A3 m c) _ rfl) $$ A
  iintro A
  iapply (wp_store_as c (Memref.whole cc0_scratch0) (Rect.unit (s := S1024x1024) (k0_off4 c 1#32) S128x1024.size (k0_off4_inb c 1)) (A3 m c) (A4 m c) (k0_pay21 (v283 m c) (v284 m c)) rfl) $$ A
  iintro A
  iapply (ld_send5 c) $$ S5
  iintro %_ S5
  iapply (st_send5 m c (k0_pay22 (v283 m c) (v284 m c)) rfl) $$ S5
  iintro S5
  rw [wp_ret]; imodintro
  iapply Hk
  isplitl [A]; · iexact A
  isplitl [S4]; · iexact S4
  isplitl [V3]; · iexact V3
  iexact S5

end Cert.Exch

end
-- ==== Proof.Body2.lean ====
/-
# The body, to the end of the ring and the rotary scores
-/
module

public import proofs.«01_k».proof.Proof.Slots
public import proofs.«01_k».proof.Proof.Gen.KernelIdeal.Skeleton

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

theorem part12 (Q : (FVec F S256x256 .f32) → sProp (MT nD τ sig Unit (Elt F) ℕ UU ℕ)) (v27 : BitVec 32) (v298 : BitVec 32) :
    iprop(records (Wm m) K ∗ sendPay (Wm m) 4 c ∗ slotG (nb 0 c) 4 ∗ kitS c 4 ∗ ow c 18 ∗ sendPay (Wm m) 5 c ∗ slotG (nb 1 c) 5 ∗ kitS c 5 ∗ ag c (Memref.whole cc0_scratch3) (ropeS 0) (ropeT m c))
      ⊢ iprop(((ow c 16 ∗ flyS c 4 ∗ flyS c 5 ∗ ag c (Memref.whole cc0_scratch3) (ropeS 1) (ropeT m c)) -∗ Q (k0_pay24 (qrv m c) (krv m c)))
          -∗ wp frame (wpE (defs₀ (F := F)) 𝒱₀ (c : Thread nD τ) none) Set.univ
            (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v27 (qrv m c) (krv m c) v298) Q) := by
  rw [k0_part12_eq_skeleton]; unfold k0_part12_skel
  simp only [semSignalWord, semWaitWord, Prog.lift, Prog.bind_op, Prog.bind_ret, Prog.pure_eq_ret, wp_deviceId]
  iintro ⟨#HR, S4, G4, Ks4, OW, S5, G5, Ks5, R⟩ Hk
  iapply (wp_send (Wm m) K c _ 4 (dev9_eq c) 17 rfl rfl) $$ [S4 G4 Ks4 OW]
  · isplitr; · iexact HR
    isplitl [S4]; · iexact S4
    isplitl [G4]; · iexact G4
    isplitl [Ks4]; · iexact Ks4
    iexact OW
  iintro ⟨Fl4, OW⟩
  iapply (wp_send (Wm m) K c _ 5 (dev10_eq c) 16 rfl rfl) $$ [S5 G5 Ks5 OW]
  · isplitr; · iexact HR
    isplitl [S5]; · iexact S5
    isplitl [G5]; · iexact G5
    isplitl [Ks5]; · iexact Ks5
    iexact OW
  iintro ⟨Fl5, OW⟩
  iapply (wp_load_dead c (Memref.whole cc0_scratch3) (Rect.unit (s := S512x4096) ![0, 0] S256x256.size inb_S512x4096_S256x256_0_0) (ropeS 0) (ropeT m c)) $$ R
  iintro %_ R
  iapply (wp_store_ag c (Memref.whole cc0_scratch3) (Rect.unit (s := S512x4096) ![0, 0] S256x256.size inb_S512x4096_S256x256_0_0) (ropeS 0) (ropeS 1) (ropeT m c) (k0_pay23 (qrv m c) (krv m c))
    ((show (k0_pay23 (qrv m c) (krv m c)) = ropePay 0 0 (qrv m c) (krv m c) from rfl).trans (rope_ld m c 0 0 _ rfl rfl _).symm)
    (fun i hi => ropeS_step 0 0 (by decide) _ rfl rfl _ 0 rfl i hi)) $$ R
  iintro R
  rw [wp_ret]; imodintro
  iapply Hk
  isplitl [OW]; · iexact OW
  isplitl [Fl4]; · iexact Fl4
  isplitl [Fl5]; · iexact Fl5
  iexact R

theorem part13 (Q : (Σ' (v366 : FVec F S256x32 .bf16), FVec F S256x32 .bf16) → sProp (MT nD τ sig Unit (Elt F) ℕ UU ℕ))  :
    iprop(ag c (Memref.whole cc0_scratch3) (ropeS 1) (ropeT m c))
      ⊢ iprop(((ag c (Memref.whole cc0_scratch3) (ropeS 6) (ropeT m c)) -∗ Q ⟨(k0_pay30 (qrv m c)), (k0_pay31 (krv m c))⟩)
          -∗ wp frame (wpE (defs₀ (F := F)) 𝒱₀ (c : Thread nD τ) none) Set.univ
            (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qrv m c) (krv m c) (k0_pay24 (qrv m c) (krv m c))) Q) := by
  rw [k0_part13_eq_skeleton]; unfold k0_part13_skel
  simp only [semSignalWord, semWaitWord, Prog.lift, Prog.bind_op, Prog.bind_ret, Prog.pure_eq_ret, wp_deviceId]
  iintro R Hk
  iapply (wp_load_dead c (Memref.whole cc0_scratch3) (Rect.unit (s := S512x4096) ![0, 256] S256x256.size inb_S512x4096_S256x256_0_256) (ropeS 1) (ropeT m c)) $$ R
  iintro %_ R
  iapply (wp_store_ag c (Memref.whole cc0_scratch3) (Rect.unit (s := S512x4096) ![0, 256] S256x256.size inb_S512x4096_S256x256_0_256) (ropeS 1) (ropeS 2) (ropeT m c) (k0_pay25 (k0_pay24 (qrv m c) (krv m c)))
    ((show (k0_pay25 (k0_pay24 (qrv m c) (krv m c))) = ropePay 0 1 (qrv m c) (krv m c) from rfl).trans (rope_ld m c 0 1 _ rfl rfl _).symm)
    (fun i hi => ropeS_step 0 1 (by decide) _ rfl rfl _ 1 rfl i hi)) $$ R
  iintro R
  iapply (wp_load_dead c (Memref.whole cc0_scratch3) (Rect.unit (s := S512x4096) ![0, 512] S256x256.size inb_S512x4096_S256x256_0_512) (ropeS 2) (ropeT m c)) $$ R
  iintro %_ R
  iapply (wp_store_ag c (Memref.whole cc0_scratch3) (Rect.unit (s := S512x4096) ![0, 512] S256x256.size inb_S512x4096_S256x256_0_512) (ropeS 2) (ropeS 3) (ropeT m c) (k0_pay26 (qrv m c) (krv m c))
    ((show (k0_pay26 (qrv m c) (krv m c)) = ropePay 0 2 (qrv m c) (krv m c) from rfl).trans (rope_ld m c 0 2 _ rfl rfl _).symm)
    (fun i hi => ropeS_step 0 2 (by decide) _ rfl rfl _ 2 rfl i hi)) $$ R
  iintro R
  iapply (wp_load_dead c (Memref.whole cc0_scratch3) (Rect.unit (s := S512x4096) ![0, 768] S256x256.size inb_S512x4096_S256x256_0_768) (ropeS 3) (ropeT m c)) $$ R
  iintro %_ R
  iapply (wp_store_ag c (Memref.whole cc0_scratch3) (Rect.unit (s := S512x4096) ![0, 768] S256x256.size inb_S512x4096_S256x256_0_768) (ropeS 3) (ropeS 4) (ropeT m c) (k0_pay27 (qrv m c) (krv m c))
    ((show (k0_pay27 (qrv m c) (krv m c)) = ropePay 0 3 (qrv m c) (krv m c) from rfl).trans (rope_ld m c 0 3 _ rfl rfl _).symm)
    (fun i hi => ropeS_step 0 3 (by decide) _ rfl rfl _ 3 rfl i hi)) $$ R
  iintro R
  iapply (wp_load_dead c (Memref.whole cc0_scratch3) (Rect.unit (s := S512x4096) ![0, 1024] S256x256.size inb_S512x4096_S256x256_0_1024) (ropeS 4) (ropeT m c)) $$ R
  iintro %_ R
  iapply (wp_store_ag c (Memref.whole cc0_scratch3) (Rect.unit (s := S512x4096) ![0, 1024] S256x256.size inb_S512x4096_S256x256_0_1024) (ropeS 4) (ropeS 5) (ropeT m c) (k0_pay28 (qrv m c) (krv m c))
    ((show (k0_pay28 (qrv m c) (krv m c)) = ropePay 0 4 (qrv m c) (krv m c) from rfl).trans (rope_ld m c 0 4 _ rfl rfl _).symm)
    (fun i hi => ropeS_step 0 4 (by decide) _ rfl rfl _ 4 rfl i hi)) $$ R
  iintro R
  iapply (wp_load_dead c (Memref.whole cc0_scratch3) (Rect.unit (s := S512x4096) ![0, 1280] S256x256.size inb_S512x4096_S256x256_0_1280) (ropeS 5) (ropeT m c)) $$ R
  iintro %_ R
  iapply (wp_store_ag c (Memref.whole cc0_scratch3) (Rect.unit (s := S512x4096) ![0, 1280] S256x256.size inb_S512x4096_S256x256_0_1280) (ropeS 5) (ropeS 6) (ropeT m c) (k0_pay29 (qrv m c) (krv m c))
    ((show (k0_pay29 (qrv m c) (krv m c)) = ropePay 0 5 (qrv m c) (krv m c) from rfl).trans (rope_ld m c 0 5 _ rfl rfl _).symm)
    (fun i hi => ropeS_step 0 5 (by decide) _ rfl rfl _ 5 rfl i hi)) $$ R
  iintro R
  rw [wp_ret]; imodintro
  iapply Hk
  iexact R

theorem part14 (Q : (Σ' (v402 : FVec F S256x256 .f32), Vec F S256x256 .f32) → sProp (MT nD τ sig Unit (Elt F) ℕ UU ℕ))  :
    iprop(ag c (Memref.whole cc0_scratch3) (ropeS 6) (ropeT m c))
      ⊢ iprop((∀ v403 : Vec F S256x256 .f32, (ag c (Memref.whole cc0_scratch3) (ropeS 10) (ropeT m c)) -∗ Q ⟨(k0_pay36 (qrv m c) (krv m c)), v403⟩)
          -∗ wp frame (wpE (defs₀ (F := F)) 𝒱₀ (c : Thread nD τ) none) Set.univ
            (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qrv m c) (krv m c) (k0_pay30 (qrv m c)) (k0_pay31 (krv m c))) Q) := by
  rw [k0_part14_eq_skeleton]; unfold k0_part14_skel
  simp only [semSignalWord, semWaitWord, Prog.lift, Prog.bind_op, Prog.bind_ret, Prog.pure_eq_ret, wp_deviceId]
  iintro R Hk
  iapply (wp_load_dead c (Memref.whole cc0_scratch3) (Rect.unit (s := S512x4096) ![0, 1536] S256x256.size inb_S512x4096_S256x256_0_1536) (ropeS 6) (ropeT m c)) $$ R
  iintro %_ R
  iapply (wp_store_ag c (Memref.whole cc0_scratch3) (Rect.unit (s := S512x4096) ![0, 1536] S256x256.size inb_S512x4096_S256x256_0_1536) (ropeS 6) (ropeS 7) (ropeT m c) (k0_pay32 (k0_pay30 (qrv m c)) (k0_pay31 (krv m c)))
    ((show (k0_pay32 (k0_pay30 (qrv m c)) (k0_pay31 (krv m c))) = ropePay 0 6 (qrv m c) (krv m c) from rfl).trans (rope_ld m c 0 6 _ rfl rfl _).symm)
    (fun i hi => ropeS_step 0 6 (by decide) _ rfl rfl _ 6 rfl i hi)) $$ R
  iintro R
  iapply (wp_load_dead c (Memref.whole cc0_scratch3) (Rect.unit (s := S512x4096) ![0, 1792] S256x256.size inb_S512x4096_S256x256_0_1792) (ropeS 7) (ropeT m c)) $$ R
  iintro %_ R
  iapply (wp_store_ag c (Memref.whole cc0_scratch3) (Rect.unit (s := S512x4096) ![0, 1792] S256x256.size inb_S512x4096_S256x256_0_1792) (ropeS 7) (ropeS 8) (ropeT m c) (k0_pay33 (qrv m c) (krv m c))
    ((show (k0_pay33 (qrv m c) (krv m c)) = ropePay 0 7 (qrv m c) (krv m c) from rfl).trans (rope_ld m c 0 7 _ rfl rfl _).symm)
    (fun i hi => ropeS_step 0 7 (by decide) _ rfl rfl _ 7 rfl i hi)) $$ R
  iintro R
  iapply (wp_load_dead c (Memref.whole cc0_scratch3) (Rect.unit (s := S512x4096) ![0, 2048] S256x256.size inb_S512x4096_S256x256_0_2048) (ropeS 8) (ropeT m c)) $$ R
  iintro %_ R
  iapply (wp_store_ag c (Memref.whole cc0_scratch3) (Rect.unit (s := S512x4096) ![0, 2048] S256x256.size inb_S512x4096_S256x256_0_2048) (ropeS 8) (ropeS 9) (ropeT m c) (k0_pay34 (qrv m c) (krv m c))
    ((show (k0_pay34 (qrv m c) (krv m c)) = ropePay 0 8 (qrv m c) (krv m c) from rfl).trans (rope_ld m c 0 8 _ rfl rfl _).symm)
    (fun i hi => ropeS_step 0 8 (by decide) _ rfl rfl _ 8 rfl i hi)) $$ R
  iintro R
  iapply (wp_load_dead c (Memref.whole cc0_scratch3) (Rect.unit (s := S512x4096) ![0, 2304] S256x256.size inb_S512x4096_S256x256_0_2304) (ropeS 9) (ropeT m c)) $$ R
  iintro %_ R
  iapply (wp_store_ag c (Memref.whole cc0_scratch3) (Rect.unit (s := S512x4096) ![0, 2304] S256x256.size inb_S512x4096_S256x256_0_2304) (ropeS 9) (ropeS 10) (ropeT m c) (k0_pay35 (qrv m c) (krv m c))
    ((show (k0_pay35 (qrv m c) (krv m c)) = ropePay 0 9 (qrv m c) (krv m c) from rfl).trans (rope_ld m c 0 9 _ rfl rfl _).symm)
    (fun i hi => ropeS_step 0 9 (by decide) _ rfl rfl _ 9 rfl i hi)) $$ R
  iintro R
  iapply (wp_load_dead c (Memref.whole cc0_scratch3) (Rect.unit (s := S512x4096) ![0, 2560] S256x256.size inb_S512x4096_S256x256_0_2560) (ropeS 10) (ropeT m c)) $$ R
  iintro %v403 R
  rw [wp_ret]; imodintro
  iapply Hk
  iexact R

theorem part15 (Q : (Σ' (v440 : FVec F S256x256 .f32), F .f32) → sProp (MT nD τ sig Unit (Elt F) ℕ UU ℕ)) (v403 : Vec F S256x256 .f32) :
    iprop(ag c (Memref.whole cc0_scratch3) (ropeS 10) (ropeT m c))
      ⊢ iprop(((ag c (Memref.whole cc0_scratch3) (ropeS 15) (ropeT m c)) -∗ Q ⟨(k0_pay42 (qrv m c) (krv m c)), ((Scalar.ofBits .f32 0x3DD105EC#32))⟩)
          -∗ wp frame (wpE (defs₀ (F := F)) 𝒱₀ (c : Thread nD τ) none) Set.univ
            (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qrv m c) (krv m c) (k0_pay36 (qrv m c) (krv m c)) v403) Q) := by
  rw [k0_part15_eq_skeleton]; unfold k0_part15_skel
  simp only [semSignalWord, semWaitWord, Prog.lift, Prog.bind_op, Prog.bind_ret, Prog.pure_eq_ret, wp_deviceId]
  iintro R Hk
  iapply (wp_store_ag c (Memref.whole cc0_scratch3) (Rect.unit (s := S512x4096) ![0, 2560] S256x256.size inb_S512x4096_S256x256_0_2560) (ropeS 10) (ropeS 11) (ropeT m c) (k0_pay37 (k0_pay36 (qrv m c) (krv m c)))
    ((show (k0_pay37 (k0_pay36 (qrv m c) (krv m c))) = ropePay 0 10 (qrv m c) (krv m c) from rfl).trans (rope_ld m c 0 10 _ rfl rfl _).symm)
    (fun i hi => ropeS_step 0 10 (by decide) _ rfl rfl _ 10 rfl i hi)) $$ R
  iintro R
  iapply (wp_load_dead c (Memref.whole cc0_scratch3) (Rect.unit (s := S512x4096) ![0, 2816] S256x256.size inb_S512x4096_S256x256_0_2816) (ropeS 11) (ropeT m c)) $$ R
  iintro %_ R
  iapply (wp_store_ag c (Memref.whole cc0_scratch3) (Rect.unit (s := S512x4096) ![0, 2816] S256x256.size inb_S512x4096_S256x256_0_2816) (ropeS 11) (ropeS 12) (ropeT m c) (k0_pay38 (qrv m c) (krv m c))
    ((show (k0_pay38 (qrv m c) (krv m c)) = ropePay 0 11 (qrv m c) (krv m c) from rfl).trans (rope_ld m c 0 11 _ rfl rfl _).symm)
    (fun i hi => ropeS_step 0 11 (by decide) _ rfl rfl _ 11 rfl i hi)) $$ R
  iintro R
  iapply (wp_load_dead c (Memref.whole cc0_scratch3) (Rect.unit (s := S512x4096) ![0, 3072] S256x256.size inb_S512x4096_S256x256_0_3072) (ropeS 12) (ropeT m c)) $$ R
  iintro %_ R
  iapply (wp_store_ag c (Memref.whole cc0_scratch3) (Rect.unit (s := S512x4096) ![0, 3072] S256x256.size inb_S512x4096_S256x256_0_3072) (ropeS 12) (ropeS 13) (ropeT m c) (k0_pay39 (qrv m c) (krv m c))
    ((show (k0_pay39 (qrv m c) (krv m c)) = ropePay 0 12 (qrv m c) (krv m c) from rfl).trans (rope_ld m c 0 12 _ rfl rfl _).symm)
    (fun i hi => ropeS_step 0 12 (by decide) _ rfl rfl _ 12 rfl i hi)) $$ R
  iintro R
  iapply (wp_load_dead c (Memref.whole cc0_scratch3) (Rect.unit (s := S512x4096) ![0, 3328] S256x256.size inb_S512x4096_S256x256_0_3328) (ropeS 13) (ropeT m c)) $$ R
  iintro %_ R
  iapply (wp_store_ag c (Memref.whole cc0_scratch3) (Rect.unit (s := S512x4096) ![0, 3328] S256x256.size inb_S512x4096_S256x256_0_3328) (ropeS 13) (ropeS 14) (ropeT m c) (k0_pay40 (qrv m c) (krv m c))
    ((show (k0_pay40 (qrv m c) (krv m c)) = ropePay 0 13 (qrv m c) (krv m c) from rfl).trans (rope_ld m c 0 13 _ rfl rfl _).symm)
    (fun i hi => ropeS_step 0 13 (by decide) _ rfl rfl _ 13 rfl i hi)) $$ R
  iintro R
  iapply (wp_load_dead c (Memref.whole cc0_scratch3) (Rect.unit (s := S512x4096) ![0, 3584] S256x256.size inb_S512x4096_S256x256_0_3584) (ropeS 14) (ropeT m c)) $$ R
  iintro %_ R
  iapply (wp_store_ag c (Memref.whole cc0_scratch3) (Rect.unit (s := S512x4096) ![0, 3584] S256x256.size inb_S512x4096_S256x256_0_3584) (ropeS 14) (ropeS 15) (ropeT m c) (k0_pay41 (qrv m c) (krv m c))
    ((show (k0_pay41 (qrv m c) (krv m c)) = ropePay 0 14 (qrv m c) (krv m c) from rfl).trans (rope_ld m c 0 14 _ rfl rfl _).symm)
    (fun i hi => ropeS_step 0 14 (by decide) _ rfl rfl _ 14 rfl i hi)) $$ R
  iintro R
  rw [wp_ret]; imodintro
  iapply Hk
  iexact R

theorem part16 (Q : (PUnit) → sProp (MT nD τ sig Unit (Elt F) ℕ UU ℕ)) (v24 : BitVec 32) :
    iprop(records (Wm m) K ∗ levAts L lv ∗ ag c (Memref.whole cc0_scratch3) (ropeS 15) (ropeT m c) ∗ flyS c 4 ∗ ow c 16 ∗ kitR c 4)
      ⊢ iprop(((ag c (Memref.whole cc0_scratch3) (ropeS 16) (ropeT m c) ∗ ow c 16 ∗ semVal (kcell c (kSnd 4)) 0 ∗ sendPay (Wm m) 4 c ∗ semVal (kcell c (kRcv 4)) 0 ∗ recvPay (Wm m) 4 c) -∗ Q ⟨⟩)
          -∗ wp frame (wpE (defs₀ (F := F)) 𝒱₀ (c : Thread nD τ) none) Set.univ
            (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 v24 (k0_pay42 (qrv m c) (krv m c)) ((Scalar.ofBits .f32 0x3DD105EC#32))) Q) := by
  rw [k0_part16_eq_skeleton]; unfold k0_part16_skel
  simp only [semSignalWord, semWaitWord, Prog.lift, Prog.bind_op, Prog.bind_ret, Prog.pure_eq_ret, wp_deviceId]
  iintro ⟨#HR, #Hlev, R, Fl4, OW, Kr4⟩ Hk
  iapply (wp_load_dead c (Memref.whole cc0_scratch3) (Rect.unit (s := S512x4096) ![0, 3840] S256x256.size inb_S512x4096_S256x256_0_3840) (ropeS 15) (ropeT m c)) $$ R
  iintro %_ R
  iapply (wp_store_ag c (Memref.whole cc0_scratch3) (Rect.unit (s := S512x4096) ![0, 3840] S256x256.size inb_S512x4096_S256x256_0_3840) (ropeS 15) (ropeS 16) (ropeT m c) (k0_pay43 (k0_pay42 (qrv m c) (krv m c)) ((Scalar.ofBits .f32 0x3DD105EC#32)))
    ((show (k0_pay43 (k0_pay42 (qrv m c) (krv m c)) ((Scalar.ofBits .f32 0x3DD105EC#32))) = ropePay 0 15 (qrv m c) (krv m c) from rfl).trans (rope_ld m c 0 15 _ rfl rfl _).symm)
    (fun i hi => ropeS_step 0 15 (by decide) _ rfl rfl _ 15 rfl i hi)) $$ R
  iintro R
  iapply (wp_waitSnd (Wm m) K c 4 16 (by decide) rfl) $$ [Fl4 OW]
  · isplitr; · iexact HR
    isplitr; · iexact Hlev
    isplitl [Fl4]; · iexact Fl4
    iexact OW
  iintro ⟨OW, Zs4, S4⟩
  iapply (wp_waitRcv (Wm m) K c 4 16 (by decide)) $$ [Kr4 OW]
  · isplitr; · iexact HR
    isplitr; · iexact Hlev
    isplitl [Kr4]; · iexact Kr4
    iexact OW
  iintro ⟨OW, Zr4, V4⟩
  rw [wp_ret]; imodintro
  iapply Hk
  isplitl [R]; · iexact R
  isplitl [OW]; · iexact OW
  isplitl [Zs4]; · iexact Zs4
  isplitl [S4]; · iexact S4
  isplitl [Zr4]; · iexact Zr4
  iexact V4

theorem part17 (Q : (Σ' (v485 : FVec F S128x1024 .f32) (v486 : BitVec 32), BitVec 32) → sProp (MT nD τ sig Unit (Elt F) ℕ UU ℕ)) (v20 : BitVec 32) (v27 : BitVec 32) :
    iprop(records (Wm m) K ∗ levAts L lv ∗ flyS c 5 ∗ ow c 16 ∗ kitR c 5 ∗ owns (c : Thread nD τ) (Memref.whole cc0_scratch0) fullShare (A4 m c) ∗ recvPay (Wm m) 4 c)
      ⊢ iprop((∀ v486 : BitVec 32, ∀ c0_i32_451 : BitVec 32, (ow c 16 ∗ semVal (kcell c (kSnd 5)) 0 ∗ sendPay (Wm m) 5 c ∗ semVal (kcell c (kRcv 5)) 0 ∗ recvPay (Wm m) 5 c ∗ owns (c : Thread nD τ) (Memref.whole cc0_scratch0) fullShare (A4 m c) ∗ recvPay (Wm m) 4 c) -∗ Q ⟨(k0_pay44 (v481 m c) (v482 m c)), v486, c0_i32_451⟩)
          -∗ wp frame (wpE (defs₀ (F := F)) 𝒱₀ (c : Thread nD τ) none) Set.univ
            (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v20 v27) Q) := by
  rw [k0_part17_eq_skeleton]; unfold k0_part17_skel
  simp only [semSignalWord, semWaitWord, Prog.lift, Prog.bind_op, Prog.bind_ret, Prog.pure_eq_ret, wp_deviceId]
  iintro ⟨#HR, #Hlev, Fl5, OW, Kr5, A, V4⟩ Hk
  iapply (wp_waitSnd (Wm m) K c 5 16 (by decide) rfl) $$ [Fl5 OW]
  · isplitr; · iexact HR
    isplitr; · iexact Hlev
    isplitl [Fl5]; · iexact Fl5
    iexact OW
  iintro ⟨OW, Zs5, S5⟩
  iapply (wp_waitRcv (Wm m) K c 5 16 (by decide)) $$ [Kr5 OW]
  · isplitr; · iexact HR
    isplitr; · iexact Hlev
    isplitl [Kr5]; · iexact Kr5
    iexact OW
  iintro ⟨OW, Zr5, V5⟩
  iapply (wp_load_as c (Memref.whole cc0_scratch0) (Rect.unit (s := S1024x1024) (k0_off3 c 2#32) S128x1024.size (k0_off3_inb c 2)) (A4 m c) (v481 m c) rfl) $$ A
  iintro A
  iapply (ld_recv4 m c) $$ V4
  iintro V4
  rw [wp_ret]; imodintro
  iapply Hk
  isplitl [OW]; · iexact OW
  isplitl [Zs5]; · iexact Zs5
  isplitl [S5]; · iexact S5
  isplitl [Zr5]; · iexact Zr5
  isplitl [V5]; · iexact V5
  isplitl [A]; · iexact A
  iexact V4

theorem part18 (Q : (PUnit) → sProp (MT nD τ sig Unit (Elt F) ℕ UU ℕ)) (v20 : BitVec 32) (v28 : BitVec 32) (v83 : BitVec 32) (v85 : BitVec 32) (v486 : BitVec 32) (c0_i32_451 : BitVec 32) :
    iprop(owns (c : Thread nD τ) (Memref.whole cc0_scratch0) fullShare (A4 m c) ∗ anyB c (tx 6).src ∗ recvPay (Wm m) 5 c)
      ⊢ iprop(((owns (c : Thread nD τ) (Memref.whole cc0_scratch0) fullShare (A6 m c) ∗ sendPay (Wm m) 6 c ∗ recvPay (Wm m) 5 c) -∗ Q ⟨⟩)
          -∗ wp frame (wpE (defs₀ (F := F)) 𝒱₀ (c : Thread nD τ) none) Set.univ
            (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v20 v28 v83 v85 (k0_pay44 (v481 m c) (v482 m c)) v486 c0_i32_451) Q) := by
  rw [k0_part18_eq_skeleton]; unfold k0_part18_skel
  simp only [semSignalWord, semWaitWord, Prog.lift, Prog.bind_op, Prog.bind_ret, Prog.pure_eq_ret, wp_deviceId]
  iintro ⟨A, S6, V5⟩ Hk
  iapply (wp_load_as c (Memref.whole cc0_scratch0) (Rect.unit (s := S1024x1024) (k0_off3 c 2#32) S128x1024.size (k0_off3_inb c 2)) (A4 m c) _ rfl) $$ A
  iintro A
  iapply (wp_store_as c (Memref.whole cc0_scratch0) (Rect.unit (s := S1024x1024) (k0_off3 c 2#32) S128x1024.size (k0_off3_inb c 2)) (A4 m c) (A5 m c) (k0_pay45 (k0_pay44 (v481 m c) (v482 m c))) rfl) $$ A
  iintro A
  iapply (wp_load_as c (Memref.whole cc0_scratch0) (Rect.unit (s := S1024x1024) (k0_off5 c) S64x1024.size (k0_off5_inb c)) (A5 m c) (v496 m c) rfl) $$ A
  iintro A
  iapply (ld_send6 c) $$ S6
  iintro %_ S6
  iapply (st_send6 m c (k0_pay46 (v496 m c)) rfl) $$ S6
  iintro S6
  iapply (wp_load_as c (Memref.whole cc0_scratch0) (Rect.unit (s := S1024x1024) (k0_off4 c 2#32) S128x1024.size (k0_off4_inb c 2)) (A5 m c) (v507 m c) rfl) $$ A
  iintro A
  iapply (ld_recv5 m c) $$ V5
  iintro V5
  iapply (wp_load_as c (Memref.whole cc0_scratch0) (Rect.unit (s := S1024x1024) (k0_off4 c 2#32) S128x1024.size (k0_off4_inb c 2)) (A5 m c) _ rfl) $$ A
  iintro A
  iapply (wp_store_as c (Memref.whole cc0_scratch0) (Rect.unit (s := S1024x1024) (k0_off4 c 2#32) S128x1024.size (k0_off4_inb c 2)) (A5 m c) (A6 m c) (k0_pay47 (v507 m c) (v508 m c)) rfl) $$ A
  iintro A
  rw [wp_ret]; imodintro
  iapply Hk
  isplitl [A]; · iexact A
  isplitl [S6]; · iexact S6
  iexact V5

theorem part19 (Q : (FVec F S256x256 .f32) → sProp (MT nD τ sig Unit (Elt F) ℕ UU ℕ)) (v49 : BitVec 32) :
    iprop(records (Wm m) K ∗ owns (c : Thread nD τ) (Memref.whole cc0_scratch0) fullShare (A6 m c) ∗ anyB c (tx 7).src ∗ sendPay (Wm m) 6 c ∗ slotG (nb 2 c) 6 ∗ kitS c 6 ∗ ow c 16 ∗ slotG (nb 2 c) 7 ∗ kitS c 7)
      ⊢ iprop(((owns (c : Thread nD τ) (Memref.whole cc0_scratch0) fullShare (A6 m c) ∗ ow c 14 ∗ flyS c 6 ∗ flyS c 7) -∗ Q (k0_pay49 (qrv m c) (krv m c)))
          -∗ wp frame (wpE (defs₀ (F := F)) 𝒱₀ (c : Thread nD τ) none) Set.univ
            (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v49 (qrv m c) (krv m c)) Q) := by
  rw [k0_part19_eq_skeleton]; unfold k0_part19_skel
  simp only [semSignalWord, semWaitWord, Prog.lift, Prog.bind_op, Prog.bind_ret, Prog.pure_eq_ret, wp_deviceId]
  iintro ⟨#HR, A, S7, S6, G6, Ks6, OW, G7, Ks7⟩ Hk
  iapply (wp_load_as c (Memref.whole cc0_scratch0) (Rect.unit (s := S1024x1024) (k0_off6 c) S64x1024.size (k0_off6_inb c)) (A6 m c) (v522 m c) rfl) $$ A
  iintro A
  iapply (ld_send7 c) $$ S7
  iintro %_ S7
  iapply (st_send7 m c (k0_pay48 (v522 m c)) rfl) $$ S7
  iintro S7
  iapply (wp_send (Wm m) K c _ 6 (dev11_eq c) 15 rfl rfl) $$ [S6 G6 Ks6 OW]
  · isplitr; · iexact HR
    isplitl [S6]; · iexact S6
    isplitl [G6]; · iexact G6
    isplitl [Ks6]; · iexact Ks6
    iexact OW
  iintro ⟨Fl6, OW⟩
  iapply (wp_send (Wm m) K c _ 7 (dev12_eq c) 14 rfl rfl) $$ [S7 G7 Ks7 OW]
  · isplitr; · iexact HR
    isplitl [S7]; · iexact S7
    isplitl [G7]; · iexact G7
    isplitl [Ks7]; · iexact Ks7
    iexact OW
  iintro ⟨Fl7, OW⟩
  rw [wp_ret]; imodintro
  iapply Hk
  isplitl [A]; · iexact A
  isplitl [OW]; · iexact OW
  isplitl [Fl6]; · iexact Fl6
  iexact Fl7

theorem part20 (Q : (FVec F S256x256 .f32) → sProp (MT nD τ sig Unit (Elt F) ℕ UU ℕ))  :
    iprop(ag c (Memref.whole cc0_scratch3) (ropeS 16) (ropeT m c))
      ⊢ iprop(((ag c (Memref.whole cc0_scratch3) (ropeS 20) (ropeT m c)) -∗ Q (k0_pay54 (qrv m c) (krv m c)))
          -∗ wp frame (wpE (defs₀ (F := F)) 𝒱₀ (c : Thread nD τ) none) Set.univ
            (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qrv m c) (krv m c) (k0_pay49 (qrv m c) (krv m c))) Q) := by
  rw [k0_part20_eq_skeleton]; unfold k0_part20_skel
  simp only [semSignalWord, semWaitWord, Prog.lift, Prog.bind_op, Prog.bind_ret, Prog.pure_eq_ret, wp_deviceId]
  iintro R Hk
  iapply (wp_load_dead c (Memref.whole cc0_scratch3) (Rect.unit (s := S512x4096) ![256, 0] S256x256.size inb_S512x4096_S256x256_256_0) (ropeS 16) (ropeT m c)) $$ R
  iintro %_ R
  iapply (wp_store_ag c (Memref.whole cc0_scratch3) (Rect.unit (s := S512x4096) ![256, 0] S256x256.size inb_S512x4096_S256x256_256_0) (ropeS 16) (ropeS 17) (ropeT m c) (k0_pay50 (k0_pay49 (qrv m c) (krv m c)))
    ((show (k0_pay50 (k0_pay49 (qrv m c) (krv m c))) = ropePay 1 0 (qrv m c) (krv m c) from rfl).trans (rope_ld m c 1 0 _ rfl rfl _).symm)
    (fun i hi => ropeS_step 1 0 (by decide) _ rfl rfl _ 16 rfl i hi)) $$ R
  iintro R
  iapply (wp_load_dead c (Memref.whole cc0_scratch3) (Rect.unit (s := S512x4096) ![256, 256] S256x256.size inb_S512x4096_S256x256_256_256) (ropeS 17) (ropeT m c)) $$ R
  iintro %_ R
  iapply (wp_store_ag c (Memref.whole cc0_scratch3) (Rect.unit (s := S512x4096) ![256, 256] S256x256.size inb_S512x4096_S256x256_256_256) (ropeS 17) (ropeS 18) (ropeT m c) (k0_pay51 (qrv m c) (krv m c))
    ((show (k0_pay51 (qrv m c) (krv m c)) = ropePay 1 1 (qrv m c) (krv m c) from rfl).trans (rope_ld m c 1 1 _ rfl rfl _).symm)
    (fun i hi => ropeS_step 1 1 (by decide) _ rfl rfl _ 17 rfl i hi)) $$ R
  iintro R
  iapply (wp_load_dead c (Memref.whole cc0_scratch3) (Rect.unit (s := S512x4096) ![256, 512] S256x256.size inb_S512x4096_S256x256_256_512) (ropeS 18) (ropeT m c)) $$ R
  iintro %_ R
  iapply (wp_store_ag c (Memref.whole cc0_scratch3) (Rect.unit (s := S512x4096) ![256, 512] S256x256.size inb_S512x4096_S256x256_256_512) (ropeS 18) (ropeS 19) (ropeT m c) (k0_pay52 (qrv m c) (krv m c))
    ((show (k0_pay52 (qrv m c) (krv m c)) = ropePay 1 2 (qrv m c) (krv m c) from rfl).trans (rope_ld m c 1 2 _ rfl rfl _).symm)
    (fun i hi => ropeS_step 1 2 (by decide) _ rfl rfl _ 18 rfl i hi)) $$ R
  iintro R
  iapply (wp_load_dead c (Memref.whole cc0_scratch3) (Rect.unit (s := S512x4096) ![256, 768] S256x256.size inb_S512x4096_S256x256_256_768) (ropeS 19) (ropeT m c)) $$ R
  iintro %_ R
  iapply (wp_store_ag c (Memref.whole cc0_scratch3) (Rect.unit (s := S512x4096) ![256, 768] S256x256.size inb_S512x4096_S256x256_256_768) (ropeS 19) (ropeS 20) (ropeT m c) (k0_pay53 (qrv m c) (krv m c))
    ((show (k0_pay53 (qrv m c) (krv m c)) = ropePay 1 3 (qrv m c) (krv m c) from rfl).trans (rope_ld m c 1 3 _ rfl rfl _).symm)
    (fun i hi => ropeS_step 1 3 (by decide) _ rfl rfl _ 19 rfl i hi)) $$ R
  iintro R
  iapply (wp_load_dead c (Memref.whole cc0_scratch3) (Rect.unit (s := S512x4096) ![256, 1024] S256x256.size inb_S512x4096_S256x256_256_1024) (ropeS 20) (ropeT m c)) $$ R
  iintro %_ R
  rw [wp_ret]; imodintro
  iapply Hk
  iexact R

theorem part21 (Q : (FVec F S256x256 .f32) → sProp (MT nD τ sig Unit (Elt F) ℕ UU ℕ))  :
    iprop(ag c (Memref.whole cc0_scratch3) (ropeS 20) (ropeT m c))
      ⊢ iprop(((ag c (Memref.whole cc0_scratch3) (ropeS 25) (ropeT m c)) -∗ Q (k0_pay59 (qrv m c) (krv m c)))
          -∗ wp frame (wpE (defs₀ (F := F)) 𝒱₀ (c : Thread nD τ) none) Set.univ
            (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qrv m c) (krv m c) (k0_pay54 (qrv m c) (krv m c))) Q) := by
  rw [k0_part21_eq_skeleton]; unfold k0_part21_skel
  simp only [semSignalWord, semWaitWord, Prog.lift, Prog.bind_op, Prog.bind_ret, Prog.pure_eq_ret, wp_deviceId]
  iintro R Hk
  iapply (wp_store_ag c (Memref.whole cc0_scratch3) (Rect.unit (s := S512x4096) ![256, 1024] S256x256.size inb_S512x4096_S256x256_256_1024) (ropeS 20) (ropeS 21) (ropeT m c) (k0_pay54 (qrv m c) (krv m c))
    ((show (k0_pay54 (qrv m c) (krv m c)) = ropePay 1 4 (qrv m c) (krv m c) from rfl).trans (rope_ld m c 1 4 _ rfl rfl _).symm)
    (fun i hi => ropeS_step 1 4 (by decide) _ rfl rfl _ 20 rfl i hi)) $$ R
  iintro R
  iapply (wp_load_dead c (Memref.whole cc0_scratch3) (Rect.unit (s := S512x4096) ![256, 1280] S256x256.size inb_S512x4096_S256x256_256_1280) (ropeS 21) (ropeT m c)) $$ R
  iintro %_ R
  iapply (wp_store_ag c (Memref.whole cc0_scratch3) (Rect.unit (s := S512x4096) ![256, 1280] S256x256.size inb_S512x4096_S256x256_256_1280) (ropeS 21) (ropeS 22) (ropeT m c) (k0_pay55 (qrv m c) (krv m c))
    ((show (k0_pay55 (qrv m c) (krv m c)) = ropePay 1 5 (qrv m c) (krv m c) from rfl).trans (rope_ld m c 1 5 _ rfl rfl _).symm)
    (fun i hi => ropeS_step 1 5 (by decide) _ rfl rfl _ 21 rfl i hi)) $$ R
  iintro R
  iapply (wp_load_dead c (Memref.whole cc0_scratch3) (Rect.unit (s := S512x4096) ![256, 1536] S256x256.size inb_S512x4096_S256x256_256_1536) (ropeS 22) (ropeT m c)) $$ R
  iintro %_ R
  iapply (wp_store_ag c (Memref.whole cc0_scratch3) (Rect.unit (s := S512x4096) ![256, 1536] S256x256.size inb_S512x4096_S256x256_256_1536) (ropeS 22) (ropeS 23) (ropeT m c) (k0_pay56 (qrv m c) (krv m c))
    ((show (k0_pay56 (qrv m c) (krv m c)) = ropePay 1 6 (qrv m c) (krv m c) from rfl).trans (rope_ld m c 1 6 _ rfl rfl _).symm)
    (fun i hi => ropeS_step 1 6 (by decide) _ rfl rfl _ 22 rfl i hi)) $$ R
  iintro R
  iapply (wp_load_dead c (Memref.whole cc0_scratch3) (Rect.unit (s := S512x4096) ![256, 1792] S256x256.size inb_S512x4096_S256x256_256_1792) (ropeS 23) (ropeT m c)) $$ R
  iintro %_ R
  iapply (wp_store_ag c (Memref.whole cc0_scratch3) (Rect.unit (s := S512x4096) ![256, 1792] S256x256.size inb_S512x4096_S256x256_256_1792) (ropeS 23) (ropeS 24) (ropeT m c) (k0_pay57 (qrv m c) (krv m c))
    ((show (k0_pay57 (qrv m c) (krv m c)) = ropePay 1 7 (qrv m c) (krv m c) from rfl).trans (rope_ld m c 1 7 _ rfl rfl _).symm)
    (fun i hi => ropeS_step 1 7 (by decide) _ rfl rfl _ 23 rfl i hi)) $$ R
  iintro R
  iapply (wp_load_dead c (Memref.whole cc0_scratch3) (Rect.unit (s := S512x4096) ![256, 2048] S256x256.size inb_S512x4096_S256x256_256_2048) (ropeS 24) (ropeT m c)) $$ R
  iintro %_ R
  iapply (wp_store_ag c (Memref.whole cc0_scratch3) (Rect.unit (s := S512x4096) ![256, 2048] S256x256.size inb_S512x4096_S256x256_256_2048) (ropeS 24) (ropeS 25) (ropeT m c) (k0_pay58 (qrv m c) (krv m c))
    ((show (k0_pay58 (qrv m c) (krv m c)) = ropePay 1 8 (qrv m c) (krv m c) from rfl).trans (rope_ld m c 1 8 _ rfl rfl _).symm)
    (fun i hi => ropeS_step 1 8 (by decide) _ rfl rfl _ 24 rfl i hi)) $$ R
  iintro R
  rw [wp_ret]; imodintro
  iapply Hk
  iexact R

theorem part22 (Q : (Σ' (v659 : FVec F S256x32 .bf16), FVec F S256x32 .bf16) → sProp (MT nD τ sig Unit (Elt F) ℕ UU ℕ))  :
    iprop(ag c (Memref.whole cc0_scratch3) (ropeS 25) (ropeT m c))
      ⊢ iprop(((ag c (Memref.whole cc0_scratch3) (ropeS 30) (ropeT m c)) -∗ Q ⟨(k0_pay65 (qrv m c)), (k0_pay66 (krv m c))⟩)
          -∗ wp frame (wpE (defs₀ (F := F)) 𝒱₀ (c : Thread nD τ) none) Set.univ
            (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qrv m c) (krv m c) (k0_pay59 (qrv m c) (krv m c))) Q) := by
  rw [k0_part22_eq_skeleton]; unfold k0_part22_skel
  simp only [semSignalWord, semWaitWord, Prog.lift, Prog.bind_op, Prog.bind_ret, Prog.pure_eq_ret, wp_deviceId]
  iintro R Hk
  iapply (wp_load_dead c (Memref.whole cc0_scratch3) (Rect.unit (s := S512x4096) ![256, 2304] S256x256.size inb_S512x4096_S256x256_256_2304) (ropeS 25) (ropeT m c)) $$ R
  iintro %_ R
  iapply (wp_store_ag c (Memref.whole cc0_scratch3) (Rect.unit (s := S512x4096) ![256, 2304] S256x256.size inb_S512x4096_S256x256_256_2304) (ropeS 25) (ropeS 26) (ropeT m c) (k0_pay60 (k0_pay59 (qrv m c) (krv m c)))
    ((show (k0_pay60 (k0_pay59 (qrv m c) (krv m c))) = ropePay 1 9 (qrv m c) (krv m c) from rfl).trans (rope_ld m c 1 9 _ rfl rfl _).symm)
    (fun i hi => ropeS_step 1 9 (by decide) _ rfl rfl _ 25 rfl i hi)) $$ R
  iintro R
  iapply (wp_load_dead c (Memref.whole cc0_scratch3) (Rect.unit (s := S512x4096) ![256, 2560] S256x256.size inb_S512x4096_S256x256_256_2560) (ropeS 26) (ropeT m c)) $$ R
  iintro %_ R
  iapply (wp_store_ag c (Memref.whole cc0_scratch3) (Rect.unit (s := S512x4096) ![256, 2560] S256x256.size inb_S512x4096_S256x256_256_2560) (ropeS 26) (ropeS 27) (ropeT m c) (k0_pay61 (qrv m c) (krv m c))
    ((show (k0_pay61 (qrv m c) (krv m c)) = ropePay 1 10 (qrv m c) (krv m c) from rfl).trans (rope_ld m c 1 10 _ rfl rfl _).symm)
    (fun i hi => ropeS_step 1 10 (by decide) _ rfl rfl _ 26 rfl i hi)) $$ R
  iintro R
  iapply (wp_load_dead c (Memref.whole cc0_scratch3) (Rect.unit (s := S512x4096) ![256, 2816] S256x256.size inb_S512x4096_S256x256_256_2816) (ropeS 27) (ropeT m c)) $$ R
  iintro %_ R
  iapply (wp_store_ag c (Memref.whole cc0_scratch3) (Rect.unit (s := S512x4096) ![256, 2816] S256x256.size inb_S512x4096_S256x256_256_2816) (ropeS 27) (ropeS 28) (ropeT m c) (k0_pay62 (qrv m c) (krv m c))
    ((show (k0_pay62 (qrv m c) (krv m c)) = ropePay 1 11 (qrv m c) (krv m c) from rfl).trans (rope_ld m c 1 11 _ rfl rfl _).symm)
    (fun i hi => ropeS_step 1 11 (by decide) _ rfl rfl _ 27 rfl i hi)) $$ R
  iintro R
  iapply (wp_load_dead c (Memref.whole cc0_scratch3) (Rect.unit (s := S512x4096) ![256, 3072] S256x256.size inb_S512x4096_S256x256_256_3072) (ropeS 28) (ropeT m c)) $$ R
  iintro %_ R
  iapply (wp_store_ag c (Memref.whole cc0_scratch3) (Rect.unit (s := S512x4096) ![256, 3072] S256x256.size inb_S512x4096_S256x256_256_3072) (ropeS 28) (ropeS 29) (ropeT m c) (k0_pay63 (qrv m c) (krv m c))
    ((show (k0_pay63 (qrv m c) (krv m c)) = ropePay 1 12 (qrv m c) (krv m c) from rfl).trans (rope_ld m c 1 12 _ rfl rfl _).symm)
    (fun i hi => ropeS_step 1 12 (by decide) _ rfl rfl _ 28 rfl i hi)) $$ R
  iintro R
  iapply (wp_load_dead c (Memref.whole cc0_scratch3) (Rect.unit (s := S512x4096) ![256, 3328] S256x256.size inb_S512x4096_S256x256_256_3328) (ropeS 29) (ropeT m c)) $$ R
  iintro %_ R
  iapply (wp_store_ag c (Memref.whole cc0_scratch3) (Rect.unit (s := S512x4096) ![256, 3328] S256x256.size inb_S512x4096_S256x256_256_3328) (ropeS 29) (ropeS 30) (ropeT m c) (k0_pay64 (qrv m c) (krv m c))
    ((show (k0_pay64 (qrv m c) (krv m c)) = ropePay 1 13 (qrv m c) (krv m c) from rfl).trans (rope_ld m c 1 13 _ rfl rfl _).symm)
    (fun i hi => ropeS_step 1 13 (by decide) _ rfl rfl _ 29 rfl i hi)) $$ R
  iintro R
  rw [wp_ret]; imodintro
  iapply Hk
  iexact R

theorem part23 (Q : (PUnit) → sProp (MT nD τ sig Unit (Elt F) ℕ UU ℕ)) (v49 : BitVec 32) :
    iprop(records (Wm m) K ∗ levAts L lv ∗ ag c (Memref.whole cc0_scratch3) (ropeS 30) (ropeT m c) ∗ flyS c 6 ∗ ow c 14)
      ⊢ iprop(((ag c (Memref.whole cc0_scratch3) (ropeS 32) (ropeT m c) ∗ ow c 14 ∗ semVal (kcell c (kSnd 6)) 0 ∗ sendPay (Wm m) 6 c) -∗ Q ⟨⟩)
          -∗ wp frame (wpE (defs₀ (F := F)) 𝒱₀ (c : Thread nD τ) none) Set.univ
            (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 v49 (qrv m c) (krv m c) (k0_pay65 (qrv m c)) (k0_pay66 (krv m c))) Q) := by
  rw [k0_part23_eq_skeleton]; unfold k0_part23_skel
  simp only [semSignalWord, semWaitWord, Prog.lift, Prog.bind_op, Prog.bind_ret, Prog.pure_eq_ret, wp_deviceId]
  iintro ⟨#HR, #Hlev, R, Fl6, OW⟩ Hk
  iapply (wp_load_dead c (Memref.whole cc0_scratch3) (Rect.unit (s := S512x4096) ![256, 3584] S256x256.size inb_S512x4096_S256x256_256_3584) (ropeS 30) (ropeT m c)) $$ R
  iintro %_ R
  iapply (wp_store_ag c (Memref.whole cc0_scratch3) (Rect.unit (s := S512x4096) ![256, 3584] S256x256.size inb_S512x4096_S256x256_256_3584) (ropeS 30) (ropeS 31) (ropeT m c) (k0_pay67 (k0_pay65 (qrv m c)) (k0_pay66 (krv m c)))
    ((show (k0_pay67 (k0_pay65 (qrv m c)) (k0_pay66 (krv m c))) = ropePay 1 14 (qrv m c) (krv m c) from rfl).trans (rope_ld m c 1 14 _ rfl rfl _).symm)
    (fun i hi => ropeS_step 1 14 (by decide) _ rfl rfl _ 30 rfl i hi)) $$ R
  iintro R
  iapply (wp_load_dead c (Memref.whole cc0_scratch3) (Rect.unit (s := S512x4096) ![256, 3840] S256x256.size inb_S512x4096_S256x256_256_3840) (ropeS 31) (ropeT m c)) $$ R
  iintro %_ R
  iapply (wp_store_ag c (Memref.whole cc0_scratch3) (Rect.unit (s := S512x4096) ![256, 3840] S256x256.size inb_S512x4096_S256x256_256_3840) (ropeS 31) (ropeS 32) (ropeT m c) (k0_pay68 (qrv m c) (krv m c))
    ((show (k0_pay68 (qrv m c) (krv m c)) = ropePay 1 15 (qrv m c) (krv m c) from rfl).trans (rope_ld m c 1 15 _ rfl rfl _).symm)
    (fun i hi => ropeS_step 1 15 (by decide) _ rfl rfl _ 31 rfl i hi)) $$ R
  iintro R
  iapply (wp_waitSnd (Wm m) K c 6 14 (by decide) rfl) $$ [Fl6 OW]
  · isplitr; · iexact HR
    isplitr; · iexact Hlev
    isplitl [Fl6]; · iexact Fl6
    iexact OW
  iintro ⟨OW, Zs6, S6⟩
  rw [wp_ret]; imodintro
  iapply Hk
  isplitl [R]; · iexact R
  isplitl [OW]; · iexact OW
  isplitl [Zs6]; · iexact Zs6
  iexact S6

end Cert.Exch

end
-- ==== Proof.Body3.lean ====
/-
# The body, the sums across the planes and back
-/
module

public import proofs.«01_k».proof.Proof.Slots
public import proofs.«01_k».proof.Proof.Gen.KernelIdeal.Skeleton

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

theorem part24 (Q : (FVec F S64x1024 .f32) → sProp (MT nD τ sig Unit (Elt F) ℕ UU ℕ)) (v28 : BitVec 32) (v49 : BitVec 32) (v83 : BitVec 32) :
    iprop(records (Wm m) K ∗ levAts L lv ∗ kitR c 6 ∗ ow c 14 ∗ flyS c 7 ∗ kitR c 7 ∗ owns (c : Thread nD τ) (Memref.whole cc0_scratch0) fullShare (A6 m c))
      ⊢ iprop(((ow c 14 ∗ semVal (kcell c (kRcv 6)) 0 ∗ recvPay (Wm m) 6 c ∗ semVal (kcell c (kSnd 7)) 0 ∗ sendPay (Wm m) 7 c ∗ semVal (kcell c (kRcv 7)) 0 ∗ recvPay (Wm m) 7 c ∗ owns (c : Thread nD τ) (Memref.whole cc0_scratch0) fullShare (A6 m c)) -∗ Q (k0_pay69 (v706 m c) (v707 m c)))
          -∗ wp frame (wpE (defs₀ (F := F)) 𝒱₀ (c : Thread nD τ) none) Set.univ
            (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v28 v49 v83) Q) := by
  rw [k0_part24_eq_skeleton]; unfold k0_part24_skel
  simp only [semSignalWord, semWaitWord, Prog.lift, Prog.bind_op, Prog.bind_ret, Prog.pure_eq_ret, wp_deviceId]
  iintro ⟨#HR, #Hlev, Kr6, OW, Fl7, Kr7, A⟩ Hk
  iapply (wp_waitRcv (Wm m) K c 6 14 (by decide)) $$ [Kr6 OW]
  · isplitr; · iexact HR
    isplitr; · iexact Hlev
    isplitl [Kr6]; · iexact Kr6
    iexact OW
  iintro ⟨OW, Zr6, V6⟩
  iapply (wp_waitSnd (Wm m) K c 7 14 (by decide) rfl) $$ [Fl7 OW]
  · isplitr; · iexact HR
    isplitr; · iexact Hlev
    isplitl [Fl7]; · iexact Fl7
    iexact OW
  iintro ⟨OW, Zs7, S7⟩
  iapply (wp_waitRcv (Wm m) K c 7 14 (by decide)) $$ [Kr7 OW]
  · isplitr; · iexact HR
    isplitr; · iexact Hlev
    isplitl [Kr7]; · iexact Kr7
    iexact OW
  iintro ⟨OW, Zr7, V7⟩
  iapply (wp_load_as c (Memref.whole cc0_scratch0) (Rect.unit (s := S1024x1024) (k0_off7 c) S64x1024.size (k0_off7_inb c)) (A6 m c) (v706 m c) rfl) $$ A
  iintro A
  iapply (ld_recv6 m c) $$ V6
  iintro V6
  iapply (wp_load_as c (Memref.whole cc0_scratch0) (Rect.unit (s := S1024x1024) (k0_off7 c) S64x1024.size (k0_off7_inb c)) (A6 m c) _ rfl) $$ A
  iintro A
  rw [wp_ret]; imodintro
  iapply Hk
  isplitl [OW]; · iexact OW
  isplitl [Zr6]; · iexact Zr6
  isplitl [V6]; · iexact V6
  isplitl [Zs7]; · iexact Zs7
  isplitl [S7]; · iexact S7
  isplitl [Zr7]; · iexact Zr7
  isplitl [V7]; · iexact V7
  iexact A

theorem part25 (Q : (PUnit) → sProp (MT nD τ sig Unit (Elt F) ℕ UU ℕ)) (v28 : BitVec 32) (v46 : BitVec 32) (v83 : BitVec 32) (v85 : BitVec 32) :
    iprop(owns (c : Thread nD τ) (Memref.whole cc0_scratch0) fullShare (A6 m c) ∗ anyB c (tx 8).src ∗ recvPay (Wm m) 7 c ∗ anyB c (tx 9).src)
      ⊢ iprop(((owns (c : Thread nD τ) (Memref.whole cc0_scratch0) fullShare (A8 m c) ∗ sendPay (Wm m) 8 c ∗ recvPay (Wm m) 7 c ∗ sendPay (Wm m) 9 c) -∗ Q ⟨⟩)
          -∗ wp frame (wpE (defs₀ (F := F)) 𝒱₀ (c : Thread nD τ) none) Set.univ
            (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v28 v46 v83 v85 (k0_pay69 (v706 m c) (v707 m c))) Q) := by
  rw [k0_part25_eq_skeleton]; unfold k0_part25_skel
  simp only [semSignalWord, semWaitWord, Prog.lift, Prog.bind_op, Prog.bind_ret, Prog.pure_eq_ret, wp_deviceId]
  iintro ⟨A, S8, V7, S9⟩ Hk
  iapply (wp_store_as c (Memref.whole cc0_scratch0) (Rect.unit (s := S1024x1024) (k0_off7 c) S64x1024.size (k0_off7_inb c)) (A6 m c) (A7 m c) (k0_pay69 (v706 m c) (v707 m c)) rfl) $$ A
  iintro A
  iapply (wp_load_as c (Memref.whole cc0_scratch0) (Rect.unit (s := S1024x1024) (k0_off8 c) S32x1024.size (k0_off8_inb c)) (A7 m c) (v721 m c) rfl) $$ A
  iintro A
  iapply (ld_send8 c) $$ S8
  iintro %_ S8
  iapply (st_send8 m c (k0_pay70 (v721 m c)) rfl) $$ S8
  iintro S8
  iapply (wp_load_as c (Memref.whole cc0_scratch0) (Rect.unit (s := S1024x1024) (k0_off9 c) S64x1024.size (k0_off9_inb c)) (A7 m c) (v729 m c) rfl) $$ A
  iintro A
  iapply (ld_recv7 m c) $$ V7
  iintro V7
  iapply (wp_load_as c (Memref.whole cc0_scratch0) (Rect.unit (s := S1024x1024) (k0_off9 c) S64x1024.size (k0_off9_inb c)) (A7 m c) _ rfl) $$ A
  iintro A
  iapply (wp_store_as c (Memref.whole cc0_scratch0) (Rect.unit (s := S1024x1024) (k0_off9 c) S64x1024.size (k0_off9_inb c)) (A7 m c) (A8 m c) (k0_pay71 (v729 m c) (v730 m c)) rfl) $$ A
  iintro A
  iapply (wp_load_as c (Memref.whole cc0_scratch0) (Rect.unit (s := S1024x1024) (k0_off10 c) S32x1024.size (k0_off10_inb c)) (A8 m c) (v744 m c) rfl) $$ A
  iintro A
  iapply (ld_send9 c) $$ S9
  iintro %_ S9
  iapply (st_send9 m c (k0_pay72 (v744 m c)) rfl) $$ S9
  iintro S9
  rw [wp_ret]; imodintro
  iapply Hk
  isplitl [A]; · iexact A
  isplitl [S8]; · iexact S8
  isplitl [V7]; · iexact V7
  iexact S9

theorem part26 (Q : (PUnit) → sProp (MT nD τ sig Unit (Elt F) ℕ UU ℕ)) (v52 : BitVec 32) :
    iprop(records (Wm m) K ∗ sendPay (Wm m) 8 c ∗ slotG (nb 3 c) 8 ∗ kitS c 8 ∗ ow c 14 ∗ sendPay (Wm m) 9 c ∗ slotG (nb 3 c) 9 ∗ kitS c 9)
      ⊢ iprop(((ow c 12 ∗ flyS c 8 ∗ flyS c 9) -∗ Q ⟨⟩)
          -∗ wp frame (wpE (defs₀ (F := F)) 𝒱₀ (c : Thread nD τ) none) Set.univ
            (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v52) Q) := by
  rw [k0_part26_eq_skeleton]; unfold k0_part26_skel
  simp only [semSignalWord, semWaitWord, Prog.lift, Prog.bind_op, Prog.bind_ret, Prog.pure_eq_ret, wp_deviceId]
  iintro ⟨#HR, S8, G8, Ks8, OW, S9, G9, Ks9⟩ Hk
  iapply (wp_send (Wm m) K c _ 8 (dev13_eq c) 13 rfl rfl) $$ [S8 G8 Ks8 OW]
  · isplitr; · iexact HR
    isplitl [S8]; · iexact S8
    isplitl [G8]; · iexact G8
    isplitl [Ks8]; · iexact Ks8
    iexact OW
  iintro ⟨Fl8, OW⟩
  iapply (wp_send (Wm m) K c _ 9 (dev14_eq c) 12 rfl rfl) $$ [S9 G9 Ks9 OW]
  · isplitr; · iexact HR
    isplitl [S9]; · iexact S9
    isplitl [G9]; · iexact G9
    isplitl [Ks9]; · iexact Ks9
    iexact OW
  iintro ⟨Fl9, OW⟩
  rw [wp_ret]; imodintro
  iapply Hk
  isplitl [OW]; · iexact OW
  isplitl [Fl8]; · iexact Fl8
  iexact Fl9

theorem part27 (Q : (PUnit) → sProp (MT nD τ sig Unit (Elt F) ℕ UU ℕ)) (v52 : BitVec 32) :
    iprop(records (Wm m) K ∗ levAts L lv ∗ flyS c 8 ∗ ow c 12 ∗ kitR c 8 ∗ flyS c 9)
      ⊢ iprop(((ow c 12 ∗ semVal (kcell c (kSnd 8)) 0 ∗ sendPay (Wm m) 8 c ∗ semVal (kcell c (kRcv 8)) 0 ∗ recvPay (Wm m) 8 c ∗ semVal (kcell c (kSnd 9)) 0 ∗ sendPay (Wm m) 9 c) -∗ Q ⟨⟩)
          -∗ wp frame (wpE (defs₀ (F := F)) 𝒱₀ (c : Thread nD τ) none) Set.univ
            (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 v52) Q) := by
  rw [k0_part27_eq_skeleton]; unfold k0_part27_skel
  simp only [semSignalWord, semWaitWord, Prog.lift, Prog.bind_op, Prog.bind_ret, Prog.pure_eq_ret, wp_deviceId]
  iintro ⟨#HR, #Hlev, Fl8, OW, Kr8, Fl9⟩ Hk
  iapply (wp_waitSnd (Wm m) K c 8 12 (by decide) rfl) $$ [Fl8 OW]
  · isplitr; · iexact HR
    isplitr; · iexact Hlev
    isplitl [Fl8]; · iexact Fl8
    iexact OW
  iintro ⟨OW, Zs8, S8⟩
  iapply (wp_waitRcv (Wm m) K c 8 12 (by decide)) $$ [Kr8 OW]
  · isplitr; · iexact HR
    isplitr; · iexact Hlev
    isplitl [Kr8]; · iexact Kr8
    iexact OW
  iintro ⟨OW, Zr8, V8⟩
  iapply (wp_waitSnd (Wm m) K c 9 12 (by decide) rfl) $$ [Fl9 OW]
  · isplitr; · iexact HR
    isplitr; · iexact Hlev
    isplitl [Fl9]; · iexact Fl9
    iexact OW
  iintro ⟨OW, Zs9, S9⟩
  rw [wp_ret]; imodintro
  iapply Hk
  isplitl [OW]; · iexact OW
  isplitl [Zs8]; · iexact Zs8
  isplitl [S8]; · iexact S8
  isplitl [Zr8]; · iexact Zr8
  isplitl [V8]; · iexact V8
  isplitl [Zs9]; · iexact Zs9
  iexact S9

theorem part28 (Q : (FVec F S32x1024 .bf16) → sProp (MT nD τ sig Unit (Elt F) ℕ UU ℕ)) (v28 : BitVec 32) (v46 : BitVec 32) (v83 : BitVec 32) (v85 : BitVec 32) :
    iprop(records (Wm m) K ∗ levAts L lv ∗ kitR c 9 ∗ ow c 12 ∗ owns (c : Thread nD τ) (Memref.whole cc0_scratch0) fullShare (A8 m c) ∗ recvPay (Wm m) 8 c ∗ ag c (Memref.whole cc0_scratch1) (kvS 0 c) (KV m) ∗ anyB c (tx 10).src ∗ anyB c (tx 11).src)
      ⊢ iprop(((ow c 12 ∗ semVal (kcell c (kRcv 9)) 0 ∗ recvPay (Wm m) 9 c ∗ owns (c : Thread nD τ) (Memref.whole cc0_scratch0) fullShare (A8 m c) ∗ recvPay (Wm m) 8 c ∗ ag c (Memref.whole cc0_scratch1) (kvS 2 c) (KV m) ∗ sendPay (Wm m) 10 c ∗ anyB c (tx 11).src) -∗ Q (k0_pay76 (v820 m c) (v821 m c)))
          -∗ wp frame (wpE (defs₀ (F := F)) 𝒱₀ (c : Thread nD τ) none) Set.univ
            (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v28 v46 v83 v85) Q) := by
  rw [k0_part28_eq_skeleton]; unfold k0_part28_skel
  simp only [semSignalWord, semWaitWord, Prog.lift, Prog.bind_op, Prog.bind_ret, Prog.pure_eq_ret, wp_deviceId]
  iintro ⟨#HR, #Hlev, Kr9, OW, A, V8, KVb, S10, S11⟩ Hk
  iapply (wp_waitRcv (Wm m) K c 9 12 (by decide)) $$ [Kr9 OW]
  · isplitr; · iexact HR
    isplitr; · iexact Hlev
    isplitl [Kr9]; · iexact Kr9
    iexact OW
  iintro ⟨OW, Zr9, V9⟩
  iapply (wp_load_as c (Memref.whole cc0_scratch0) (Rect.unit (s := S1024x1024) (k0_off11 c) S32x1024.size (k0_off11_inb c)) (A8 m c) (v802 m c) rfl) $$ A
  iintro A
  iapply (ld_recv8 m c) $$ V8
  iintro V8
  iapply (wp_load_dead c (Memref.whole cc0_scratch1) (Rect.unit (s := S1024x1024) (k0_off11 c) S32x1024.size (k0_off11_inb c)) (kvS 0 c) (KV m)) $$ KVb
  iintro %_ KVb
  iapply (wp_store_ag c (Memref.whole cc0_scratch1) (Rect.unit (s := S1024x1024) (k0_off11 c) S32x1024.size (k0_off11_inb c)) (kvS 0 c) (kvS 1 c) (KV m) (k0_pay74 (v802 m c) (v803 m c)) (kv_st0 m c _)
    (fun i hi => kvS_step 0 c _ _ _ rfl (congrFun ((off_b0 c).1) 1) rfl rfl i hi)) $$ KVb
  iintro KVb
  iapply (ld_send10 c) $$ S10
  iintro %_ S10
  iapply (st_send10 m c (k0_pay75 (v802 m c) (v803 m c)) rfl) $$ S10
  iintro S10
  iapply (wp_load_as c (Memref.whole cc0_scratch0) (Rect.unit (s := S1024x1024) (k0_off12 c) S32x1024.size (k0_off12_inb c)) (A8 m c) (v820 m c) rfl) $$ A
  iintro A
  iapply (ld_recv9 m c) $$ V9
  iintro V9
  iapply (wp_load_dead c (Memref.whole cc0_scratch1) (Rect.unit (s := S1024x1024) (k0_off12 c) S32x1024.size (k0_off12_inb c)) (kvS 1 c) (KV m)) $$ KVb
  iintro %_ KVb
  iapply (wp_store_ag c (Memref.whole cc0_scratch1) (Rect.unit (s := S1024x1024) (k0_off12 c) S32x1024.size (k0_off12_inb c)) (kvS 1 c) (kvS 2 c) (KV m) (k0_pay77 (v820 m c) (v821 m c)) (kv_st1 m c _)
    (fun i hi => kvS_step 1 c _ _ _ rfl (congrFun ((off_b0 c).2.1) 1) rfl rfl i hi)) $$ KVb
  iintro KVb
  iapply (ld_send11 c) $$ S11
  iintro %_ S11
  rw [wp_ret]; imodintro
  iapply Hk
  isplitl [OW]; · iexact OW
  isplitl [Zr9]; · iexact Zr9
  isplitl [V9]; · iexact V9
  isplitl [A]; · iexact A
  isplitl [V8]; · iexact V8
  isplitl [KVb]; · iexact KVb
  isplitl [S10]; · iexact S10
  iexact S11

theorem part29 (Q : (PUnit) → sProp (MT nD τ sig Unit (Elt F) ℕ UU ℕ)) (v52 : BitVec 32) :
    iprop(records (Wm m) K ∗ anyB c (tx 11).src ∗ sendPay (Wm m) 10 c ∗ slotG (nb 3 c) 10 ∗ kitS c 10 ∗ ow c 12 ∗ slotG (nb 3 c) 11 ∗ kitS c 11)
      ⊢ iprop(((ow c 10 ∗ flyS c 10 ∗ flyS c 11) -∗ Q ⟨⟩)
          -∗ wp frame (wpE (defs₀ (F := F)) 𝒱₀ (c : Thread nD τ) none) Set.univ
            (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v52 (k0_pay76 (v820 m c) (v821 m c))) Q) := by
  rw [k0_part29_eq_skeleton]; unfold k0_part29_skel
  simp only [semSignalWord, semWaitWord, Prog.lift, Prog.bind_op, Prog.bind_ret, Prog.pure_eq_ret, wp_deviceId]
  iintro ⟨#HR, S11, S10, G10, Ks10, OW, G11, Ks11⟩ Hk
  iapply (st_send11 m c (k0_pay78 (k0_pay76 (v820 m c) (v821 m c))) rfl) $$ S11
  iintro S11
  iapply (wp_send (Wm m) K c _ 10 (dev15_eq c) 11 rfl rfl) $$ [S10 G10 Ks10 OW]
  · isplitr; · iexact HR
    isplitl [S10]; · iexact S10
    isplitl [G10]; · iexact G10
    isplitl [Ks10]; · iexact Ks10
    iexact OW
  iintro ⟨Fl10, OW⟩
  iapply (wp_send (Wm m) K c _ 11 (dev16_eq c) 10 rfl rfl) $$ [S11 G11 Ks11 OW]
  · isplitr; · iexact HR
    isplitl [S11]; · iexact S11
    isplitl [G11]; · iexact G11
    isplitl [Ks11]; · iexact Ks11
    iexact OW
  iintro ⟨Fl11, OW⟩
  rw [wp_ret]; imodintro
  iapply Hk
  isplitl [OW]; · iexact OW
  isplitl [Fl10]; · iexact Fl10
  iexact Fl11

theorem part30 (Q : (PUnit) → sProp (MT nD τ sig Unit (Elt F) ℕ UU ℕ)) (v52 : BitVec 32) :
    iprop(records (Wm m) K ∗ levAts L lv ∗ flyS c 10 ∗ ow c 10 ∗ kitR c 10 ∗ flyS c 11)
      ⊢ iprop(((ow c 10 ∗ semVal (kcell c (kSnd 10)) 0 ∗ sendPay (Wm m) 10 c ∗ semVal (kcell c (kRcv 10)) 0 ∗ recvPay (Wm m) 10 c ∗ semVal (kcell c (kSnd 11)) 0 ∗ sendPay (Wm m) 11 c) -∗ Q ⟨⟩)
          -∗ wp frame (wpE (defs₀ (F := F)) 𝒱₀ (c : Thread nD τ) none) Set.univ
            (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 v52) Q) := by
  rw [k0_part30_eq_skeleton]; unfold k0_part30_skel
  simp only [semSignalWord, semWaitWord, Prog.lift, Prog.bind_op, Prog.bind_ret, Prog.pure_eq_ret, wp_deviceId]
  iintro ⟨#HR, #Hlev, Fl10, OW, Kr10, Fl11⟩ Hk
  iapply (wp_waitSnd (Wm m) K c 10 10 (by decide) rfl) $$ [Fl10 OW]
  · isplitr; · iexact HR
    isplitr; · iexact Hlev
    isplitl [Fl10]; · iexact Fl10
    iexact OW
  iintro ⟨OW, Zs10, S10⟩
  iapply (wp_waitRcv (Wm m) K c 10 10 (by decide)) $$ [Kr10 OW]
  · isplitr; · iexact HR
    isplitr; · iexact Hlev
    isplitl [Kr10]; · iexact Kr10
    iexact OW
  iintro ⟨OW, Zr10, V10⟩
  iapply (wp_waitSnd (Wm m) K c 11 10 (by decide) rfl) $$ [Fl11 OW]
  · isplitr; · iexact HR
    isplitr; · iexact Hlev
    isplitl [Fl11]; · iexact Fl11
    iexact OW
  iintro ⟨OW, Zs11, S11⟩
  rw [wp_ret]; imodintro
  iapply Hk
  isplitl [OW]; · iexact OW
  isplitl [Zs10]; · iexact Zs10
  isplitl [S10]; · iexact S10
  isplitl [Zr10]; · iexact Zr10
  isplitl [V10]; · iexact V10
  isplitl [Zs11]; · iexact Zs11
  iexact S11

theorem part31 (Q : (BitVec 32) → sProp (MT nD τ sig Unit (Elt F) ℕ UU ℕ)) (v28 : BitVec 32) (v46 : BitVec 32) (v83 : BitVec 32) (v85 : BitVec 32) :
    iprop(records (Wm m) K ∗ levAts L lv ∗ kitR c 11 ∗ ow c 10 ∗ recvPay (Wm m) 10 c ∗ ag c (Memref.whole cc0_scratch1) (kvS 2 c) (KV m) ∗ anyB c (tx 12).src)
      ⊢ iprop((∀ v911 : BitVec 32, (ow c 10 ∗ semVal (kcell c (kRcv 11)) 0 ∗ recvPay (Wm m) 11 c ∗ recvPay (Wm m) 10 c ∗ ag c (Memref.whole cc0_scratch1) (kvS 4 c) (KV m) ∗ sendPay (Wm m) 12 c) -∗ Q v911)
          -∗ wp frame (wpE (defs₀ (F := F)) 𝒱₀ (c : Thread nD τ) none) Set.univ
            (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v28 v46 v83 v85) Q) := by
  rw [k0_part31_eq_skeleton]; unfold k0_part31_skel
  simp only [semSignalWord, semWaitWord, Prog.lift, Prog.bind_op, Prog.bind_ret, Prog.pure_eq_ret, wp_deviceId]
  iintro ⟨#HR, #Hlev, Kr11, OW, V10, KVb, S12⟩ Hk
  iapply (wp_waitRcv (Wm m) K c 11 10 (by decide)) $$ [Kr11 OW]
  · isplitr; · iexact HR
    isplitr; · iexact Hlev
    isplitl [Kr11]; · iexact Kr11
    iexact OW
  iintro ⟨OW, Zr11, V11⟩
  iapply (ld_recv10 m c) $$ V10
  iintro V10
  iapply (wp_load_dead c (Memref.whole cc0_scratch1) (Rect.unit (s := S1024x1024) (k0_off8 c) S32x1024.size (k0_off8_inb c)) (kvS 2 c) (KV m)) $$ KVb
  iintro %_ KVb
  iapply (wp_store_ag c (Memref.whole cc0_scratch1) (Rect.unit (s := S1024x1024) (k0_off8 c) S32x1024.size (k0_off8_inb c)) (kvS 2 c) (kvS 3 c) (KV m) (k0_pay79 (v881 m c)) (kv_st2 m c _)
    (fun i hi => kvS_step 2 c _ _ _ rfl (congrFun ((off_b0 c).2.2.1) 1) rfl rfl i hi)) $$ KVb
  iintro KVb
  iapply (wp_load_ag_as c (Memref.whole cc0_scratch1) (Rect.unit (s := S1024x1024) (k0_off7 c) S64x1024.size (k0_off7_inb c)) (kvS 3 c) (KV m) (v895 m c) rfl (kv_ld7 c _)) $$ KVb
  iintro KVb
  iapply (ld_send12 c) $$ S12
  iintro %_ S12
  iapply (st_send12 m c (k0_pay80 (v895 m c)) rfl) $$ S12
  iintro S12
  iapply (ld_recv11 m c) $$ V11
  iintro V11
  iapply (wp_load_dead c (Memref.whole cc0_scratch1) (Rect.unit (s := S1024x1024) (k0_off10 c) S32x1024.size (k0_off10_inb c)) (kvS 3 c) (KV m)) $$ KVb
  iintro %_ KVb
  iapply (wp_store_ag c (Memref.whole cc0_scratch1) (Rect.unit (s := S1024x1024) (k0_off10 c) S32x1024.size (k0_off10_inb c)) (kvS 3 c) (kvS 4 c) (KV m) (k0_pay81 (v899 m c)) (kv_st3 m c _)
    (fun i hi => kvS_step 3 c _ _ _ rfl (congrFun ((off_b0 c).2.2.2.1) 1) rfl rfl i hi)) $$ KVb
  iintro KVb
  rw [wp_ret]; imodintro
  iapply Hk
  isplitl [OW]; · iexact OW
  isplitl [Zr11]; · iexact Zr11
  isplitl [V11]; · iexact V11
  isplitl [V10]; · iexact V10
  isplitl [KVb]; · iexact KVb
  iexact S12

theorem part32 (Q : (PUnit) → sProp (MT nD τ sig Unit (Elt F) ℕ UU ℕ)) (v49 : BitVec 32) (v911 : BitVec 32) :
    iprop(records (Wm m) K ∗ ag c (Memref.whole cc0_scratch1) (kvS 4 c) (KV m) ∗ anyB c (tx 13).src ∗ sendPay (Wm m) 12 c ∗ slotG (nb 2 c) 12 ∗ kitS c 12 ∗ ow c 10 ∗ slotG (nb 2 c) 13 ∗ kitS c 13)
      ⊢ iprop(((ag c (Memref.whole cc0_scratch1) (kvS 4 c) (KV m) ∗ ow c 8 ∗ flyS c 12 ∗ flyS c 13) -∗ Q ⟨⟩)
          -∗ wp frame (wpE (defs₀ (F := F)) 𝒱₀ (c : Thread nD τ) none) Set.univ
            (k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v49 v911) Q) := by
  rw [k0_part32_eq_skeleton]; unfold k0_part32_skel
  simp only [semSignalWord, semWaitWord, Prog.lift, Prog.bind_op, Prog.bind_ret, Prog.pure_eq_ret, wp_deviceId]
  iintro ⟨#HR, KVb, S13, S12, G12, Ks12, OW, G13, Ks13⟩ Hk
  iapply (wp_load_ag_as c (Memref.whole cc0_scratch1) (Rect.unit (s := S1024x1024) (k0_off9 c) S64x1024.size (k0_off9_inb c)) (kvS 4 c) (KV m) (v913 m c) rfl (kv_ld9 c _)) $$ KVb
  iintro KVb
  iapply (ld_send13 c) $$ S13
  iintro %_ S13
  iapply (st_send13 m c (k0_pay82 (v913 m c)) rfl) $$ S13
  iintro S13
  iapply (wp_send (Wm m) K c _ 12 (dev17_eq c) 9 rfl rfl) $$ [S12 G12 Ks12 OW]
  · isplitr; · iexact HR
    isplitl [S12]; · iexact S12
    isplitl [G12]; · iexact G12
    isplitl [Ks12]; · iexact Ks12
    iexact OW
  iintro ⟨Fl12, OW⟩
  iapply (wp_send (Wm m) K c _ 13 (dev18_eq c) 8 rfl rfl) $$ [S13 G13 Ks13 OW]
  · isplitr; · iexact HR
    isplitl [S13]; · iexact S13
    isplitl [G13]; · iexact G13
    isplitl [Ks13]; · iexact Ks13
    iexact OW
  iintro ⟨Fl13, OW⟩
  rw [wp_ret]; imodintro
  iapply Hk
  isplitl [KVb]; · iexact KVb
  isplitl [OW]; · iexact OW
  isplitl [Fl12]; · iexact Fl12
  iexact Fl13

theorem part33 (Q : (BitVec 32) → sProp (MT nD τ sig Unit (Elt F) ℕ UU ℕ)) (v49 : BitVec 32) :
    iprop(records (Wm m) K ∗ levAts L lv ∗ flyS c 12 ∗ ow c 8 ∗ kitR c 12 ∗ flyS c 13)
      ⊢ iprop((∀ c1_i32_884 : BitVec 32, (ow c 8 ∗ semVal (kcell c (kSnd 12)) 0 ∗ sendPay (Wm m) 12 c ∗ semVal (kcell c (kRcv 12)) 0 ∗ recvPay (Wm m) 12 c ∗ semVal (kcell c (kSnd 13)) 0 ∗ sendPay (Wm m) 13 c) -∗ Q c1_i32_884)
          -∗ wp frame (wpE (defs₀ (F := F)) 𝒱₀ (c : Thread nD τ) none) Set.univ
            (k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 v49) Q) := by
  rw [k0_part33_eq_skeleton]; unfold k0_part33_skel
  simp only [semSignalWord, semWaitWord, Prog.lift, Prog.bind_op, Prog.bind_ret, Prog.pure_eq_ret, wp_deviceId]
  iintro ⟨#HR, #Hlev, Fl12, OW, Kr12, Fl13⟩ Hk
  iapply (wp_waitSnd (Wm m) K c 12 8 (by decide) rfl) $$ [Fl12 OW]
  · isplitr; · iexact HR
    isplitr; · iexact Hlev
    isplitl [Fl12]; · iexact Fl12
    iexact OW
  iintro ⟨OW, Zs12, S12⟩
  iapply (wp_waitRcv (Wm m) K c 12 8 (by decide)) $$ [Kr12 OW]
  · isplitr; · iexact HR
    isplitr; · iexact Hlev
    isplitl [Kr12]; · iexact Kr12
    iexact OW
  iintro ⟨OW, Zr12, V12⟩
  iapply (wp_waitSnd (Wm m) K c 13 8 (by decide) rfl) $$ [Fl13 OW]
  · isplitr; · iexact HR
    isplitr; · iexact Hlev
    isplitl [Fl13]; · iexact Fl13
    iexact OW
  iintro ⟨OW, Zs13, S13⟩
  rw [wp_ret]; imodintro
  iapply Hk
  isplitl [OW]; · iexact OW
  isplitl [Zs12]; · iexact Zs12
  isplitl [S12]; · iexact S12
  isplitl [Zr12]; · iexact Zr12
  isplitl [V12]; · iexact V12
  isplitl [Zs13]; · iexact Zs13
  iexact S13

theorem part34 (Q : (PUnit) → sProp (MT nD τ sig Unit (Elt F) ℕ UU ℕ)) (v28 : BitVec 32) (v49 : BitVec 32) (v82 : BitVec 32) (v83 : BitVec 32) (v85 : BitVec 32) (c1_i32_884 : BitVec 32) :
    iprop(records (Wm m) K ∗ levAts L lv ∗ kitR c 13 ∗ ow c 8 ∗ recvPay (Wm m) 12 c ∗ ag c (Memref.whole cc0_scratch1) (kvS 4 c) (KV m) ∗ anyB c (Memref.whole cc0_scratch14))
      ⊢ iprop(((ow c 8 ∗ semVal (kcell c (kRcv 13)) 0 ∗ recvPay (Wm m) 13 c ∗ recvPay (Wm m) 12 c ∗ ag c (Memref.whole cc0_scratch1) (kvS 6 c) (KV m) ∗ owns (c : Thread nD τ) (Memref.whole cc0_scratch14) fullShare (Y14 m c)) -∗ Q ⟨⟩)
          -∗ wp frame (wpE (defs₀ (F := F)) 𝒱₀ (c : Thread nD τ) none) Set.univ
            (k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v28 v49 v82 v83 v85 c1_i32_884) Q) := by
  rw [k0_part34_eq_skeleton]; unfold k0_part34_skel
  simp only [semSignalWord, semWaitWord, Prog.lift, Prog.bind_op, Prog.bind_ret, Prog.pure_eq_ret, wp_deviceId]
  iintro ⟨#HR, #Hlev, Kr13, OW, V12, KVb, P⟩ Hk
  iapply (wp_waitRcv (Wm m) K c 13 8 (by decide)) $$ [Kr13 OW]
  · isplitr; · iexact HR
    isplitr; · iexact Hlev
    isplitl [Kr13]; · iexact Kr13
    iexact OW
  iintro ⟨OW, Zr13, V13⟩
  iapply (ld_recv12 m c) $$ V12
  iintro V12
  iapply (wp_load_dead c (Memref.whole cc0_scratch1) (Rect.unit (s := S1024x1024) (k0_off5 c) S64x1024.size (k0_off5_inb c)) (kvS 4 c) (KV m)) $$ KVb
  iintro %_ KVb
  iapply (wp_store_ag c (Memref.whole cc0_scratch1) (Rect.unit (s := S1024x1024) (k0_off5 c) S64x1024.size (k0_off5_inb c)) (kvS 4 c) (kvS 5 c) (KV m) (k0_pay83 (v965 m c)) (kv_st4 m c _)
    (fun i hi => kvS_step 4 c _ _ _ rfl (congrFun ((off_b0 c).2.2.2.2.1) 1) rfl rfl i hi)) $$ KVb
  iintro KVb
  iapply (ld_recv13 m c) $$ V13
  iintro V13
  iapply (wp_load_dead c (Memref.whole cc0_scratch1) (Rect.unit (s := S1024x1024) (k0_off6 c) S64x1024.size (k0_off6_inb c)) (kvS 5 c) (KV m)) $$ KVb
  iintro %_ KVb
  iapply (wp_store_ag c (Memref.whole cc0_scratch1) (Rect.unit (s := S1024x1024) (k0_off6 c) S64x1024.size (k0_off6_inb c)) (kvS 5 c) (kvS 6 c) (KV m) (k0_pay84 (v974 m c)) (kv_st5 m c _)
    (fun i hi => kvS_step 5 c _ _ _ rfl (congrFun ((off_b0 c).2.2.2.2.2.1) 1) rfl rfl i hi)) $$ KVb
  iintro KVb
  iapply (wp_load_ag_as c (Memref.whole cc0_scratch1) (Rect.unit (s := S1024x1024) (k0_off13 c 1#32) S256x1024.size (k0_off13_inb c 0)) (kvS 6 c) (KV m) (v985 m c) rfl (kv_ld13 c _)) $$ KVb
  iintro KVb
  unfold anyB
  icases P with ⟨%XP, P⟩
  iapply (wp_load_as c (Memref.whole cc0_scratch14) (Rect.unit (s := S256x1024) ![0, 0] S256x1024.size inb_S256x1024_S256x1024_0_0) XP _ rfl) $$ P
  iintro P
  iapply (wp_store_as c (Memref.whole cc0_scratch14) (Rect.unit (s := S256x1024) ![0, 0] S256x1024.size inb_S256x1024_S256x1024_0_0) XP (Y14 m c) (k0_pay85 (v985 m c)) (put_pag _ _)) $$ P
  iintro P
  rw [wp_ret]; imodintro
  iapply Hk
  isplitl [OW]; · iexact OW
  isplitl [Zr13]; · iexact Zr13
  isplitl [V13]; · iexact V13
  isplitl [V12]; · iexact V12
  isplitl [KVb]; · iexact KVb
  iexact P

theorem part35 (Q : (PUnit) → sProp (MT nD τ sig Unit (Elt F) ℕ UU ℕ)) (v24 : BitVec 32) (v27 : BitVec 32) :
    iprop(records (Wm m) K ∗ levAts L lv ∗ sendPay (Wm m) 14 c ∗ slotG (nb 0 c) 14 ∗ kitS c 14 ∗ ow c 8 ∗ sendPay (Wm m) 15 c ∗ slotG (nb 1 c) 15 ∗ kitS c 15 ∗ kitR c 14)
      ⊢ iprop(((sendPay (Wm m) 14 c ∗ ow c 6 ∗ flyS c 15 ∗ semVal (kcell c (kSnd 14)) 0 ∗ semVal (kcell c (kRcv 14)) 0 ∗ recvPay (Wm m) 14 c) -∗ Q ⟨⟩)
          -∗ wp frame (wpE (defs₀ (F := F)) 𝒱₀ (c : Thread nD τ) none) Set.univ
            (k0_part35 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v24 v27) Q) := by
  rw [k0_part35_eq_skeleton]; unfold k0_part35_skel
  simp only [semSignalWord, semWaitWord, Prog.lift, Prog.bind_op, Prog.bind_ret, Prog.pure_eq_ret, wp_deviceId]
  iintro ⟨#HR, #Hlev, S14, G14, Ks14, OW, S15, G15, Ks15, Kr14⟩ Hk
  iapply (wp_send (Wm m) K c _ 14 (dev19_eq c) 7 rfl rfl) $$ [S14 G14 Ks14 OW]
  · isplitr; · iexact HR
    isplitl [S14]; · iexact S14
    isplitl [G14]; · iexact G14
    isplitl [Ks14]; · iexact Ks14
    iexact OW
  iintro ⟨Fl14, OW⟩
  iapply (wp_send (Wm m) K c _ 15 (dev20_eq c) 6 rfl rfl) $$ [S15 G15 Ks15 OW]
  · isplitr; · iexact HR
    isplitl [S15]; · iexact S15
    isplitl [G15]; · iexact G15
    isplitl [Ks15]; · iexact Ks15
    iexact OW
  iintro ⟨Fl15, OW⟩
  iapply (wp_waitSnd (Wm m) K c 14 6 (by decide) rfl) $$ [Fl14 OW]
  · isplitr; · iexact HR
    isplitr; · iexact Hlev
    isplitl [Fl14]; · iexact Fl14
    iexact OW
  iintro ⟨OW, Zs14, S14⟩
  iapply (wp_waitRcv (Wm m) K c 14 6 (by decide)) $$ [Kr14 OW]
  · isplitr; · iexact HR
    isplitr; · iexact Hlev
    isplitl [Kr14]; · iexact Kr14
    iexact OW
  iintro ⟨OW, Zr14, V14⟩
  rw [wp_ret]; imodintro
  iapply Hk
  isplitl [S14]; · iexact S14
  isplitl [OW]; · iexact OW
  isplitl [Fl15]; · iexact Fl15
  isplitl [Zs14]; · iexact Zs14
  isplitl [Zr14]; · iexact Zr14
  iexact V14

theorem part36 (Q : (PUnit) → sProp (MT nD τ sig Unit (Elt F) ℕ UU ℕ)) (v24 : BitVec 32) (v27 : BitVec 32) :
    iprop(records (Wm m) K ∗ levAts L lv ∗ flyS c 15 ∗ ow c 6 ∗ kitR c 15 ∗ sendPay (Wm m) 16 c ∗ slotG (nb 0 c) 16 ∗ kitS c 16)
      ⊢ iprop(((ow c 5 ∗ semVal (kcell c (kSnd 15)) 0 ∗ sendPay (Wm m) 15 c ∗ semVal (kcell c (kRcv 15)) 0 ∗ recvPay (Wm m) 15 c ∗ flyS c 16) -∗ Q ⟨⟩)
          -∗ wp frame (wpE (defs₀ (F := F)) 𝒱₀ (c : Thread nD τ) none) Set.univ
            (k0_part36 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v24 v27) Q) := by
  rw [k0_part36_eq_skeleton]; unfold k0_part36_skel
  simp only [semSignalWord, semWaitWord, Prog.lift, Prog.bind_op, Prog.bind_ret, Prog.pure_eq_ret, wp_deviceId]
  iintro ⟨#HR, #Hlev, Fl15, OW, Kr15, S16, G16, Ks16⟩ Hk
  iapply (wp_waitSnd (Wm m) K c 15 6 (by decide) rfl) $$ [Fl15 OW]
  · isplitr; · iexact HR
    isplitr; · iexact Hlev
    isplitl [Fl15]; · iexact Fl15
    iexact OW
  iintro ⟨OW, Zs15, S15⟩
  iapply (wp_waitRcv (Wm m) K c 15 6 (by decide)) $$ [Kr15 OW]
  · isplitr; · iexact HR
    isplitr; · iexact Hlev
    isplitl [Kr15]; · iexact Kr15
    iexact OW
  iintro ⟨OW, Zr15, V15⟩
  iapply (wp_send (Wm m) K c _ 16 (dev21_eq c) 5 rfl rfl) $$ [S16 G16 Ks16 OW]
  · isplitr; · iexact HR
    isplitl [S16]; · iexact S16
    isplitl [G16]; · iexact G16
    isplitl [Ks16]; · iexact Ks16
    iexact OW
  iintro ⟨Fl16, OW⟩
  rw [wp_ret]; imodintro
  iapply Hk
  isplitl [OW]; · iexact OW
  isplitl [Zs15]; · iexact Zs15
  isplitl [S15]; · iexact S15
  isplitl [Zr15]; · iexact Zr15
  isplitl [V15]; · iexact V15
  iexact Fl16

theorem part37 (Q : (PUnit) → sProp (MT nD τ sig Unit (Elt F) ℕ UU ℕ)) (v20 : BitVec 32) (v24 : BitVec 32) :
    iprop(records (Wm m) K ∗ levAts L lv ∗ sendPay (Wm m) 17 c ∗ slotG (nb 1 c) 17 ∗ kitS c 17 ∗ ow c 5 ∗ keep14 m c ∗ ag c (Memref.whole cc0_scratch1) (kvS 6 c) (KV m) ∗ keep15 m c ∗ flyS c 16)
      ⊢ iprop(((ow c 4 ∗ flyS c 17 ∗ keep14 m c ∗ ag c (Memref.whole cc0_scratch1) (kvS 8 c) (KV m) ∗ keep15 m c ∗ semVal (kcell c (kSnd 16)) 0 ∗ sendPay (Wm m) 16 c) -∗ Q ⟨⟩)
          -∗ wp frame (wpE (defs₀ (F := F)) 𝒱₀ (c : Thread nD τ) none) Set.univ
            (k0_part37 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v20 v24) Q) := by
  rw [k0_part37_eq_skeleton]; unfold k0_part37_skel
  simp only [semSignalWord, semWaitWord, Prog.lift, Prog.bind_op, Prog.bind_ret, Prog.pure_eq_ret, wp_deviceId]
  iintro ⟨#HR, #Hlev, S17, G17, Ks17, OW, Kp14, KVb, Kp15, Fl16⟩ Hk
  iapply (wp_send (Wm m) K c _ 17 (dev22_eq c) 4 rfl rfl) $$ [S17 G17 Ks17 OW]
  · isplitr; · iexact HR
    isplitl [S17]; · iexact S17
    isplitl [G17]; · iexact G17
    isplitl [Ks17]; · iexact Ks17
    iexact OW
  iintro ⟨Fl17, OW⟩
  iapply (ld_keep14 m c) $$ Kp14
  iintro Kp14
  iapply (wp_load_dead c (Memref.whole cc0_scratch1) (Rect.unit (s := S1024x1024) (k0_off14 c) S256x1024.size (k0_off14_inb c)) (kvS 6 c) (KV m)) $$ KVb
  iintro %_ KVb
  iapply (wp_store_ag c (Memref.whole cc0_scratch1) (Rect.unit (s := S1024x1024) (k0_off14 c) S256x1024.size (k0_off14_inb c)) (kvS 6 c) (kvS 7 c) (KV m) (k0_pay86 (v1045 m c)) (kv_st6 m c _)
    (fun i hi => kvS_step 6 c _ _ _ rfl (congrFun (k0_off14_eq c) 1) rfl rfl i hi)) $$ KVb
  iintro KVb
  iapply (ld_keep15 m c) $$ Kp15
  iintro Kp15
  iapply (wp_load_dead c (Memref.whole cc0_scratch1) (Rect.unit (s := S1024x1024) (k0_off13 c 2#32) S256x1024.size (k0_off13_inb c 1)) (kvS 7 c) (KV m)) $$ KVb
  iintro %_ KVb
  iapply (wp_store_ag c (Memref.whole cc0_scratch1) (Rect.unit (s := S1024x1024) (k0_off13 c 2#32) S256x1024.size (k0_off13_inb c 1)) (kvS 7 c) (kvS 8 c) (KV m) (k0_pay87 (v1052 m c)) (kv_st7 m c _)
    (fun i hi => kvS_step 7 c _ _ _ rfl (congrFun (k0_off13_eq c ⟨1, by decide⟩) 1) rfl rfl i hi)) $$ KVb
  iintro KVb
  iapply (wp_waitSnd (Wm m) K c 16 4 (by decide) rfl) $$ [Fl16 OW]
  · isplitr; · iexact HR
    isplitr; · iexact Hlev
    isplitl [Fl16]; · iexact Fl16
    iexact OW
  iintro ⟨OW, Zs16, S16⟩
  rw [wp_ret]; imodintro
  iapply Hk
  isplitl [OW]; · iexact OW
  isplitl [Fl17]; · iexact Fl17
  isplitl [Kp14]; · iexact Kp14
  isplitl [KVb]; · iexact KVb
  isplitl [Kp15]; · iexact Kp15
  isplitl [Zs16]; · iexact Zs16
  iexact S16

theorem part38 (Q : (BitVec 32) → sProp (MT nD τ sig Unit (Elt F) ℕ UU ℕ)) (v20 : BitVec 32) (v27 : BitVec 32) :
    iprop(records (Wm m) K ∗ levAts L lv ∗ kitR c 16 ∗ ow c 4 ∗ flyS c 17 ∗ kitR c 17 ∗ ag c (Memref.whole cc0_scratch1) (kvS 8 c) (KV m))
      ⊢ iprop((∀ v1090 : BitVec 32, (ow c 4 ∗ semVal (kcell c (kRcv 16)) 0 ∗ recvPay (Wm m) 16 c ∗ semVal (kcell c (kSnd 17)) 0 ∗ sendPay (Wm m) 17 c ∗ semVal (kcell c (kRcv 17)) 0 ∗ recvPay (Wm m) 17 c ∗ ag c (Memref.whole cc0_scratch1) (kvS 9 c) (KV m)) -∗ Q v1090)
          -∗ wp frame (wpE (defs₀ (F := F)) 𝒱₀ (c : Thread nD τ) none) Set.univ
            (k0_part38 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c v20 v27) Q) := by
  rw [k0_part38_eq_skeleton]; unfold k0_part38_skel
  simp only [semSignalWord, semWaitWord, Prog.lift, Prog.bind_op, Prog.bind_ret, Prog.pure_eq_ret, wp_deviceId]
  iintro ⟨#HR, #Hlev, Kr16, OW, Fl17, Kr17, KVb⟩ Hk
  iapply (wp_waitRcv (Wm m) K c 16 4 (by decide)) $$ [Kr16 OW]
  · isplitr; · iexact HR
    isplitr; · iexact Hlev
    isplitl [Kr16]; · iexact Kr16
    iexact OW
  iintro ⟨OW, Zr16, V16⟩
  iapply (wp_waitSnd (Wm m) K c 17 4 (by decide) rfl) $$ [Fl17 OW]
  · isplitr; · iexact HR
    isplitr; · iexact Hlev
    isplitl [Fl17]; · iexact Fl17
    iexact OW
  iintro ⟨OW, Zs17, S17⟩
  iapply (wp_waitRcv (Wm m) K c 17 4 (by decide)) $$ [Kr17 OW]
  · isplitr; · iexact HR
    isplitr; · iexact Hlev
    isplitl [Kr17]; · iexact Kr17
    iexact OW
  iintro ⟨OW, Zr17, V17⟩
  iapply (ld_recv16 m c) $$ V16
  iintro V16
  iapply (wp_load_dead c (Memref.whole cc0_scratch1) (Rect.unit (s := S1024x1024) (k0_off15 c) S128x1024.size (k0_off15_inb c)) (kvS 8 c) (KV m)) $$ KVb
  iintro %_ KVb
  iapply (wp_store_ag c (Memref.whole cc0_scratch1) (Rect.unit (s := S1024x1024) (k0_off15 c) S128x1024.size (k0_off15_inb c)) (kvS 8 c) (kvS 9 c) (KV m) (k0_pay88 (v1091 m c)) (kv_st8 m c _)
    (fun i hi => kvS_step 8 c _ _ _ rfl (congrFun (k0_off15_eq c) 1) rfl rfl i hi)) $$ KVb
  iintro KVb
  rw [wp_ret]; imodintro
  iapply Hk
  isplitl [OW]; · iexact OW
  isplitl [Zr16]; · iexact Zr16
  isplitl [V16]; · iexact V16
  isplitl [Zs17]; · iexact Zs17
  isplitl [S17]; · iexact S17
  isplitl [Zr17]; · iexact Zr17
  isplitl [V17]; · iexact V17
  iexact KVb

theorem part39 (Q : (Σ' (v1106 : Vec F S512x1024 .bf16) (v1107 : Vec F S512x1024 .bf16) (v1131 : FVec F S256x64 .bf16), FVec F S256x256 .f32) → sProp (MT nD τ sig Unit (Elt F) ℕ UU ℕ)) (v1090 : BitVec 32) :
    iprop(recvPay (Wm m) 17 c ∗ ag c (Memref.whole cc0_scratch1) (kvS 9 c) (KV m) ∗ ag c (Memref.whole cc0_scratch3) (ropeS 32) (ropeT m c) ∗ ag c (Memref.whole cc0_scratch2) (outS 0) (outT m c))
      ⊢ iprop(((recvPay (Wm m) 17 c ∗ ag c (Memref.whole cc0_scratch1) (kvS 10 c) (KV m) ∗ ag c (Memref.whole cc0_scratch3) (ropeS 32) (ropeT m c) ∗ ag c (Memref.whole cc0_scratch2) (outS 1) (outT m c)) -∗ Q ⟨(keys m), (vals m), (k0_pay91 (vals m)), (k0_pay92 (qv m c) (keys m))⟩)
          -∗ wp frame (wpE (defs₀ (F := F)) 𝒱₀ (c : Thread nD τ) none) Set.univ
            (k0_part39 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 c (qv m c) v1090) Q) := by
  rw [k0_part39_eq_skeleton]; unfold k0_part39_skel
  simp only [semSignalWord, semWaitWord, Prog.lift, Prog.bind_op, Prog.bind_ret, Prog.pure_eq_ret, wp_deviceId]
  iintro ⟨V17, KVb, R, O⟩ Hk
  iapply (ld_recv17 m c) $$ V17
  iintro V17
  iapply (wp_load_dead c (Memref.whole cc0_scratch1) (Rect.unit (s := S1024x1024) (k0_off2 c 3#32) S128x1024.size (k0_off2_inb c 1)) (kvS 9 c) (KV m)) $$ KVb
  iintro %_ KVb
  iapply (wp_store_ag c (Memref.whole cc0_scratch1) (Rect.unit (s := S1024x1024) (k0_off2 c 3#32) S128x1024.size (k0_off2_inb c 1)) (kvS 9 c) (kvS 10 c) (KV m) (k0_pay89 (v1098 m c)) (kv_st9 m c _)
    (kvS_step9 c _)) $$ KVb
  iintro KVb
  iapply (wp_load_ag_as c (Memref.whole cc0_scratch1) (Rect.unit (s := S1024x1024) ![0, 0] S512x1024.size inb_S1024x1024_S512x1024_0_0) (kvS 10 c) (KV m) (keys m) rfl (fun j => kvS_all c _)) $$ KVb
  iintro KVb
  iapply (wp_load_ag_as c (Memref.whole cc0_scratch1) (Rect.unit (s := S1024x1024) ![512, 0] S512x1024.size inb_S1024x1024_S512x1024_512_0) (kvS 10 c) (KV m) (vals m) rfl (fun j => kvS_all c _)) $$ KVb
  iintro KVb
  iapply (wp_load_ag_as c (Memref.whole cc0_scratch3) (Rect.unit (s := S512x4096) ![0, 0] S256x256.size inb_S512x4096_S256x256_0_0) (ropeS 32) (ropeT m c) (ropePay 0 0 (qrv m c) (krv m c)) (rope_ld m c 0 0 _ rfl rfl _) (fun j => ropeS_all _)) $$ R
  iintro R
  iapply (wp_load_dead c (Memref.whole cc0_scratch2) (Rect.unit (s := S512x1024) ![0, 0] S256x64.size inb_S512x1024_S256x64_0_0) (outS 0) (outT m c)) $$ O
  iintro %_ O
  iapply (wp_store_ag c (Memref.whole cc0_scratch2) (Rect.unit (s := S512x1024) ![0, 0] S256x64.size inb_S512x1024_S256x64_0_0) (outS 0) (outS 1) (outT m c) (k0_pay90 (qv m c) (keys m) (vals m) (ropePay 0 0 (qrv m c) (krv m c)))
    ((show (k0_pay90 (qv m c) (keys m) (vals m) (ropePay 0 0 (qrv m c) (krv m c))) = headPay 0 0 (qv m c) (keys m) (vals m) (ropePay 0 0 (qrv m c) (krv m c)) from rfl).trans (out_ld m c 0 0 _ rfl rfl _).symm)
    (fun i hi => outS_step 0 0 (by decide) _ rfl rfl _ 0 rfl i hi)) $$ O
  iintro O
  rw [wp_ret]; imodintro
  iapply Hk
  isplitl [V17]; · iexact V17
  isplitl [KVb]; · iexact KVb
  isplitl [R]; · iexact R
  iexact O

end Cert.Exch

end
-- ==== Proof.Body4.lean ====
/-
# The body, the heads
-/
module

public import proofs.«01_k».proof.Proof.Slots
public import proofs.«01_k».proof.Proof.Gen.KernelIdeal.Skeleton

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

theorem part40 (Q : (Σ' (v1173 : FVec F S256x64 .bf16), FVec F S256x256 .f32) → sProp (MT nD τ sig Unit (Elt F) ℕ UU ℕ))  :
    iprop(ag c (Memref.whole cc0_scratch3) (ropeS 32) (ropeT m c) ∗ ag c (Memref.whole cc0_scratch2) (outS 1) (outT m c))
      ⊢ iprop(((ag c (Memref.whole cc0_scratch3) (ropeS 32) (ropeT m c) ∗ ag c (Memref.whole cc0_scratch2) (outS 3) (outT m c)) -∗ Q ⟨(k0_pay95 (vals m)), (k0_pay96 (qv m c) (keys m))⟩)
          -∗ wp frame (wpE (defs₀ (F := F)) 𝒱₀ (c : Thread nD τ) none) Set.univ
            (k0_part40 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qv m c) (keys m) (vals m) (k0_pay91 (vals m)) (k0_pay92 (qv m c) (keys m))) Q) := by
  rw [k0_part40_eq_skeleton]; unfold k0_part40_skel
  simp only [semSignalWord, semWaitWord, Prog.lift, Prog.bind_op, Prog.bind_ret, Prog.pure_eq_ret, wp_deviceId]
  iintro ⟨R, O⟩ Hk
  iapply (wp_load_ag_as c (Memref.whole cc0_scratch3) (Rect.unit (s := S512x4096) ![0, 256] S256x256.size inb_S512x4096_S256x256_0_256) (ropeS 32) (ropeT m c) (ropePay 0 1 (qrv m c) (krv m c)) (rope_ld m c 0 1 _ rfl rfl _) (fun j => ropeS_all _)) $$ R
  iintro R
  iapply (wp_load_dead c (Memref.whole cc0_scratch2) (Rect.unit (s := S512x1024) ![0, 64] S256x64.size inb_S512x1024_S256x64_0_64) (outS 1) (outT m c)) $$ O
  iintro %_ O
  iapply (wp_store_ag c (Memref.whole cc0_scratch2) (Rect.unit (s := S512x1024) ![0, 64] S256x64.size inb_S512x1024_S256x64_0_64) (outS 1) (outS 2) (outT m c) (k0_pay93 (k0_pay91 (vals m)) (k0_pay92 (qv m c) (keys m)) (ropePay 0 1 (qrv m c) (krv m c)))
    ((show (k0_pay93 (k0_pay91 (vals m)) (k0_pay92 (qv m c) (keys m)) (ropePay 0 1 (qrv m c) (krv m c))) = headPay 0 1 (qv m c) (keys m) (vals m) (ropePay 0 1 (qrv m c) (krv m c)) from rfl).trans (out_ld m c 0 1 _ rfl rfl _).symm)
    (fun i hi => outS_step 0 1 (by decide) _ rfl rfl _ 1 rfl i hi)) $$ O
  iintro O
  iapply (wp_load_ag_as c (Memref.whole cc0_scratch3) (Rect.unit (s := S512x4096) ![0, 512] S256x256.size inb_S512x4096_S256x256_0_512) (ropeS 32) (ropeT m c) (ropePay 0 2 (qrv m c) (krv m c)) (rope_ld m c 0 2 _ rfl rfl _) (fun j => ropeS_all _)) $$ R
  iintro R
  iapply (wp_load_dead c (Memref.whole cc0_scratch2) (Rect.unit (s := S512x1024) ![0, 128] S256x64.size inb_S512x1024_S256x64_0_128) (outS 2) (outT m c)) $$ O
  iintro %_ O
  iapply (wp_store_ag c (Memref.whole cc0_scratch2) (Rect.unit (s := S512x1024) ![0, 128] S256x64.size inb_S512x1024_S256x64_0_128) (outS 2) (outS 3) (outT m c) (k0_pay94 (qv m c) (keys m) (vals m) (ropePay 0 2 (qrv m c) (krv m c)))
    ((show (k0_pay94 (qv m c) (keys m) (vals m) (ropePay 0 2 (qrv m c) (krv m c))) = headPay 0 2 (qv m c) (keys m) (vals m) (ropePay 0 2 (qrv m c) (krv m c)) from rfl).trans (out_ld m c 0 2 _ rfl rfl _).symm)
    (fun i hi => outS_step 0 2 (by decide) _ rfl rfl _ 2 rfl i hi)) $$ O
  iintro O
  rw [wp_ret]; imodintro
  iapply Hk
  isplitl [R]; · iexact R
  iexact O

theorem part41 (Q : (Σ' (v1215 : FVec F S256x64 .bf16) (v1216 : FVec F S256x256 .f32), F .f32) → sProp (MT nD τ sig Unit (Elt F) ℕ UU ℕ))  :
    iprop(ag c (Memref.whole cc0_scratch3) (ropeS 32) (ropeT m c) ∗ ag c (Memref.whole cc0_scratch2) (outS 3) (outT m c))
      ⊢ iprop(((ag c (Memref.whole cc0_scratch3) (ropeS 32) (ropeT m c) ∗ ag c (Memref.whole cc0_scratch2) (outS 5) (outT m c)) -∗ Q ⟨(k0_pay99 (vals m)), (k0_pay100 (qv m c) (keys m)), ((Scalar.ofBits .f32 0x3DD105EC#32))⟩)
          -∗ wp frame (wpE (defs₀ (F := F)) 𝒱₀ (c : Thread nD τ) none) Set.univ
            (k0_part41 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qv m c) (keys m) (vals m) (k0_pay95 (vals m)) (k0_pay96 (qv m c) (keys m))) Q) := by
  rw [k0_part41_eq_skeleton]; unfold k0_part41_skel
  simp only [semSignalWord, semWaitWord, Prog.lift, Prog.bind_op, Prog.bind_ret, Prog.pure_eq_ret, wp_deviceId]
  iintro ⟨R, O⟩ Hk
  iapply (wp_load_ag_as c (Memref.whole cc0_scratch3) (Rect.unit (s := S512x4096) ![0, 768] S256x256.size inb_S512x4096_S256x256_0_768) (ropeS 32) (ropeT m c) (ropePay 0 3 (qrv m c) (krv m c)) (rope_ld m c 0 3 _ rfl rfl _) (fun j => ropeS_all _)) $$ R
  iintro R
  iapply (wp_load_dead c (Memref.whole cc0_scratch2) (Rect.unit (s := S512x1024) ![0, 192] S256x64.size inb_S512x1024_S256x64_0_192) (outS 3) (outT m c)) $$ O
  iintro %_ O
  iapply (wp_store_ag c (Memref.whole cc0_scratch2) (Rect.unit (s := S512x1024) ![0, 192] S256x64.size inb_S512x1024_S256x64_0_192) (outS 3) (outS 4) (outT m c) (k0_pay97 (k0_pay95 (vals m)) (k0_pay96 (qv m c) (keys m)) (ropePay 0 3 (qrv m c) (krv m c)))
    ((show (k0_pay97 (k0_pay95 (vals m)) (k0_pay96 (qv m c) (keys m)) (ropePay 0 3 (qrv m c) (krv m c))) = headPay 0 3 (qv m c) (keys m) (vals m) (ropePay 0 3 (qrv m c) (krv m c)) from rfl).trans (out_ld m c 0 3 _ rfl rfl _).symm)
    (fun i hi => outS_step 0 3 (by decide) _ rfl rfl _ 3 rfl i hi)) $$ O
  iintro O
  iapply (wp_load_ag_as c (Memref.whole cc0_scratch3) (Rect.unit (s := S512x4096) ![0, 1024] S256x256.size inb_S512x4096_S256x256_0_1024) (ropeS 32) (ropeT m c) (ropePay 0 4 (qrv m c) (krv m c)) (rope_ld m c 0 4 _ rfl rfl _) (fun j => ropeS_all _)) $$ R
  iintro R
  iapply (wp_load_dead c (Memref.whole cc0_scratch2) (Rect.unit (s := S512x1024) ![0, 256] S256x64.size inb_S512x1024_S256x64_0_256) (outS 4) (outT m c)) $$ O
  iintro %_ O
  iapply (wp_store_ag c (Memref.whole cc0_scratch2) (Rect.unit (s := S512x1024) ![0, 256] S256x64.size inb_S512x1024_S256x64_0_256) (outS 4) (outS 5) (outT m c) (k0_pay98 (qv m c) (keys m) (vals m) (ropePay 0 4 (qrv m c) (krv m c)))
    ((show (k0_pay98 (qv m c) (keys m) (vals m) (ropePay 0 4 (qrv m c) (krv m c))) = headPay 0 4 (qv m c) (keys m) (vals m) (ropePay 0 4 (qrv m c) (krv m c)) from rfl).trans (out_ld m c 0 4 _ rfl rfl _).symm)
    (fun i hi => outS_step 0 4 (by decide) _ rfl rfl _ 4 rfl i hi)) $$ O
  iintro O
  rw [wp_ret]; imodintro
  iapply Hk
  isplitl [R]; · iexact R
  iexact O

theorem part42 (Q : (Σ' (v1255 : FVec F S256x64 .bf16) (v1256 : FVec F S256x64 .bf16) (v1257 : FVec F S256x64 .bf16), FVec F S256x256 .f32) → sProp (MT nD τ sig Unit (Elt F) ℕ UU ℕ))  :
    iprop(ag c (Memref.whole cc0_scratch3) (ropeS 32) (ropeT m c) ∗ ag c (Memref.whole cc0_scratch2) (outS 5) (outT m c))
      ⊢ iprop(((ag c (Memref.whole cc0_scratch3) (ropeS 32) (ropeT m c) ∗ ag c (Memref.whole cc0_scratch2) (outS 7) (outT m c)) -∗ Q ⟨(k0_pay103 (qv m c)), (k0_pay104 (keys m)), (k0_pay105 (vals m)), ((constant S256x256 .f32 0x00000000#32))⟩)
          -∗ wp frame (wpE (defs₀ (F := F)) 𝒱₀ (c : Thread nD τ) none) Set.univ
            (k0_part42 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qv m c) (keys m) (vals m) (k0_pay99 (vals m)) (k0_pay100 (qv m c) (keys m)) ((Scalar.ofBits .f32 0x3DD105EC#32))) Q) := by
  rw [k0_part42_eq_skeleton]; unfold k0_part42_skel
  simp only [semSignalWord, semWaitWord, Prog.lift, Prog.bind_op, Prog.bind_ret, Prog.pure_eq_ret, wp_deviceId]
  iintro ⟨R, O⟩ Hk
  iapply (wp_load_ag_as c (Memref.whole cc0_scratch3) (Rect.unit (s := S512x4096) ![0, 1280] S256x256.size inb_S512x4096_S256x256_0_1280) (ropeS 32) (ropeT m c) (ropePay 0 5 (qrv m c) (krv m c)) (rope_ld m c 0 5 _ rfl rfl _) (fun j => ropeS_all _)) $$ R
  iintro R
  iapply (wp_load_dead c (Memref.whole cc0_scratch2) (Rect.unit (s := S512x1024) ![0, 320] S256x64.size inb_S512x1024_S256x64_0_320) (outS 5) (outT m c)) $$ O
  iintro %_ O
  iapply (wp_store_ag c (Memref.whole cc0_scratch2) (Rect.unit (s := S512x1024) ![0, 320] S256x64.size inb_S512x1024_S256x64_0_320) (outS 5) (outS 6) (outT m c) (k0_pay101 (k0_pay99 (vals m)) (k0_pay100 (qv m c) (keys m)) ((Scalar.ofBits .f32 0x3DD105EC#32)) (ropePay 0 5 (qrv m c) (krv m c)))
    ((show (k0_pay101 (k0_pay99 (vals m)) (k0_pay100 (qv m c) (keys m)) ((Scalar.ofBits .f32 0x3DD105EC#32)) (ropePay 0 5 (qrv m c) (krv m c))) = headPay 0 5 (qv m c) (keys m) (vals m) (ropePay 0 5 (qrv m c) (krv m c)) from rfl).trans (out_ld m c 0 5 _ rfl rfl _).symm)
    (fun i hi => outS_step 0 5 (by decide) _ rfl rfl _ 5 rfl i hi)) $$ O
  iintro O
  iapply (wp_load_ag_as c (Memref.whole cc0_scratch3) (Rect.unit (s := S512x4096) ![0, 1536] S256x256.size inb_S512x4096_S256x256_0_1536) (ropeS 32) (ropeT m c) (ropePay 0 6 (qrv m c) (krv m c)) (rope_ld m c 0 6 _ rfl rfl _) (fun j => ropeS_all _)) $$ R
  iintro R
  iapply (wp_load_dead c (Memref.whole cc0_scratch2) (Rect.unit (s := S512x1024) ![0, 384] S256x64.size inb_S512x1024_S256x64_0_384) (outS 6) (outT m c)) $$ O
  iintro %_ O
  iapply (wp_store_ag c (Memref.whole cc0_scratch2) (Rect.unit (s := S512x1024) ![0, 384] S256x64.size inb_S512x1024_S256x64_0_384) (outS 6) (outS 7) (outT m c) (k0_pay102 (qv m c) (keys m) (vals m) (ropePay 0 6 (qrv m c) (krv m c)))
    ((show (k0_pay102 (qv m c) (keys m) (vals m) (ropePay 0 6 (qrv m c) (krv m c))) = headPay 0 6 (qv m c) (keys m) (vals m) (ropePay 0 6 (qrv m c) (krv m c)) from rfl).trans (out_ld m c 0 6 _ rfl rfl _).symm)
    (fun i hi => outS_step 0 6 (by decide) _ rfl rfl _ 6 rfl i hi)) $$ O
  iintro O
  rw [wp_ret]; imodintro
  iapply Hk
  isplitl [R]; · iexact R
  iexact O

theorem part43 (Q : (Σ' (v1297 : FVec F S256x64 .bf16), FVec F S256x64 .bf16) → sProp (MT nD τ sig Unit (Elt F) ℕ UU ℕ))  :
    iprop(ag c (Memref.whole cc0_scratch3) (ropeS 32) (ropeT m c) ∗ ag c (Memref.whole cc0_scratch2) (outS 7) (outT m c))
      ⊢ iprop(((ag c (Memref.whole cc0_scratch3) (ropeS 32) (ropeT m c) ∗ ag c (Memref.whole cc0_scratch2) (outS 9) (outT m c)) -∗ Q ⟨(k0_pay108 (qv m c)), (k0_pay109 (keys m))⟩)
          -∗ wp frame (wpE (defs₀ (F := F)) 𝒱₀ (c : Thread nD τ) none) Set.univ
            (k0_part43 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qv m c) (keys m) (vals m) (k0_pay103 (qv m c)) (k0_pay104 (keys m)) (k0_pay105 (vals m)) ((constant S256x256 .f32 0x00000000#32))) Q) := by
  rw [k0_part43_eq_skeleton]; unfold k0_part43_skel
  simp only [semSignalWord, semWaitWord, Prog.lift, Prog.bind_op, Prog.bind_ret, Prog.pure_eq_ret, wp_deviceId]
  iintro ⟨R, O⟩ Hk
  iapply (wp_load_ag_as c (Memref.whole cc0_scratch3) (Rect.unit (s := S512x4096) ![0, 1792] S256x256.size inb_S512x4096_S256x256_0_1792) (ropeS 32) (ropeT m c) (ropePay 0 7 (qrv m c) (krv m c)) (rope_ld m c 0 7 _ rfl rfl _) (fun j => ropeS_all _)) $$ R
  iintro R
  iapply (wp_load_dead c (Memref.whole cc0_scratch2) (Rect.unit (s := S512x1024) ![0, 448] S256x64.size inb_S512x1024_S256x64_0_448) (outS 7) (outT m c)) $$ O
  iintro %_ O
  iapply (wp_store_ag c (Memref.whole cc0_scratch2) (Rect.unit (s := S512x1024) ![0, 448] S256x64.size inb_S512x1024_S256x64_0_448) (outS 7) (outS 8) (outT m c) (k0_pay106 (k0_pay103 (qv m c)) (k0_pay104 (keys m)) (k0_pay105 (vals m)) ((constant S256x256 .f32 0x00000000#32)) (ropePay 0 7 (qrv m c) (krv m c)))
    ((show (k0_pay106 (k0_pay103 (qv m c)) (k0_pay104 (keys m)) (k0_pay105 (vals m)) ((constant S256x256 .f32 0x00000000#32)) (ropePay 0 7 (qrv m c) (krv m c))) = headPay 0 7 (qv m c) (keys m) (vals m) (ropePay 0 7 (qrv m c) (krv m c)) from rfl).trans (out_ld m c 0 7 _ rfl rfl _).symm)
    (fun i hi => outS_step 0 7 (by decide) _ rfl rfl _ 7 rfl i hi)) $$ O
  iintro O
  iapply (wp_load_ag_as c (Memref.whole cc0_scratch3) (Rect.unit (s := S512x4096) ![0, 2048] S256x256.size inb_S512x4096_S256x256_0_2048) (ropeS 32) (ropeT m c) (ropePay 0 8 (qrv m c) (krv m c)) (rope_ld m c 0 8 _ rfl rfl _) (fun j => ropeS_all _)) $$ R
  iintro R
  iapply (wp_load_dead c (Memref.whole cc0_scratch2) (Rect.unit (s := S512x1024) ![0, 512] S256x64.size inb_S512x1024_S256x64_0_512) (outS 8) (outT m c)) $$ O
  iintro %_ O
  iapply (wp_store_ag c (Memref.whole cc0_scratch2) (Rect.unit (s := S512x1024) ![0, 512] S256x64.size inb_S512x1024_S256x64_0_512) (outS 8) (outS 9) (outT m c) (k0_pay107 (qv m c) (keys m) (vals m) (ropePay 0 8 (qrv m c) (krv m c)))
    ((show (k0_pay107 (qv m c) (keys m) (vals m) (ropePay 0 8 (qrv m c) (krv m c))) = headPay 0 8 (qv m c) (keys m) (vals m) (ropePay 0 8 (qrv m c) (krv m c)) from rfl).trans (out_ld m c 0 8 _ rfl rfl _).symm)
    (fun i hi => outS_step 0 8 (by decide) _ rfl rfl _ 8 rfl i hi)) $$ O
  iintro O
  rw [wp_ret]; imodintro
  iapply Hk
  isplitl [R]; · iexact R
  iexact O

theorem part44 (Q : (PUnit) → sProp (MT nD τ sig Unit (Elt F) ℕ UU ℕ))  :
    iprop(ag c (Memref.whole cc0_scratch3) (ropeS 32) (ropeT m c) ∗ ag c (Memref.whole cc0_scratch2) (outS 9) (outT m c))
      ⊢ iprop(((ag c (Memref.whole cc0_scratch3) (ropeS 32) (ropeT m c) ∗ ag c (Memref.whole cc0_scratch2) (outS 11) (outT m c)) -∗ Q ⟨⟩)
          -∗ wp frame (wpE (defs₀ (F := F)) 𝒱₀ (c : Thread nD τ) none) Set.univ
            (k0_part44 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qv m c) (keys m) (vals m) (k0_pay108 (qv m c)) (k0_pay109 (keys m))) Q) := by
  rw [k0_part44_eq_skeleton]; unfold k0_part44_skel
  simp only [semSignalWord, semWaitWord, Prog.lift, Prog.bind_op, Prog.bind_ret, Prog.pure_eq_ret, wp_deviceId]
  iintro ⟨R, O⟩ Hk
  iapply (wp_load_ag_as c (Memref.whole cc0_scratch3) (Rect.unit (s := S512x4096) ![0, 2304] S256x256.size inb_S512x4096_S256x256_0_2304) (ropeS 32) (ropeT m c) (ropePay 0 9 (qrv m c) (krv m c)) (rope_ld m c 0 9 _ rfl rfl _) (fun j => ropeS_all _)) $$ R
  iintro R
  iapply (wp_load_dead c (Memref.whole cc0_scratch2) (Rect.unit (s := S512x1024) ![0, 576] S256x64.size inb_S512x1024_S256x64_0_576) (outS 9) (outT m c)) $$ O
  iintro %_ O
  iapply (wp_store_ag c (Memref.whole cc0_scratch2) (Rect.unit (s := S512x1024) ![0, 576] S256x64.size inb_S512x1024_S256x64_0_576) (outS 9) (outS 10) (outT m c) (k0_pay110 (vals m) (k0_pay108 (qv m c)) (k0_pay109 (keys m)) (ropePay 0 9 (qrv m c) (krv m c)))
    ((show (k0_pay110 (vals m) (k0_pay108 (qv m c)) (k0_pay109 (keys m)) (ropePay 0 9 (qrv m c) (krv m c))) = headPay 0 9 (qv m c) (keys m) (vals m) (ropePay 0 9 (qrv m c) (krv m c)) from rfl).trans (out_ld m c 0 9 _ rfl rfl _).symm)
    (fun i hi => outS_step 0 9 (by decide) _ rfl rfl _ 9 rfl i hi)) $$ O
  iintro O
  iapply (wp_load_ag_as c (Memref.whole cc0_scratch3) (Rect.unit (s := S512x4096) ![0, 2560] S256x256.size inb_S512x4096_S256x256_0_2560) (ropeS 32) (ropeT m c) (ropePay 0 10 (qrv m c) (krv m c)) (rope_ld m c 0 10 _ rfl rfl _) (fun j => ropeS_all _)) $$ R
  iintro R
  iapply (wp_load_dead c (Memref.whole cc0_scratch2) (Rect.unit (s := S512x1024) ![0, 640] S256x64.size inb_S512x1024_S256x64_0_640) (outS 10) (outT m c)) $$ O
  iintro %_ O
  iapply (wp_store_ag c (Memref.whole cc0_scratch2) (Rect.unit (s := S512x1024) ![0, 640] S256x64.size inb_S512x1024_S256x64_0_640) (outS 10) (outS 11) (outT m c) (k0_pay111 (qv m c) (keys m) (vals m) (ropePay 0 10 (qrv m c) (krv m c)))
    ((show (k0_pay111 (qv m c) (keys m) (vals m) (ropePay 0 10 (qrv m c) (krv m c))) = headPay 0 10 (qv m c) (keys m) (vals m) (ropePay 0 10 (qrv m c) (krv m c)) from rfl).trans (out_ld m c 0 10 _ rfl rfl _).symm)
    (fun i hi => outS_step 0 10 (by decide) _ rfl rfl _ 10 rfl i hi)) $$ O
  iintro O
  rw [wp_ret]; imodintro
  iapply Hk
  isplitl [R]; · iexact R
  iexact O

theorem part45 (Q : (FVec F S256x64 .bf16) → sProp (MT nD τ sig Unit (Elt F) ℕ UU ℕ))  :
    iprop(ag c (Memref.whole cc0_scratch3) (ropeS 32) (ropeT m c) ∗ ag c (Memref.whole cc0_scratch2) (outS 11) (outT m c))
      ⊢ iprop(((ag c (Memref.whole cc0_scratch3) (ropeS 32) (ropeT m c) ∗ ag c (Memref.whole cc0_scratch2) (outS 12) (outT m c)) -∗ Q (k0_pay113 (qv m c) (keys m) (vals m) (ropePay 0 12 (qrv m c) (krv m c))))
          -∗ wp frame (wpE (defs₀ (F := F)) 𝒱₀ (c : Thread nD τ) none) Set.univ
            (k0_part45 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qv m c) (keys m) (vals m)) Q) := by
  rw [k0_part45_eq_skeleton]; unfold k0_part45_skel
  simp only [semSignalWord, semWaitWord, Prog.lift, Prog.bind_op, Prog.bind_ret, Prog.pure_eq_ret, wp_deviceId]
  iintro ⟨R, O⟩ Hk
  iapply (wp_load_ag_as c (Memref.whole cc0_scratch3) (Rect.unit (s := S512x4096) ![0, 2816] S256x256.size inb_S512x4096_S256x256_0_2816) (ropeS 32) (ropeT m c) (ropePay 0 11 (qrv m c) (krv m c)) (rope_ld m c 0 11 _ rfl rfl _) (fun j => ropeS_all _)) $$ R
  iintro R
  iapply (wp_load_dead c (Memref.whole cc0_scratch2) (Rect.unit (s := S512x1024) ![0, 704] S256x64.size inb_S512x1024_S256x64_0_704) (outS 11) (outT m c)) $$ O
  iintro %_ O
  iapply (wp_store_ag c (Memref.whole cc0_scratch2) (Rect.unit (s := S512x1024) ![0, 704] S256x64.size inb_S512x1024_S256x64_0_704) (outS 11) (outS 12) (outT m c) (k0_pay112 (qv m c) (keys m) (vals m) (ropePay 0 11 (qrv m c) (krv m c)))
    ((show (k0_pay112 (qv m c) (keys m) (vals m) (ropePay 0 11 (qrv m c) (krv m c))) = headPay 0 11 (qv m c) (keys m) (vals m) (ropePay 0 11 (qrv m c) (krv m c)) from rfl).trans (out_ld m c 0 11 _ rfl rfl _).symm)
    (fun i hi => outS_step 0 11 (by decide) _ rfl rfl _ 11 rfl i hi)) $$ O
  iintro O
  iapply (wp_load_ag_as c (Memref.whole cc0_scratch3) (Rect.unit (s := S512x4096) ![0, 3072] S256x256.size inb_S512x4096_S256x256_0_3072) (ropeS 32) (ropeT m c) (ropePay 0 12 (qrv m c) (krv m c)) (rope_ld m c 0 12 _ rfl rfl _) (fun j => ropeS_all _)) $$ R
  iintro R
  iapply (wp_load_dead c (Memref.whole cc0_scratch2) (Rect.unit (s := S512x1024) ![0, 768] S256x64.size inb_S512x1024_S256x64_0_768) (outS 12) (outT m c)) $$ O
  iintro %_ O
  rw [wp_ret]; imodintro
  iapply Hk
  isplitl [R]; · iexact R
  iexact O

theorem part46 (Q : (FVec F S256x64 .bf16) → sProp (MT nD τ sig Unit (Elt F) ℕ UU ℕ))  :
    iprop(ag c (Memref.whole cc0_scratch2) (outS 12) (outT m c) ∗ ag c (Memref.whole cc0_scratch3) (ropeS 32) (ropeT m c))
      ⊢ iprop(((ag c (Memref.whole cc0_scratch2) (outS 14) (outT m c) ∗ ag c (Memref.whole cc0_scratch3) (ropeS 32) (ropeT m c)) -∗ Q (k0_pay116 (qv m c) (keys m) (vals m) (ropePay 0 14 (qrv m c) (krv m c))))
          -∗ wp frame (wpE (defs₀ (F := F)) 𝒱₀ (c : Thread nD τ) none) Set.univ
            (k0_part46 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qv m c) (keys m) (vals m) (k0_pay113 (qv m c) (keys m) (vals m) (ropePay 0 12 (qrv m c) (krv m c)))) Q) := by
  rw [k0_part46_eq_skeleton]; unfold k0_part46_skel
  simp only [semSignalWord, semWaitWord, Prog.lift, Prog.bind_op, Prog.bind_ret, Prog.pure_eq_ret, wp_deviceId]
  iintro ⟨O, R⟩ Hk
  iapply (wp_store_ag c (Memref.whole cc0_scratch2) (Rect.unit (s := S512x1024) ![0, 768] S256x64.size inb_S512x1024_S256x64_0_768) (outS 12) (outS 13) (outT m c) (k0_pay114 (k0_pay113 (qv m c) (keys m) (vals m) (ropePay 0 12 (qrv m c) (krv m c))))
    ((show (k0_pay114 (k0_pay113 (qv m c) (keys m) (vals m) (ropePay 0 12 (qrv m c) (krv m c)))) = headPay 0 12 (qv m c) (keys m) (vals m) (ropePay 0 12 (qrv m c) (krv m c)) from rfl).trans (out_ld m c 0 12 _ rfl rfl _).symm)
    (fun i hi => outS_step 0 12 (by decide) _ rfl rfl _ 12 rfl i hi)) $$ O
  iintro O
  iapply (wp_load_ag_as c (Memref.whole cc0_scratch3) (Rect.unit (s := S512x4096) ![0, 3328] S256x256.size inb_S512x4096_S256x256_0_3328) (ropeS 32) (ropeT m c) (ropePay 0 13 (qrv m c) (krv m c)) (rope_ld m c 0 13 _ rfl rfl _) (fun j => ropeS_all _)) $$ R
  iintro R
  iapply (wp_load_dead c (Memref.whole cc0_scratch2) (Rect.unit (s := S512x1024) ![0, 832] S256x64.size inb_S512x1024_S256x64_0_832) (outS 13) (outT m c)) $$ O
  iintro %_ O
  iapply (wp_store_ag c (Memref.whole cc0_scratch2) (Rect.unit (s := S512x1024) ![0, 832] S256x64.size inb_S512x1024_S256x64_0_832) (outS 13) (outS 14) (outT m c) (k0_pay115 (qv m c) (keys m) (vals m) (ropePay 0 13 (qrv m c) (krv m c)))
    ((show (k0_pay115 (qv m c) (keys m) (vals m) (ropePay 0 13 (qrv m c) (krv m c))) = headPay 0 13 (qv m c) (keys m) (vals m) (ropePay 0 13 (qrv m c) (krv m c)) from rfl).trans (out_ld m c 0 13 _ rfl rfl _).symm)
    (fun i hi => outS_step 0 13 (by decide) _ rfl rfl _ 13 rfl i hi)) $$ O
  iintro O
  iapply (wp_load_ag_as c (Memref.whole cc0_scratch3) (Rect.unit (s := S512x4096) ![0, 3584] S256x256.size inb_S512x4096_S256x256_0_3584) (ropeS 32) (ropeT m c) (ropePay 0 14 (qrv m c) (krv m c)) (rope_ld m c 0 14 _ rfl rfl _) (fun j => ropeS_all _)) $$ R
  iintro R
  rw [wp_ret]; imodintro
  iapply Hk
  isplitl [O]; · iexact O
  iexact R

theorem part47 (Q : (FVec F S256x64 .bf16) → sProp (MT nD τ sig Unit (Elt F) ℕ UU ℕ))  :
    iprop(ag c (Memref.whole cc0_scratch2) (outS 14) (outT m c) ∗ ag c (Memref.whole cc0_scratch3) (ropeS 32) (ropeT m c))
      ⊢ iprop(((ag c (Memref.whole cc0_scratch2) (outS 16) (outT m c) ∗ ag c (Memref.whole cc0_scratch3) (ropeS 32) (ropeT m c)) -∗ Q (k0_pay119 (qv m c) (keys m) (vals m) (ropePay 1 0 (qrv m c) (krv m c))))
          -∗ wp frame (wpE (defs₀ (F := F)) 𝒱₀ (c : Thread nD τ) none) Set.univ
            (k0_part47 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qv m c) (keys m) (vals m) (k0_pay116 (qv m c) (keys m) (vals m) (ropePay 0 14 (qrv m c) (krv m c)))) Q) := by
  rw [k0_part47_eq_skeleton]; unfold k0_part47_skel
  simp only [semSignalWord, semWaitWord, Prog.lift, Prog.bind_op, Prog.bind_ret, Prog.pure_eq_ret, wp_deviceId]
  iintro ⟨O, R⟩ Hk
  iapply (wp_load_dead c (Memref.whole cc0_scratch2) (Rect.unit (s := S512x1024) ![0, 896] S256x64.size inb_S512x1024_S256x64_0_896) (outS 14) (outT m c)) $$ O
  iintro %_ O
  iapply (wp_store_ag c (Memref.whole cc0_scratch2) (Rect.unit (s := S512x1024) ![0, 896] S256x64.size inb_S512x1024_S256x64_0_896) (outS 14) (outS 15) (outT m c) (k0_pay117 (k0_pay116 (qv m c) (keys m) (vals m) (ropePay 0 14 (qrv m c) (krv m c))))
    ((show (k0_pay117 (k0_pay116 (qv m c) (keys m) (vals m) (ropePay 0 14 (qrv m c) (krv m c)))) = headPay 0 14 (qv m c) (keys m) (vals m) (ropePay 0 14 (qrv m c) (krv m c)) from rfl).trans (out_ld m c 0 14 _ rfl rfl _).symm)
    (fun i hi => outS_step 0 14 (by decide) _ rfl rfl _ 14 rfl i hi)) $$ O
  iintro O
  iapply (wp_load_ag_as c (Memref.whole cc0_scratch3) (Rect.unit (s := S512x4096) ![0, 3840] S256x256.size inb_S512x4096_S256x256_0_3840) (ropeS 32) (ropeT m c) (ropePay 0 15 (qrv m c) (krv m c)) (rope_ld m c 0 15 _ rfl rfl _) (fun j => ropeS_all _)) $$ R
  iintro R
  iapply (wp_load_dead c (Memref.whole cc0_scratch2) (Rect.unit (s := S512x1024) ![0, 960] S256x64.size inb_S512x1024_S256x64_0_960) (outS 15) (outT m c)) $$ O
  iintro %_ O
  iapply (wp_store_ag c (Memref.whole cc0_scratch2) (Rect.unit (s := S512x1024) ![0, 960] S256x64.size inb_S512x1024_S256x64_0_960) (outS 15) (outS 16) (outT m c) (k0_pay118 (qv m c) (keys m) (vals m) (ropePay 0 15 (qrv m c) (krv m c)))
    ((show (k0_pay118 (qv m c) (keys m) (vals m) (ropePay 0 15 (qrv m c) (krv m c))) = headPay 0 15 (qv m c) (keys m) (vals m) (ropePay 0 15 (qrv m c) (krv m c)) from rfl).trans (out_ld m c 0 15 _ rfl rfl _).symm)
    (fun i hi => outS_step 0 15 (by decide) _ rfl rfl _ 15 rfl i hi)) $$ O
  iintro O
  iapply (wp_load_ag_as c (Memref.whole cc0_scratch3) (Rect.unit (s := S512x4096) ![256, 0] S256x256.size inb_S512x4096_S256x256_256_0) (ropeS 32) (ropeT m c) (ropePay 1 0 (qrv m c) (krv m c)) (rope_ld m c 1 0 _ rfl rfl _) (fun j => ropeS_all _)) $$ R
  iintro R
  rw [wp_ret]; imodintro
  iapply Hk
  isplitl [O]; · iexact O
  iexact R

theorem part48 (Q : (Σ' (v1500 : FVec F S256x64 .f32), FVec F S256x64 .f32) → sProp (MT nD τ sig Unit (Elt F) ℕ UU ℕ))  :
    iprop(ag c (Memref.whole cc0_scratch2) (outS 16) (outT m c) ∗ ag c (Memref.whole cc0_scratch3) (ropeS 32) (ropeT m c))
      ⊢ iprop(((ag c (Memref.whole cc0_scratch2) (outS 18) (outT m c) ∗ ag c (Memref.whole cc0_scratch3) (ropeS 32) (ropeT m c)) -∗ Q ⟨(k0_pay123 (qv m c) (keys m) (vals m) (ropePay 1 2 (qrv m c) (krv m c))), (k0_pay124 (qv m c) (keys m) (ropePay 1 2 (qrv m c) (krv m c)))⟩)
          -∗ wp frame (wpE (defs₀ (F := F)) 𝒱₀ (c : Thread nD τ) none) Set.univ
            (k0_part48 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qv m c) (keys m) (vals m) (k0_pay119 (qv m c) (keys m) (vals m) (ropePay 1 0 (qrv m c) (krv m c)))) Q) := by
  rw [k0_part48_eq_skeleton]; unfold k0_part48_skel
  simp only [semSignalWord, semWaitWord, Prog.lift, Prog.bind_op, Prog.bind_ret, Prog.pure_eq_ret, wp_deviceId]
  iintro ⟨O, R⟩ Hk
  iapply (wp_load_dead c (Memref.whole cc0_scratch2) (Rect.unit (s := S512x1024) ![256, 0] S256x64.size inb_S512x1024_S256x64_256_0) (outS 16) (outT m c)) $$ O
  iintro %_ O
  iapply (wp_store_ag c (Memref.whole cc0_scratch2) (Rect.unit (s := S512x1024) ![256, 0] S256x64.size inb_S512x1024_S256x64_256_0) (outS 16) (outS 17) (outT m c) (k0_pay120 (k0_pay119 (qv m c) (keys m) (vals m) (ropePay 1 0 (qrv m c) (krv m c))))
    ((show (k0_pay120 (k0_pay119 (qv m c) (keys m) (vals m) (ropePay 1 0 (qrv m c) (krv m c)))) = headPay 1 0 (qv m c) (keys m) (vals m) (ropePay 1 0 (qrv m c) (krv m c)) from rfl).trans (out_ld m c 1 0 _ rfl rfl _).symm)
    (fun i hi => outS_step 1 0 (by decide) _ rfl rfl _ 16 rfl i hi)) $$ O
  iintro O
  iapply (wp_load_ag_as c (Memref.whole cc0_scratch3) (Rect.unit (s := S512x4096) ![256, 256] S256x256.size inb_S512x4096_S256x256_256_256) (ropeS 32) (ropeT m c) (ropePay 1 1 (qrv m c) (krv m c)) (rope_ld m c 1 1 _ rfl rfl _) (fun j => ropeS_all _)) $$ R
  iintro R
  iapply (wp_load_dead c (Memref.whole cc0_scratch2) (Rect.unit (s := S512x1024) ![256, 64] S256x64.size inb_S512x1024_S256x64_256_64) (outS 17) (outT m c)) $$ O
  iintro %_ O
  iapply (wp_store_ag c (Memref.whole cc0_scratch2) (Rect.unit (s := S512x1024) ![256, 64] S256x64.size inb_S512x1024_S256x64_256_64) (outS 17) (outS 18) (outT m c) (k0_pay121 (qv m c) (keys m) (vals m) (ropePay 1 1 (qrv m c) (krv m c)))
    ((show (k0_pay121 (qv m c) (keys m) (vals m) (ropePay 1 1 (qrv m c) (krv m c))) = headPay 1 1 (qv m c) (keys m) (vals m) (ropePay 1 1 (qrv m c) (krv m c)) from rfl).trans (out_ld m c 1 1 _ rfl rfl _).symm)
    (fun i hi => outS_step 1 1 (by decide) _ rfl rfl _ 17 rfl i hi)) $$ O
  iintro O
  iapply (wp_load_ag_as c (Memref.whole cc0_scratch3) (Rect.unit (s := S512x4096) ![256, 512] S256x256.size inb_S512x4096_S256x256_256_512) (ropeS 32) (ropeT m c) (ropePay 1 2 (qrv m c) (krv m c)) (rope_ld m c 1 2 _ rfl rfl _) (fun j => ropeS_all _)) $$ R
  iintro R
  rw [wp_ret]; imodintro
  iapply Hk
  isplitl [O]; · iexact O
  iexact R

theorem part49 (Q : (Σ' (v1530 : FVec F S256x64 .bf16) (v1540 : FVec F S256x1 .f32) (v1541 : FVec F S256x256 .bf16), FVec F S256x64 .f32) → sProp (MT nD τ sig Unit (Elt F) ℕ UU ℕ))  :
    iprop(ag c (Memref.whole cc0_scratch2) (outS 18) (outT m c) ∗ ag c (Memref.whole cc0_scratch3) (ropeS 32) (ropeT m c))
      ⊢ iprop(((ag c (Memref.whole cc0_scratch2) (outS 20) (outT m c) ∗ ag c (Memref.whole cc0_scratch3) (ropeS 32) (ropeT m c)) -∗ Q ⟨(k0_pay127 (vals m)), (k0_pay129 (qv m c) (keys m) (ropePay 1 4 (qrv m c) (krv m c))), (k0_pay130 (qv m c) (keys m) (ropePay 1 4 (qrv m c) (krv m c))), ((constant S256x64 .f32 0x00000000#32))⟩)
          -∗ wp frame (wpE (defs₀ (F := F)) 𝒱₀ (c : Thread nD τ) none) Set.univ
            (k0_part49 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qv m c) (keys m) (vals m) (k0_pay123 (qv m c) (keys m) (vals m) (ropePay 1 2 (qrv m c) (krv m c))) (k0_pay124 (qv m c) (keys m) (ropePay 1 2 (qrv m c) (krv m c)))) Q) := by
  rw [k0_part49_eq_skeleton]; unfold k0_part49_skel
  simp only [semSignalWord, semWaitWord, Prog.lift, Prog.bind_op, Prog.bind_ret, Prog.pure_eq_ret, wp_deviceId]
  iintro ⟨O, R⟩ Hk
  iapply (wp_load_dead c (Memref.whole cc0_scratch2) (Rect.unit (s := S512x1024) ![256, 128] S256x64.size inb_S512x1024_S256x64_256_128) (outS 18) (outT m c)) $$ O
  iintro %_ O
  iapply (wp_store_ag c (Memref.whole cc0_scratch2) (Rect.unit (s := S512x1024) ![256, 128] S256x64.size inb_S512x1024_S256x64_256_128) (outS 18) (outS 19) (outT m c) (k0_pay125 (k0_pay123 (qv m c) (keys m) (vals m) (ropePay 1 2 (qrv m c) (krv m c))) (k0_pay124 (qv m c) (keys m) (ropePay 1 2 (qrv m c) (krv m c))))
    ((show (k0_pay125 (k0_pay123 (qv m c) (keys m) (vals m) (ropePay 1 2 (qrv m c) (krv m c))) (k0_pay124 (qv m c) (keys m) (ropePay 1 2 (qrv m c) (krv m c)))) = headPay 1 2 (qv m c) (keys m) (vals m) (ropePay 1 2 (qrv m c) (krv m c)) from rfl).trans (out_ld m c 1 2 _ rfl rfl _).symm)
    (fun i hi => outS_step 1 2 (by decide) _ rfl rfl _ 18 rfl i hi)) $$ O
  iintro O
  iapply (wp_load_ag_as c (Memref.whole cc0_scratch3) (Rect.unit (s := S512x4096) ![256, 768] S256x256.size inb_S512x4096_S256x256_256_768) (ropeS 32) (ropeT m c) (ropePay 1 3 (qrv m c) (krv m c)) (rope_ld m c 1 3 _ rfl rfl _) (fun j => ropeS_all _)) $$ R
  iintro R
  iapply (wp_load_dead c (Memref.whole cc0_scratch2) (Rect.unit (s := S512x1024) ![256, 192] S256x64.size inb_S512x1024_S256x64_256_192) (outS 19) (outT m c)) $$ O
  iintro %_ O
  iapply (wp_store_ag c (Memref.whole cc0_scratch2) (Rect.unit (s := S512x1024) ![256, 192] S256x64.size inb_S512x1024_S256x64_256_192) (outS 19) (outS 20) (outT m c) (k0_pay126 (qv m c) (keys m) (vals m) (ropePay 1 3 (qrv m c) (krv m c)))
    ((show (k0_pay126 (qv m c) (keys m) (vals m) (ropePay 1 3 (qrv m c) (krv m c))) = headPay 1 3 (qv m c) (keys m) (vals m) (ropePay 1 3 (qrv m c) (krv m c)) from rfl).trans (out_ld m c 1 3 _ rfl rfl _).symm)
    (fun i hi => outS_step 1 3 (by decide) _ rfl rfl _ 19 rfl i hi)) $$ O
  iintro O
  iapply (wp_load_ag_as c (Memref.whole cc0_scratch3) (Rect.unit (s := S512x4096) ![256, 1024] S256x256.size inb_S512x4096_S256x256_256_1024) (ropeS 32) (ropeT m c) (ropePay 1 4 (qrv m c) (krv m c)) (rope_ld m c 1 4 _ rfl rfl _) (fun j => ropeS_all _)) $$ R
  iintro R
  rw [wp_ret]; imodintro
  iapply Hk
  isplitl [O]; · iexact O
  iexact R

theorem part50 (Q : (Σ' (v1572 : FVec F S256x64 .bf16) (v1578 : FVec F S256x256 .f32), FVec F S256x1 .f32) → sProp (MT nD τ sig Unit (Elt F) ℕ UU ℕ))  :
    iprop(ag c (Memref.whole cc0_scratch2) (outS 20) (outT m c) ∗ ag c (Memref.whole cc0_scratch3) (ropeS 32) (ropeT m c))
      ⊢ iprop(((ag c (Memref.whole cc0_scratch2) (outS 22) (outT m c) ∗ ag c (Memref.whole cc0_scratch3) (ropeS 32) (ropeT m c)) -∗ Q ⟨(k0_pay133 (vals m)), (k0_pay134 (qv m c) (keys m) (ropePay 1 6 (qrv m c) (krv m c))), (k0_pay135 (qv m c) (keys m) (ropePay 1 6 (qrv m c) (krv m c)))⟩)
          -∗ wp frame (wpE (defs₀ (F := F)) 𝒱₀ (c : Thread nD τ) none) Set.univ
            (k0_part50 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qv m c) (keys m) (vals m) (k0_pay127 (vals m)) (k0_pay129 (qv m c) (keys m) (ropePay 1 4 (qrv m c) (krv m c))) (k0_pay130 (qv m c) (keys m) (ropePay 1 4 (qrv m c) (krv m c))) ((constant S256x64 .f32 0x00000000#32))) Q) := by
  rw [k0_part50_eq_skeleton]; unfold k0_part50_skel
  simp only [semSignalWord, semWaitWord, Prog.lift, Prog.bind_op, Prog.bind_ret, Prog.pure_eq_ret, wp_deviceId]
  iintro ⟨O, R⟩ Hk
  iapply (wp_load_dead c (Memref.whole cc0_scratch2) (Rect.unit (s := S512x1024) ![256, 256] S256x64.size inb_S512x1024_S256x64_256_256) (outS 20) (outT m c)) $$ O
  iintro %_ O
  iapply (wp_store_ag c (Memref.whole cc0_scratch2) (Rect.unit (s := S512x1024) ![256, 256] S256x64.size inb_S512x1024_S256x64_256_256) (outS 20) (outS 21) (outT m c) (k0_pay131 (k0_pay127 (vals m)) (k0_pay129 (qv m c) (keys m) (ropePay 1 4 (qrv m c) (krv m c))) (k0_pay130 (qv m c) (keys m) (ropePay 1 4 (qrv m c) (krv m c))) ((constant S256x64 .f32 0x00000000#32)))
    ((show (k0_pay131 (k0_pay127 (vals m)) (k0_pay129 (qv m c) (keys m) (ropePay 1 4 (qrv m c) (krv m c))) (k0_pay130 (qv m c) (keys m) (ropePay 1 4 (qrv m c) (krv m c))) ((constant S256x64 .f32 0x00000000#32))) = headPay 1 4 (qv m c) (keys m) (vals m) (ropePay 1 4 (qrv m c) (krv m c)) from rfl).trans (out_ld m c 1 4 _ rfl rfl _).symm)
    (fun i hi => outS_step 1 4 (by decide) _ rfl rfl _ 20 rfl i hi)) $$ O
  iintro O
  iapply (wp_load_ag_as c (Memref.whole cc0_scratch3) (Rect.unit (s := S512x4096) ![256, 1280] S256x256.size inb_S512x4096_S256x256_256_1280) (ropeS 32) (ropeT m c) (ropePay 1 5 (qrv m c) (krv m c)) (rope_ld m c 1 5 _ rfl rfl _) (fun j => ropeS_all _)) $$ R
  iintro R
  iapply (wp_load_dead c (Memref.whole cc0_scratch2) (Rect.unit (s := S512x1024) ![256, 320] S256x64.size inb_S512x1024_S256x64_256_320) (outS 21) (outT m c)) $$ O
  iintro %_ O
  iapply (wp_store_ag c (Memref.whole cc0_scratch2) (Rect.unit (s := S512x1024) ![256, 320] S256x64.size inb_S512x1024_S256x64_256_320) (outS 21) (outS 22) (outT m c) (k0_pay132 (qv m c) (keys m) (vals m) (ropePay 1 5 (qrv m c) (krv m c)))
    ((show (k0_pay132 (qv m c) (keys m) (vals m) (ropePay 1 5 (qrv m c) (krv m c))) = headPay 1 5 (qv m c) (keys m) (vals m) (ropePay 1 5 (qrv m c) (krv m c)) from rfl).trans (out_ld m c 1 5 _ rfl rfl _).symm)
    (fun i hi => outS_step 1 5 (by decide) _ rfl rfl _ 21 rfl i hi)) $$ O
  iintro O
  iapply (wp_load_ag_as c (Memref.whole cc0_scratch3) (Rect.unit (s := S512x4096) ![256, 1536] S256x256.size inb_S512x4096_S256x256_256_1536) (ropeS 32) (ropeT m c) (ropePay 1 6 (qrv m c) (krv m c)) (rope_ld m c 1 6 _ rfl rfl _) (fun j => ropeS_all _)) $$ R
  iintro R
  rw [wp_ret]; imodintro
  iapply Hk
  isplitl [O]; · iexact O
  iexact R

theorem part51 (Q : (Σ' (v1614 : FVec F S256x64 .bf16) (v1620 : FVec F S256x256 .f32) (v1622 : FVec F S256x1 .f32), F .f32) → sProp (MT nD τ sig Unit (Elt F) ℕ UU ℕ))  :
    iprop(ag c (Memref.whole cc0_scratch2) (outS 22) (outT m c) ∗ ag c (Memref.whole cc0_scratch3) (ropeS 32) (ropeT m c))
      ⊢ iprop(((ag c (Memref.whole cc0_scratch2) (outS 24) (outT m c) ∗ ag c (Memref.whole cc0_scratch3) (ropeS 32) (ropeT m c)) -∗ Q ⟨(k0_pay138 (vals m)), (k0_pay139 (qv m c) (keys m) (ropePay 1 8 (qrv m c) (krv m c))), (k0_pay140 (qv m c) (keys m) (ropePay 1 8 (qrv m c) (krv m c))), ((Scalar.ofBits .f32 0x3F800000#32))⟩)
          -∗ wp frame (wpE (defs₀ (F := F)) 𝒱₀ (c : Thread nD τ) none) Set.univ
            (k0_part51 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qv m c) (keys m) (vals m) (k0_pay133 (vals m)) (k0_pay134 (qv m c) (keys m) (ropePay 1 6 (qrv m c) (krv m c))) (k0_pay135 (qv m c) (keys m) (ropePay 1 6 (qrv m c) (krv m c)))) Q) := by
  rw [k0_part51_eq_skeleton]; unfold k0_part51_skel
  simp only [semSignalWord, semWaitWord, Prog.lift, Prog.bind_op, Prog.bind_ret, Prog.pure_eq_ret, wp_deviceId]
  iintro ⟨O, R⟩ Hk
  iapply (wp_load_dead c (Memref.whole cc0_scratch2) (Rect.unit (s := S512x1024) ![256, 384] S256x64.size inb_S512x1024_S256x64_256_384) (outS 22) (outT m c)) $$ O
  iintro %_ O
  iapply (wp_store_ag c (Memref.whole cc0_scratch2) (Rect.unit (s := S512x1024) ![256, 384] S256x64.size inb_S512x1024_S256x64_256_384) (outS 22) (outS 23) (outT m c) (k0_pay136 (k0_pay133 (vals m)) (k0_pay134 (qv m c) (keys m) (ropePay 1 6 (qrv m c) (krv m c))) (k0_pay135 (qv m c) (keys m) (ropePay 1 6 (qrv m c) (krv m c))))
    ((show (k0_pay136 (k0_pay133 (vals m)) (k0_pay134 (qv m c) (keys m) (ropePay 1 6 (qrv m c) (krv m c))) (k0_pay135 (qv m c) (keys m) (ropePay 1 6 (qrv m c) (krv m c)))) = headPay 1 6 (qv m c) (keys m) (vals m) (ropePay 1 6 (qrv m c) (krv m c)) from rfl).trans (out_ld m c 1 6 _ rfl rfl _).symm)
    (fun i hi => outS_step 1 6 (by decide) _ rfl rfl _ 22 rfl i hi)) $$ O
  iintro O
  iapply (wp_load_ag_as c (Memref.whole cc0_scratch3) (Rect.unit (s := S512x4096) ![256, 1792] S256x256.size inb_S512x4096_S256x256_256_1792) (ropeS 32) (ropeT m c) (ropePay 1 7 (qrv m c) (krv m c)) (rope_ld m c 1 7 _ rfl rfl _) (fun j => ropeS_all _)) $$ R
  iintro R
  iapply (wp_load_dead c (Memref.whole cc0_scratch2) (Rect.unit (s := S512x1024) ![256, 448] S256x64.size inb_S512x1024_S256x64_256_448) (outS 23) (outT m c)) $$ O
  iintro %_ O
  iapply (wp_store_ag c (Memref.whole cc0_scratch2) (Rect.unit (s := S512x1024) ![256, 448] S256x64.size inb_S512x1024_S256x64_256_448) (outS 23) (outS 24) (outT m c) (k0_pay137 (qv m c) (keys m) (vals m) (ropePay 1 7 (qrv m c) (krv m c)))
    ((show (k0_pay137 (qv m c) (keys m) (vals m) (ropePay 1 7 (qrv m c) (krv m c))) = headPay 1 7 (qv m c) (keys m) (vals m) (ropePay 1 7 (qrv m c) (krv m c)) from rfl).trans (out_ld m c 1 7 _ rfl rfl _).symm)
    (fun i hi => outS_step 1 7 (by decide) _ rfl rfl _ 23 rfl i hi)) $$ O
  iintro O
  iapply (wp_load_ag_as c (Memref.whole cc0_scratch3) (Rect.unit (s := S512x4096) ![256, 2048] S256x256.size inb_S512x4096_S256x256_256_2048) (ropeS 32) (ropeT m c) (ropePay 1 8 (qrv m c) (krv m c)) (rope_ld m c 1 8 _ rfl rfl _) (fun j => ropeS_all _)) $$ R
  iintro R
  rw [wp_ret]; imodintro
  iapply Hk
  isplitl [O]; · iexact O
  iexact R

theorem part52 (Q : (Σ' (v1656 : FVec F S256x64 .bf16) (v1662 : FVec F S256x256 .f32), FVec F S256 .f32) → sProp (MT nD τ sig Unit (Elt F) ℕ UU ℕ))  :
    iprop(ag c (Memref.whole cc0_scratch2) (outS 24) (outT m c) ∗ ag c (Memref.whole cc0_scratch3) (ropeS 32) (ropeT m c))
      ⊢ iprop(((ag c (Memref.whole cc0_scratch2) (outS 26) (outT m c) ∗ ag c (Memref.whole cc0_scratch3) (ropeS 32) (ropeT m c)) -∗ Q ⟨(k0_pay143 (vals m)), (k0_pay144 (qv m c) (keys m) (ropePay 1 10 (qrv m c) (krv m c))), (k0_pay145 (qv m c) (keys m) (ropePay 1 10 (qrv m c) (krv m c)))⟩)
          -∗ wp frame (wpE (defs₀ (F := F)) 𝒱₀ (c : Thread nD τ) none) Set.univ
            (k0_part52 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qv m c) (keys m) (vals m) (k0_pay138 (vals m)) (k0_pay139 (qv m c) (keys m) (ropePay 1 8 (qrv m c) (krv m c))) (k0_pay140 (qv m c) (keys m) (ropePay 1 8 (qrv m c) (krv m c))) ((Scalar.ofBits .f32 0x3F800000#32))) Q) := by
  rw [k0_part52_eq_skeleton]; unfold k0_part52_skel
  simp only [semSignalWord, semWaitWord, Prog.lift, Prog.bind_op, Prog.bind_ret, Prog.pure_eq_ret, wp_deviceId]
  iintro ⟨O, R⟩ Hk
  iapply (wp_load_dead c (Memref.whole cc0_scratch2) (Rect.unit (s := S512x1024) ![256, 512] S256x64.size inb_S512x1024_S256x64_256_512) (outS 24) (outT m c)) $$ O
  iintro %_ O
  iapply (wp_store_ag c (Memref.whole cc0_scratch2) (Rect.unit (s := S512x1024) ![256, 512] S256x64.size inb_S512x1024_S256x64_256_512) (outS 24) (outS 25) (outT m c) (k0_pay141 (k0_pay138 (vals m)) (k0_pay139 (qv m c) (keys m) (ropePay 1 8 (qrv m c) (krv m c))) (k0_pay140 (qv m c) (keys m) (ropePay 1 8 (qrv m c) (krv m c))) ((Scalar.ofBits .f32 0x3F800000#32)))
    ((show (k0_pay141 (k0_pay138 (vals m)) (k0_pay139 (qv m c) (keys m) (ropePay 1 8 (qrv m c) (krv m c))) (k0_pay140 (qv m c) (keys m) (ropePay 1 8 (qrv m c) (krv m c))) ((Scalar.ofBits .f32 0x3F800000#32))) = headPay 1 8 (qv m c) (keys m) (vals m) (ropePay 1 8 (qrv m c) (krv m c)) from rfl).trans (out_ld m c 1 8 _ rfl rfl _).symm)
    (fun i hi => outS_step 1 8 (by decide) _ rfl rfl _ 24 rfl i hi)) $$ O
  iintro O
  iapply (wp_load_ag_as c (Memref.whole cc0_scratch3) (Rect.unit (s := S512x4096) ![256, 2304] S256x256.size inb_S512x4096_S256x256_256_2304) (ropeS 32) (ropeT m c) (ropePay 1 9 (qrv m c) (krv m c)) (rope_ld m c 1 9 _ rfl rfl _) (fun j => ropeS_all _)) $$ R
  iintro R
  iapply (wp_load_dead c (Memref.whole cc0_scratch2) (Rect.unit (s := S512x1024) ![256, 576] S256x64.size inb_S512x1024_S256x64_256_576) (outS 25) (outT m c)) $$ O
  iintro %_ O
  iapply (wp_store_ag c (Memref.whole cc0_scratch2) (Rect.unit (s := S512x1024) ![256, 576] S256x64.size inb_S512x1024_S256x64_256_576) (outS 25) (outS 26) (outT m c) (k0_pay142 (qv m c) (keys m) (vals m) (ropePay 1 9 (qrv m c) (krv m c)))
    ((show (k0_pay142 (qv m c) (keys m) (vals m) (ropePay 1 9 (qrv m c) (krv m c))) = headPay 1 9 (qv m c) (keys m) (vals m) (ropePay 1 9 (qrv m c) (krv m c)) from rfl).trans (out_ld m c 1 9 _ rfl rfl _).symm)
    (fun i hi => outS_step 1 9 (by decide) _ rfl rfl _ 25 rfl i hi)) $$ O
  iintro O
  iapply (wp_load_ag_as c (Memref.whole cc0_scratch3) (Rect.unit (s := S512x4096) ![256, 2560] S256x256.size inb_S512x4096_S256x256_256_2560) (ropeS 32) (ropeT m c) (ropePay 1 10 (qrv m c) (krv m c)) (rope_ld m c 1 10 _ rfl rfl _) (fun j => ropeS_all _)) $$ R
  iintro R
  rw [wp_ret]; imodintro
  iapply Hk
  isplitl [O]; · iexact O
  iexact R

theorem part53 (Q : (Σ' (v1698 : FVec F S256x64 .bf16), FVec F S256x256 .f32) → sProp (MT nD τ sig Unit (Elt F) ℕ UU ℕ))  :
    iprop(ag c (Memref.whole cc0_scratch2) (outS 26) (outT m c) ∗ ag c (Memref.whole cc0_scratch3) (ropeS 32) (ropeT m c))
      ⊢ iprop(((ag c (Memref.whole cc0_scratch2) (outS 28) (outT m c) ∗ ag c (Memref.whole cc0_scratch3) (ropeS 32) (ropeT m c)) -∗ Q ⟨(k0_pay148 (vals m)), (k0_pay149 (qv m c) (keys m) (ropePay 1 12 (qrv m c) (krv m c)))⟩)
          -∗ wp frame (wpE (defs₀ (F := F)) 𝒱₀ (c : Thread nD τ) none) Set.univ
            (k0_part53 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qv m c) (keys m) (vals m) (k0_pay143 (vals m)) (k0_pay144 (qv m c) (keys m) (ropePay 1 10 (qrv m c) (krv m c))) (k0_pay145 (qv m c) (keys m) (ropePay 1 10 (qrv m c) (krv m c)))) Q) := by
  rw [k0_part53_eq_skeleton]; unfold k0_part53_skel
  simp only [semSignalWord, semWaitWord, Prog.lift, Prog.bind_op, Prog.bind_ret, Prog.pure_eq_ret, wp_deviceId]
  iintro ⟨O, R⟩ Hk
  iapply (wp_load_dead c (Memref.whole cc0_scratch2) (Rect.unit (s := S512x1024) ![256, 640] S256x64.size inb_S512x1024_S256x64_256_640) (outS 26) (outT m c)) $$ O
  iintro %_ O
  iapply (wp_store_ag c (Memref.whole cc0_scratch2) (Rect.unit (s := S512x1024) ![256, 640] S256x64.size inb_S512x1024_S256x64_256_640) (outS 26) (outS 27) (outT m c) (k0_pay146 (k0_pay143 (vals m)) (k0_pay144 (qv m c) (keys m) (ropePay 1 10 (qrv m c) (krv m c))) (k0_pay145 (qv m c) (keys m) (ropePay 1 10 (qrv m c) (krv m c))))
    ((show (k0_pay146 (k0_pay143 (vals m)) (k0_pay144 (qv m c) (keys m) (ropePay 1 10 (qrv m c) (krv m c))) (k0_pay145 (qv m c) (keys m) (ropePay 1 10 (qrv m c) (krv m c)))) = headPay 1 10 (qv m c) (keys m) (vals m) (ropePay 1 10 (qrv m c) (krv m c)) from rfl).trans (out_ld m c 1 10 _ rfl rfl _).symm)
    (fun i hi => outS_step 1 10 (by decide) _ rfl rfl _ 26 rfl i hi)) $$ O
  iintro O
  iapply (wp_load_ag_as c (Memref.whole cc0_scratch3) (Rect.unit (s := S512x4096) ![256, 2816] S256x256.size inb_S512x4096_S256x256_256_2816) (ropeS 32) (ropeT m c) (ropePay 1 11 (qrv m c) (krv m c)) (rope_ld m c 1 11 _ rfl rfl _) (fun j => ropeS_all _)) $$ R
  iintro R
  iapply (wp_load_dead c (Memref.whole cc0_scratch2) (Rect.unit (s := S512x1024) ![256, 704] S256x64.size inb_S512x1024_S256x64_256_704) (outS 27) (outT m c)) $$ O
  iintro %_ O
  iapply (wp_store_ag c (Memref.whole cc0_scratch2) (Rect.unit (s := S512x1024) ![256, 704] S256x64.size inb_S512x1024_S256x64_256_704) (outS 27) (outS 28) (outT m c) (k0_pay147 (qv m c) (keys m) (vals m) (ropePay 1 11 (qrv m c) (krv m c)))
    ((show (k0_pay147 (qv m c) (keys m) (vals m) (ropePay 1 11 (qrv m c) (krv m c))) = headPay 1 11 (qv m c) (keys m) (vals m) (ropePay 1 11 (qrv m c) (krv m c)) from rfl).trans (out_ld m c 1 11 _ rfl rfl _).symm)
    (fun i hi => outS_step 1 11 (by decide) _ rfl rfl _ 27 rfl i hi)) $$ O
  iintro O
  iapply (wp_load_ag_as c (Memref.whole cc0_scratch3) (Rect.unit (s := S512x4096) ![256, 3072] S256x256.size inb_S512x4096_S256x256_256_3072) (ropeS 32) (ropeT m c) (ropePay 1 12 (qrv m c) (krv m c)) (rope_ld m c 1 12 _ rfl rfl _) (fun j => ropeS_all _)) $$ R
  iintro R
  rw [wp_ret]; imodintro
  iapply Hk
  isplitl [O]; · iexact O
  iexact R

theorem part54 (Q : (Σ' (v1740 : FVec F S256x64 .bf16) (v1743 : FVec F S256x256 .f32), Vec F S256x256 .f32) → sProp (MT nD τ sig Unit (Elt F) ℕ UU ℕ))  :
    iprop(ag c (Memref.whole cc0_scratch2) (outS 28) (outT m c) ∗ ag c (Memref.whole cc0_scratch3) (ropeS 32) (ropeT m c))
      ⊢ iprop(((ag c (Memref.whole cc0_scratch2) (outS 30) (outT m c) ∗ ag c (Memref.whole cc0_scratch3) (ropeS 32) (ropeT m c)) -∗ Q ⟨(k0_pay152 (vals m)), (k0_pay153 (qv m c) (keys m)), ((ropePay 1 14 (qrv m c) (krv m c)))⟩)
          -∗ wp frame (wpE (defs₀ (F := F)) 𝒱₀ (c : Thread nD τ) none) Set.univ
            (k0_part54 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qv m c) (keys m) (vals m) (k0_pay148 (vals m)) (k0_pay149 (qv m c) (keys m) (ropePay 1 12 (qrv m c) (krv m c)))) Q) := by
  rw [k0_part54_eq_skeleton]; unfold k0_part54_skel
  simp only [semSignalWord, semWaitWord, Prog.lift, Prog.bind_op, Prog.bind_ret, Prog.pure_eq_ret, wp_deviceId]
  iintro ⟨O, R⟩ Hk
  iapply (wp_load_dead c (Memref.whole cc0_scratch2) (Rect.unit (s := S512x1024) ![256, 768] S256x64.size inb_S512x1024_S256x64_256_768) (outS 28) (outT m c)) $$ O
  iintro %_ O
  iapply (wp_store_ag c (Memref.whole cc0_scratch2) (Rect.unit (s := S512x1024) ![256, 768] S256x64.size inb_S512x1024_S256x64_256_768) (outS 28) (outS 29) (outT m c) (k0_pay150 (k0_pay148 (vals m)) (k0_pay149 (qv m c) (keys m) (ropePay 1 12 (qrv m c) (krv m c))))
    ((show (k0_pay150 (k0_pay148 (vals m)) (k0_pay149 (qv m c) (keys m) (ropePay 1 12 (qrv m c) (krv m c)))) = headPay 1 12 (qv m c) (keys m) (vals m) (ropePay 1 12 (qrv m c) (krv m c)) from rfl).trans (out_ld m c 1 12 _ rfl rfl _).symm)
    (fun i hi => outS_step 1 12 (by decide) _ rfl rfl _ 28 rfl i hi)) $$ O
  iintro O
  iapply (wp_load_ag_as c (Memref.whole cc0_scratch3) (Rect.unit (s := S512x4096) ![256, 3328] S256x256.size inb_S512x4096_S256x256_256_3328) (ropeS 32) (ropeT m c) (ropePay 1 13 (qrv m c) (krv m c)) (rope_ld m c 1 13 _ rfl rfl _) (fun j => ropeS_all _)) $$ R
  iintro R
  iapply (wp_load_dead c (Memref.whole cc0_scratch2) (Rect.unit (s := S512x1024) ![256, 832] S256x64.size inb_S512x1024_S256x64_256_832) (outS 29) (outT m c)) $$ O
  iintro %_ O
  iapply (wp_store_ag c (Memref.whole cc0_scratch2) (Rect.unit (s := S512x1024) ![256, 832] S256x64.size inb_S512x1024_S256x64_256_832) (outS 29) (outS 30) (outT m c) (k0_pay151 (qv m c) (keys m) (vals m) (ropePay 1 13 (qrv m c) (krv m c)))
    ((show (k0_pay151 (qv m c) (keys m) (vals m) (ropePay 1 13 (qrv m c) (krv m c))) = headPay 1 13 (qv m c) (keys m) (vals m) (ropePay 1 13 (qrv m c) (krv m c)) from rfl).trans (out_ld m c 1 13 _ rfl rfl _).symm)
    (fun i hi => outS_step 1 13 (by decide) _ rfl rfl _ 29 rfl i hi)) $$ O
  iintro O
  iapply (wp_load_ag_as c (Memref.whole cc0_scratch3) (Rect.unit (s := S512x4096) ![256, 3584] S256x256.size inb_S512x4096_S256x256_256_3584) (ropeS 32) (ropeT m c) (ropePay 1 14 (qrv m c) (krv m c)) (rope_ld m c 1 14 _ rfl rfl _) (fun j => ropeS_all _)) $$ R
  iintro R
  rw [wp_ret]; imodintro
  iapply Hk
  isplitl [O]; · iexact O
  iexact R

theorem part55 (Q : (FVec F S512x1024 .f32) → sProp (MT nD τ sig Unit (Elt F) ℕ UU ℕ))  :
    iprop(ag c (Memref.whole cc0_scratch2) (outS 30) (outT m c) ∗ ag c (Memref.whole cc0_scratch3) (ropeS 32) (ropeT m c) ∗ owns (c : Thread nD τ) (Memref.whole cc0_stg7_0) fullShare (in7 m c))
      ⊢ iprop(((ag c (Memref.whole cc0_scratch2) (outS 32) (outT m c) ∗ ag c (Memref.whole cc0_scratch3) (ropeS 32) (ropeT m c) ∗ owns (c : Thread nD τ) (Memref.whole cc0_stg7_0) fullShare (in7 m c)) -∗ Q (k0_pay156 (v1780 m c) (v1781 m c)))
          -∗ wp frame (wpE (defs₀ (F := F)) 𝒱₀ (c : Thread nD τ) none) Set.univ
            (k0_part55 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0 (qv m c) (keys m) (vals m) (k0_pay152 (vals m)) (k0_pay153 (qv m c) (keys m)) ((ropePay 1 14 (qrv m c) (krv m c)))) Q) := by
  rw [k0_part55_eq_skeleton]; unfold k0_part55_skel
  simp only [semSignalWord, semWaitWord, Prog.lift, Prog.bind_op, Prog.bind_ret, Prog.pure_eq_ret, wp_deviceId]
  iintro ⟨O, R, In7⟩ Hk
  iapply (wp_load_dead c (Memref.whole cc0_scratch2) (Rect.unit (s := S512x1024) ![256, 896] S256x64.size inb_S512x1024_S256x64_256_896) (outS 30) (outT m c)) $$ O
  iintro %_ O
  iapply (wp_store_ag c (Memref.whole cc0_scratch2) (Rect.unit (s := S512x1024) ![256, 896] S256x64.size inb_S512x1024_S256x64_256_896) (outS 30) (outS 31) (outT m c) (k0_pay154 (k0_pay152 (vals m)) (k0_pay153 (qv m c) (keys m)) ((ropePay 1 14 (qrv m c) (krv m c))))
    ((show (k0_pay154 (k0_pay152 (vals m)) (k0_pay153 (qv m c) (keys m)) ((ropePay 1 14 (qrv m c) (krv m c)))) = headPay 1 14 (qv m c) (keys m) (vals m) (ropePay 1 14 (qrv m c) (krv m c)) from rfl).trans (out_ld m c 1 14 _ rfl rfl _).symm)
    (fun i hi => outS_step 1 14 (by decide) _ rfl rfl _ 30 rfl i hi)) $$ O
  iintro O
  iapply (wp_load_ag_as c (Memref.whole cc0_scratch3) (Rect.unit (s := S512x4096) ![256, 3840] S256x256.size inb_S512x4096_S256x256_256_3840) (ropeS 32) (ropeT m c) (ropePay 1 15 (qrv m c) (krv m c)) (rope_ld m c 1 15 _ rfl rfl _) (fun j => ropeS_all _)) $$ R
  iintro R
  iapply (wp_load_dead c (Memref.whole cc0_scratch2) (Rect.unit (s := S512x1024) ![256, 960] S256x64.size inb_S512x1024_S256x64_256_960) (outS 31) (outT m c)) $$ O
  iintro %_ O
  iapply (wp_store_ag c (Memref.whole cc0_scratch2) (Rect.unit (s := S512x1024) ![256, 960] S256x64.size inb_S512x1024_S256x64_256_960) (outS 31) (outS 32) (outT m c) (k0_pay155 (qv m c) (keys m) (vals m) (ropePay 1 15 (qrv m c) (krv m c)))
    ((show (k0_pay155 (qv m c) (keys m) (vals m) (ropePay 1 15 (qrv m c) (krv m c))) = headPay 1 15 (qv m c) (keys m) (vals m) (ropePay 1 15 (qrv m c) (krv m c)) from rfl).trans (out_ld m c 1 15 _ rfl rfl _).symm)
    (fun i hi => outS_step 1 15 (by decide) _ rfl rfl _ 31 rfl i hi)) $$ O
  iintro O
  iapply (wp_load_ag_as c (Memref.whole cc0_scratch2) (Rect.unit (s := S512x1024) ![0, 0] S512x1024.size inb_S512x1024_S512x1024_0_0) (outS 32) (outT m c) (v1780 m c) rfl (fun j => outS_all _)) $$ O
  iintro O
  iapply (wp_load_as c (Memref.whole cc0_stg7_0) (Rect.unit (s := S1024x1024) ![0, 0] S1024x1024.size inb_S1024x1024_S1024x1024_0_0) (in7 m c) (v1781 m c) rfl) $$ In7
  iintro In7
  rw [wp_ret]; imodintro
  iapply Hk
  isplitl [O]; · iexact O
  isplitl [R]; · iexact R
  iexact In7

end Cert.Exch

end
-- ==== Proof.Body.lean ====
/-
# The body
-/
module

public import proofs.«01_k».proof.Proof.Body1
public import proofs.«01_k».proof.Proof.Body2
public import proofs.«01_k».proof.Proof.Body3
public import proofs.«01_k».proof.Proof.Body4
public import proofs.«01_k».proof.Proof.Gen.KernelIdeal.Skeleton

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- The eight operands. -/
def inB : sProp 𝕄 := iprop(owns (c : Thread nD τ) (Memref.whole cc0_stg0_0) fullShare (in0 m c) ∗ owns (c : Thread nD τ) (Memref.whole cc0_stg1_0) fullShare (in1 m c) ∗ owns (c : Thread nD τ) (Memref.whole cc0_stg2_0) fullShare (in2 m c) ∗ owns (c : Thread nD τ) (Memref.whole cc0_stg3_0) fullShare (in3 m c) ∗ owns (c : Thread nD τ) (Memref.whole cc0_stg4_0) fullShare (in4 m c) ∗ owns (c : Thread nD τ) (Memref.whole cc0_stg5_0) fullShare (in5 m c) ∗ owns (c : Thread nD τ) (Memref.whole cc0_stg6_0) fullShare (in6 m c) ∗ owns (c : Thread nD τ) (Memref.whole cc0_stg7_0) fullShare (in7 m c))
/-- The buffers used whole, holding anything. -/
def wholes : sProp 𝕄 := iprop(anyB c (Memref.whole cc0_scratch0) ∗ anyB c (Memref.whole cc0_scratch1) ∗ anyB c (Memref.whole cc0_scratch2) ∗ anyB c (Memref.whole cc0_scratch3) ∗ anyB c (Memref.whole cc0_scratch14))
/-- The places the transfers send from, holding anything, but the one two transfers share. -/
def srcs : sProp 𝕄 := iprop(anyB c (tx 0).src ∗ anyB c (tx 1).src ∗ anyB c (tx 2).src ∗ anyB c (tx 3).src ∗ anyB c (tx 4).src ∗ anyB c (tx 5).src ∗ anyB c (tx 6).src ∗ anyB c (tx 7).src ∗ anyB c (tx 8).src ∗ anyB c (tx 9).src ∗ anyB c (tx 10).src ∗ anyB c (tx 11).src ∗ anyB c (tx 12).src ∗ anyB c (tx 13).src)
/-- The places the transfers land at, holding anything. -/
def dsts : sProp 𝕄 := iprop(anyB c (tx 0).dst ∗ anyB c (tx 1).dst ∗ anyB c (tx 2).dst ∗ anyB c (tx 3).dst ∗ anyB c (tx 4).dst ∗ anyB c (tx 5).dst ∗ anyB c (tx 6).dst ∗ anyB c (tx 7).dst ∗ anyB c (tx 8).dst ∗ anyB c (tx 9).dst ∗ anyB c (tx 10).dst ∗ anyB c (tx 11).dst ∗ anyB c (tx 12).dst ∗ anyB c (tx 13).dst ∗ anyB c (tx 14).dst ∗ anyB c (tx 15).dst ∗ anyB c (tx 16).dst ∗ anyB c (tx 17).dst)
/-- What the launch hands a device to signal, transfer and wait with. -/
def kits : sProp 𝕄 := iprop(kitB c kBar ∗ kitB c kFin ∗ (bigSep Finset.univ fun t => kitS c t) ∗ bigSep Finset.univ fun t => kitR c t)
/-- Every semaphore of a device at zero. -/
def closed : sProp 𝕄 := iprop(semVal (kcell c kBar) 0 ∗ semVal (kcell c kFin) 0 ∗ (bigSep Finset.univ fun t => semVal (kcell c (kSnd t)) 0)
  ∗ bigSep Finset.univ fun t => semVal (kcell c (kRcv t)) 0)

omit [FloatOps F] in
theorem bigSep_fin18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

omit [FloatOps F] in
theorem owns_any {sh : Shape} {e : EltTy} (M : Memref sig .tc .vmem sh e) (X : sh.Idx → Elt F e) : (owns (c : Thread nD τ) M fullShare X : sProp 𝕄) ⊢ anyB c M := by
  unfold anyB
  iintro H
  iexists X; iexact H

theorem sp_any (t : Fin 18) (ht : qs t = fullShare) : (sendPay (Wm m) t c : sProp 𝕄) ⊢ anyB c (tx t).src := by
  unfold sendPay; rw [ht]; exact owns_any c _ _

theorem rp_any (t : Fin 18) : (recvPay (Wm m) t c : sProp 𝕄) ⊢ anyB c (tx t).dst := by
  unfold recvPay; exact owns_any c _ _

set_option maxRecDepth 8000 in
set_option maxHeartbeats 4000000 in
/-- The whole body: from its buffers and its kits, every buffer again, the result written, and every semaphore at zero. -/
theorem body_run (Q : PUnit → sProp 𝕄) :
    iprop(records (Wm m) K ∗ levAts L lv ∗ inB m c ∗ anyB c (Memref.whole cc0_stg8_0) ∗ ow c 26 ∗ kits c ∗ wholes c ∗ srcs c ∗ dsts c)
      ⊢ iprop(((inB m c ∗ owns (c : Thread nD τ) (Memref.whole cc0_stg8_0) fullShare (outV m c) ∗ ow c 0 ∗ closed c ∗ wholes c ∗ srcs c ∗ dsts c) -∗ Q ⟨⟩)
          -∗ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0) Q) := by
  unfold inB kits wholes srcs dsts
  rw [bigSep_fin18, bigSep_fin18]
  iintro ⟨#HR, #Hlev, ⟨In0, In1, In2, In3, In4, In5, In6, In7⟩, Out, OW, ⟨Kb, Kf, ⟨Ks0, Ks1, Ks2, Ks3, Ks4, Ks5, Ks6, Ks7, Ks8, Ks9, Ks10, Ks11, Ks12, Ks13, Ks14, Ks15, Ks16, Ks17⟩, ⟨Kr0, Kr1, Kr2, Kr3, Kr4, Kr5, Kr6, Kr7, Kr8, Kr9, Kr10, Kr11, Kr12, Kr13, Kr14, Kr15, Kr16, Kr17⟩⟩, ⟨A, KVb, O, R, P⟩, ⟨S0, S1, S2, S3, S4, S5, S6, S7, S8, S9, S10, S11, S12, S13⟩, ⟨D0, D1, D2, D3, D4, D5, D6, D7, D8, D9, D10, D11, D12, D13, D14, D15, D16, D17⟩⟩ Hk
  ihave SL0 := (Entails.of_eq (show iprop(anyB c (tx 0).dst ∗ anyB c (tx 2).dst ∗ anyB c (tx 4).dst ∗ anyB c (tx 14).dst ∗ anyB c (tx 16).dst) = slotsOf c 0 from rfl)) $$ [D0 D2 D4 D14 D16]
  · (isplitl [D0]; · iexact D0); (isplitl [D2]; · iexact D2); (isplitl [D4]; · iexact D4); (isplitl [D14]; · iexact D14); iexact D16
  ihave SL1 := (Entails.of_eq (show iprop(anyB c (tx 1).dst ∗ anyB c (tx 3).dst ∗ anyB c (tx 5).dst ∗ anyB c (tx 15).dst ∗ anyB c (tx 17).dst) = slotsOf c 1 from rfl)) $$ [D1 D3 D5 D15 D17]
  · (isplitl [D1]; · iexact D1); (isplitl [D3]; · iexact D3); (isplitl [D5]; · iexact D5); (isplitl [D15]; · iexact D15); iexact D17
  ihave SL2 := (Entails.of_eq (show iprop(anyB c (tx 6).dst ∗ anyB c (tx 7).dst ∗ anyB c (tx 12).dst ∗ anyB c (tx 13).dst) = slotsOf c 2 from rfl)) $$ [D6 D7 D12 D13]
  · (isplitl [D6]; · iexact D6); (isplitl [D7]; · iexact D7); (isplitl [D12]; · iexact D12); iexact D13
  ihave SL3 := (Entails.of_eq (show iprop(anyB c (tx 8).dst ∗ anyB c (tx 9).dst ∗ anyB c (tx 10).dst ∗ anyB c (tx 11).dst) = slotsOf c 3 from rfl)) $$ [D8 D9 D10 D11]
  · (isplitl [D8]; · iexact D8); (isplitl [D9]; · iexact D9); (isplitl [D10]; · iexact D10); iexact D11
  ihave KVb := (any_ag c _ (kvS 0 c) (kvS_zero c) (KV m)) $$ KVb
  ihave O := (any_ag c _ (outS 0) outS_zero (outT m c)) $$ O
  ihave R := (any_ag c _ (ropeS 0) ropeS_zero (ropeT m c)) $$ R
  rw [cc0_body_eq_skeleton]; unfold cc0_body_skel
  rw [k0_part56_eq_skeleton]; unfold k0_part56_skel
  rw [wp_bind]
  rw [wp_bind]
  iapply (part1  c _ )
  iintro %v19 %v20 %v24 %v27 %v28 %c2_i32_10 %v29 %v34 %v36 %v37
  try dsimp only
  rw [wp_bind]
  iapply (part2 m c _ v19 v20 c2_i32_10 v29 v34 v36 v37) $$ [In0 In1 In2 A In3]
  · isplitl [In0]; · iexact In0
    isplitl [In1]; · iexact In1
    isplitl [In2]; · iexact In2
    isplitl [A]; · iexact A
    iexact In3
  iintro %v46 %v49 %v52 ⟨In0, In1, In2, A, In3⟩
  try dsimp only
  rw [wp_bind]
  iapply (part3 m K c _ v20 v24 v27 v49 v52) $$ [Kb OW SL0 SL1 SL2 SL3 A S0]
  · isplitr; · iexact HR
    isplitr; · iexact Hlev
    isplitl [Kb]; · iexact Kb
    isplitl [OW]; · iexact OW
    isplitl [SL0]; · iexact SL0
    isplitl [SL1]; · iexact SL1
    isplitl [SL2]; · iexact SL2
    isplitl [SL3]; · iexact SL3
    isplitl [A]; · iexact A
    iexact S0
  iintro %v82 %v83 %v85 %v96 %c128_i32_61 ⟨OW, Zb, GN0, GN1, GN2, GN3, A, S0⟩
  try dsimp only
  ihave GN0 := (Entails.of_eq (show slotsOf (nb 0 c) 0 = iprop(slotG (nb 0 c) 0 ∗ slotG (nb 0 c) 2 ∗ slotG (nb 0 c) 4 ∗ slotG (nb 0 c) 14 ∗ slotG (nb 0 c) 16) from rfl)) $$ GN0
  icases GN0 with ⟨G0, G2, G4, G14, G16⟩
  ihave GN1 := (Entails.of_eq (show slotsOf (nb 1 c) 1 = iprop(slotG (nb 1 c) 1 ∗ slotG (nb 1 c) 3 ∗ slotG (nb 1 c) 5 ∗ slotG (nb 1 c) 15 ∗ slotG (nb 1 c) 17) from rfl)) $$ GN1
  icases GN1 with ⟨G1, G3, G5, G15, G17⟩
  ihave GN2 := (Entails.of_eq (show slotsOf (nb 2 c) 2 = iprop(slotG (nb 2 c) 6 ∗ slotG (nb 2 c) 7 ∗ slotG (nb 2 c) 12 ∗ slotG (nb 2 c) 13) from rfl)) $$ GN2
  icases GN2 with ⟨G6, G7, G12, G13⟩
  ihave GN3 := (Entails.of_eq (show slotsOf (nb 3 c) 3 = iprop(slotG (nb 3 c) 8 ∗ slotG (nb 3 c) 9 ∗ slotG (nb 3 c) 10 ∗ slotG (nb 3 c) 11) from rfl)) $$ GN3
  icases GN3 with ⟨G8, G9, G10, G11⟩
  rw [wp_bind]
  iapply (part4 m K c _ v24 v27 v96 c128_i32_61) $$ [A S1 S0 G0 Ks0 OW]
  · isplitr; · iexact HR
    isplitl [A]; · iexact A
    isplitl [S1]; · iexact S1
    isplitl [S0]; · iexact S0
    isplitl [G0]; · iexact G0
    isplitl [Ks0]; · iexact Ks0
    iexact OW
  iintro ⟨A, S1, OW, Fl0⟩
  try dsimp only
  rw [wp_bind]
  iapply (part5 m K c _ v24) $$ [S1 G1 Ks1 OW In4 Fl0 Kr0]
  · isplitr; · iexact HR
    isplitr; · iexact Hlev
    isplitl [S1]; · iexact S1
    isplitl [G1]; · iexact G1
    isplitl [Ks1]; · iexact Ks1
    isplitl [OW]; · iexact OW
    isplitl [In4]; · iexact In4
    isplitl [Fl0]; · iexact Fl0
    iexact Kr0
  iintro ⟨OW, Fl1, In4, Zs0, S0, Zr0, V0⟩
  try dsimp only
  rw [wp_bind]
  iapply (part6 m K c _ v20 v27) $$ [Fl1 OW Kr1 A V0]
  · isplitr; · iexact HR
    isplitr; · iexact Hlev
    isplitl [Fl1]; · iexact Fl1
    isplitl [OW]; · iexact OW
    isplitl [Kr1]; · iexact Kr1
    isplitl [A]; · iexact A
    iexact V0
  iintro %v159 %c256_i32_161 ⟨OW, Zs1, S1, Zr1, V1, A, V0⟩
  try dsimp only
  rw [wp_bind]
  iapply (part7 m c _ v20 v159 c256_i32_161) $$ [A S2 V1 S3]
  · isplitl [A]; · iexact A
    isplitl [S2]; · iexact S2
    isplitl [V1]; · iexact V1
    iexact S3
  iintro ⟨A, S2, V1, S3⟩
  try dsimp only
  rw [wp_bind]
  iapply (part8 m K c _ v24 v27) $$ [S2 G2 Ks2 OW S3 G3 Ks3 In5 In6]
  · isplitr; · iexact HR
    isplitl [S2]; · iexact S2
    isplitl [G2]; · iexact G2
    isplitl [Ks2]; · iexact Ks2
    isplitl [OW]; · iexact OW
    isplitl [S3]; · iexact S3
    isplitl [G3]; · iexact G3
    isplitl [Ks3]; · iexact Ks3
    isplitl [In5]; · iexact In5
    iexact In6
  iintro ⟨OW, Fl2, Fl3, In5, In6⟩
  try dsimp only
  rw [wp_bind]
  iapply (part9 m K c _ v24) $$ [Fl2 OW Kr2]
  · isplitr; · iexact HR
    isplitr; · iexact Hlev
    isplitl [Fl2]; · iexact Fl2
    isplitl [OW]; · iexact OW
    iexact Kr2
  iintro ⟨OW, Zs2, S2, Zr2, V2⟩
  try dsimp only
  rw [wp_bind]
  iapply (part10 m K c _ v20 v27) $$ [Fl3 OW Kr3 A V2]
  · isplitr; · iexact HR
    isplitr; · iexact Hlev
    isplitl [Fl3]; · iexact Fl3
    isplitl [OW]; · iexact OW
    isplitl [Kr3]; · iexact Kr3
    isplitl [A]; · iexact A
    iexact V2
  iintro ⟨OW, Zs3, S3, Zr3, V3, A, V2⟩
  try dsimp only
  rw [wp_bind]
  iapply (part11 m c _ v20 v24) $$ [A S4 V3 S5]
  · isplitl [A]; · iexact A
    isplitl [S4]; · iexact S4
    isplitl [V3]; · iexact V3
    iexact S5
  iintro %v298 ⟨A, S4, V3, S5⟩
  try dsimp only
  rw [wp_bind]
  iapply (part12 m K c _ v27 v298) $$ [S4 G4 Ks4 OW S5 G5 Ks5 R]
  · isplitr; · iexact HR
    isplitl [S4]; · iexact S4
    isplitl [G4]; · iexact G4
    isplitl [Ks4]; · iexact Ks4
    isplitl [OW]; · iexact OW
    isplitl [S5]; · iexact S5
    isplitl [G5]; · iexact G5
    isplitl [Ks5]; · iexact Ks5
    iexact R
  iintro ⟨OW, Fl4, Fl5, R⟩
  try dsimp only
  rw [wp_bind]
  iapply (part13 m c _ ) $$ [R]
  · iexact R
  iintro R
  try dsimp only
  rw [wp_bind]
  iapply (part14 m c _ ) $$ [R]
  · iexact R
  iintro %v403 R
  try dsimp only
  rw [wp_bind]
  iapply (part15 m c _ v403) $$ [R]
  · iexact R
  iintro R
  try dsimp only
  rw [wp_bind]
  iapply (part16 m K c _ v24) $$ [R Fl4 OW Kr4]
  · isplitr; · iexact HR
    isplitr; · iexact Hlev
    isplitl [R]; · iexact R
    isplitl [Fl4]; · iexact Fl4
    isplitl [OW]; · iexact OW
    iexact Kr4
  iintro ⟨R, OW, Zs4, S4, Zr4, V4⟩
  try dsimp only
  rw [wp_bind]
  iapply (part17 m K c _ v20 v27) $$ [Fl5 OW Kr5 A V4]
  · isplitr; · iexact HR
    isplitr; · iexact Hlev
    isplitl [Fl5]; · iexact Fl5
    isplitl [OW]; · iexact OW
    isplitl [Kr5]; · iexact Kr5
    isplitl [A]; · iexact A
    iexact V4
  iintro %v486 %c0_i32_451 ⟨OW, Zs5, S5, Zr5, V5, A, V4⟩
  try dsimp only
  rw [wp_bind]
  iapply (part18 m c _ v20 v28 v83 v85 v486 c0_i32_451) $$ [A S6 V5]
  · isplitl [A]; · iexact A
    isplitl [S6]; · iexact S6
    iexact V5
  iintro ⟨A, S6, V5⟩
  try dsimp only
  rw [wp_bind]
  iapply (part19 m K c _ v49) $$ [A S7 S6 G6 Ks6 OW G7 Ks7]
  · isplitr; · iexact HR
    isplitl [A]; · iexact A
    isplitl [S7]; · iexact S7
    isplitl [S6]; · iexact S6
    isplitl [G6]; · iexact G6
    isplitl [Ks6]; · iexact Ks6
    isplitl [OW]; · iexact OW
    isplitl [G7]; · iexact G7
    iexact Ks7
  iintro ⟨A, OW, Fl6, Fl7⟩
  try dsimp only
  rw [wp_bind]
  iapply (part20 m c _ ) $$ [R]
  · iexact R
  iintro R
  try dsimp only
  rw [wp_bind]
  iapply (part21 m c _ ) $$ [R]
  · iexact R
  iintro R
  try dsimp only
  rw [wp_bind]
  iapply (part22 m c _ ) $$ [R]
  · iexact R
  iintro R
  try dsimp only
  rw [wp_bind]
  iapply (part23 m K c _ v49) $$ [R Fl6 OW]
  · isplitr; · iexact HR
    isplitr; · iexact Hlev
    isplitl [R]; · iexact R
    isplitl [Fl6]; · iexact Fl6
    iexact OW
  iintro ⟨R, OW, Zs6, S6⟩
  try dsimp only
  rw [wp_bind]
  iapply (part24 m K c _ v28 v49 v83) $$ [Kr6 OW Fl7 Kr7 A]
  · isplitr; · iexact HR
    isplitr; · iexact Hlev
    isplitl [Kr6]; · iexact Kr6
    isplitl [OW]; · iexact OW
    isplitl [Fl7]; · iexact Fl7
    isplitl [Kr7]; · iexact Kr7
    iexact A
  iintro ⟨OW, Zr6, V6, Zs7, S7, Zr7, V7, A⟩
  try dsimp only
  rw [wp_bind]
  iapply (part25 m c _ v28 v46 v83 v85) $$ [A S8 V7 S9]
  · isplitl [A]; · iexact A
    isplitl [S8]; · iexact S8
    isplitl [V7]; · iexact V7
    iexact S9
  iintro ⟨A, S8, V7, S9⟩
  try dsimp only
  rw [wp_bind]
  iapply (part26 m K c _ v52) $$ [S8 G8 Ks8 OW S9 G9 Ks9]
  · isplitr; · iexact HR
    isplitl [S8]; · iexact S8
    isplitl [G8]; · iexact G8
    isplitl [Ks8]; · iexact Ks8
    isplitl [OW]; · iexact OW
    isplitl [S9]; · iexact S9
    isplitl [G9]; · iexact G9
    iexact Ks9
  iintro ⟨OW, Fl8, Fl9⟩
  try dsimp only
  rw [wp_bind]
  iapply (part27 m K c _ v52) $$ [Fl8 OW Kr8 Fl9]
  · isplitr; · iexact HR
    isplitr; · iexact Hlev
    isplitl [Fl8]; · iexact Fl8
    isplitl [OW]; · iexact OW
    isplitl [Kr8]; · iexact Kr8
    iexact Fl9
  iintro ⟨OW, Zs8, S8, Zr8, V8, Zs9, S9⟩
  try dsimp only
  rw [wp_bind]
  iapply (part28 m K c _ v28 v46 v83 v85) $$ [Kr9 OW A V8 KVb S10 S11]
  · isplitr; · iexact HR
    isplitr; · iexact Hlev
    isplitl [Kr9]; · iexact Kr9
    isplitl [OW]; · iexact OW
    isplitl [A]; · iexact A
    isplitl [V8]; · iexact V8
    isplitl [KVb]; · iexact KVb
    isplitl [S10]; · iexact S10
    iexact S11
  iintro ⟨OW, Zr9, V9, A, V8, KVb, S10, S11⟩
  try dsimp only
  rw [wp_bind]
  iapply (part29 m K c _ v52) $$ [S11 S10 G10 Ks10 OW G11 Ks11]
  · isplitr; · iexact HR
    isplitl [S11]; · iexact S11
    isplitl [S10]; · iexact S10
    isplitl [G10]; · iexact G10
    isplitl [Ks10]; · iexact Ks10
    isplitl [OW]; · iexact OW
    isplitl [G11]; · iexact G11
    iexact Ks11
  iintro ⟨OW, Fl10, Fl11⟩
  try dsimp only
  rw [wp_bind]
  iapply (part30 m K c _ v52) $$ [Fl10 OW Kr10 Fl11]
  · isplitr; · iexact HR
    isplitr; · iexact Hlev
    isplitl [Fl10]; · iexact Fl10
    isplitl [OW]; · iexact OW
    isplitl [Kr10]; · iexact Kr10
    iexact Fl11
  iintro ⟨OW, Zs10, S10, Zr10, V10, Zs11, S11⟩
  try dsimp only
  rw [wp_bind]
  iapply (part31 m K c _ v28 v46 v83 v85) $$ [Kr11 OW V10 KVb S12]
  · isplitr; · iexact HR
    isplitr; · iexact Hlev
    isplitl [Kr11]; · iexact Kr11
    isplitl [OW]; · iexact OW
    isplitl [V10]; · iexact V10
    isplitl [KVb]; · iexact KVb
    iexact S12
  iintro %v911 ⟨OW, Zr11, V11, V10, KVb, S12⟩
  try dsimp only
  rw [wp_bind]
  iapply (part32 m K c _ v49 v911) $$ [KVb S13 S12 G12 Ks12 OW G13 Ks13]
  · isplitr; · iexact HR
    isplitl [KVb]; · iexact KVb
    isplitl [S13]; · iexact S13
    isplitl [S12]; · iexact S12
    isplitl [G12]; · iexact G12
    isplitl [Ks12]; · iexact Ks12
    isplitl [OW]; · iexact OW
    isplitl [G13]; · iexact G13
    iexact Ks13
  iintro ⟨KVb, OW, Fl12, Fl13⟩
  try dsimp only
  rw [wp_bind]
  iapply (part33 m K c _ v49) $$ [Fl12 OW Kr12 Fl13]
  · isplitr; · iexact HR
    isplitr; · iexact Hlev
    isplitl [Fl12]; · iexact Fl12
    isplitl [OW]; · iexact OW
    isplitl [Kr12]; · iexact Kr12
    iexact Fl13
  iintro %c1_i32_884 ⟨OW, Zs12, S12, Zr12, V12, Zs13, S13⟩
  try dsimp only
  rw [wp_bind]
  iapply (part34 m K c _ v28 v49 v82 v83 v85 c1_i32_884) $$ [Kr13 OW V12 KVb P]
  · isplitr; · iexact HR
    isplitr; · iexact Hlev
    isplitl [Kr13]; · iexact Kr13
    isplitl [OW]; · iexact OW
    isplitl [V12]; · iexact V12
    isplitl [KVb]; · iexact KVb
    iexact P
  iintro ⟨OW, Zr13, V13, V12, KVb, P⟩
  try dsimp only
  ihave P := (split_pag m c) $$ P
  icases P with ⟨S14, S15⟩
  rw [wp_bind]
  iapply (part35 m K c _ v24 v27) $$ [S14 G14 Ks14 OW S15 G15 Ks15 Kr14]
  · isplitr; · iexact HR
    isplitr; · iexact Hlev
    isplitl [S14]; · iexact S14
    isplitl [G14]; · iexact G14
    isplitl [Ks14]; · iexact Ks14
    isplitl [OW]; · iexact OW
    isplitl [S15]; · iexact S15
    isplitl [G15]; · iexact G15
    isplitl [Ks15]; · iexact Ks15
    iexact Kr14
  iintro ⟨S14, OW, Fl15, Zs14, Zr14, V14⟩
  try dsimp only
  ihave V14 := (split14 m c) $$ V14
  icases V14 with ⟨Kp14, S16⟩
  rw [wp_bind]
  iapply (part36 m K c _ v24 v27) $$ [Fl15 OW Kr15 S16 G16 Ks16]
  · isplitr; · iexact HR
    isplitr; · iexact Hlev
    isplitl [Fl15]; · iexact Fl15
    isplitl [OW]; · iexact OW
    isplitl [Kr15]; · iexact Kr15
    isplitl [S16]; · iexact S16
    isplitl [G16]; · iexact G16
    iexact Ks16
  iintro ⟨OW, Zs15, S15, Zr15, V15, Fl16⟩
  try dsimp only
  ihave V15 := (split15 m c) $$ V15
  icases V15 with ⟨Kp15, S17⟩
  rw [wp_bind]
  iapply (part37 m K c _ v20 v24) $$ [S17 G17 Ks17 OW Kp14 KVb Kp15 Fl16]
  · isplitr; · iexact HR
    isplitr; · iexact Hlev
    isplitl [S17]; · iexact S17
    isplitl [G17]; · iexact G17
    isplitl [Ks17]; · iexact Ks17
    isplitl [OW]; · iexact OW
    isplitl [Kp14]; · iexact Kp14
    isplitl [KVb]; · iexact KVb
    isplitl [Kp15]; · iexact Kp15
    iexact Fl16
  iintro ⟨OW, Fl17, Kp14, KVb, Kp15, Zs16, S16⟩
  try dsimp only
  rw [wp_bind]
  iapply (part38 m K c _ v20 v27) $$ [Kr16 OW Fl17 Kr17 KVb]
  · isplitr; · iexact HR
    isplitr; · iexact Hlev
    isplitl [Kr16]; · iexact Kr16
    isplitl [OW]; · iexact OW
    isplitl [Fl17]; · iexact Fl17
    isplitl [Kr17]; · iexact Kr17
    iexact KVb
  iintro %v1090 ⟨OW, Zr16, V16, Zs17, S17, Zr17, V17, KVb⟩
  try dsimp only
  rw [wp_bind]
  iapply (part39 m c _ v1090) $$ [V17 KVb R O]
  · isplitl [V17]; · iexact V17
    isplitl [KVb]; · iexact KVb
    isplitl [R]; · iexact R
    iexact O
  iintro ⟨V17, KVb, R, O⟩
  try dsimp only
  rw [wp_bind]
  iapply (part40 m c _ ) $$ [R O]
  · isplitl [R]; · iexact R
    iexact O
  iintro ⟨R, O⟩
  try dsimp only
  rw [wp_bind]
  iapply (part41 m c _ ) $$ [R O]
  · isplitl [R]; · iexact R
    iexact O
  iintro ⟨R, O⟩
  try dsimp only
  rw [wp_bind]
  iapply (part42 m c _ ) $$ [R O]
  · isplitl [R]; · iexact R
    iexact O
  iintro ⟨R, O⟩
  try dsimp only
  rw [wp_bind]
  iapply (part43 m c _ ) $$ [R O]
  · isplitl [R]; · iexact R
    iexact O
  iintro ⟨R, O⟩
  try dsimp only
  rw [wp_bind]
  iapply (part44 m c _ ) $$ [R O]
  · isplitl [R]; · iexact R
    iexact O
  iintro ⟨R, O⟩
  try dsimp only
  rw [wp_bind]
  iapply (part45 m c _ ) $$ [R O]
  · isplitl [R]; · iexact R
    iexact O
  iintro ⟨R, O⟩
  try dsimp only
  rw [wp_bind]
  iapply (part46 m c _ ) $$ [O R]
  · isplitl [O]; · iexact O
    iexact R
  iintro ⟨O, R⟩
  try dsimp only
  rw [wp_bind]
  iapply (part47 m c _ ) $$ [O R]
  · isplitl [O]; · iexact O
    iexact R
  iintro ⟨O, R⟩
  try dsimp only
  rw [wp_bind]
  iapply (part48 m c _ ) $$ [O R]
  · isplitl [O]; · iexact O
    iexact R
  iintro ⟨O, R⟩
  try dsimp only
  rw [wp_bind]
  iapply (part49 m c _ ) $$ [O R]
  · isplitl [O]; · iexact O
    iexact R
  iintro ⟨O, R⟩
  try dsimp only
  rw [wp_bind]
  iapply (part50 m c _ ) $$ [O R]
  · isplitl [O]; · iexact O
    iexact R
  iintro ⟨O, R⟩
  try dsimp only
  rw [wp_bind]
  iapply (part51 m c _ ) $$ [O R]
  · isplitl [O]; · iexact O
    iexact R
  iintro ⟨O, R⟩
  try dsimp only
  rw [wp_bind]
  iapply (part52 m c _ ) $$ [O R]
  · isplitl [O]; · iexact O
    iexact R
  iintro ⟨O, R⟩
  try dsimp only
  rw [wp_bind]
  iapply (part53 m c _ ) $$ [O R]
  · isplitl [O]; · iexact O
    iexact R
  iintro ⟨O, R⟩
  try dsimp only
  rw [wp_bind]
  iapply (part54 m c _ ) $$ [O R]
  · isplitl [O]; · iexact O
    iexact R
  iintro ⟨O, R⟩
  try dsimp only
  rw [wp_bind]
  iapply (part55 m c _ ) $$ [O R In7]
  · isplitl [O]; · iexact O
    isplitl [R]; · iexact R
    iexact In7
  iintro ⟨O, R, In7⟩
  try dsimp only
  try simp only [semSignalWord, semWaitWord, Prog.lift, Prog.bind_op, Prog.bind_ret, Prog.pure_eq_ret, wp_deviceId]
  ihave Out := (Entails.of_eq (show anyB c (Memref.whole cc0_stg8_0) = iprop(∃ X, owns (c : Thread nD τ) (Memref.whole cc0_stg8_0) fullShare X) from rfl)) $$ Out
  icases Out with ⟨%XO, Out⟩
  iapply (wp_load_as c (Memref.whole cc0_stg8_0) (Rect.unit (s := S2x256x1024) ![0, 0, 0] S2x256x1024.size inb_S2x256x1024_S2x256x1024_0_0_0) XO _ rfl) $$ Out
  iintro Out
  rw [wp_ret]; imodintro
  dsimp only
  try simp only [semSignalWord, semWaitWord, Prog.lift, Prog.bind_op, Prog.bind_ret, Prog.pure_eq_ret, wp_deviceId]
  iapply (wp_store_as c (Memref.whole cc0_stg8_0) (Rect.unit (s := S2x256x1024) ![0, 0, 0] S2x256x1024.size inb_S2x256x1024_S2x256x1024_0_0_0) XO (outV m c) _ (put_out _ _)) $$ Out
  iintro Out
  unfold kitB
  icases Kf with ⟨⟨T0, T1, T2, T3⟩, Cb, Ab⟩
  iapply (wp_sig (Wm m) K c _ 0 (dev23_eq c) _ kFin rfl rfl rfl 3 rfl rfl rfl) $$ [OW T0]
  · isplitr; · iexact HR
    isplitl [OW]; · iexact OW
    isplitl [T0]; · iexact T0
    iapply (show (iprop(emp) : sProp 𝕄) ⊢ payOf (Wm m) (nb 0 c) kFin (opp 0) from Entails.of_eq rfl); iempintro
  iintro OW
  iapply (wp_sig (Wm m) K c _ 1 (dev24_eq c) _ kFin rfl rfl rfl 2 rfl rfl rfl) $$ [OW T1]
  · isplitr; · iexact HR
    isplitl [OW]; · iexact OW
    isplitl [T1]; · iexact T1
    iapply (show (iprop(emp) : sProp 𝕄) ⊢ payOf (Wm m) (nb 1 c) kFin (opp 1) from Entails.of_eq rfl); iempintro
  iintro OW
  iapply (wp_sig (Wm m) K c _ 2 (dev25_eq c) _ kFin rfl rfl rfl 1 rfl rfl rfl) $$ [OW T2]
  · isplitr; · iexact HR
    isplitl [OW]; · iexact OW
    isplitl [T2]; · iexact T2
    iapply (show (iprop(emp) : sProp 𝕄) ⊢ payOf (Wm m) (nb 2 c) kFin (opp 2) from Entails.of_eq rfl); iempintro
  iintro OW
  iapply (wp_sig (Wm m) K c _ 3 (dev26_eq c) _ kFin rfl rfl rfl 0 rfl rfl rfl) $$ [OW T3]
  · isplitr; · iexact HR
    isplitl [OW]; · iexact OW
    isplitl [T3]; · iexact T3
    iapply (show (iprop(emp) : sProp 𝕄) ⊢ payOf (Wm m) (nb 3 c) kFin (opp 3) from Entails.of_eq rfl); iempintro
  iintro OW
  iapply (wp_barWait (Wm m) K c _ kFin rfl rfl rfl 0 (by decide) rfl) $$ [OW Cb Ab]
  · isplitr; · iexact HR
    isplitr; · iexact Hlev
    isplitl [OW]; · iexact OW
    isplitl [Cb]; · iexact Cb
    iexact Ab
  iintro ⟨OW, Zf, -⟩
  rw [wp_ret]; imodintro
  iapply Hk
  isplitl [In0 In1 In2 In3 In4 In5 In6 In7]
  · isplitl [In0]; · iexact In0
    isplitl [In1]; · iexact In1
    isplitl [In2]; · iexact In2
    isplitl [In3]; · iexact In3
    isplitl [In4]; · iexact In4
    isplitl [In5]; · iexact In5
    isplitl [In6]; · iexact In6
    iexact In7
  isplitl [Out]; · iexact Out
  isplitl [OW]; · iexact OW
  isplitl [Zb Zf Zs0 Zs1 Zs2 Zs3 Zs4 Zs5 Zs6 Zs7 Zs8 Zs9 Zs10 Zs11 Zs12 Zs13 Zs14 Zs15 Zs16 Zs17 Zr0 Zr1 Zr2 Zr3 Zr4 Zr5 Zr6 Zr7 Zr8 Zr9 Zr10 Zr11 Zr12 Zr13 Zr14 Zr15 Zr16 Zr17]
  · unfold closed; rw [bigSep_fin18, bigSep_fin18]
    isplitl [Zb]; · iexact Zb
    isplitl [Zf]; · iexact Zf
    isplitl [Zs0 Zs1 Zs2 Zs3 Zs4 Zs5 Zs6 Zs7 Zs8 Zs9 Zs10 Zs11 Zs12 Zs13 Zs14 Zs15 Zs16 Zs17]
    · isplitl [Zs0]; · iexact Zs0
      isplitl [Zs1]; · iexact Zs1
      isplitl [Zs2]; · iexact Zs2
      isplitl [Zs3]; · iexact Zs3
      isplitl [Zs4]; · iexact Zs4
      isplitl [Zs5]; · iexact Zs5
      isplitl [Zs6]; · iexact Zs6
      isplitl [Zs7]; · iexact Zs7
      isplitl [Zs8]; · iexact Zs8
      isplitl [Zs9]; · iexact Zs9
      isplitl [Zs10]; · iexact Zs10
      isplitl [Zs11]; · iexact Zs11
      isplitl [Zs12]; · iexact Zs12
      isplitl [Zs13]; · iexact Zs13
      isplitl [Zs14]; · iexact Zs14
      isplitl [Zs15]; · iexact Zs15
      isplitl [Zs16]; · iexact Zs16
      iexact Zs17
    isplitl [Zr0]; · iexact Zr0
    isplitl [Zr1]; · iexact Zr1
    isplitl [Zr2]; · iexact Zr2
    isplitl [Zr3]; · iexact Zr3
    isplitl [Zr4]; · iexact Zr4
    isplitl [Zr5]; · iexact Zr5
    isplitl [Zr6]; · iexact Zr6
    isplitl [Zr7]; · iexact Zr7
    isplitl [Zr8]; · iexact Zr8
    isplitl [Zr9]; · iexact Zr9
    isplitl [Zr10]; · iexact Zr10
    isplitl [Zr11]; · iexact Zr11
    isplitl [Zr12]; · iexact Zr12
    isplitl [Zr13]; · iexact Zr13
    isplitl [Zr14]; · iexact Zr14
    isplitl [Zr15]; · iexact Zr15
    isplitl [Zr16]; · iexact Zr16
    iexact Zr17
  ihave P := (join_pag m c) $$ [S14 S15]
  · isplitl [S14]; · iexact S14
    iexact S15
  ihave V14 := (join14 m c) $$ [Kp14 S16]
  · isplitl [Kp14]; · iexact Kp14
    iexact S16
  ihave V15 := (join15 m c) $$ [Kp15 S17]
  · isplitl [Kp15]; · iexact Kp15
    iexact S17
  isplitl [A KVb O R P]
  · isplitl [A]; · iapply (owns_any c _ _); iexact A
    isplitl [KVb]; · iapply (ag_any c _ _ _); iexact KVb
    isplitl [O]; · iapply (ag_any c _ _ _); iexact O
    isplitl [R]; · iapply (ag_any c _ _ _); iexact R
    iapply (owns_any c _ _); iexact P
  isplitl [S0 S1 S2 S3 S4 S5 S6 S7 S8 S9 S10 S11 S12 S13]
  · isplitl [S0]; · (iapply (sp_any m c 0 rfl); iexact S0)
    isplitl [S1]; · (iapply (sp_any m c 1 rfl); iexact S1)
    isplitl [S2]; · (iapply (sp_any m c 2 rfl); iexact S2)
    isplitl [S3]; · (iapply (sp_any m c 3 rfl); iexact S3)
    isplitl [S4]; · (iapply (sp_any m c 4 rfl); iexact S4)
    isplitl [S5]; · (iapply (sp_any m c 5 rfl); iexact S5)
    isplitl [S6]; · (iapply (sp_any m c 6 rfl); iexact S6)
    isplitl [S7]; · (iapply (sp_any m c 7 rfl); iexact S7)
    isplitl [S8]; · (iapply (sp_any m c 8 rfl); iexact S8)
    isplitl [S9]; · (iapply (sp_any m c 9 rfl); iexact S9)
    isplitl [S10]; · (iapply (sp_any m c 10 rfl); iexact S10)
    isplitl [S11]; · (iapply (sp_any m c 11 rfl); iexact S11)
    isplitl [S12]; · (iapply (sp_any m c 12 rfl); iexact S12)
    (iapply (sp_any m c 13 rfl); iexact S13)
  isplitl [V0]; · (iapply (rp_any m c 0); iexact V0)
  isplitl [V1]; · (iapply (rp_any m c 1); iexact V1)
  isplitl [V2]; · (iapply (rp_any m c 2); iexact V2)
  isplitl [V3]; · (iapply (rp_any m c 3); iexact V3)
  isplitl [V4]; · (iapply (rp_any m c 4); iexact V4)
  isplitl [V5]; · (iapply (rp_any m c 5); iexact V5)
  isplitl [V6]; · (iapply (rp_any m c 6); iexact V6)
  isplitl [V7]; · (iapply (rp_any m c 7); iexact V7)
  isplitl [V8]; · (iapply (rp_any m c 8); iexact V8)
  isplitl [V9]; · (iapply (rp_any m c 9); iexact V9)
  isplitl [V10]; · (iapply (rp_any m c 10); iexact V10)
  isplitl [V11]; · (iapply (rp_any m c 11); iexact V11)
  isplitl [V12]; · (iapply (rp_any m c 12); iexact V12)
  isplitl [V13]; · (iapply (rp_any m c 13); iexact V13)
  isplitl [V14]; · (iapply (rp_any m c 14); iexact V14)
  isplitl [V15]; · (iapply (rp_any m c 15); iexact V15)
  isplitl [V16]; · (iapply (rp_any m c 16); iexact V16)
  (iapply (rp_any m c 17); iexact V17)

end Cert.Exch

end
-- ==== Proof.Split.lean ====
/-
# Buffers as the places transfers read and fill
-/
module

public import proofs.«01_k».proof.Proof.Slots
public import Idealize.ShloMosaic.Lib.Ring.WriteBehind
public import Idealize.ShloMosaic.Lib.ViewIndex

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem any_pts (c : Dev nD) {sh : Shape} {e : EltTy} (M : Memref sig .tc .vmem sh e) :
    (anyB c M : sProp 𝕄) ⊢ iprop(∃ f, M.view.loc (c : Thread nD τ) ↦[M.view.set]{fullShare} f) := by
  unfold anyB owns
  iintro ⟨%X, %f, %hf, H⟩
  iexists f; iexact H

omit [FloatOps F] in
theorem pts_any (c : Dev nD) {sh : Shape} {e : EltTy} (M : Memref sig .tc .vmem sh e) :
    (iprop(∃ f, M.view.loc (c : Thread nD τ) ↦[M.view.set]{fullShare} f) : sProp 𝕄) ⊢ anyB c M := by
  unfold anyB owns
  iintro ⟨%f, H⟩
  iexists _; iexists f
  isplitr; · ipureintro; rfl
  iexact H

omit [FloatOps F] in
theorem anyB_eq (c : Dev nD) {sh : Shape} {e : EltTy} (M : Memref sig .tc .vmem sh e) :
    (anyB c M : sProp 𝕄) = iprop(∃ f, M.view.loc (c : Thread nD τ) ↦[M.view.set]{fullShare} f) :=
  Idealize.SL.BI.Entails.antisymm (any_pts c M) (pts_any c M)

/-- The elements of a buffer outside all of a family of rectangles, holding anything. -/
def rest (c : Dev nD) {sh : Shape} {e : EltTy} (M : Memref sig .tc .vmem sh e) {n : ℕ} (r : Fin n → Rect sh) : sProp 𝕄 :=
  iprop(∃ f, M.view.loc (c : Thread nD τ) ↦[Finset.univ \ Finset.univ.biUnion fun i => (M.access (r i)).set]{fullShare} f)

section

variable (c : Dev nD) {sh : Shape} {e : EltTy} (M : Memref sig .tc .vmem sh e) {n : ℕ} (r : Fin n → Rect sh) (hr : ∀ i a, (r i).stride a = 1)
  {s' : Shape} (hq : ∀ i, (r i).shape.Squeezes s')
  (hd : ∀ i i', i ≠ i' → ∃ a, ((r i).size a = 0 ∨ (r i).off a + (r i).stride a * ((r i).size a - 1) < (r i').off a)
      ∨ ((r i').size a = 0 ∨ (r i').off a + (r i').stride a * ((r i').size a - 1) < (r i).off a))

include hd in
theorem apart (i i' : Fin n) (h : i ≠ i') : Disjoint (M.access (r i)).set (M.access (r i')).set := by
  obtain ⟨a, ha⟩ := hd i i' h
  exact View.disjoint_slice (Rect.disjoint_of_separated _ _ a ha)

omit [FloatOps F] in
theorem piece_eq (i : Fin n) : (anyB c ((M.slice (r i) (hr i)).squeeze s' (hq i)) : sProp 𝕄)
    = iprop(∃ f, M.view.loc (c : Thread nD τ) ↦[(M.access (r i)).set]{fullShare} f) := by
  rw [anyB_eq, part_set]

omit [FloatOps F] in
include hd in
/-- A buffer, holding anything, is the family's places and the rest. -/
theorem cut : (iprop(∃ f, M.view.loc (c : Thread nD τ) ↦{fullShare} f) : sProp 𝕄)
    ⊢ iprop((bigSep Finset.univ fun i => anyB c ((M.slice (r i) (hr i)).squeeze s' (hq i))) ∗ rest c M r) := by
  simp only [piece_eq c M r hr hq]
  exact Ring.pieces_split_spare (ℓ := M.view.loc (c : Thread nD τ)) _ (apart M r hd) (fun i f => M.view.loc (c : Thread nD τ) ↦[(M.access (r i)).set]{fullShare} f) (fun _ _ => rfl)

omit [FloatOps F] in
include hd in
theorem mend : iprop((bigSep Finset.univ fun i => anyB c ((M.slice (r i) (hr i)).squeeze s' (hq i))) ∗ rest c M r)
    ⊢ (iprop(∃ f, M.view.loc (c : Thread nD τ) ↦{fullShare} f) : sProp 𝕄) := by
  simp only [piece_eq c M r hr hq]
  exact Ring.pieces_join_spare (ℓ := M.view.loc (c : Thread nD τ)) _ (apart M r hd) (fun i f => M.view.loc (c : Thread nD τ) ↦[(M.access (r i)).set]{fullShare} f) (fun _ _ => rfl)

end

def cells4 : Fin 6 → Rect S2x3x128x1024 := ![(Rect.unit (s := S2x3x128x1024) ![0, 0, 0, 0] S1x1x128x1024.size inb_S2x3x128x1024_S1x1x128x1024_0_0_0_0), (Rect.unit (s := S2x3x128x1024) ![1, 0, 0, 0] S1x1x128x1024.size inb_S2x3x128x1024_S1x1x128x1024_1_0_0_0), (Rect.unit (s := S2x3x128x1024) ![0, 1, 0, 0] S1x1x128x1024.size inb_S2x3x128x1024_S1x1x128x1024_0_1_0_0), (Rect.unit (s := S2x3x128x1024) ![1, 1, 0, 0] S1x1x128x1024.size inb_S2x3x128x1024_S1x1x128x1024_1_1_0_0), (Rect.unit (s := S2x3x128x1024) ![0, 2, 0, 0] S1x1x128x1024.size inb_S2x3x128x1024_S1x1x128x1024_0_2_0_0), (Rect.unit (s := S2x3x128x1024) ![1, 2, 0, 0] S1x1x128x1024.size inb_S2x3x128x1024_S1x1x128x1024_1_2_0_0)]
omit [FloatOps F] in
theorem cut4 (c : Dev nD) : (iprop(∃ f, ((c : Thread nD τ).loc cc0_scratch4) ↦{fullShare} f) : sProp 𝕄) ⊢ iprop((anyB c (tx 0).src ∗ anyB c (tx 1).src ∗ anyB c (tx 2).src ∗ anyB c (tx 3).src ∗ anyB c (tx 4).src ∗ anyB c (tx 5).src) ∗ rest c (Memref.whole cc0_scratch4) cells4) :=
  (cut c (Memref.whole cc0_scratch4) cells4 (by decide) (s' := S128x1024) (by decide) (by decide)).trans (sep_mono_left (Entails.of_eq (bigSep_univ_eq_bigSepL [0, 1, 2, 3, 4, 5] (by decide) (by decide) _)))
omit [FloatOps F] in
theorem mend4 (c : Dev nD) : iprop((anyB c (tx 0).src ∗ anyB c (tx 1).src ∗ anyB c (tx 2).src ∗ anyB c (tx 3).src ∗ anyB c (tx 4).src ∗ anyB c (tx 5).src) ∗ rest c (Memref.whole cc0_scratch4) cells4) ⊢ (iprop(∃ f, ((c : Thread nD τ).loc cc0_scratch4) ↦{fullShare} f) : sProp 𝕄) :=
  (sep_mono_left (Entails.of_eq (bigSep_univ_eq_bigSepL [0, 1, 2, 3, 4, 5] (by decide) (by decide) _).symm)).trans (mend c (Memref.whole cc0_scratch4) cells4 (by decide) (s' := S128x1024) (by decide) (by decide))

def cells5 : Fin 6 → Rect S2x3x128x1024 := ![(Rect.unit (s := S2x3x128x1024) ![0, 0, 0, 0] S1x1x128x1024.size inb_S2x3x128x1024_S1x1x128x1024_0_0_0_0), (Rect.unit (s := S2x3x128x1024) ![1, 0, 0, 0] S1x1x128x1024.size inb_S2x3x128x1024_S1x1x128x1024_1_0_0_0), (Rect.unit (s := S2x3x128x1024) ![0, 1, 0, 0] S1x1x128x1024.size inb_S2x3x128x1024_S1x1x128x1024_0_1_0_0), (Rect.unit (s := S2x3x128x1024) ![1, 1, 0, 0] S1x1x128x1024.size inb_S2x3x128x1024_S1x1x128x1024_1_1_0_0), (Rect.unit (s := S2x3x128x1024) ![0, 2, 0, 0] S1x1x128x1024.size inb_S2x3x128x1024_S1x1x128x1024_0_2_0_0), (Rect.unit (s := S2x3x128x1024) ![1, 2, 0, 0] S1x1x128x1024.size inb_S2x3x128x1024_S1x1x128x1024_1_2_0_0)]
omit [FloatOps F] in
theorem cut5 (c : Dev nD) : (iprop(∃ f, ((c : Thread nD τ).loc cc0_scratch5) ↦{fullShare} f) : sProp 𝕄) ⊢ iprop((anyB c (tx 0).dst ∗ anyB c (tx 1).dst ∗ anyB c (tx 2).dst ∗ anyB c (tx 3).dst ∗ anyB c (tx 4).dst ∗ anyB c (tx 5).dst) ∗ rest c (Memref.whole cc0_scratch5) cells5) :=
  (cut c (Memref.whole cc0_scratch5) cells5 (by decide) (s' := S128x1024) (by decide) (by decide)).trans (sep_mono_left (Entails.of_eq (bigSep_univ_eq_bigSepL [0, 1, 2, 3, 4, 5] (by decide) (by decide) _)))
omit [FloatOps F] in
theorem mend5 (c : Dev nD) : iprop((anyB c (tx 0).dst ∗ anyB c (tx 1).dst ∗ anyB c (tx 2).dst ∗ anyB c (tx 3).dst ∗ anyB c (tx 4).dst ∗ anyB c (tx 5).dst) ∗ rest c (Memref.whole cc0_scratch5) cells5) ⊢ (iprop(∃ f, ((c : Thread nD τ).loc cc0_scratch5) ↦{fullShare} f) : sProp 𝕄) :=
  (sep_mono_left (Entails.of_eq (bigSep_univ_eq_bigSepL [0, 1, 2, 3, 4, 5] (by decide) (by decide) _).symm)).trans (mend c (Memref.whole cc0_scratch5) cells5 (by decide) (s' := S128x1024) (by decide) (by decide))

def cells6 : Fin 2 → Rect S2x64x1024 := ![(Rect.unit (s := S2x64x1024) ![0, 0, 0] S1x64x1024.size inb_S2x64x1024_S1x64x1024_0_0_0), (Rect.unit (s := S2x64x1024) ![1, 0, 0] S1x64x1024.size inb_S2x64x1024_S1x64x1024_1_0_0)]
omit [FloatOps F] in
theorem cut6 (c : Dev nD) : (iprop(∃ f, ((c : Thread nD τ).loc cc0_scratch6) ↦{fullShare} f) : sProp 𝕄) ⊢ iprop((anyB c (tx 6).src ∗ anyB c (tx 7).src) ∗ rest c (Memref.whole cc0_scratch6) cells6) :=
  (cut c (Memref.whole cc0_scratch6) cells6 (by decide) (s' := S64x1024) (by decide) (by decide)).trans (sep_mono_left (Entails.of_eq (bigSep_univ_eq_bigSepL [0, 1] (by decide) (by decide) _)))
omit [FloatOps F] in
theorem mend6 (c : Dev nD) : iprop((anyB c (tx 6).src ∗ anyB c (tx 7).src) ∗ rest c (Memref.whole cc0_scratch6) cells6) ⊢ (iprop(∃ f, ((c : Thread nD τ).loc cc0_scratch6) ↦{fullShare} f) : sProp 𝕄) :=
  (sep_mono_left (Entails.of_eq (bigSep_univ_eq_bigSepL [0, 1] (by decide) (by decide) _).symm)).trans (mend c (Memref.whole cc0_scratch6) cells6 (by decide) (s' := S64x1024) (by decide) (by decide))

def cells7 : Fin 2 → Rect S2x64x1024 := ![(Rect.unit (s := S2x64x1024) ![0, 0, 0] S1x64x1024.size inb_S2x64x1024_S1x64x1024_0_0_0), (Rect.unit (s := S2x64x1024) ![1, 0, 0] S1x64x1024.size inb_S2x64x1024_S1x64x1024_1_0_0)]
omit [FloatOps F] in
theorem cut7 (c : Dev nD) : (iprop(∃ f, ((c : Thread nD τ).loc cc0_scratch7) ↦{fullShare} f) : sProp 𝕄) ⊢ iprop((anyB c (tx 6).dst ∗ anyB c (tx 7).dst) ∗ rest c (Memref.whole cc0_scratch7) cells7) :=
  (cut c (Memref.whole cc0_scratch7) cells7 (by decide) (s' := S64x1024) (by decide) (by decide)).trans (sep_mono_left (Entails.of_eq (bigSep_univ_eq_bigSepL [0, 1] (by decide) (by decide) _)))
omit [FloatOps F] in
theorem mend7 (c : Dev nD) : iprop((anyB c (tx 6).dst ∗ anyB c (tx 7).dst) ∗ rest c (Memref.whole cc0_scratch7) cells7) ⊢ (iprop(∃ f, ((c : Thread nD τ).loc cc0_scratch7) ↦{fullShare} f) : sProp 𝕄) :=
  (sep_mono_left (Entails.of_eq (bigSep_univ_eq_bigSepL [0, 1] (by decide) (by decide) _).symm)).trans (mend c (Memref.whole cc0_scratch7) cells7 (by decide) (s' := S64x1024) (by decide) (by decide))

def cells8 : Fin 2 → Rect S2x32x1024 := ![(Rect.unit (s := S2x32x1024) ![0, 0, 0] S1x32x1024.size inb_S2x32x1024_S1x32x1024_0_0_0), (Rect.unit (s := S2x32x1024) ![1, 0, 0] S1x32x1024.size inb_S2x32x1024_S1x32x1024_1_0_0)]
omit [FloatOps F] in
theorem cut8 (c : Dev nD) : (iprop(∃ f, ((c : Thread nD τ).loc cc0_scratch8) ↦{fullShare} f) : sProp 𝕄) ⊢ iprop((anyB c (tx 8).src ∗ anyB c (tx 9).src) ∗ rest c (Memref.whole cc0_scratch8) cells8) :=
  (cut c (Memref.whole cc0_scratch8) cells8 (by decide) (s' := S32x1024) (by decide) (by decide)).trans (sep_mono_left (Entails.of_eq (bigSep_univ_eq_bigSepL [0, 1] (by decide) (by decide) _)))
omit [FloatOps F] in
theorem mend8 (c : Dev nD) : iprop((anyB c (tx 8).src ∗ anyB c (tx 9).src) ∗ rest c (Memref.whole cc0_scratch8) cells8) ⊢ (iprop(∃ f, ((c : Thread nD τ).loc cc0_scratch8) ↦{fullShare} f) : sProp 𝕄) :=
  (sep_mono_left (Entails.of_eq (bigSep_univ_eq_bigSepL [0, 1] (by decide) (by decide) _).symm)).trans (mend c (Memref.whole cc0_scratch8) cells8 (by decide) (s' := S32x1024) (by decide) (by decide))

def cells9 : Fin 2 → Rect S2x32x1024 := ![(Rect.unit (s := S2x32x1024) ![0, 0, 0] S1x32x1024.size inb_S2x32x1024_S1x32x1024_0_0_0), (Rect.unit (s := S2x32x1024) ![1, 0, 0] S1x32x1024.size inb_S2x32x1024_S1x32x1024_1_0_0)]
omit [FloatOps F] in
theorem cut9 (c : Dev nD) : (iprop(∃ f, ((c : Thread nD τ).loc cc0_scratch9) ↦{fullShare} f) : sProp 𝕄) ⊢ iprop((anyB c (tx 8).dst ∗ anyB c (tx 9).dst) ∗ rest c (Memref.whole cc0_scratch9) cells9) :=
  (cut c (Memref.whole cc0_scratch9) cells9 (by decide) (s' := S32x1024) (by decide) (by decide)).trans (sep_mono_left (Entails.of_eq (bigSep_univ_eq_bigSepL [0, 1] (by decide) (by decide) _)))
omit [FloatOps F] in
theorem mend9 (c : Dev nD) : iprop((anyB c (tx 8).dst ∗ anyB c (tx 9).dst) ∗ rest c (Memref.whole cc0_scratch9) cells9) ⊢ (iprop(∃ f, ((c : Thread nD τ).loc cc0_scratch9) ↦{fullShare} f) : sProp 𝕄) :=
  (sep_mono_left (Entails.of_eq (bigSep_univ_eq_bigSepL [0, 1] (by decide) (by decide) _).symm)).trans (mend c (Memref.whole cc0_scratch9) cells9 (by decide) (s' := S32x1024) (by decide) (by decide))

def cells10 : Fin 2 → Rect S2x32x1024 := ![(Rect.unit (s := S2x32x1024) ![0, 0, 0] S1x32x1024.size inb_S2x32x1024_S1x32x1024_0_0_0), (Rect.unit (s := S2x32x1024) ![1, 0, 0] S1x32x1024.size inb_S2x32x1024_S1x32x1024_1_0_0)]
omit [FloatOps F] in
theorem cut10 (c : Dev nD) : (iprop(∃ f, ((c : Thread nD τ).loc cc0_scratch10) ↦{fullShare} f) : sProp 𝕄) ⊢ iprop((anyB c (tx 10).src ∗ anyB c (tx 11).src) ∗ rest c (Memref.whole cc0_scratch10) cells10) :=
  (cut c (Memref.whole cc0_scratch10) cells10 (by decide) (s' := S32x1024) (by decide) (by decide)).trans (sep_mono_left (Entails.of_eq (bigSep_univ_eq_bigSepL [0, 1] (by decide) (by decide) _)))
omit [FloatOps F] in
theorem mend10 (c : Dev nD) : iprop((anyB c (tx 10).src ∗ anyB c (tx 11).src) ∗ rest c (Memref.whole cc0_scratch10) cells10) ⊢ (iprop(∃ f, ((c : Thread nD τ).loc cc0_scratch10) ↦{fullShare} f) : sProp 𝕄) :=
  (sep_mono_left (Entails.of_eq (bigSep_univ_eq_bigSepL [0, 1] (by decide) (by decide) _).symm)).trans (mend c (Memref.whole cc0_scratch10) cells10 (by decide) (s' := S32x1024) (by decide) (by decide))

def cells11 : Fin 2 → Rect S2x32x1024 := ![(Rect.unit (s := S2x32x1024) ![0, 0, 0] S1x32x1024.size inb_S2x32x1024_S1x32x1024_0_0_0), (Rect.unit (s := S2x32x1024) ![1, 0, 0] S1x32x1024.size inb_S2x32x1024_S1x32x1024_1_0_0)]
omit [FloatOps F] in
theorem cut11 (c : Dev nD) : (iprop(∃ f, ((c : Thread nD τ).loc cc0_scratch11) ↦{fullShare} f) : sProp 𝕄) ⊢ iprop((anyB c (tx 10).dst ∗ anyB c (tx 11).dst) ∗ rest c (Memref.whole cc0_scratch11) cells11) :=
  (cut c (Memref.whole cc0_scratch11) cells11 (by decide) (s' := S32x1024) (by decide) (by decide)).trans (sep_mono_left (Entails.of_eq (bigSep_univ_eq_bigSepL [0, 1] (by decide) (by decide) _)))
omit [FloatOps F] in
theorem mend11 (c : Dev nD) : iprop((anyB c (tx 10).dst ∗ anyB c (tx 11).dst) ∗ rest c (Memref.whole cc0_scratch11) cells11) ⊢ (iprop(∃ f, ((c : Thread nD τ).loc cc0_scratch11) ↦{fullShare} f) : sProp 𝕄) :=
  (sep_mono_left (Entails.of_eq (bigSep_univ_eq_bigSepL [0, 1] (by decide) (by decide) _).symm)).trans (mend c (Memref.whole cc0_scratch11) cells11 (by decide) (s' := S32x1024) (by decide) (by decide))

def cells12 : Fin 2 → Rect S2x64x1024 := ![(Rect.unit (s := S2x64x1024) ![0, 0, 0] S1x64x1024.size inb_S2x64x1024_S1x64x1024_0_0_0), (Rect.unit (s := S2x64x1024) ![1, 0, 0] S1x64x1024.size inb_S2x64x1024_S1x64x1024_1_0_0)]
omit [FloatOps F] in
theorem cut12 (c : Dev nD) : (iprop(∃ f, ((c : Thread nD τ).loc cc0_scratch12) ↦{fullShare} f) : sProp 𝕄) ⊢ iprop((anyB c (tx 12).src ∗ anyB c (tx 13).src) ∗ rest c (Memref.whole cc0_scratch12) cells12) :=
  (cut c (Memref.whole cc0_scratch12) cells12 (by decide) (s' := S64x1024) (by decide) (by decide)).trans (sep_mono_left (Entails.of_eq (bigSep_univ_eq_bigSepL [0, 1] (by decide) (by decide) _)))
omit [FloatOps F] in
theorem mend12 (c : Dev nD) : iprop((anyB c (tx 12).src ∗ anyB c (tx 13).src) ∗ rest c (Memref.whole cc0_scratch12) cells12) ⊢ (iprop(∃ f, ((c : Thread nD τ).loc cc0_scratch12) ↦{fullShare} f) : sProp 𝕄) :=
  (sep_mono_left (Entails.of_eq (bigSep_univ_eq_bigSepL [0, 1] (by decide) (by decide) _).symm)).trans (mend c (Memref.whole cc0_scratch12) cells12 (by decide) (s' := S64x1024) (by decide) (by decide))

def cells13 : Fin 2 → Rect S2x64x1024 := ![(Rect.unit (s := S2x64x1024) ![0, 0, 0] S1x64x1024.size inb_S2x64x1024_S1x64x1024_0_0_0), (Rect.unit (s := S2x64x1024) ![1, 0, 0] S1x64x1024.size inb_S2x64x1024_S1x64x1024_1_0_0)]
omit [FloatOps F] in
theorem cut13 (c : Dev nD) : (iprop(∃ f, ((c : Thread nD τ).loc cc0_scratch13) ↦{fullShare} f) : sProp 𝕄) ⊢ iprop((anyB c (tx 12).dst ∗ anyB c (tx 13).dst) ∗ rest c (Memref.whole cc0_scratch13) cells13) :=
  (cut c (Memref.whole cc0_scratch13) cells13 (by decide) (s' := S64x1024) (by decide) (by decide)).trans (sep_mono_left (Entails.of_eq (bigSep_univ_eq_bigSepL [0, 1] (by decide) (by decide) _)))
omit [FloatOps F] in
theorem mend13 (c : Dev nD) : iprop((anyB c (tx 12).dst ∗ anyB c (tx 13).dst) ∗ rest c (Memref.whole cc0_scratch13) cells13) ⊢ (iprop(∃ f, ((c : Thread nD τ).loc cc0_scratch13) ↦{fullShare} f) : sProp 𝕄) :=
  (sep_mono_left (Entails.of_eq (bigSep_univ_eq_bigSepL [0, 1] (by decide) (by decide) _).symm)).trans (mend c (Memref.whole cc0_scratch13) cells13 (by decide) (s' := S64x1024) (by decide) (by decide))

def cells15 : Fin 2 → Rect S2x256x1024 := ![(Rect.unit (s := S2x256x1024) ![0, 0, 0] S1x256x1024.size inb_S2x256x1024_S1x256x1024_0_0_0), (Rect.unit (s := S2x256x1024) ![1, 0, 0] S1x256x1024.size inb_S2x256x1024_S1x256x1024_1_0_0)]
omit [FloatOps F] in
theorem cut15 (c : Dev nD) : (iprop(∃ f, ((c : Thread nD τ).loc cc0_scratch15) ↦{fullShare} f) : sProp 𝕄) ⊢ iprop((anyB c (tx 14).dst ∗ anyB c (tx 15).dst) ∗ rest c (Memref.whole cc0_scratch15) cells15) :=
  (cut c (Memref.whole cc0_scratch15) cells15 (by decide) (s' := S256x1024) (by decide) (by decide)).trans (sep_mono_left (Entails.of_eq (bigSep_univ_eq_bigSepL [0, 1] (by decide) (by decide) _)))
omit [FloatOps F] in
theorem mend15 (c : Dev nD) : iprop((anyB c (tx 14).dst ∗ anyB c (tx 15).dst) ∗ rest c (Memref.whole cc0_scratch15) cells15) ⊢ (iprop(∃ f, ((c : Thread nD τ).loc cc0_scratch15) ↦{fullShare} f) : sProp 𝕄) :=
  (sep_mono_left (Entails.of_eq (bigSep_univ_eq_bigSepL [0, 1] (by decide) (by decide) _).symm)).trans (mend c (Memref.whole cc0_scratch15) cells15 (by decide) (s' := S256x1024) (by decide) (by decide))

def cells16 : Fin 2 → Rect S2x128x1024 := ![(Rect.unit (s := S2x128x1024) ![0, 0, 0] S1x128x1024.size inb_S2x128x1024_S1x128x1024_0_0_0), (Rect.unit (s := S2x128x1024) ![1, 0, 0] S1x128x1024.size inb_S2x128x1024_S1x128x1024_1_0_0)]
omit [FloatOps F] in
theorem cut16 (c : Dev nD) : (iprop(∃ f, ((c : Thread nD τ).loc cc0_scratch16) ↦{fullShare} f) : sProp 𝕄) ⊢ iprop((anyB c (tx 16).dst ∗ anyB c (tx 17).dst) ∗ rest c (Memref.whole cc0_scratch16) cells16) :=
  (cut c (Memref.whole cc0_scratch16) cells16 (by decide) (s' := S128x1024) (by decide) (by decide)).trans (sep_mono_left (Entails.of_eq (bigSep_univ_eq_bigSepL [0, 1] (by decide) (by decide) _)))
omit [FloatOps F] in
theorem mend16 (c : Dev nD) : iprop((anyB c (tx 16).dst ∗ anyB c (tx 17).dst) ∗ rest c (Memref.whole cc0_scratch16) cells16) ⊢ (iprop(∃ f, ((c : Thread nD τ).loc cc0_scratch16) ↦{fullShare} f) : sProp 𝕄) :=
  (sep_mono_left (Entails.of_eq (bigSep_univ_eq_bigSepL [0, 1] (by decide) (by decide) _).symm)).trans (mend c (Memref.whole cc0_scratch16) cells16 (by decide) (s' := S128x1024) (by decide) (by decide))

end Cert.Exch

end
-- ==== Proof.Point.lean ====
/-
# The one grid point
-/
module

public import proofs.«01_k».proof.Proof.Body
public import proofs.«01_k».proof.Proof.Split
public import proofs.«01_k».proof.Proof.Gen.KernelIdeal.Launch
public import proofs.«01_k».proof.Proof.Gen.KernelIdeal.Skeleton

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- What of the buffers no transfer reads or fills. -/
def rests (c : Dev nD) : sProp 𝕄 := iprop(rest c (Memref.whole cc0_scratch4) cells4 ∗ rest c (Memref.whole cc0_scratch5) cells5 ∗ rest c (Memref.whole cc0_scratch6) cells6 ∗ rest c (Memref.whole cc0_scratch7) cells7 ∗ rest c (Memref.whole cc0_scratch8) cells8 ∗ rest c (Memref.whole cc0_scratch9) cells9 ∗ rest c (Memref.whole cc0_scratch10) cells10 ∗ rest c (Memref.whole cc0_scratch11) cells11 ∗ rest c (Memref.whole cc0_scratch12) cells12 ∗ rest c (Memref.whole cc0_scratch13) cells13 ∗ rest c (Memref.whole cc0_scratch15) cells15 ∗ rest c (Memref.whole cc0_scratch16) cells16)

omit [FloatOps F] in
theorem in0_whole (c : Dev nD) : (iprop(∃ f : Buf (Elt F) ((c : Thread nD τ).loc cc0_scratch0), ((c : Thread nD τ).loc cc0_scratch0) ↦{fullShare} f) : sProp 𝕄) = anyB c (Memref.whole cc0_scratch0) := by
  rw [anyB_eq]; simp only [Memref.view_whole, View.set_whole]

omit [FloatOps F] in
theorem in1_whole (c : Dev nD) : (iprop(∃ f : Buf (Elt F) ((c : Thread nD τ).loc cc0_scratch1), ((c : Thread nD τ).loc cc0_scratch1) ↦{fullShare} f) : sProp 𝕄) = anyB c (Memref.whole cc0_scratch1) := by
  rw [anyB_eq]; simp only [Memref.view_whole, View.set_whole]

omit [FloatOps F] in
theorem in2_whole (c : Dev nD) : (iprop(∃ f : Buf (Elt F) ((c : Thread nD τ).loc cc0_scratch2), ((c : Thread nD τ).loc cc0_scratch2) ↦{fullShare} f) : sProp 𝕄) = anyB c (Memref.whole cc0_scratch2) := by
  rw [anyB_eq]; simp only [Memref.view_whole, View.set_whole]

omit [FloatOps F] in
theorem in3_whole (c : Dev nD) : (iprop(∃ f : Buf (Elt F) ((c : Thread nD τ).loc cc0_scratch3), ((c : Thread nD τ).loc cc0_scratch3) ↦{fullShare} f) : sProp 𝕄) = anyB c (Memref.whole cc0_scratch3) := by
  rw [anyB_eq]; simp only [Memref.view_whole, View.set_whole]

omit [FloatOps F] in
theorem in14_whole (c : Dev nD) : (iprop(∃ f : Buf (Elt F) ((c : Thread nD τ).loc cc0_scratch14), ((c : Thread nD τ).loc cc0_scratch14) ↦{fullShare} f) : sProp 𝕄) = anyB c (Memref.whole cc0_scratch14) := by
  rw [anyB_eq]; simp only [Memref.view_whole, View.set_whole]

omit [FloatOps F] in
/-- The buffers as the body uses them. -/
theorem places (c : Dev nD) : (Pipeline.scopedRest cfg0.spec c : sProp 𝕄) ⊢ iprop(wholes c ∗ srcs c ∗ dsts c ∗ rests c) := by
  rw [scopedRest0_eq]; unfold wholes srcs dsts rests
  simp only [in0_whole, in1_whole, in2_whole, in3_whole, in14_whole]
  iintro ⟨B0, B1, B2, B3, B4, B5, B6, B7, B8, B9, B10, B11, B12, B13, B14, B15, B16⟩
  ihave B4 := (cut4 c) $$ B4
  icases B4 with ⟨⟨S0, S1, S2, S3, S4, S5⟩, Q4⟩
  ihave B5 := (cut5 c) $$ B5
  icases B5 with ⟨⟨D0, D1, D2, D3, D4, D5⟩, Q5⟩
  ihave B6 := (cut6 c) $$ B6
  icases B6 with ⟨⟨S6, S7⟩, Q6⟩
  ihave B7 := (cut7 c) $$ B7
  icases B7 with ⟨⟨D6, D7⟩, Q7⟩
  ihave B8 := (cut8 c) $$ B8
  icases B8 with ⟨⟨S8, S9⟩, Q8⟩
  ihave B9 := (cut9 c) $$ B9
  icases B9 with ⟨⟨D8, D9⟩, Q9⟩
  ihave B10 := (cut10 c) $$ B10
  icases B10 with ⟨⟨S10, S11⟩, Q10⟩
  ihave B11 := (cut11 c) $$ B11
  icases B11 with ⟨⟨D10, D11⟩, Q11⟩
  ihave B12 := (cut12 c) $$ B12
  icases B12 with ⟨⟨S12, S13⟩, Q12⟩
  ihave B13 := (cut13 c) $$ B13
  icases B13 with ⟨⟨D12, D13⟩, Q13⟩
  ihave B15 := (cut15 c) $$ B15
  icases B15 with ⟨⟨D14, D15⟩, Q15⟩
  ihave B16 := (cut16 c) $$ B16
  icases B16 with ⟨⟨D16, D17⟩, Q16⟩
  isplitl [B0 B1 B2 B3 B14]
  · isplitl [B0]; · iexact B0
    isplitl [B1]; · iexact B1
    isplitl [B2]; · iexact B2
    isplitl [B3]; · iexact B3
    iexact B14
  isplitl [S0 S1 S2 S3 S4 S5 S6 S7 S8 S9 S10 S11 S12 S13]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact S13
  isplitl [D0 D1 D2 D3 D4 D5 D6 D7 D8 D9 D10 D11 D12 D13 D14 D15 D16 D17]
  · isplitl [D0]; · iexact D0
    isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    isplitl [D11]; · iexact D11
    isplitl [D12]; · iexact D12
    isplitl [D13]; · iexact D13
    isplitl [D14]; · iexact D14
    isplitl [D15]; · iexact D15
    isplitl [D16]; · iexact D16
    iexact D17
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q15]; · iexact Q15
  iexact Q16

omit [FloatOps F] in
theorem unplaces (c : Dev nD) : iprop(wholes c ∗ srcs c ∗ dsts c ∗ rests c) ⊢ (Pipeline.scopedRest cfg0.spec c : sProp 𝕄) := by
  rw [scopedRest0_eq]; unfold wholes srcs dsts rests
  simp only [in0_whole, in1_whole, in2_whole, in3_whole, in14_whole]
  iintro ⟨⟨B0, B1, B2, B3, B14⟩, ⟨S0, S1, S2, S3, S4, S5, S6, S7, S8, S9, S10, S11, S12, S13⟩, ⟨D0, D1, D2, D3, D4, D5, D6, D7, D8, D9, D10, D11, D12, D13, D14, D15, D16, D17⟩, ⟨Q4, Q5, Q6, Q7, Q8, Q9, Q10, Q11, Q12, Q13, Q15, Q16⟩⟩
  ihave B4 := (mend4 c) $$ [S0 S1 S2 S3 S4 S5 Q4]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Q4
  ihave B5 := (mend5 c) $$ [D0 D1 D2 D3 D4 D5 Q5]
  · isplitl [D0 D1 D2 D3 D4 D5]
    · isplitl [D0]; · iexact D0
      isplitl [D1]; · iexact D1
      isplitl [D2]; · iexact D2
      isplitl [D3]; · iexact D3
      isplitl [D4]; · iexact D4
      iexact D5
    iexact Q5
  ihave B6 := (mend6 c) $$ [S6 S7 Q6]
  · isplitl [S6 S7]
    · isplitl [S6]; · iexact S6
      iexact S7
    iexact Q6
  ihave B7 := (mend7 c) $$ [D6 D7 Q7]
  · isplitl [D6 D7]
    · isplitl [D6]; · iexact D6
      iexact D7
    iexact Q7
  ihave B8 := (mend8 c) $$ [S8 S9 Q8]
  · isplitl [S8 S9]
    · isplitl [S8]; · iexact S8
      iexact S9
    iexact Q8
  ihave B9 := (mend9 c) $$ [D8 D9 Q9]
  · isplitl [D8 D9]
    · isplitl [D8]; · iexact D8
      iexact D9
    iexact Q9
  ihave B10 := (mend10 c) $$ [S10 S11 Q10]
  · isplitl [S10 S11]
    · isplitl [S10]; · iexact S10
      iexact S11
    iexact Q10
  ihave B11 := (mend11 c) $$ [D10 D11 Q11]
  · isplitl [D10 D11]
    · isplitl [D10]; · iexact D10
      iexact D11
    iexact Q11
  ihave B12 := (mend12 c) $$ [S12 S13 Q12]
  · isplitl [S12 S13]
    · isplitl [S12]; · iexact S12
      iexact S13
    iexact Q12
  ihave B13 := (mend13 c) $$ [D12 D13 Q13]
  · isplitl [D12 D13]
    · isplitl [D12]; · iexact D12
      iexact D13
    iexact Q13
  ihave B15 := (mend15 c) $$ [D14 D15 Q15]
  · isplitl [D14 D15]
    · isplitl [D14]; · iexact D14
      iexact D15
    iexact Q15
  ihave B16 := (mend16 c) $$ [D16 D17 Q16]
  · isplitl [D16 D17]
    · isplitl [D16]; · iexact D16
      iexact D17
    iexact Q16
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  iexact B16

theorem cfg0_N : cfg0.N = 1 := by decide

def t₀ : Fin cfg0.N := ⟨0, by rw [cfg0_N]; decide⟩

theorem fin_N (t : Fin cfg0.N) : t = t₀ := by
  obtain ⟨t, ht⟩ := t; have := cfg0_N; exact Fin.ext (by simp only [t₀]; omega)

/-- What device `c` holds of the launch: at some names, what all devices know; its kits; the levels. -/
def start (c : Dev nD) : sProp 𝕄 := iprop((∃ K, records (Wm m) K) ∗ kits c ∗ levAts L lv)

def Φ₀ (c : Dev nD) : sProp 𝕄 := iprop(start m c ∗ Pipeline.scopedRest cfg0.spec c)
def Φ₁ (c : Dev nD) : sProp 𝕄 := iprop(closed c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => in0 m c
    | ⟨1, _⟩ => in1 m c
    | ⟨2, _⟩ => in2 m c
    | ⟨3, _⟩ => in3 m c
    | ⟨4, _⟩ => in4 m c
    | ⟨5, _⟩ => in5 m c
    | ⟨6, _⟩ => in6 m c
    | ⟨7, _⟩ => in7 m c
    | ⟨8, _⟩ => outV m c
  Φ t := match t with
    | ⟨0, _⟩ => Φ₀ m c
    | ⟨_ + 1, _⟩ => Φ₁ c
  q _ := fullShare
  owed t := match t with
    | ⟨0, _⟩ => owed c 26
    | ⟨_ + 1, _⟩ => 0

theorem before_0 (c : Dev nD) (d) : (dats m ρ 0 c).before (0 : Fin 9) t₀ d = in0 m c := by
  unfold Dat.before; rw [if_pos (fetch0_0 t₀)]; rfl

theorem before_1 (c : Dev nD) (d) : (dats m ρ 0 c).before (1 : Fin 9) t₀ d = in1 m c := by
  unfold Dat.before; rw [if_pos (fetch0_1 t₀)]; rfl

theorem before_2 (c : Dev nD) (d) : (dats m ρ 0 c).before (2 : Fin 9) t₀ d = in2 m c := by
  unfold Dat.before; rw [if_pos (fetch0_2 t₀)]; rfl

theorem before_3 (c : Dev nD) (d) : (dats m ρ 0 c).before (3 : Fin 9) t₀ d = in3 m c := by
  unfold Dat.before; rw [if_pos (fetch0_3 t₀)]; rfl

theorem before_4 (c : Dev nD) (d) : (dats m ρ 0 c).before (4 : Fin 9) t₀ d = in4 m c := by
  unfold Dat.before; rw [if_pos (fetch0_4 t₀)]; rfl

theorem before_5 (c : Dev nD) (d) : (dats m ρ 0 c).before (5 : Fin 9) t₀ d = in5 m c := by
  unfold Dat.before; rw [if_pos (fetch0_5 t₀)]; rfl

theorem before_6 (c : Dev nD) (d) : (dats m ρ 0 c).before (6 : Fin 9) t₀ d = in6 m c := by
  unfold Dat.before; rw [if_pos (fetch0_6 t₀)]; rfl

theorem before_7 (c : Dev nD) (d) : (dats m ρ 0 c).before (7 : Fin 9) t₀ d = in7 m c := by
  unfold Dat.before; rw [if_pos (fetch0_7 t₀)]; rfl

def pointPre (c : Dev nD) : sProp 𝕄 :=
  iprop(Φ₀ m c ∗ (dats m ρ 0 c).owesAt () t₀.castSucc
    ∗ (∃ d, owns (c : Thread nD τ) (Memref.whole cc0_stg0_0) fullShare ((dats m ρ 0 c).before (0 : Fin 9) t₀ d))
    ∗ (∃ d, owns (c : Thread nD τ) (Memref.whole cc0_stg1_0) fullShare ((dats m ρ 0 c).before (1 : Fin 9) t₀ d))
    ∗ (∃ d, owns (c : Thread nD τ) (Memref.whole cc0_stg2_0) fullShare ((dats m ρ 0 c).before (2 : Fin 9) t₀ d))
    ∗ (∃ d, owns (c : Thread nD τ) (Memref.whole cc0_stg3_0) fullShare ((dats m ρ 0 c).before (3 : Fin 9) t₀ d))
    ∗ (∃ d, owns (c : Thread nD τ) (Memref.whole cc0_stg4_0) fullShare ((dats m ρ 0 c).before (4 : Fin 9) t₀ d))
    ∗ (∃ d, owns (c : Thread nD τ) (Memref.whole cc0_stg5_0) fullShare ((dats m ρ 0 c).before (5 : Fin 9) t₀ d))
    ∗ (∃ d, owns (c : Thread nD τ) (Memref.whole cc0_stg6_0) fullShare ((dats m ρ 0 c).before (6 : Fin 9) t₀ d))
    ∗ (∃ d, owns (c : Thread nD τ) (Memref.whole cc0_stg7_0) fullShare ((dats m ρ 0 c).before (7 : Fin 9) t₀ d))
    ∗ (∃ d, owns (c : Thread nD τ) (Memref.whole cc0_stg8_0) fullShare ((dats m ρ 0 c).before (8 : Fin 9) t₀ d)))

def pointPost (c : Dev nD) : sProp 𝕄 :=
  iprop(Φ₁ c ∗ (dats m ρ 0 c).owesAt () t₀.succ
    ∗ owns (c : Thread nD τ) (Memref.whole cc0_stg0_0) fullShare (in0 m c)
    ∗ owns (c : Thread nD τ) (Memref.whole cc0_stg1_0) fullShare (in1 m c)
    ∗ owns (c : Thread nD τ) (Memref.whole cc0_stg2_0) fullShare (in2 m c)
    ∗ owns (c : Thread nD τ) (Memref.whole cc0_stg3_0) fullShare (in3 m c)
    ∗ owns (c : Thread nD τ) (Memref.whole cc0_stg4_0) fullShare (in4 m c)
    ∗ owns (c : Thread nD τ) (Memref.whole cc0_stg5_0) fullShare (in5 m c)
    ∗ owns (c : Thread nD τ) (Memref.whole cc0_stg6_0) fullShare (in6 m c)
    ∗ owns (c : Thread nD τ) (Memref.whole cc0_stg7_0) fullShare (in7 m c)
    ∗ owns (c : Thread nD τ) (Memref.whole cc0_stg8_0) fullShare (outV m c))

theorem point_run (c : Dev nD) : pointPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scoped0) (fun _ => pointPost m ρ c) := by
  unfold pointPre Φ₀ start
  simp only [before_0, before_1, before_2, before_3, before_4, before_5, before_6, before_7]
  iintro ⟨⟨⟨⟨%K, #HR⟩, Hk, #Hlev⟩, Hs⟩, Ho, ⟨%d0, I0⟩, ⟨%d1, I1⟩, ⟨%d2, I2⟩, ⟨%d3, I3⟩, ⟨%d4, I4⟩, ⟨%d5, I5⟩, ⟨%d6, I6⟩, ⟨%d7, I7⟩, ⟨%d8, Out⟩⟩
  unfold Dat.owesAt Pipeline.owesWithin
  icases Ho with ⟨%W, -, HO⟩
  rw [show (dats m ρ 0 c).owed t₀.castSucc = owed c 26 from rfl]
  ihave Hs := (places c) $$ Hs
  icases Hs with ⟨Hw, Hsr, Hd, Hrest⟩
  iapply (body_run m K c _) $$ [HO Hk I0 I1 I2 I3 I4 I5 I6 I7 Out Hw Hsr Hd]
  · isplitr; · iexact HR
    isplitr; · iexact Hlev
    isplitl [I0 I1 I2 I3 I4 I5 I6 I7]
    · unfold inB
      isplitl [I0]; · iexact I0
      isplitl [I1]; · iexact I1
      isplitl [I2]; · iexact I2
      isplitl [I3]; · iexact I3
      isplitl [I4]; · iexact I4
      isplitl [I5]; · iexact I5
      isplitl [I6]; · iexact I6
      iexact I7
    isplitl [Out]; · iapply (owns_any c _ _); iexact Out
    isplitl [HO]; · unfold ow; iexists W; iexact HO
    isplitl [Hk]; · iexact Hk
    isplitl [Hw]; · iexact Hw
    isplitl [Hsr]; · iexact Hsr
    iexact Hd
  unfold inB ow
  iintro ⟨⟨I0, I1, I2, I3, I4, I5, I6, I7⟩, Out, ⟨%W', HO⟩, Hc, Hw, Hsr, Hd⟩
  unfold pointPost Φ₁ Dat.owesAt Pipeline.owesWithin
  rw [show (dats m ρ 0 c).owed t₀.succ = owed c 0 from rfl]
  isplitl [Hc Hw Hsr Hd Hrest]
  · isplitl [Hc]; · iexact Hc
    iapply (unplaces c)
    isplitl [Hw]; · iexact Hw
    isplitl [Hsr]; · iexact Hsr
    isplitl [Hd]; · iexact Hd
    iexact Hrest
  isplitl [HO]
  · iexists W'
    isplitr; · ipureintro; exact fun _ _ => Or.inl trivial
    iexact HO
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  iexact Out

set_option maxRecDepth 60000 in
/-- The body at the grid's one point, as the pipeline asks for it. -/
theorem body_obligation (c : Dev nD) : BodyObligation (dats (F := F) m ρ 0 c) (defs₀ (F := F)) 𝒱₀ () Set.univ := fun t => by
  rw [fin_N t]
  rw [bigSep_W0, bigSep_W0]
  exact point_run m ρ c

end Cert.Exch

end
-- ==== Proof.Start.lean ====
/-
# The launch
-/
module

public import proofs.«01_k».proof.Proof.Point
public import Idealize.ShloMosaic.Lib.Pipeline.CollectiveSegs
public import proofs.«01_k».proof.Proof.Gen.KernelIdeal.Skeleton

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Families over the semaphores -/

/-- The two barriers, the send semaphores and the receive semaphores, as one type. -/
abbrev Parts : Type := Fin 2 ⊕ (Fin 18 ⊕ Fin 18)

def partCK : Parts ≃ CK where
  toFun x := match x with
    | .inl b => if b = 0 then kBar else kFin
    | .inr (.inl t) => kSnd t
    | .inr (.inr t) => kRcv t
  invFun k := match k with
    | none => .inl 0
    | some none => .inl 1
    | some (some (false, t)) => .inr (.inl t)
    | some (some (true, t)) => .inr (.inr t)
  left_inv := by decide
  right_inv := by decide

omit [FloatOps F] in
theorem bigSep_fin2 (Φ : Fin 2 → sProp 𝕄) : bigSep Finset.univ Φ = iprop(Φ 0 ∗ Φ 1) := bigSep_univ_eq_bigSepL [0, 1] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem bigSep_ck (Φ : CK → sProp 𝕄) : bigSep Finset.univ Φ
    = iprop((Φ kBar ∗ Φ kFin) ∗ (bigSep Finset.univ fun t => Φ (kSnd t)) ∗ bigSep Finset.univ fun t => Φ (kRcv t)) := by
  rw [bigSep_univ_equiv partCK Φ, bigSep_univ_sum, bigSep_univ_sum, bigSep_fin2]
  rfl

def partOK : (Fin 1 ⊕ (Fin 18 ⊕ Fin 18)) ≃ OK where
  toFun x := match x with
    | .inl _ => none
    | .inr (.inl t) => some (false, t)
    | .inr (.inr t) => some (true, t)
  invFun k := match k with
    | none => .inl 0
    | some (false, t) => .inr (.inl t)
    | some (true, t) => .inr (.inr t)
  left_inv := by decide
  right_inv := by decide

omit [FloatOps F] in
theorem bigSep_ok (Φ : OK → sProp 𝕄) : bigSep Finset.univ Φ
    = iprop(Φ none ∗ (bigSep Finset.univ fun t => Φ (some (false, t))) ∗ bigSep Finset.univ fun t => Φ (some (true, t))) := by
  rw [bigSep_univ_equiv partOK Φ, bigSep_univ_sum, bigSep_univ_sum, bigSep_univ_eq_bigSepL [(0 : Fin 1)] (by decide) (by decide)]
  rfl

/-! ## Cells and tokens -/

theorem kcell_injective : Function.Injective (fun ck : Dev nD × CK => kcell ck.1 ck.2) := by
  rintro ⟨c, k⟩ ⟨c', k'⟩ h
  have h1 : c = c' := congrArg (fun g : GSem nD τ sig => g.1.1) h
  subst h1
  have h2 : k = k' := csem_injective (congrArg Prod.snd h)
  subst h2; rfl

def exCells : Finset (GSem nD τ sig) := Finset.univ.map ⟨fun ck : Dev nD × CK => kcell ck.1 ck.2, kcell_injective⟩

/-- The duties of one device's cells: four at each barrier, one at each send and each receive semaphore. -/
abbrev DutyIx : Type := (Fin 2 × Fin 4) ⊕ (Fin 18 ⊕ Fin 18)

def dutyK (j : DutyIx) : CK := match j with
  | .inl (b, _) => if b = 0 then kBar else kFin
  | .inr (.inl t) => kSnd t
  | .inr (.inr t) => kRcv t
def dutyD (j : DutyIx) : Fin 4 := match j with
  | .inl (_, d) => d
  | .inr _ => 0
/-- Whose cell it is whose duty device `c` pays. -/
def dutyAt (j : DutyIx) : Dev nD ≃ Dev nD := match j with
  | .inl (_, d) => nbEquiv (opp d)
  | .inr (.inl _) => Equiv.refl _
  | .inr (.inr t) => nbEquiv (tx t).dir

theorem duty_inj : ∀ j j' : DutyIx, dutyK j = dutyK j' → dutyD j = dutyD j' → j = j' := by decide +kernel

abbrev tokOf (cj : Dev nD × DutyIx) : GSem nD τ sig × ℕ × Fin 4 := (kcell cj.1 (dutyK cj.2), 0, dutyD cj.2)
theorem tokOf_injective : Function.Injective tokOf := by
  rintro ⟨c, j⟩ ⟨c', j'⟩ h
  have h1 := kcell_injective (a₁ := (c, dutyK j)) (a₂ := (c', dutyK j')) (congrArg Prod.fst h)
  have h2 : dutyD j = dutyD j' := congrArg (fun x : GSem nD τ sig × ℕ × Fin 4 => x.2.2) h
  have h3 : c = c' := congrArg Prod.fst h1
  have h4 : j = j' := duty_inj j j' (congrArg Prod.snd h1) h2
  subst h3; subst h4; rfl

def exToks : Finset (GSem nD τ sig × ℕ × Fin 4) := Finset.univ.map ⟨tokOf, tokOf_injective⟩

def u₀ : UU := (initOf (Pipeline.cells cfgs cellOf_inj) (Pipeline.launchToks cfgs cellOf_inj), initOf exCells exToks)

/-- The duty tokens of device `c`'s own cells. -/
def toks (c : Dev nD) : sProp 𝕄 := bigSep Finset.univ fun j : DutyIx => dutyTok ER (kcell c (dutyK j)) 0 (dutyD j)
/-- The tokens of the duties device `c` pays. -/
def payToks (c : Dev nD) : sProp 𝕄 := bigSep Finset.univ fun j : DutyIx => dutyTok ER (kcell (dutyAt j c) (dutyK j)) 0 (dutyD j)

/-- What the launch deals device `c`. -/
def G (c : Dev nD) : sProp 𝕄 :=
  iprop((bigSep Finset.univ fun k : CK => roundState ER (exRd (Wm m)) (kcell c k) 0)
    ∗ (bigSep Finset.univ fun k : CK => iprop(atPos ER (kcell c k) 0 ∅ 0 ∗ reached ER (kcell c k) 0)) ∗ toks c)

def linear (c : Dev nD) : sProp 𝕄 := iprop((bigSep Finset.univ fun k : CK => atPos ER (kcell c k) 0 ∅ 0) ∗ payToks c)
def G' (c : Dev nD) : sProp 𝕄 := iprop((∃ K, records (Wm m) K) ∗ linear c)

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : CK => Φ (kcell c k) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]; rfl
  iintro HX
  imod (Rounds.fund ER (exRd (Wm m)) exCells exToks) $$ HX with ⟨Hst, Hr, Hat, Htok⟩
  imodintro
  ihave Hst' := (Entails.of_eq (hX fun g => roundState ER (exRd (Wm m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (kcell c kBar) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop(semVal (kcell c kFin) 0 ∗ (bigSep Finset.univ fun t => semVal (kcell c (kSnd t)) 0) ∗ bigSep Finset.univ fun t => semVal (kcell c (kRcv t)) 0) := by
  unfold Pipeline.ownSems0; rw [bigSep_ok]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell c k) 0 : sProp 𝕄) := by
  rw [ownSems0_eq, unscopedSems0_eq, bigSep_ck]
  iintro ⟨⟨HF, HS, HV⟩, HB⟩
  isplitl [HB HF]
  · isplitl [HB] <;> iassumption
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (exRd (Wm m)) κ (kcell c k)))
          ∗ (bigSep Finset.univ fun k : CK => iprop(atPos ER (kcell c k) 0 ∅ 0 ∗ reached ER (kcell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell c k) 0) ∗ bigSep Finset.univ fun k : CK => roundState ER (exRd (Wm m)) (kcell c k) 0)
      ⊢ (|={Set.univ}=> bigSep Finset.univ fun k => iprop(∃ κ : ℕ, cellInv ER (exRd (Wm m)) κ (kcell c k)) : sProp 𝕄) from by
        rw [← bigSep_sep']
        exact (bigSep_mono fun k _ => (Rounds.body_intro ER (exRd (Wm m)) (kcell c k)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem swap_bigSep {I J : Type} [Fintype I] [Fintype J] [DecidableEq I] [DecidableEq J] (Φ : I → J → sProp 𝕄) :
    (bigSep Finset.univ fun i => bigSep Finset.univ fun j => Φ i j) = bigSep Finset.univ fun j => bigSep Finset.univ fun i => Φ i j := by
  rw [← bigSep_univ_prod (fun x : I × J => Φ x.1 x.2), ← bigSep_univ_prod (fun x : J × I => Φ x.2 x.1),
    bigSep_univ_equiv (Equiv.prodComm J I) (fun x : I × J => Φ x.1 x.2)]
  rfl

omit [FloatOps F] in
/-- Every token dealt to the device that pays its duty. -/
theorem toks_around : (bigSep Finset.univ fun c : Dev nD => (toks c : sProp 𝕄)) = bigSep Finset.univ fun c : Dev nD => payToks c := by
  unfold toks payToks
  rw [swap_bigSep, swap_bigSep fun (c : Dev nD) (j : DutyIx) => (dutyTok ER (kcell (dutyAt j c) (dutyK j)) 0 (dutyD j) : sProp 𝕄)]
  exact bigSep_congr fun j _ => bigSep_univ_equiv (dutyAt j) fun c : Dev nD => (dutyTok ER (kcell c (dutyK j)) 0 (dutyD j) : sProp 𝕄)

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal (K : Dev nD × CK → ℕ) (c : Dev nD) : iprop(records (Wm m) K ∗ linear c) ⊢ G' m c := by
  unfold G'
  iintro ⟨#HR, HL⟩
  isplitr
  · iexists K; iexact HR
  iexact HL

theorem regroup :
    (bigSep Finset.univ fun c : Dev nD => iprop((bigSep Finset.univ fun k : CK => iprop(∃ κ : ℕ, cellInv ER (exRd (Wm m)) κ (kcell c k)))
          ∗ (bigSep Finset.univ fun k : CK => iprop(atPos ER (kcell c k) 0 ∅ 0 ∗ reached ER (kcell c k) 0)) ∗ toks c) : sProp 𝕄)
      ⊢ bigSep Finset.univ (G' m) := by
  rw [bigSep_sep', bigSep_sep', ← bigSep_univ_prod (fun ck : Dev nD × CK => iprop(∃ κ : ℕ, cellInv ER (exRd (Wm m)) κ (kcell ck.1 ck.2))),
    bigSep_congr (s := Finset.univ) (fun (c : Dev nD) _ => bigSep_sep' Finset.univ (fun k : CK => (atPos ER (kcell c k) 0 ∅ 0 : sProp 𝕄)) (fun k => reached ER (kcell c k) 0)),
    bigSep_sep', ← bigSep_univ_prod (fun ck : Dev nD × CK => (reached ER (kcell ck.1 ck.2) 0 : sProp 𝕄)), toks_around]
  iintro ⟨HI, ⟨Hat, #HR⟩, Htok⟩
  ihave HK := (BI.bigSep_exists_pi Finset.univ (fun (ck : Dev nD × CK) (κ : ℕ) => (cellInv ER (exRd (Wm m)) κ (kcell ck.1 ck.2) : sProp 𝕄))) $$ HI
  icases HK with ⟨%K, #HI⟩
  iapply (with_persistent (R := records (Wm m) K) fun c _ => deal m K c)
  isplitr
  · unfold records; isplitl; · iexact HI
    iexact HR
  · iapply (Entails.of_eq (show iprop((bigSep Finset.univ fun c : Dev nD => bigSep Finset.univ fun k : CK => (atPos ER (kcell c k) 0 ∅ 0 : sProp 𝕄)) ∗ bigSep Finset.univ fun c : Dev nD => payToks c)
        = bigSep Finset.univ fun c : Dev nD => (linear c : sProp 𝕄) from by unfold linear; rw [bigSep_sep']))
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem kcell_eq (a b : Dev nD) (k k' : CK) : kcell a k = kcell b k' ↔ a = b ∧ k = k' :=
  ⟨fun h => by have := kcell_injective (a₁ := (a, k)) (a₂ := (b, k')) h; exact ⟨congrArg Prod.fst this, congrArg Prod.snd this⟩, fun h => by rw [h.1, h.2]⟩

theorem owed_one (c : Dev nD) (k : CK) (r : ℕ) : (∑ d : Dev nD, ob d r (kcell c k) ()) = if obK r = k then amtOf k else 0 := by
  have h (d : Dev nD) : ob d r (kcell c k) () = if d = nb (opp (obDir r)) c then (if obK r = k then amtOf k else 0) else 0 := by
    unfold ob
    rw [tallyAt_apply]
    by_cases hk : obK r = k
    · subst hk
      by_cases hd : d = nb (opp (obDir r)) c
      · subst hd
        rw [if_pos rfl, if_pos rfl, if_pos ⟨by rw [nb_opp], rfl⟩]
      · rw [if_neg hd, if_neg]
        rintro ⟨h1, -⟩
        exact hd (by rw [((kcell_eq _ _ _ _).mp h1).1, opp_nb])
    · rw [if_neg hk, if_neg (fun h1 => hk ((kcell_eq _ _ _ _).mp h1.1).2.symm)]
      split <;> rfl
  rw [Finset.sum_congr rfl fun d _ => h d, Finset.sum_ite_eq' Finset.univ (nb (opp (obDir r)) c), if_pos (Finset.mem_univ _)]

theorem owed_all (c : Dev nD) (k : CK) : ∀ n : ℕ, (∑ d : Dev nD, owed d n (kcell c k) ()) = ∑ r ∈ Finset.range n, if obK r = k then amtOf k else 0
  | 0 => by simp [owed]
  | n + 1 => by
    rw [Finset.sum_range_succ, ← owed_all c k n, ← owed_one c k n, ← Finset.sum_add_distrib]
    rfl

/-- What all devices together owe a device's cell. -/
def dueOf (k : CK) : ℕ := match k with
  | none => 4
  | some none => 4
  | some (some (false, _)) => 0
  | some (some (true, t)) => N t

theorem due_eq : ∀ k : CK, (∑ r ∈ Finset.range 26, if obK r = k then amtOf k else 0) = dueOf k := by decide +kernel

abbrev O₀ (c : Dev nD) : CellTallies nD τ sig Unit := owed c 26

theorem launch_due (c : Dev nD) (k : CK) :
    tallyOn (kcell c k) (launchCredit (Pipeline.owing O₀) 0 (kcell c k)) = (tallyAt (kcell c k) () (dueOf k) : CellTallies nD τ sig Unit) := by
  unfold tallyAt; refine congrArg _ (Finsupp.ext fun u => ?_); cases u
  rw [Pipeline.launchCredit_owing, Finsupp.single_eq_same, owed_all, due_eq]

omit [FloatOps F] in
theorem creds (c : Dev nD) : (Pipeline.launchCred O₀ c : sProp 𝕄) ⊢ bigSep Finset.univ fun k : CK => cred (tallyAt (kcell c k) () (dueOf k)) := by
  unfold Pipeline.launchCred
  refine (bigSep_subset (Finset.subset_univ (Finset.univ.map ⟨csem, csem_injective⟩))).trans ?_
  rw [bigSep_map]
  exact bigSep_mono fun k _ => Entails.of_eq (congrArg cred (launch_due c k))

omit [FloatOps F] in
theorem payToks_eq (c : Dev nD) : (payToks c : sProp 𝕄)
    = iprop(((dutyTok ER (kcell (nb 1 c) kBar) 0 0 ∗ dutyTok ER (kcell (nb 0 c) kBar) 0 1 ∗ dutyTok ER (kcell (nb 2 c) kBar) 0 2 ∗ dutyTok ER (kcell (nb 3 c) kBar) 0 3)
        ∗ (dutyTok ER (kcell (nb 1 c) kFin) 0 0 ∗ dutyTok ER (kcell (nb 0 c) kFin) 0 1 ∗ dutyTok ER (kcell (nb 2 c) kFin) 0 2 ∗ dutyTok ER (kcell (nb 3 c) kFin) 0 3))
      ∗ (bigSep Finset.univ fun t => dutyTok ER (kcell c (kSnd t)) 0 0) ∗ bigSep Finset.univ fun t => dutyTok ER (kcell (nb (tx t).dir c) (kRcv t)) 0 0) := by
  unfold payToks
  rw [bigSep_univ_sum, bigSep_univ_sum, bigSep_univ_prod, bigSep_fin2, bigSep_fin4, bigSep_fin4]
  rfl

omit [FloatOps F] in
/-- A device's kits, from what it is dealt. -/
theorem kits_intro (c : Dev nD) : iprop(linear c ∗ bigSep Finset.univ fun k : CK => cred (tallyAt (kcell c k) () (dueOf k))) ⊢ (kits c : sProp 𝕄) := by
  unfold linear kits kitB kitS kitR
  rw [payToks_eq, bigSep_ck, bigSep_ck]
  simp only [bigSep_sep']
  iintro ⟨⟨⟨⟨AB, AF⟩, AS, AR⟩, ⟨⟨⟨B0, B1, B2, B3⟩, F0, F1, F2, F3⟩, TS, TR⟩⟩, ⟨⟨CB, CF⟩, -, CR⟩⟩
  isplitl [AB B0 B1 B2 B3 CB]
  · isplitl [B0 B1 B2 B3]
    · isplitl [B1]; · iexact B1
      isplitl [B0]; · iexact B0
      isplitl [B2]; · iexact B2
      iexact B3
    isplitl [CB]; · iexact CB
    iexact AB
  isplitl [AF F0 F1 F2 F3 CF]
  · isplitl [F0 F1 F2 F3]
    · isplitl [F1]; · iexact F1
      isplitl [F0]; · iexact F0
      isplitl [F2]; · iexact F2
      iexact F3
    isplitl [CF]; · iexact CF
    iexact AF
  isplitl [TS TR AS]
  · isplitl [TS]; · iexact TS
    isplitl [TR]; · iexact TR
    iexact AS
  isplitl [CR]; · iexact CR
  iexact AR

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, Hlev, Hcr, -, HR, HL⟩
  ihave Hc := (creds (F := F) c) $$ Hcr
  imodintro
  isplitl
  · isplitl [HR]; · iexact HR
    isplitl [HL Hc]
    · iapply (kits_intro c)
      isplitl [HL] <;> iassumption
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  unfold Φ₁ closed
  iintro ⟨⟨HB, HF, HS, HV⟩, Hr⟩
  isplitl [HB]; · iexact HB
  isplitl [HF HS HV]
  · isplitl [HF]; · iexact HF
    isplitl [HS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t => by
    have key : ∀ n : ℕ, n ≤ 26 → (levAts L lv : sProp 𝕄) ⊢ MayWait (c : Thread nD τ) (.dma ((cfg0.win w).sem s)) () (owed c n) := fun n hn =>
      mayWait c _ n 0 (by fin_cases w <;> fin_cases s <;> decide +kernel)
        (fun r' hr' => (by decide +kernel : ∀ r : Fin 26, 0 < lvK (obK r.val)) ⟨r', by omega⟩)
    rcases t with ⟨_ | _, ht⟩
    · exact key 26 le_rfl
    · exact key 0 (Nat.zero_le _)

/-! ## The run -/

theorem share_eq (c : Dev nD) (w : Fin cfg0.W) : (dats m ρ 0 c).share w = fullShare := by unfold Dat.share; split <;> rfl

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 60000 in
/-- From any memory with zero counters, for any float values: every weakly fair execution of @main ends, with each
    device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exch

end
-- ==== Proof.Frames.lean ====
/-
# The frames

Every run leaves the arguments as they were and every semaphore counter at zero.
-/
module

public import proofs.«01_k».proof.Defs
public import proofs.«01_k».proof.Proof.Start
public import proofs.«01_k».proof.Proof.Gen.Kernel
public import proofs.«01_k».proof.Proof.Gen.ReferenceIdeal.Run

@[expose] public section

noncomputable section

namespace Cert.Exch

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

theorem final_arg0 (c : Dev nD) : finalA m ρ c 0 = m ((c : Thread nD τ).loc main_arg0) := (dats m ρ 0 c).arrAt_in 0 rfl _
theorem final_arg1 (c : Dev nD) : finalA m ρ c 1 = m ((c : Thread nD τ).loc main_arg1) := (dats m ρ 0 c).arrAt_in 1 rfl _
theorem final_arg2 (c : Dev nD) : finalA m ρ c 2 = m ((c : Thread nD τ).loc main_arg2) := (dats m ρ 0 c).arrAt_in 2 rfl _
theorem final_arg3 (c : Dev nD) : finalA m ρ c 3 = m ((c : Thread nD τ).loc main_arg3) := (dats m ρ 0 c).arrAt_in 3 rfl _
theorem final_arg4 (c : Dev nD) : finalA m ρ c 4 = m ((c : Thread nD τ).loc main_arg4) := (dats m ρ 0 c).arrAt_in 4 rfl _
theorem final_arg5 (c : Dev nD) : finalA m ρ c 5 = m ((c : Thread nD τ).loc main_arg5) := (dats m ρ 0 c).arrAt_in 5 rfl _
theorem final_arg6 (c : Dev nD) : finalA m ρ c 6 = m ((c : Thread nD τ).loc main_arg6) := (dats m ρ 0 c).arrAt_in 6 rfl _
theorem final_arg7 (c : Dev nD) : finalA m ρ c 7 = m ((c : Thread nD τ).loc main_arg7) := (dats m ρ 0 c).arrAt_in 7 rfl _

/-- What a device's argument arrays hold at the end of a run: what they held. -/
theorem args_kept {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  ⟨(h c 0).trans (final_arg0 m ρ c), (h c 1).trans (final_arg1 m ρ c), (h c 2).trans (final_arg2 m ρ c), (h c 3).trans (final_arg3 m ρ c),
    (h c 4).trans (final_arg4 m ρ c), (h c 5).trans (final_arg5 m ρ c), (h c 6).trans (final_arg6 m ρ c), (h c 7).trans (final_arg7 m ρ c)⟩

theorem frame_kernelIdeal : Cert.quiescent_KernelIdeal := fun m ρ _ =>
  (θ_run Cert.KernelIdeal.defs _ _).mono (fun _ h => ⟨fun c => args_kept m ρ h.1 c, h.2⟩) (run_main (F := Ideal) m ρ)

/-! The kernel and its idealization are one text: their bodies, and with them their programs, are equal. -/

theorem bodies_eq : @Cert.Kernel.defs₀ Bits _ _ = @Cert.KernelIdeal.defs₀ Bits _ _ := by
  unfold Cert.Kernel.defs₀ Cert.KernelIdeal.defs₀
  congr 1
  funext l x
  match l, x with
  | 0, (t, s) => exact rfl
  | ⟨_ + 1, h⟩, _ => exact absurd h (Nat.not_lt.2 (Nat.le_add_left _ _))

theorem defs_eq : Cert.Kernel.defs (F := Bits) = Cert.KernelIdeal.defs (F := Bits) := by
  unfold Cert.Kernel.defs Cert.KernelIdeal.defs
  rw [bodies_eq]
  exact rfl

theorem frame_kernel : Cert.quiescent_Kernel := fun m ρ _ => by
  rw [defs_eq]
  exact (θ_run Cert.KernelIdeal.defs _ _).mono (fun _ h => ⟨fun c => args_kept m ρ h.1 c, h.2⟩) (run_main (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- A device's result array at the end of a run. -/
theorem result_is {r : PUnit × MemSt nD τ sig (Elt F)} (h : QC m ρ r) (c : Dev nD) :
    r.2.mem ((c : Thread nD τ).loc main_v1) = finalA m ρ c 8 := h c 8

end Cert.Exch

end

end
-- ==== Proof.Ends.lean ====
/-
# What the kernel reads and what it leaves, as whole arrays

The grid has one point and every block is its whole array.
-/
module

public import proofs.«01_k».proof.Proof.Frames
public import Idealize.ShloMosaic.Lib.Pipeline.ValueKit

@[expose] public section

noncomputable section

namespace Cert.Exch

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

theorem in0_eq (c : Dev nD) : in0 m c = m ((c : Thread nD τ).loc main_arg0) := by
  funext j
  have hidx : ∀ a, win0_0.index t0_0 a = 0 := by decide +kernel
  unfold in0 Gen.iblk
  blk_simp
  refine congrArg (m ((c : Thread nD τ).loc main_arg0)) (funext fun a => Fin.ext ?_)
  blk_simp
  rw [hidx, Nat.zero_mul, Nat.zero_add]

theorem in1_eq (c : Dev nD) : in1 m c = m ((c : Thread nD τ).loc main_arg1) := by
  funext j
  have hidx : ∀ a, win0_1.index t0_0 a = 0 := by decide +kernel
  unfold in1 Gen.iblk
  blk_simp
  refine congrArg (m ((c : Thread nD τ).loc main_arg1)) (funext fun a => Fin.ext ?_)
  blk_simp
  rw [hidx, Nat.zero_mul, Nat.zero_add]

theorem in2_eq (c : Dev nD) : in2 m c = m ((c : Thread nD τ).loc main_arg2) := by
  funext j
  have hidx : ∀ a, win0_2.index t0_0 a = 0 := by decide +kernel
  unfold in2 Gen.iblk
  blk_simp
  refine congrArg (m ((c : Thread nD τ).loc main_arg2)) (funext fun a => Fin.ext ?_)
  blk_simp
  rw [hidx, Nat.zero_mul, Nat.zero_add]

theorem in3_eq (c : Dev nD) : in3 m c = m ((c : Thread nD τ).loc main_arg3) := by
  funext j
  have hidx : ∀ a, win0_3.index t0_0 a = 0 := by decide +kernel
  unfold in3 Gen.iblk
  blk_simp
  refine congrArg (m ((c : Thread nD τ).loc main_arg3)) (funext fun a => Fin.ext ?_)
  blk_simp
  rw [hidx, Nat.zero_mul, Nat.zero_add]

theorem in4_eq (c : Dev nD) : in4 m c = m ((c : Thread nD τ).loc main_arg4) := by
  funext j
  have hidx : ∀ a, win0_4.index t0_0 a = 0 := by decide +kernel
  unfold in4 Gen.iblk
  blk_simp
  refine congrArg (m ((c : Thread nD τ).loc main_arg4)) (funext fun a => Fin.ext ?_)
  blk_simp
  rw [hidx, Nat.zero_mul, Nat.zero_add]

theorem in5_eq (c : Dev nD) : in5 m c = m ((c : Thread nD τ).loc main_arg5) := by
  funext j
  have hidx : ∀ a, win0_5.index t0_0 a = 0 := by decide +kernel
  unfold in5 Gen.iblk
  blk_simp
  refine congrArg (m ((c : Thread nD τ).loc main_arg5)) (funext fun a => Fin.ext ?_)
  blk_simp
  rw [hidx, Nat.zero_mul, Nat.zero_add]

theorem in6_eq (c : Dev nD) : in6 m c = m ((c : Thread nD τ).loc main_arg6) := by
  funext j
  have hidx : ∀ a, win0_6.index t0_0 a = 0 := by decide +kernel
  unfold in6 Gen.iblk
  blk_simp
  refine congrArg (m ((c : Thread nD τ).loc main_arg6)) (funext fun a => Fin.ext ?_)
  blk_simp
  rw [hidx, Nat.zero_mul, Nat.zero_add]

theorem in7_eq (c : Dev nD) : in7 m c = m ((c : Thread nD τ).loc main_arg7) := by
  funext j
  have hidx : ∀ a, win0_7.index t0_0 a = 0 := by decide +kernel
  unfold in7 Gen.iblk
  blk_simp
  refine congrArg (m ((c : Thread nD τ).loc main_arg7)) (funext fun a => Fin.ext ?_)
  blk_simp
  rw [hidx, Nat.zero_mul, Nat.zero_add]

/-- The result array at the end. -/
theorem final_out (c : Dev nD) : finalA m ρ c 8 = outV m c := by
  refine (dats m ρ 0 c).arrAt_eq_of_after_last 8 t0_0 (by decide +kernel) _ fun j => ?_
  blk_simp
  rfl

end Cert.Exch

end
-- ==== Proof.Sums.lean ====
/-
# What the exchange of the partial keys and values adds up

With floats read as extended reals the casts are the identity, so every buffer of the exchange holds sums of the devices'
first buffers, element by element. Which devices' buffers are summed is kept as a list, one for each device and each block
of 32 rows; at the end every list names every device once.
-/
module

public import proofs.«01_k».proof.Proof.Cover
public import Idealize.ShloMosaic.Lib.Pointwise

@[expose] public section

noncomputable section

namespace Cert.Exch

open Cert.KernelIdeal Cert.KernelIdeal.Gen
open Idealize.ShloMosaic Idealize.ShloMosaic.TcCoe

/-- The sum of `v` over a list of devices. -/
def mix (L : List (Dev nD)) (v : Dev nD → EReal) : EReal := (L.map v).sum

theorem mix_append (L M : List (Dev nD)) (v : Dev nD → EReal) : mix (L ++ M) v = mix L v + mix M v := by
  unfold mix; rw [List.map_append, List.sum_append]

theorem mix_perm {L : List (Dev nD)} (h : L.Perm (List.finRange 16)) (v : Dev nD → EReal) : mix L v = ∑ d : Fin 16, v d := by
  unfold mix; rw [(h.map v).sum_eq, Fin.sum_univ_def]

section Generic

variable (B : Dev nD → S1024x1024.Idx → EReal)

/-- Every device's array `A c` is, block of rows by block of rows, the sum of the arrays `B d` of the devices `f` lists. -/
def Rep (A : Dev nD → S1024x1024.Idx → EReal) (f : Dev nD → ℕ → List (Dev nD)) : Prop :=
  ∀ c i, A c i = mix (f c ((i 0).val / 32)) fun d => B d i

/-- The same of `n` rows, those from row `o c` on. -/
def RepY (n : ℕ) (o : Dev nD → ℕ) (Y : Dev nD → (⟨2, ![n, 1024]⟩ : Shape).Idx → EReal) (f : Dev nD → ℕ → List (Dev nD)) : Prop :=
  ∀ c (j : (⟨2, ![n, 1024]⟩ : Shape).Idx) (i : S1024x1024.Idx), (i 0).val = o c + (j 0).val → (i 1).val = (j 1).val →
    Y c j = mix (f c ((i 0).val / 32)) fun d => B d i

variable {B}

theorem rep_start : Rep B B fun c _ => [c] := fun c i => by unfold mix; simp only [List.map_cons, List.map_nil, List.sum_cons, List.sum_nil, add_zero]

theorem repY_ld {A : Dev nD → S1024x1024.Idx → EReal} {f} (h : Rep B A f) {n : ℕ} {off : Dev nD → Fin 2 → ℕ} (h1 : ∀ c, off c 1 = 0)
    (inb : ∀ c a, off c a + (⟨2, ![n, 1024]⟩ : Shape).size a ≤ S1024x1024.size a) :
    RepY B n (fun c => off c 0) (fun c => ld (Rect.unit (s := S1024x1024) (off c) (⟨2, ![n, 1024]⟩ : Shape).size (inb c)) (A c)) f := by
  intro c j i h0 h1'
  have e : (Rect.unit (s := S1024x1024) (off c) (⟨2, ![n, 1024]⟩ : Shape).size (inb c)).emb j = i := by
    funext a
    apply Fin.ext
    rw [emb_val]
    revert a
    refine Fin.forall_fin_two.mpr ⟨h0.symm, ?_⟩
    rw [h1 c, Nat.zero_add]; exact h1'.symm
  show A c ((Rect.unit (s := S1024x1024) (off c) (⟨2, ![n, 1024]⟩ : Shape).size (inb c)).emb j) = _
  rw [e]
  exact h c i

theorem repY_add {n : ℕ} {o o' : Dev nD → ℕ} {V Y Z : Dev nD → (⟨2, ![n, 1024]⟩ : Shape).Idx → EReal} {f g} (k : Fin 4) (hV : RepY B n o V f)
    (hY : RepY B n o' Y g) (ho : ∀ c, o' (nb k c) = o c) (hZ : ∀ c j, Z c j = V c j + Y (nb k c) j) : RepY B n o Z fun c b => f c b ++ g (nb k c) b := by
  intro c j i h0 h1
  rw [hZ, hV c j i h0 h1, hY (nb k c) j i (by rw [ho]; exact h0) h1, mix_append]

theorem rep_put {A A' : Dev nD → S1024x1024.Idx → EReal} {f g} (h : Rep B A f) {n : ℕ} {off : Dev nD → Fin 2 → ℕ} (h1 : ∀ c, off c 1 = 0)
    {inb : ∀ c a, off c a + (⟨2, ![n, 1024]⟩ : Shape).size a ≤ S1024x1024.size a} {W : Dev nD → (⟨2, ![n, 1024]⟩ : Shape).Idx → EReal}
    (hW : RepY B n (fun c => off c 0) W g) (hn : n % 32 = 0) (ho : ∀ c, off c 0 % 32 = 0)
    (hA : ∀ c, A' c = put (Rect.unit (s := S1024x1024) (off c) (⟨2, ![n, 1024]⟩ : Shape).size (inb c)) (A c) (W c)) :
    Rep B A' fun c b => if off c 0 ≤ 32 * b ∧ 32 * b < off c 0 + n then g c b else f c b := by
  intro c i
  have := ho c
  by_cases hin : off c 0 ≤ (i 0).val ∧ (i 0).val < off c 0 + n
  · obtain ⟨j, hj⟩ := exists_emb (s := S1024x1024) (off c) (⟨2, ![n, 1024]⟩ : Shape).size (inb c) i (Fin.forall_fin_two.mpr ⟨hin, by
      rw [h1 c]; exact ⟨Nat.zero_le _, by rw [Nat.zero_add]; exact (i 1).isLt⟩⟩)
    have e : A' c i = W c j := by rw [hA, ← hj, put_emb]
    have e0 := emb_val (s := S1024x1024) (off c) (⟨2, ![n, 1024]⟩ : Shape).size (inb c) j 0
    have e1 := emb_val (s := S1024x1024) (off c) (⟨2, ![n, 1024]⟩ : Shape).size (inb c) j 1
    rw [hj] at e0 e1
    rw [h1 c, Nat.zero_add] at e1
    show A' c i = mix (if _ then _ else _) _
    rw [e, hW c j i e0 e1, if_pos (by omega)]
  · have e : A' c i = A c i := by
      rw [hA]
      refine put_off _ _ _ ?_
      rintro ⟨j, hj⟩
      have e0 := emb_val (s := S1024x1024) (off c) (⟨2, ![n, 1024]⟩ : Shape).size (inb c) j 0
      have l0 : (j 0).val < n := (j 0).isLt
      rw [hj] at e0
      omega
    show A' c i = mix (if _ then _ else _) _
    rw [e, h c i, if_neg (by omega)]

theorem repY_congr {n : ℕ} {o : Dev nD → ℕ} {Y Z : Dev nD → (⟨2, ![n, 1024]⟩ : Shape).Idx → EReal} {f} (h : RepY B n o Y f) (e : ∀ c j, Z c j = Y c j) :
    RepY B n o Z f := fun c j i h0 h1 => (e c j).trans (h c j i h0 h1)

end Generic

variable (m : (ℓ : Loc nD τ sig) → Buf (Elt Ideal) ℓ)

/-! ## The reads' and writes' rows -/

theorem off1_facts : ∀ c : Dev nD, k0_off1 c 1 = 0 ∧ k0_off1 c 0 % 32 = 0 := by decide +kernel
theorem off2_facts : ∀ c : Dev nD, k0_off2 c 2#32 1 = 0 ∧ k0_off2 c 2#32 0 % 32 = 0 := by decide +kernel
theorem off3a_facts : ∀ c : Dev nD, k0_off3 c 0#32 1 = 0 ∧ k0_off3 c 0#32 0 % 32 = 0 := by decide +kernel
theorem off3b_facts : ∀ c : Dev nD, k0_off3 c 1#32 1 = 0 ∧ k0_off3 c 1#32 0 % 32 = 0 := by decide +kernel
theorem off3c_facts : ∀ c : Dev nD, k0_off3 c 2#32 1 = 0 ∧ k0_off3 c 2#32 0 % 32 = 0 := by decide +kernel
theorem off4a_facts : ∀ c : Dev nD, k0_off4 c 0#32 1 = 0 ∧ k0_off4 c 0#32 0 % 32 = 0 := by decide +kernel
theorem off4b_facts : ∀ c : Dev nD, k0_off4 c 1#32 1 = 0 ∧ k0_off4 c 1#32 0 % 32 = 0 := by decide +kernel
theorem off4c_facts : ∀ c : Dev nD, k0_off4 c 2#32 1 = 0 ∧ k0_off4 c 2#32 0 % 32 = 0 := by decide +kernel
theorem off5_facts : ∀ c : Dev nD, k0_off5 c 1 = 0 ∧ k0_off5 c 0 % 32 = 0 := by decide +kernel
theorem off6_facts : ∀ c : Dev nD, k0_off6 c 1 = 0 ∧ k0_off6 c 0 % 32 = 0 := by decide +kernel
theorem off7_facts : ∀ c : Dev nD, k0_off7 c 1 = 0 ∧ k0_off7 c 0 % 32 = 0 := by decide +kernel
theorem off8_facts : ∀ c : Dev nD, k0_off8 c 1 = 0 ∧ k0_off8 c 0 % 32 = 0 := by decide +kernel
theorem off9_facts : ∀ c : Dev nD, k0_off9 c 1 = 0 ∧ k0_off9 c 0 % 32 = 0 := by decide +kernel
theorem off10_facts : ∀ c : Dev nD, k0_off10 c 1 = 0 ∧ k0_off10 c 0 % 32 = 0 := by decide +kernel
theorem off11_facts : ∀ c : Dev nD, k0_off11 c 1 = 0 ∧ k0_off11 c 0 % 32 = 0 := by decide +kernel
theorem off12_facts : ∀ c : Dev nD, k0_off12 c 1 = 0 ∧ k0_off12 c 0 % 32 = 0 := by decide +kernel

/-! ## Step by step -/

/-- The first buffer. -/
def fA0 (c : Dev nD) (_ : ℕ) : List (Dev nD) := [c]

theorem rep_A0 : Rep (A0 m) (A0 m) fA0 := rep_start

theorem rep_Y0 : RepY (A0 m) 128 (fun c => k0_off1 c 0) (Y0 m) fA0 :=
  repY_congr (repY_ld (rep_A0 m) (off := fun c => k0_off1 c) (fun c => (off1_facts c).1) (fun c => k0_off1_inb c)) fun c j => by
    show Y0 m c j = v89 m c j
    pointwise [Y0, k0_pay5]

theorem rep_Y1 : RepY (A0 m) 128 (fun c => k0_off2 c 2#32 0) (Y1 m) fA0 :=
  repY_congr (repY_ld (rep_A0 m) (off := fun c => k0_off2 c 2#32) (fun c => (off2_facts c).1) (fun c => k0_off2_inb c 0)) fun c j => by
    show Y1 m c j = v99 m c j
    pointwise [Y1, k0_pay6]

theorem v163_nb : ∀ c : Dev nD, k0_off1 (nb 1 c) 0 = k0_off3 c 0#32 0 := by decide +kernel

/-- The devices summed in `A1`'s new rows. -/
def gA1 (c : Dev nD) (b : ℕ) : List (Dev nD) := fA0 c b ++ fA0 (nb 1 c) b

/-- The devices summed in `A1`. -/
def fA1 (c : Dev nD) (b : ℕ) : List (Dev nD) := if k0_off3 c 0#32 0 ≤ 32 * b ∧ 32 * b < k0_off3 c 0#32 0 + 128 then gA1 c b else fA0 c b

theorem repY_v163 : RepY (A0 m) 128 (fun c => k0_off3 c 0#32 0) (fun c => k0_pay9 (k0_pay8 (v163 m c) (v164 m c))) gA1 :=
  repY_add 1 (repY_ld (rep_A0 m) (off := fun c => k0_off3 c 0#32) (fun c => (off3a_facts c).1) (fun c => k0_off3_inb c 0)) (rep_Y0 m) v163_nb fun c j => by
    show _ = v163 m c j + Y0 m (nb 1 c) j
    pointwise [k0_pay8, k0_pay9, v164]

theorem rep_A1 : Rep (A0 m) (A1 m) fA1 :=
  rep_put (rep_A0 m) (fun c => (off3a_facts c).1) (inb := fun c => k0_off3_inb c 0) (repY_v163 m) (by decide) (fun c => (off3a_facts c).2) fun c => rfl

theorem rep_Y2 : RepY (A0 m) 128 (fun c => k0_off3 c 0#32 0) (Y2 m) gA1 :=
  repY_congr (repY_v163 m) fun c j => by
    pointwise [Y2, k0_pay10, k0_pay8, k0_pay9]

theorem v184_nb : ∀ c : Dev nD, k0_off2 (nb 0 c) 2#32 0 = k0_off4 c 0#32 0 := by decide +kernel

/-- The devices summed in `A2`'s new rows. -/
def gA2 (c : Dev nD) (b : ℕ) : List (Dev nD) := fA1 c b ++ fA0 (nb 0 c) b

/-- The devices summed in `A2`. -/
def fA2 (c : Dev nD) (b : ℕ) : List (Dev nD) := if k0_off4 c 0#32 0 ≤ 32 * b ∧ 32 * b < k0_off4 c 0#32 0 + 128 then gA2 c b else fA1 c b

theorem repY_v184 : RepY (A0 m) 128 (fun c => k0_off4 c 0#32 0) (fun c => k0_pay12 (v184 m c) (v185 m c)) gA2 :=
  repY_add 0 (repY_ld (rep_A1 m) (off := fun c => k0_off4 c 0#32) (fun c => (off4a_facts c).1) (fun c => k0_off4_inb c 0)) (rep_Y1 m) v184_nb fun c j => by
    show _ = v184 m c j + Y1 m (nb 0 c) j
    pointwise [k0_pay11, k0_pay12, v185]

theorem rep_A2 : Rep (A0 m) (A2 m) fA2 :=
  rep_put (rep_A1 m) (fun c => (off4a_facts c).1) (inb := fun c => k0_off4_inb c 0) (repY_v184 m) (by decide) (fun c => (off4a_facts c).2) fun c => rfl

theorem rep_Y3 : RepY (A0 m) 128 (fun c => k0_off4 c 0#32 0) (Y3 m) gA2 :=
  repY_congr (repY_v184 m) fun c j => by
    pointwise [Y3, k0_pay11, k0_pay12, k0_pay13]

theorem v262_nb : ∀ c : Dev nD, k0_off3 (nb 1 c) 0#32 0 = k0_off3 c 1#32 0 := by decide +kernel

/-- The devices summed in `A3`'s new rows. -/
def gA3 (c : Dev nD) (b : ℕ) : List (Dev nD) := fA2 c b ++ gA1 (nb 1 c) b

/-- The devices summed in `A3`. -/
def fA3 (c : Dev nD) (b : ℕ) : List (Dev nD) := if k0_off3 c 1#32 0 ≤ 32 * b ∧ 32 * b < k0_off3 c 1#32 0 + 128 then gA3 c b else fA2 c b

theorem repY_v262 : RepY (A0 m) 128 (fun c => k0_off3 c 1#32 0) (fun c => k0_pay18 (v262 m c) (v263 m c)) gA3 :=
  repY_add 1 (repY_ld (rep_A2 m) (off := fun c => k0_off3 c 1#32) (fun c => (off3b_facts c).1) (fun c => k0_off3_inb c 1)) (rep_Y2 m) v262_nb fun c j => by
    show _ = v262 m c j + Y2 m (nb 1 c) j
    pointwise [k0_pay17, k0_pay18, v263]

theorem rep_A3 : Rep (A0 m) (A3 m) fA3 :=
  rep_put (rep_A2 m) (fun c => (off3b_facts c).1) (inb := fun c => k0_off3_inb c 1) (repY_v262 m) (by decide) (fun c => (off3b_facts c).2) fun c => rfl

theorem rep_Y4 : RepY (A0 m) 128 (fun c => k0_off3 c 1#32 0) (Y4 m) gA3 :=
  repY_congr (repY_v262 m) fun c j => by
    pointwise [Y4, k0_pay17, k0_pay18, k0_pay19]

theorem v283_nb : ∀ c : Dev nD, k0_off4 (nb 0 c) 0#32 0 = k0_off4 c 1#32 0 := by decide +kernel

/-- The devices summed in `A4`'s new rows. -/
def gA4 (c : Dev nD) (b : ℕ) : List (Dev nD) := fA3 c b ++ gA2 (nb 0 c) b

/-- The devices summed in `A4`. -/
def fA4 (c : Dev nD) (b : ℕ) : List (Dev nD) := if k0_off4 c 1#32 0 ≤ 32 * b ∧ 32 * b < k0_off4 c 1#32 0 + 128 then gA4 c b else fA3 c b

theorem repY_v283 : RepY (A0 m) 128 (fun c => k0_off4 c 1#32 0) (fun c => k0_pay21 (v283 m c) (v284 m c)) gA4 :=
  repY_add 0 (repY_ld (rep_A3 m) (off := fun c => k0_off4 c 1#32) (fun c => (off4b_facts c).1) (fun c => k0_off4_inb c 1)) (rep_Y3 m) v283_nb fun c j => by
    show _ = v283 m c j + Y3 m (nb 0 c) j
    pointwise [k0_pay20, k0_pay21, v284]

theorem rep_A4 : Rep (A0 m) (A4 m) fA4 :=
  rep_put (rep_A3 m) (fun c => (off4b_facts c).1) (inb := fun c => k0_off4_inb c 1) (repY_v283 m) (by decide) (fun c => (off4b_facts c).2) fun c => rfl

theorem rep_Y5 : RepY (A0 m) 128 (fun c => k0_off4 c 1#32 0) (Y5 m) gA4 :=
  repY_congr (repY_v283 m) fun c j => by
    pointwise [Y5, k0_pay20, k0_pay21, k0_pay22]

theorem v481_nb : ∀ c : Dev nD, k0_off3 (nb 1 c) 1#32 0 = k0_off3 c 2#32 0 := by decide +kernel

/-- The devices summed in `A5`'s new rows. -/
def gA5 (c : Dev nD) (b : ℕ) : List (Dev nD) := fA4 c b ++ gA3 (nb 1 c) b

/-- The devices summed in `A5`. -/
def fA5 (c : Dev nD) (b : ℕ) : List (Dev nD) := if k0_off3 c 2#32 0 ≤ 32 * b ∧ 32 * b < k0_off3 c 2#32 0 + 128 then gA5 c b else fA4 c b

theorem repY_v481 : RepY (A0 m) 128 (fun c => k0_off3 c 2#32 0) (fun c => k0_pay45 (k0_pay44 (v481 m c) (v482 m c))) gA5 :=
  repY_add 1 (repY_ld (rep_A4 m) (off := fun c => k0_off3 c 2#32) (fun c => (off3c_facts c).1) (fun c => k0_off3_inb c 2)) (rep_Y4 m) v481_nb fun c j => by
    show _ = v481 m c j + Y4 m (nb 1 c) j
    pointwise [k0_pay44, k0_pay45, v482]

theorem rep_A5 : Rep (A0 m) (A5 m) fA5 :=
  rep_put (rep_A4 m) (fun c => (off3c_facts c).1) (inb := fun c => k0_off3_inb c 2) (repY_v481 m) (by decide) (fun c => (off3c_facts c).2) fun c => rfl

theorem rep_Y6 : RepY (A0 m) 64 (fun c => k0_off5 c 0) (Y6 m) fA5 :=
  repY_congr (repY_ld (rep_A5 m) (off := fun c => k0_off5 c) (fun c => (off5_facts c).1) (fun c => k0_off5_inb c)) fun c j => by
    show Y6 m c j = v496 m c j
    pointwise [Y6, k0_pay46]

theorem v507_nb : ∀ c : Dev nD, k0_off4 (nb 0 c) 1#32 0 = k0_off4 c 2#32 0 := by decide +kernel

/-- The devices summed in `A6`'s new rows. -/
def gA6 (c : Dev nD) (b : ℕ) : List (Dev nD) := fA5 c b ++ gA4 (nb 0 c) b

/-- The devices summed in `A6`. -/
def fA6 (c : Dev nD) (b : ℕ) : List (Dev nD) := if k0_off4 c 2#32 0 ≤ 32 * b ∧ 32 * b < k0_off4 c 2#32 0 + 128 then gA6 c b else fA5 c b

theorem repY_v507 : RepY (A0 m) 128 (fun c => k0_off4 c 2#32 0) (fun c => k0_pay47 (v507 m c) (v508 m c)) gA6 :=
  repY_add 0 (repY_ld (rep_A5 m) (off := fun c => k0_off4 c 2#32) (fun c => (off4c_facts c).1) (fun c => k0_off4_inb c 2)) (rep_Y5 m) v507_nb fun c j => by
    show _ = v507 m c j + Y5 m (nb 0 c) j
    pointwise [k0_pay47, v508]

theorem rep_A6 : Rep (A0 m) (A6 m) fA6 :=
  rep_put (rep_A5 m) (fun c => (off4c_facts c).1) (inb := fun c => k0_off4_inb c 2) (repY_v507 m) (by decide) (fun c => (off4c_facts c).2) fun c => rfl

theorem rep_Y7 : RepY (A0 m) 64 (fun c => k0_off6 c 0) (Y7 m) fA6 :=
  repY_congr (repY_ld (rep_A6 m) (off := fun c => k0_off6 c) (fun c => (off6_facts c).1) (fun c => k0_off6_inb c)) fun c j => by
    show Y7 m c j = v522 m c j
    pointwise [Y7, k0_pay48]

theorem v706_nb : ∀ c : Dev nD, k0_off5 (nb 2 c) 0 = k0_off7 c 0 := by decide +kernel

/-- The devices summed in `A7`'s new rows. -/
def gA7 (c : Dev nD) (b : ℕ) : List (Dev nD) := fA6 c b ++ fA5 (nb 2 c) b

/-- The devices summed in `A7`. -/
def fA7 (c : Dev nD) (b : ℕ) : List (Dev nD) := if k0_off7 c 0 ≤ 32 * b ∧ 32 * b < k0_off7 c 0 + 64 then gA7 c b else fA6 c b

theorem repY_v706 : RepY (A0 m) 64 (fun c => k0_off7 c 0) (fun c => k0_pay69 (v706 m c) (v707 m c)) gA7 :=
  repY_add 2 (repY_ld (rep_A6 m) (off := fun c => k0_off7 c) (fun c => (off7_facts c).1) (fun c => k0_off7_inb c)) (rep_Y6 m) v706_nb fun c j => by
    show _ = v706 m c j + Y6 m (nb 2 c) j
    pointwise [k0_pay69, v707]

theorem rep_A7 : Rep (A0 m) (A7 m) fA7 :=
  rep_put (rep_A6 m) (fun c => (off7_facts c).1) (inb := fun c => k0_off7_inb c) (repY_v706 m) (by decide) (fun c => (off7_facts c).2) fun c => rfl

theorem rep_Y8 : RepY (A0 m) 32 (fun c => k0_off8 c 0) (Y8 m) fA7 :=
  repY_congr (repY_ld (rep_A7 m) (off := fun c => k0_off8 c) (fun c => (off8_facts c).1) (fun c => k0_off8_inb c)) fun c j => by
    show Y8 m c j = v721 m c j
    pointwise [Y8, k0_pay70]

theorem v729_nb : ∀ c : Dev nD, k0_off6 (nb 2 c) 0 = k0_off9 c 0 := by decide +kernel

/-- The devices summed in `A8`'s new rows. -/
def gA8 (c : Dev nD) (b : ℕ) : List (Dev nD) := fA7 c b ++ fA6 (nb 2 c) b

/-- The devices summed in `A8`. -/
def fA8 (c : Dev nD) (b : ℕ) : List (Dev nD) := if k0_off9 c 0 ≤ 32 * b ∧ 32 * b < k0_off9 c 0 + 64 then gA8 c b else fA7 c b

theorem repY_v729 : RepY (A0 m) 64 (fun c => k0_off9 c 0) (fun c => k0_pay71 (v729 m c) (v730 m c)) gA8 :=
  repY_add 2 (repY_ld (rep_A7 m) (off := fun c => k0_off9 c) (fun c => (off9_facts c).1) (fun c => k0_off9_inb c)) (rep_Y7 m) v729_nb fun c j => by
    show _ = v729 m c j + Y7 m (nb 2 c) j
    pointwise [k0_pay71, v730]

theorem rep_A8 : Rep (A0 m) (A8 m) fA8 :=
  rep_put (rep_A7 m) (fun c => (off9_facts c).1) (inb := fun c => k0_off9_inb c) (repY_v729 m) (by decide) (fun c => (off9_facts c).2) fun c => rfl

theorem rep_Y9 : RepY (A0 m) 32 (fun c => k0_off10 c 0) (Y9 m) fA8 :=
  repY_congr (repY_ld (rep_A8 m) (off := fun c => k0_off10 c) (fun c => (off10_facts c).1) (fun c => k0_off10_inb c)) fun c j => by
    show Y9 m c j = v744 m c j
    pointwise [Y9, k0_pay72]

theorem v802_nb : ∀ c : Dev nD, k0_off8 (nb 3 c) 0 = k0_off11 c 0 := by decide +kernel

/-- The devices summed in `O0`. -/
def gO0 (c : Dev nD) (b : ℕ) : List (Dev nD) := fA8 c b ++ fA7 (nb 3 c) b

theorem rep_O0 : RepY (A0 m) 32 (fun c => k0_off11 c 0) (O0 m) gO0 :=
  repY_add 3 (repY_ld (rep_A8 m) (off := fun c => k0_off11 c) (fun c => (off11_facts c).1) (fun c => k0_off11_inb c)) (rep_Y8 m) v802_nb fun c j => by
    show _ = v802 m c j + Y8 m (nb 3 c) j
    pointwise [O0, k0_pay74, k0_pay73, v803]

theorem perm_O0 : ∀ c : Dev nD, (gO0 c (k0_off11 c 0 / 32)).Perm (List.finRange 16) := by decide +kernel

theorem v820_nb : ∀ c : Dev nD, k0_off10 (nb 3 c) 0 = k0_off12 c 0 := by decide +kernel

/-- The devices summed in `O1`. -/
def gO1 (c : Dev nD) (b : ℕ) : List (Dev nD) := fA8 c b ++ fA8 (nb 3 c) b

theorem rep_O1 : RepY (A0 m) 32 (fun c => k0_off12 c 0) (O1 m) gO1 :=
  repY_add 3 (repY_ld (rep_A8 m) (off := fun c => k0_off12 c) (fun c => (off12_facts c).1) (fun c => k0_off12_inb c)) (rep_Y9 m) v820_nb fun c j => by
    show _ = v820 m c j + Y9 m (nb 3 c) j
    pointwise [O1, k0_pay77, k0_pay76, v821]

theorem perm_O1 : ∀ c : Dev nD, (gO1 c (k0_off12 c 0 / 32)).Perm (List.finRange 16) := by decide +kernel

theorem own_rows : ∀ b : Fin 32, (b.val / 4 % 2 = 0 → k0_off11 (ownB b.val) 0 = 32 * b.val) ∧ (b.val / 4 % 2 ≠ 0 → k0_off12 (ownB b.val) 0 = 32 * b.val) := by decide +kernel

/-- The summed keys and values are the sum, over the devices, of what each device computed. -/
theorem KV_sum (i : S1024x1024.Idx) : KV m i = ∑ d : Fin 16, A0 m d i := by
  have l0 : (i 0).val < 1024 := (i 0).isLt
  have hb := own_rows ⟨(i 0).val / 32, by omega⟩
  unfold KV
  split
  · rename_i h
    have e : k0_off11 (ownB ((i 0).val / 32)) 0 = 32 * ((i 0).val / 32) := hb.1 h
    have p := perm_O0 (ownB ((i 0).val / 32))
    rw [rep_O0 m _ _ i (by show (i 0).val = k0_off11 (ownB ((i 0).val / 32)) 0 + (i 0).val % 32; rw [e]; exact (Nat.div_add_mod _ _).symm) rfl]
    refine mix_perm ?_ _
    rwa [show k0_off11 (ownB ((i 0).val / 32)) 0 / 32 = (i 0).val / 32 by rw [e]; exact Nat.mul_div_cancel_left _ (by decide)] at p
  · rename_i h
    have e : k0_off12 (ownB ((i 0).val / 32)) 0 = 32 * ((i 0).val / 32) := hb.2 h
    have p := perm_O1 (ownB ((i 0).val / 32))
    rw [rep_O1 m _ _ i (by show (i 0).val = k0_off12 (ownB ((i 0).val / 32)) 0 + (i 0).val % 32; rw [e]; exact (Nat.div_add_mod _ _).symm) rfl]
    refine mix_perm ?_ _
    rwa [show k0_off12 (ownB ((i 0).val / 32)) 0 / 32 = (i 0).val / 32 by rw [e]; exact Nat.mul_div_cancel_left _ (by decide)] at p

end Cert.Exch

end
-- ==== Proof.Ref.lean ====
/-
# The reference, element by element

The reference's stages by name, and each of them read at an index: projections, scores, softmax, the weighted values and the
output projection.
-/
module

public import proofs.«01_k».proof.Proof.Gen.ReferenceIdeal.Run
public import Idealize.ShloMosaic.Lib.Pointwise

@[expose] public section

noncomputable section

namespace Cert.RefV

open Cert.ReferenceIdeal Cert.ReferenceIdeal.Gen
open Idealize.ShloMosaic Idealize.ShloMosaic.TcCoe

/-! ## The formulas -/

/-- `x @ W`. -/
def proj {N : ℕ} (X : (⟨3, ![2, 256, 1024]⟩ : Shape).Idx → EReal) (W : (⟨2, ![1024, N]⟩ : Shape).Idx → EReal) (b : Fin 2) (s : Fin 256) (j : Fin N) : EReal :=
  ∑ k : Fin 1024, X (ix3 b s k) * W (ix2 k j)

/-- `(x @ Wd) @ W`. -/
def proj2 (X : (⟨3, ![2, 256, 1024]⟩ : Shape).Idx → EReal) (Wd W : (⟨2, ![1024, 1024]⟩ : Shape).Idx → EReal) (b : Fin 2) (s : Fin 256) (j : Fin 1024) : EReal :=
  ∑ l : Fin 1024, proj X Wd b s l * W (ix2 l j)

/-- Column `e` of head `h`, heads 64 wide. -/
def c64 (h : Fin 16) (e : Fin 64) : Fin 1024 := ⟨h.val * 64 + e.val, by omega⟩
/-- Column `e` of head `h`, heads 32 wide. -/
def c32 (h : Fin 16) (e : Fin 32) : Fin 512 := ⟨h.val * 32 + e.val, by omega⟩

/-- The part of the scores from queries and keys. -/
def qk (Q K : Fin 2 → Fin 256 → Fin 1024 → EReal) (b : Fin 2) (h : Fin 16) (s t : Fin 256) : EReal :=
  ∑ e : Fin 64, Q b s (c64 h e) * K b t (c64 h e)

/-- The part of the scores from rotary queries and keys. -/
def qrk (Q : Fin 2 → Fin 256 → Fin 512 → EReal) (K : Fin 2 → Fin 256 → Fin 32 → EReal) (b : Fin 2) (h : Fin 16) (s t : Fin 256) : EReal :=
  ∑ e : Fin 32, Q b s (c32 h e) * K b t e

/-- The scale. -/
def κ : EReal := Ideal.ofBits .f32 0x3DD105EC#32

/-! ## The stages -/

section Stages
variable {F : FTy → Type} [FloatOps F]

def rProj2 (x : FVec F S2x256x1024 .bf16) (wd w : FVec F S1024x1024 .bf16) : FVec F S2x256x16x64 .f32 :=
  shapeCast _ (Host.dotGeneral dot_S2x256x1024_S1024x1024_S2x256x1024_2_0_01_1_n_n none
    (Host.dotGeneral dot_S2x256x1024_S1024x1024_S2x256x1024_2_0_01_1_n_n none (extf .f32 x bitsLt_bf16_f32) (extf .f32 wd bitsLt_bf16_f32))
    (extf .f32 w bitsLt_bf16_f32)) shapeCasts_S2x256x1024_S2x256x16x64

def rQ (x : FVec F S2x256x1024 .bf16) (w : FVec F S1024x1024 .bf16) : FVec F S2x256x16x64 .f32 :=
  shapeCast _ (Host.dotGeneral dot_S2x256x1024_S1024x1024_S2x256x1024_2_0_01_1_n_n none (extf .f32 x bitsLt_bf16_f32) (extf .f32 w bitsLt_bf16_f32))
    shapeCasts_S2x256x1024_S2x256x16x64

def rQr (x : FVec F S2x256x1024 .bf16) (w : FVec F S1024x512 .bf16) : FVec F S2x256x16x32 .f32 :=
  shapeCast _ (Host.dotGeneral dot_S2x256x1024_S1024x512_S2x256x512_2_0_01_1_n_n none (extf .f32 x bitsLt_bf16_f32) (extf .f32 w bitsLt_bf16_f32))
    shapeCasts_S2x256x512_S2x256x16x32

def rKr (x : FVec F S2x256x1024 .bf16) (w : FVec F S1024x32 .bf16) : FVec F S2x256x16x32 .f32 :=
  broadcastInDim S2x256x16x32 ![0, 1, 2, 3] bcast_S2x256x1x32_S2x256x16x32_0_1_2_3
    (shapeCast _ (Host.dotGeneral dot_S2x256x1024_S1024x32_S2x256x32_2_0_01_1_n_n none (extf .f32 x bitsLt_bf16_f32) (extf .f32 w bitsLt_bf16_f32))
      shapeCasts_S2x256x32_S2x256x1x32)

def rS (q k : FVec F S2x256x16x64 .f32) (qr kr : FVec F S2x256x16x32 .f32) : FVec F S2x16x256x256 .f32 :=
  mulf (addf (Host.dotGeneral dot_S2x256x16x64_S2x256x16x64_S2x16x256x256_3_3_1_1_02_02 none q k)
    (Host.dotGeneral dot_S2x256x16x32_S2x256x16x32_S2x16x256x256_3_3_1_1_02_02 none qr kr))
    (broadcastInDim S2x16x256x256 ![] bcast_S_S2x16x256x256 (constant S_ .f32 0x3DD105EC#32))

def rE (s : FVec F S2x16x256x256 .f32) : FVec F S2x16x256x256 .f32 :=
  Host.exp (subf s (broadcastInDim S2x16x256x256 ![0, 1, 2, 3] bcast_S2x16x256x1_S2x16x256x256_0_1_2_3
    (broadcastInDim S2x16x256x1 ![0, 1, 2] bcast_S2x16x256_S2x16x256x1_0_1_2
      (Host.reduce FloatOps.maximumf s (constant S_ .f32 0xFF800000#32) reducesTo_S2x16x256x256_S2x16x256_d3 h_S_))))

def rP (e : FVec F S2x16x256x256 .f32) : FVec F S2x16x256x256 .f32 :=
  Host.divf e (broadcastInDim S2x16x256x256 ![0, 1, 2, 3] bcast_S2x16x256x1_S2x16x256x256_0_1_2_3
    (broadcastInDim S2x16x256x1 ![0, 1, 2] bcast_S2x16x256_S2x16x256x1_0_1_2
      (Host.reduceAdd e (constant S_ .f32 0x00000000#32) reducesTo_S2x16x256x256_S2x16x256_d3 h_S_)))

def rO (v : FVec F S2x256x16x64 .f32) (p : FVec F S2x16x256x256 .f32) : FVec F S2x256x1024 .f32 :=
  shapeCast _ (transpose S2x256x16x64 [0, 3, 1, 2] (Host.dotGeneral dot_S2x256x16x64_S2x16x256x256_S2x16x64x256_1_3_3_2_02_01 none v p)
    transposes_S2x16x64x256_S2x256x16x64_0_3_1_2) shapeCasts_S2x256x16x64_S2x256x1024

def rOut (o : FVec F S2x256x1024 .f32) (w : FVec F S1024x1024 .bf16) : FVec F S2x256x1024 .f32 :=
  Host.dotGeneral dot_S2x256x1024_S1024x1024_S2x256x1024_2_0_01_1_n_n none o (extf .f32 w bitsLt_bf16_f32)

def rAll (x : FVec F S2x256x1024 .bf16) (wd wk wv wq : FVec F S1024x1024 .bf16) (wqr : FVec F S1024x512 .bf16) (wkr : FVec F S1024x32 .bf16)
    (wo : FVec F S1024x1024 .bf16) : FVec F S2x256x1024 .f32 :=
  rOut (rO (rProj2 x wd wv) (rP (rE (rS (rQ x wq) (rProj2 x wd wk) (rQr x wqr) (rKr x wkr))))) wo

set_option maxRecDepth 16384 in
theorem res_eq (m : (ℓ : Loc nD τ sig) → Buf (Elt F) ℓ) (c : Dev nD) :
    Value.res_main_v37 m c = rAll (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

end Stages

/-! ## The stages at an index -/

theorem rProj2_at (x : FVec Ideal S2x256x1024 .bf16) (wd w : FVec Ideal S1024x1024 .bf16) (b : Fin 2) (s : Fin 256) (h : Fin 16) (e : Fin 64) :
    rProj2 x wd w (ix4 b s h e) = proj2 x wd w b s (c64 h e) := by
  pointwise [rProj2, proj2, proj, c64]

theorem rQ_at (x : FVec Ideal S2x256x1024 .bf16) (w : FVec Ideal S1024x1024 .bf16) (b : Fin 2) (s : Fin 256) (h : Fin 16) (e : Fin 64) :
    rQ x w (ix4 b s h e) = proj x w b s (c64 h e) := by
  pointwise [rQ, proj, c64]

theorem rQr_at (x : FVec Ideal S2x256x1024 .bf16) (w : FVec Ideal S1024x512 .bf16) (b : Fin 2) (s : Fin 256) (h : Fin 16) (e : Fin 32) :
    rQr x w (ix4 b s h e) = proj x w b s (c32 h e) := by
  pointwise [rQr, proj, c32]

theorem rKr_at (x : FVec Ideal S2x256x1024 .bf16) (w : FVec Ideal S1024x32 .bf16) (b : Fin 2) (s : Fin 256) (h : Fin 16) (e : Fin 32) :
    rKr x w (ix4 b s h e) = proj x w b s e := by
  pointwise [rKr, proj]

theorem rS_at (q k : FVec Ideal S2x256x16x64 .f32) (qr kr : FVec Ideal S2x256x16x32 .f32) (b : Fin 2) (h : Fin 16) (s t : Fin 256) :
    rS q k qr kr (ix4 b h s t)
      = ((∑ e : Fin 64, q (ix4 b s h e) * k (ix4 b t h e)) + ∑ e : Fin 32, qr (ix4 b s h e) * kr (ix4 b t h e)) * κ := by
  pointwise [rS, κ]

theorem bot_word : Ideal.ofBits .f32 0xFF800000#32 = ⊥ := by simp [Ideal.ofBits, Ideal.ieee]

theorem rE_at (S : FVec Ideal S2x16x256x256 .f32) (b : Fin 2) (h : Fin 16) (s t : Fin 256) :
    rE S (ix4 b h s t) = Ideal.exp (S (ix4 b h s t) - Finset.univ.fold max ⊥ fun k : Fin 256 => S (ix4 b h s k)) := by
  pointwise [rE]
  rw [bot_word]

theorem rP_at (E : FVec Ideal S2x16x256x256 .f32) (b : Fin 2) (h : Fin 16) (s t : Fin 256) :
    rP E (ix4 b h s t) = Ideal.div (E (ix4 b h s t)) (∑ k : Fin 256, E (ix4 b h s k)) := by
  pointwise [rP]

theorem rO_at (v : FVec Ideal S2x256x16x64 .f32) (p : FVec Ideal S2x16x256x256 .f32) (b : Fin 2) (s : Fin 256) (h : Fin 16) (e : Fin 64) :
    rO v p (ix3 b s (c64 h e)) = ∑ t : Fin 256, v (ix4 b t h e) * p (ix4 b h s t) := by
  pointwise [rO, c64]

theorem rOut_at (o : FVec Ideal S2x256x1024 .f32) (w : FVec Ideal S1024x1024 .bf16) (b : Fin 2) (s : Fin 256) (j : Fin 1024) :
    rOut o w (ix3 b s j) = ∑ l : Fin 1024, o (ix3 b s l) * w (ix2 l j) := by
  pointwise [rOut]

end Cert.RefV

end
-- ==== Proof.Math.lean ====
/-
# The kernel's values, element by element
-/
module

public import proofs.«01_k».proof.Proof.Sums
public import proofs.«01_k».proof.Proof.Ref

@[expose] public section

noncomputable section

namespace Cert.Exch

open Cert.KernelIdeal Cert.KernelIdeal.Gen
open Idealize.ShloMosaic Idealize.ShloMosaic.TcCoe
open Cert.RefV (proj c64 c32 κ)

/-- Row `s` of batch `b` among 512 rows. -/
def row (b : Fin 2) (s : Fin 256) : Fin 512 := ⟨b.val * 256 + s.val, by omega⟩

theorem row_div (b : Fin 2) (s : Fin 256) (h) : (⟨(row b s).val / 256, h⟩ : Fin 2) = b :=
  Fin.ext (show (b.val * 256 + s.val) / 256 = b.val by omega)
theorem row_mod (b : Fin 2) (s : Fin 256) (h) : (⟨(row b s).val % 256, h⟩ : Fin 256) = s :=
  Fin.ext (show (b.val * 256 + s.val) % 256 = s.val by omega)
theorem row_eq (b : Fin 2) (s : Fin 256) (h) : (⟨256 * b.val + s.val, h⟩ : Fin 512) = row b s := Fin.ext (show 256 * b.val + s.val = b.val * 256 + s.val by omega)
theorem c64_eq (a : Fin 16) (e : Fin 64) (h) : (⟨64 * a.val + e.val, h⟩ : Fin 1024) = c64 a e := Fin.ext (show 64 * a.val + e.val = a.val * 64 + e.val by omega)
theorem c32_eq (a : Fin 16) (e : Fin 32) (h) : (⟨32 * a.val + e.val, h⟩ : Fin 512) = c32 a e := Fin.ext (show 32 * a.val + e.val = a.val * 32 + e.val by omega)
theorem c64_div (a : Fin 16) (e : Fin 64) (h) : (⟨(c64 a e).val / 64, h⟩ : Fin 16) = a := Fin.ext (show (a.val * 64 + e.val) / 64 = a.val by omega)
theorem c64_mod (a : Fin 16) (e : Fin 64) (h) : (⟨(c64 a e).val % 64, h⟩ : Fin 64) = e := Fin.ext (show (a.val * 64 + e.val) % 64 = e.val by omega)

theorem ld_all {α : Type} {s : Shape} {off : Fin s.rank → ℕ} (h : ∀ a, off a = 0) (inb) (X : s.Idx → α) :
    ld (Rect.unit (s := s) off s.size inb) X = X := by
  funext j
  refine congrArg X (funext fun a => Fin.ext ?_)
  rw [emb_val, h a, Nat.zero_add]

theorem z2 : ∀ a : Fin 2, (![0, 0] : Fin 2 → ℕ) a = 0 := by decide
theorem z3 : ∀ a : Fin 3, (![0, 0, 0] : Fin 3 → ℕ) a = 0 := by decide

variable (m : (ℓ : Loc nD τ sig) → Buf (Elt Ideal) ℓ) (c : Dev nD)

theorem v53_eq : v53 m c = in0 m c := ld_all z3 _ _
theorem v56_eq : v56 m c = in1 m c := ld_all z2 _ _
theorem v60_eq : v60 m c = in2 m c := ld_all z2 _ _
theorem v66_eq : v66 m c = in3 m c := ld_all z2 _ _
theorem v124_eq : v124 m c = in4 m c := ld_all z2 _ _
theorem v219_eq : v219 m c = in5 m c := ld_all z2 _ _
theorem v223_eq : v223 m c = in6 m c := ld_all z2 _ _
theorem v1781_eq : v1781 m c = in7 m c := ld_all z2 _ _
theorem v1780_eq : v1780 m c = outT m c := ld_all z2 _ _

theorem pay1_at (x : Vec Ideal S2x256x1024 .bf16) (b : Fin 2) (s : Fin 256) (l : Fin 1024) : k0_pay1 x (ix2 (row b s) l) = x (ix3 b s l) := by
  pointwise [k0_pay1]
  rw [row_div, row_mod]

theorem pay7_at (x : FVec Ideal S512x1024 .bf16) (w : Vec Ideal S1024x1024 .bf16) (r : Fin 512) (j : Fin 1024) :
    k0_pay7 x w (ix2 r j) = ∑ k : Fin 1024, x (ix2 r k) * w (ix2 k j) := by
  pointwise [k0_pay7]

theorem pay14_at (x : FVec Ideal S512x1024 .bf16) (w : Vec Ideal S1024x512 .bf16) (r : Fin 512) (j : Fin 512) :
    k0_pay14 x w (ix2 r j) = ∑ k : Fin 1024, x (ix2 r k) * w (ix2 k j) := by
  pointwise [k0_pay14]

theorem pay16_at (x : FVec Ideal S512x1024 .bf16) (w : Vec Ideal S1024x32 .bf16) (r : Fin 512) (j : Fin 32) :
    k0_pay16 x (k0_pay15 w) (constant S512x32 .f32 0x00000000#32) (ix2 r j) = ∑ k : Fin 1024, x (ix2 r k) * w (ix2 k j) := by
  pointwise [k0_pay16, k0_pay15]

theorem pay3_at (x : Vec Ideal S2x256x1024 .bf16) (w : Vec Ideal S1024x64 .bf16) (u : Vec Ideal S64x1024 .bf16) (r : Fin 512) (j : Fin 1024) :
    k0_pay3 x w u (ix2 r j) = ∑ k : Fin 64, (∑ l : Fin 1024, k0_pay1 x (ix2 r l) * w (ix2 l k)) * u (ix2 k j) := by
  pointwise [k0_pay3, k0_pay2]

theorem pay4_at (x : Vec Ideal S2x256x1024 .bf16) (w : Vec Ideal S1024x64 .bf16) (u : Vec Ideal S64x1024 .bf16) (r : Fin 512) (j : Fin 1024) :
    k0_pay4 x w u (ix2 r j) = ∑ k : Fin 64, (∑ l : Fin 1024, k0_pay1 x (ix2 r l) * w (ix2 l k)) * u (ix2 k j) := by
  pointwise [k0_pay4, k0_pay2]

theorem pay157_at (o : Vec Ideal S512x1024 .bf16) (w : Vec Ideal S1024x1024 .bf16) (b : Fin 2) (s : Fin 256) (j : Fin 1024) :
    k0_pay157 (k0_pay156 o w) (ix3 b s j) = ∑ l : Fin 1024, o (ix2 (row b s) l) * w (ix2 l j) := by
  pointwise [k0_pay157, k0_pay156, row]

theorem rope_at (b : Fin 2) (h : Fin 16) (qr : FVec Ideal S512x512 .bf16) (kr : FVec Ideal S512x32 .bf16) (s t : Fin 256) :
    ropePay b h qr kr (ix2 s t) = κ * ∑ e : Fin 32, qr (ix2 (row b s) (c32 h e)) * kr (ix2 (row b t) e) := by
  pointwise [ropePay, κ]
  simp only [row_eq, c32_eq]

theorem exp_at (b : Fin 2) (h : Fin 16) (q k : FVec Ideal S512x1024 .bf16) (rp : FVec Ideal S256x256 .f32) (s t : Fin 256) :
    expPay b h q k rp (ix2 s t) = Ideal.exp (κ * (∑ e : Fin 64, q (ix2 (row b s) (c64 h e)) * k (ix2 (row b t) (c64 h e))) + rp (ix2 s t)) := by
  pointwise [expPay, κ]
  simp only [row_eq, c64_eq]

theorem head_at (b : Fin 2) (h : Fin 16) (q k v : FVec Ideal S512x1024 .bf16) (rp : FVec Ideal S256x256 .f32) (s : Fin 256) (e : Fin 64) :
    headPay b h q k v rp (ix2 s e) = (∑ t : Fin 256, expPay b h q k rp (ix2 s t) * v (ix2 (row b t) (c64 h e)))
      * Ideal.div 1 (∑ t : Fin 256, expPay b h q k rp (ix2 s t)) := by
  pointwise [headPay]
  simp only [row_eq, c64_eq]

end Cert.Exch

end
-- ==== Proof.Soft.lean ====
/-
# Softmax over the extended reals

Where the scores are real numbers, dividing each weight by the sum before the values are weighted, or dividing the weighted
values by the sum of the unshifted exponentials afterwards, is the same, whatever the values are.
-/
module

public import Idealize.ShloMosaic.Lib.Pointwise

@[expose] public section

noncomputable section

namespace Cert.Soft

open Idealize.ShloMosaic

/-- The extended real is a real number. -/
def IsR (x : EReal) : Prop := ∃ r : ℝ, x = (r : EReal)

theorem IsR.add {x y : EReal} : IsR x → IsR y → IsR (x + y) := by
  rintro ⟨a, rfl⟩ ⟨b, rfl⟩; exact ⟨a + b, (EReal.coe_add a b).symm⟩

theorem IsR.mul {x y : EReal} : IsR x → IsR y → IsR (x * y) := by
  rintro ⟨a, rfl⟩ ⟨b, rfl⟩; exact ⟨a * b, (EReal.coe_mul a b).symm⟩

theorem IsR.sum {ι : Type} (S : Finset ι) {f : ι → EReal} (h : ∀ i, IsR (f i)) : IsR (∑ i ∈ S, f i) := by
  classical
  induction S using Finset.induction_on with
  | empty => exact ⟨0, by simp⟩
  | insert a S ha ih => rw [Finset.sum_insert ha]; exact (h a).add ih

theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

theorem sum_mul_real {ι : Type} (S : Finset ι) (f : ι → EReal) {r : ℝ} (h : 0 ≤ r) : (∑ i ∈ S, f i) * (r : EReal) = ∑ i ∈ S, f i * (r : EReal) := by
  classical
  induction S using Finset.induction_on with
  | empty => simp
  | insert a S ha ih =>
    rw [Finset.sum_insert ha, Finset.sum_insert ha, ← ih, EReal.right_distrib_of_nonneg_of_ne_top (EReal.coe_nonneg.mpr h) (EReal.coe_ne_top r)]

/-- The largest of finitely many real numbers, at least one, is a real number. -/
theorem isR_fold {n : ℕ} (s : Fin (n + 1) → EReal) (h : ∀ t, IsR (s t)) : IsR (Finset.univ.fold max ⊥ s) := by
  classical
  have key : ∀ S : Finset (Fin (n + 1)), S.fold max ⊥ s = ⊥ ∧ S = ∅ ∨ IsR (S.fold max ⊥ s) := by
    intro S
    induction S using Finset.induction_on with
    | empty => exact Or.inl ⟨Finset.fold_empty, rfl⟩
    | insert a S ha ih =>
      refine Or.inr ?_
      rw [Finset.fold_insert ha]
      rcases ih with ⟨h0, -⟩ | h1
      · rw [h0, max_bot_right]; exact h a
      · rcases max_choice (s a) (S.fold max ⊥ s) with e | e <;> rw [e]
        · exact h a
        · exact h1
  rcases key Finset.univ with ⟨-, h0⟩ | h1
  · exact absurd h0 (Finset.univ_nonempty.ne_empty)
  · exact h1

theorem exp_real (r : ℝ) : Ideal.exp (r : EReal) = ((Real.exp r : ℝ) : EReal) := Ideal.exp_coe r

/-- The two ways to weight values by a softmax. -/
theorem softmax {n : ℕ} (s v : Fin (n + 1) → EReal) (h : ∀ t, IsR (s t)) :
    ∑ t, v t * Ideal.div (Ideal.exp (s t - Finset.univ.fold max ⊥ s)) (∑ k, Ideal.exp (s k - Finset.univ.fold max ⊥ s))
      = (∑ t, Ideal.exp (s t) * v t) * Ideal.div 1 (∑ k, Ideal.exp (s k)) := by
  obtain ⟨M, hM⟩ := isR_fold s h
  rw [hM]
  choose r hr using h
  have hs : s = fun t => (r t : EReal) := funext hr
  subst hs
  have e1 : ∀ t, Ideal.exp ((r t : EReal) - (M : EReal)) = ((Real.exp (r t - M) : ℝ) : EReal) := fun t => by
    rw [← EReal.coe_sub, exp_real]
  have e2 : ∀ t, Ideal.exp (r t : EReal) = ((Real.exp (r t) : ℝ) : EReal) := fun t => exp_real _
  simp only [e1, e2, coe_sum]
  have L0 : (0 : ℝ) < ∑ k, Real.exp (r k) := Finset.sum_pos (fun k _ => Real.exp_pos _) Finset.univ_nonempty
  have L1 : (0 : ℝ) < ∑ k, Real.exp (r k - M) := Finset.sum_pos (fun k _ => Real.exp_pos _) Finset.univ_nonempty
  rw [Ideal.div_coe L0.ne', one_mul, sum_mul_real _ _ (one_div_nonneg.mpr L0.le)]
  refine Finset.sum_congr rfl fun t _ => ?_
  rw [Ideal.div_coe L1.ne', ← EReal.coe_mul, mul_comm _ (v t), mul_assoc, ← EReal.coe_mul]
  congr 2
  have : ∑ k, Real.exp (r k - M) = (∑ k, Real.exp (r k)) * Real.exp (-M) := by
    rw [Finset.sum_mul]
    exact Finset.sum_congr rfl fun k _ => by rw [← Real.exp_add, sub_eq_add_neg]
  rw [this, sub_eq_add_neg, Real.exp_add]
  have := (Real.exp_pos (-M)).ne'
  have := L0.ne'
  field_simp

theorem scale {κ a b : EReal} (hκ : IsR κ) (ha : IsR a) (hb : IsR b) : κ * a + κ * b = (a + b) * κ := by
  obtain ⟨k, rfl⟩ := hκ
  obtain ⟨x, rfl⟩ := ha
  obtain ⟨y, rfl⟩ := hb
  rw [← EReal.coe_mul, ← EReal.coe_mul, ← EReal.coe_add, ← EReal.coe_add, ← EReal.coe_mul]
  congr 1; ring

end Cert.Soft

end
-- ==== Proof.Value.lean ====
/-
# The kernel's result is the reference's

For arguments cut over the devices as the claim says, and finite where the scores need it, every device's result is the
reference's.
-/
module

public import proofs.«01_k».proof.Proof.Math
public import proofs.«01_k».proof.Proof.Soft

@[expose] public section

noncomputable section

namespace Cert.Exch

open Cert.KernelIdeal Cert.KernelIdeal.Gen
open Idealize.ShloMosaic Idealize.ShloMosaic.TcCoe
open Cert.RefV (proj proj2 c64 c32 κ qk qrk)
open Cert.Soft (IsR)

variable (m : (ℓ : Loc nD τ sig) → Buf (Elt Ideal) ℓ)

/-! ## Keys and values -/

theorem keys_row (r : Fin 512) (j : Fin 1024) : keys m (ix2 r j) = ∑ d : Fin 16, k0_pay3 (v53 m d) (v56 m d) (v60 m d) (ix2 r j) := by
  have hk : keys m (ix2 r j)
      = KV m ((Rect.unit (s := S1024x1024) ![0, 0] S512x1024.size inb_S1024x1024_S512x1024_0_0).emb (ix2 r j)) := rfl
  rw [hk, KV_sum]
  refine Finset.sum_congr rfl fun d _ => ?_
  unfold A0
  rw [put_off, put_emb]
  rintro ⟨j', hj⟩
  have e := congrArg Fin.val (congrFun hj 0)
  rw [emb_val, emb_val] at e
  have e' : 512 + (j' 0).val = 0 + r.val := e
  have := r.isLt
  omega

theorem vals_row (r : Fin 512) (j : Fin 1024) : vals m (ix2 r j) = ∑ d : Fin 16, k0_pay4 (v53 m d) (v56 m d) (v66 m d) (ix2 r j) := by
  have hk : vals m (ix2 r j)
      = KV m ((Rect.unit (s := S1024x1024) ![512, 0] S512x1024.size inb_S1024x1024_S512x1024_512_0).emb (ix2 r j)) := rfl
  rw [hk, KV_sum]
  refine Finset.sum_congr rfl fun d _ => ?_
  unfold A0
  rw [put_emb]

/-- Number `k` of the 64 of device `d`. -/
def cat (d : Fin 16) (k : Fin 64) : Fin 1024 := ⟨d.val * 64 + k.val, by omega⟩

theorem sum_cat (f : Fin 1024 → EReal) : ∑ d : Fin 16, ∑ k : Fin 64, f (cat d k) = ∑ l : Fin 1024, f l := by
  rw [← (finProdFinEquiv (m := 16) (n := 64)).sum_comp f, Fintype.sum_prod_type]
  refine Finset.sum_congr rfl fun d _ => Finset.sum_congr rfl fun k _ => congrArg f (Fin.ext ?_)
  show d.val * 64 + k.val = k.val + 64 * d.val
  omega

theorem block_cols (w : S1024x1024.Idx → EReal) (d : Fin 16) (l : Fin 1024) (k : Fin 64) :
    Layout.block ⟨2, ![1024, 64]⟩ ⟨2, ![1024, 1024]⟩ 1 16 d w (by decide) (ix2 l k) = w (ix2 l (cat d k)) :=
  congrArg w (funext (Fin.forall_fin_two.mpr ⟨rfl, rfl⟩))

theorem block_rows (w : S1024x1024.Idx → EReal) (d : Fin 16) (k : Fin 64) (j : Fin 1024) :
    Layout.block ⟨2, ![64, 1024]⟩ ⟨2, ![1024, 1024]⟩ 0 16 d w (by decide) (ix2 k j) = w (ix2 (cat d k) j) :=
  congrArg w (funext (Fin.forall_fin_two.mpr ⟨rfl, rfl⟩))

section Args

variable {X : S2x256x1024.Idx → EReal} {Wd Wk Wv Wq Wo : S1024x1024.Idx → EReal} {Wqr : S1024x512.Idx → EReal} {Wkr : S1024x32.Idx → EReal}
variable (h0 : ∀ c, in0 m c = X) (h1 : ∀ c, in1 m c = Layout.block ⟨2, ![1024, 64]⟩ ⟨2, ![1024, 1024]⟩ 1 16 c Wd (by decide))
  (h2 : ∀ c, in2 m c = Layout.block ⟨2, ![64, 1024]⟩ ⟨2, ![1024, 1024]⟩ 0 16 c Wk (by decide))
  (h3 : ∀ c, in3 m c = Layout.block ⟨2, ![64, 1024]⟩ ⟨2, ![1024, 1024]⟩ 0 16 c Wv (by decide))
  (h4 : ∀ c, in4 m c = Wq) (h5 : ∀ c, in5 m c = Wqr) (h6 : ∀ c, in6 m c = Wkr) (h7 : ∀ c, in7 m c = Wo)

include h0 h1 h2 in
theorem keys_at (b : Fin 2) (s : Fin 256) (j : Fin 1024) : keys m (ix2 (row b s) j) = proj2 X Wd Wk b s j := by
  rw [keys_row]
  unfold proj2
  rw [← sum_cat]
  refine Finset.sum_congr rfl fun d _ => ?_
  rw [pay3_at, v53_eq, v56_eq, v60_eq, h0, h1, h2]
  refine Finset.sum_congr rfl fun k _ => ?_
  rw [block_rows]
  refine congrArg (· * _) (Finset.sum_congr rfl fun l _ => ?_)
  rw [pay1_at, block_cols]

include h0 h1 h3 in
theorem vals_at (b : Fin 2) (s : Fin 256) (j : Fin 1024) : vals m (ix2 (row b s) j) = proj2 X Wd Wv b s j := by
  rw [vals_row]
  unfold proj2
  rw [← sum_cat]
  refine Finset.sum_congr rfl fun d _ => ?_
  rw [pay4_at, v53_eq, v56_eq, v66_eq, h0, h1, h3]
  refine Finset.sum_congr rfl fun k _ => ?_
  rw [block_rows]
  refine congrArg (· * _) (Finset.sum_congr rfl fun l _ => ?_)
  rw [pay1_at, block_cols]

/-! ## Queries and rotary parts -/

include h0 in
theorem xf_at (c : Dev nD) (b : Fin 2) (s : Fin 256) (l : Fin 1024) : xf m c (ix2 (row b s) l) = X (ix3 b s l) := by
  unfold xf
  rw [pay1_at, v53_eq, h0]

include h0 h4 in
theorem q_at (c : Dev nD) (b : Fin 2) (s : Fin 256) (j : Fin 1024) : qv m c (ix2 (row b s) j) = proj X Wq b s j := by
  unfold qv proj
  rw [pay7_at, v124_eq, h4]
  exact Finset.sum_congr rfl fun k _ => by rw [xf_at m h0]

include h0 h5 in
theorem qr_at (c : Dev nD) (b : Fin 2) (s : Fin 256) (j : Fin 512) : qrv m c (ix2 (row b s) j) = proj X Wqr b s j := by
  unfold qrv proj
  rw [pay14_at, v219_eq, h5]
  exact Finset.sum_congr rfl fun k _ => by rw [xf_at m h0]

include h0 h6 in
theorem kr_at (c : Dev nD) (b : Fin 2) (s : Fin 256) (j : Fin 32) : krv m c (ix2 (row b s) j) = proj X Wkr b s j := by
  unfold krv proj
  rw [pay16_at, v223_eq, h6]
  exact Finset.sum_congr rfl fun k _ => by rw [xf_at m h0]

/-! ## Scores -/

/-- The scores. -/
def sc (X : S2x256x1024.Idx → EReal) (Wd Wk Wq : S1024x1024.Idx → EReal) (Wqr : S1024x512.Idx → EReal) (Wkr : S1024x32.Idx → EReal)
    (b : Fin 2) (h : Fin 16) (s t : Fin 256) : EReal :=
  (qk (proj X Wq) (proj2 X Wd Wk) b h s t + qrk (proj X Wqr) (proj X Wkr) b h s t) * κ

theorem isR_κ : IsR κ := by
  unfold κ IsR
  simp [Ideal.ofBits, Ideal.ieee]
  exact ⟨_, (EReal.coe_mul _ _).symm⟩

theorem isR_proj {N : ℕ} {X : S2x256x1024.Idx → EReal} {W : (⟨2, ![1024, N]⟩ : Shape).Idx → EReal} (hX : ∀ i, IsR (X i)) (hW : ∀ i, IsR (W i)) (b s j) :
    IsR (proj X W b s j) := IsR.sum _ fun k => (hX _).mul (hW _)

theorem isR_proj2 {X : S2x256x1024.Idx → EReal} {W W' : S1024x1024.Idx → EReal} (hX : ∀ i, IsR (X i)) (hW : ∀ i, IsR (W i)) (hW' : ∀ i, IsR (W' i)) (b s j) :
    IsR (proj2 X W W' b s j) := IsR.sum _ fun k => (isR_proj hX hW _ _ _).mul (hW' _)

variable (fX : ∀ i, IsR (X i)) (fd : ∀ i, IsR (Wd i)) (fk : ∀ i, IsR (Wk i)) (fq : ∀ i, IsR (Wq i)) (fqr : ∀ i, IsR (Wqr i)) (fkr : ∀ i, IsR (Wkr i))

include fX fd fk fq in
theorem isR_qk (b h s t) : IsR (qk (proj X Wq) (proj2 X Wd Wk) b h s t) :=
  IsR.sum _ fun e => (isR_proj fX fq _ _ _).mul (isR_proj2 fX fd fk _ _ _)

include fX fqr fkr in
theorem isR_qrk (b h s t) : IsR (qrk (proj X Wqr) (proj X Wkr) b h s t) :=
  IsR.sum _ fun e => (isR_proj fX fqr _ _ _).mul (isR_proj fX fkr _ _ _)

include h0 h1 h2 h4 h5 h6 fX fd fk fq fqr fkr in
theorem weight_at (c : Dev nD) (b : Fin 2) (h : Fin 16) (s t : Fin 256) :
    expPay b h (qv m c) (keys m) (ropePay b h (qrv m c) (krv m c)) (ix2 s t) = Ideal.exp (sc X Wd Wk Wq Wqr Wkr b h s t) := by
  rw [exp_at, rope_at]
  unfold sc
  rw [← Cert.Soft.scale isR_κ (isR_qk fX fd fk fq b h s t) (isR_qrk fX fqr fkr b h s t)]
  unfold qk qrk
  congr 2
  · refine congrArg (κ * ·) (Finset.sum_congr rfl fun e _ => ?_)
    rw [q_at m h0 h4, keys_at m h0 h1 h2]
  · refine congrArg (κ * ·) (Finset.sum_congr rfl fun e _ => ?_)
    rw [qr_at m h0 h5, kr_at m h0 h6]

/-! ## The result -/

/-- The attention output. -/
def att (X : S2x256x1024.Idx → EReal) (Wd Wk Wv Wq : S1024x1024.Idx → EReal) (Wqr : S1024x512.Idx → EReal) (Wkr : S1024x32.Idx → EReal)
    (b : Fin 2) (s : Fin 256) (h : Fin 16) (e : Fin 64) : EReal :=
  (∑ t : Fin 256, Ideal.exp (sc X Wd Wk Wq Wqr Wkr b h s t) * proj2 X Wd Wv b t (c64 h e))
    * Ideal.div 1 (∑ t : Fin 256, Ideal.exp (sc X Wd Wk Wq Wqr Wkr b h s t))

theorem head_congr (q k v : FVec Ideal S512x1024 .bf16) (qr : FVec Ideal S512x512 .bf16) (kr : FVec Ideal S512x32 .bf16) {b b' : Fin 2} {h h' : Fin 16}
    {s s' : Fin 256} {e e' : Fin 64} (hb : b = b') (hh : h = h') (hs : s = s') (he : e = e') :
    headPay b h q k v (ropePay b h qr kr) (ix2 s e) = headPay b' h' q k v (ropePay b' h' qr kr) (ix2 s' e') := by
  subst hb hh hs he; rfl

include h0 h1 h2 h3 h4 h5 h6 fX fd fk fq fqr fkr in
theorem outT_at (c : Dev nD) (b : Fin 2) (s : Fin 256) (h : Fin 16) (e : Fin 64) :
    outT m c (ix2 (row b s) (c64 h e)) = att X Wd Wk Wv Wq Wqr Wkr b s h e := by
  have hu : outT m c (ix2 (row b s) (c64 h e)) = headPay b h (qv m c) (keys m) (vals m) (ropePay b h (qrv m c) (krv m c)) (ix2 s e) := by
    exact head_congr _ _ _ _ _ (row_div b s _) (c64_div h e _) (row_mod b s _) (c64_mod h e _)
  rw [hu, head_at]
  unfold att
  simp only [weight_at m h0 h1 h2 h4 h5 h6 fX fd fk fq fqr fkr, vals_at m h0 h1 h3]

include fX fd fk fq fqr fkr in
theorem ref_att (b : Fin 2) (s : Fin 256) (h : Fin 16) (e : Fin 64) :
    Cert.RefV.rO (F := Ideal) (Cert.RefV.rProj2 X Wd Wv) (Cert.RefV.rP (Cert.RefV.rE (Cert.RefV.rS (Cert.RefV.rQ X Wq) (Cert.RefV.rProj2 X Wd Wk)
      (Cert.RefV.rQr X Wqr) (Cert.RefV.rKr X Wkr)))) (ix3 b s (c64 h e)) = att X Wd Wk Wv Wq Wqr Wkr b s h e := by
  have hS : ∀ t, Cert.RefV.rS (F := Ideal) (Cert.RefV.rQ X Wq) (Cert.RefV.rProj2 X Wd Wk) (Cert.RefV.rQr X Wqr) (Cert.RefV.rKr X Wkr) (ix4 b h s t)
      = sc X Wd Wk Wq Wqr Wkr b h s t := fun t => by
    rw [Cert.RefV.rS_at]
    simp only [Cert.RefV.rQ_at, Cert.RefV.rProj2_at, Cert.RefV.rQr_at, Cert.RefV.rKr_at]
    rfl
  rw [Cert.RefV.rO_at]
  simp only [Cert.RefV.rP_at, Cert.RefV.rE_at, Cert.RefV.rProj2_at, hS]
  exact Cert.Soft.softmax (n := 255) (sc X Wd Wk Wq Wqr Wkr b h s) (fun t => proj2 X Wd Wv b t (c64 h e))
    fun t => ((isR_qk fX fd fk fq b h s t).add (isR_qrk fX fqr fkr b h s t)).mul isR_κ

theorem exists_c64 (l : Fin 1024) : ∃ h e, l = c64 h e :=
  ⟨⟨l.val / 64, by omega⟩, ⟨l.val % 64, by omega⟩, Fin.ext (show l.val = l.val / 64 * 64 + l.val % 64 by omega)⟩

include h0 h1 h2 h3 h4 h5 h6 h7 fX fd fk fq fqr fkr in
/-- Every device's result is the reference's. -/
theorem out_eq (c : Dev nD) : outV m c = Cert.RefV.rAll (F := Ideal) X Wd Wk Wv Wq Wqr Wkr Wo := by
  funext i
  obtain ⟨b, s, j, rfl⟩ : ∃ (b : Fin 2) (s : Fin 256) (j : Fin 1024), i = ix3 b s j := ⟨i 0, i 1, i 2, eq_ix3 i⟩
  unfold outV Cert.RefV.rAll
  rw [pay157_at, Cert.RefV.rOut_at, v1780_eq, v1781_eq, h7]
  refine Finset.sum_congr rfl fun l _ => congrArg (· * _) ?_
  obtain ⟨h, e, rfl⟩ := exists_c64 l
  rw [outT_at m h0 h1 h2 h3 h4 h5 h6 fX fd fk fq fqr fkr, ref_att fX fd fk fq fqr fkr]

end Args

end Cert.Exch

end
-- ==== Proof.Finite.lean ====
/-
# What the precondition says

An entry whose absolute value is below infinity is a real number.
-/
module

public import proofs.«01_k».proof.Defs
public import proofs.«01_k».proof.Proof.Soft

@[expose] public section

noncomputable section

namespace Cert.Finite

open Idealize.ShloMosaic Idealize.ShloMosaic.TcCoe
open Cert.Soft (IsR)

theorem isR_of_lt {x : EReal} (h : max x (-x) < ⊤) : IsR x := by
  induction x using EReal.rec with
  | bot => simp at h
  | top => simp at h
  | coe r => exact ⟨r, rfl⟩

theorem top_word : Ideal.ofBits .f32 0x7F800000#32 = ⊤ := by simp [Ideal.ofBits, Ideal.ieee]

theorem isR_of_word {x : EReal} (h : Ideal.cmp .olt (max x (-x)) (Ideal.ofBits .f32 0x7F800000#32) = 1#1) : IsR x := by
  rw [top_word] at h
  refine isR_of_lt ?_
  by_contra hn
  simp [Ideal.cmp, hn] at h

/-- An array every entry of which has an absolute value below infinity holds real numbers. -/
theorem word_at {s : Shape} (x : FVec Ideal s .bf16) (hb : (⟨0, ![]⟩ : Shape).BroadcastsInDim s (![] : Fin 0 → Fin s.rank)) (hx : FTy.bf16.bits < FTy.f32.bits)
    (h : cmpf .olt (Host.absf (extf .f32 x hx)) (broadcastInDim s ![] hb (constant (F := Ideal) ⟨0, ![]⟩ .f32 0x7F800000#32)) = fun _ => 1#1) (i : s.Idx) : IsR (x i) :=
  isR_of_word (congrFun h i)

end Cert.Finite

end
-- ==== Proof.Alg.lean ====
/-
# The value claim

Under the precondition the kernel leaves on every device what the reference leaves on its one device.
-/
module

public import proofs.«01_k».proof.Proof.Frames
public import proofs.«01_k».proof.Proof.Ends
public import proofs.«01_k».proof.Proof.Value
public import proofs.«01_k».proof.Proof.Finite

@[expose] public section

noncomputable section

namespace Cert.Exch

open Idealize.ShloMosaic Idealize.ShloMosaic.TcCoe
open Cert.KernelIdeal Cert.KernelIdeal.Gen
open Cert.Soft (IsR)

theorem preK : Cert.Pre_scores_finite_KernelIdeal.Facts := ⟨by decide, by decide, by decide, by decide, by decide, by decide, by decide⟩

theorem preR : Cert.Pre_scores_finite_ReferenceIdeal.Facts := ⟨by decide, by decide, by decide, by decide, by decide⟩

/-- A row or column of the whole array is one of some device's block. -/
theorem exists_cat (j : Fin 1024) : ∃ d k, j = cat d k :=
  ⟨⟨j.val / 64, by omega⟩, ⟨j.val % 64, by omega⟩, Fin.ext (show j.val = j.val / 64 * 64 + j.val % 64 by omega)⟩

theorem exists_ix2 (i : S1024x1024.Idx) : ∃ a b : Fin 1024, i = ix2 a b := ⟨i 0, i 1, funext (Fin.forall_fin_two.mpr ⟨rfl, rfl⟩)⟩

theorem isR_cols {w : (⟨2, ![1024, 1024]⟩ : Shape).Idx → EReal}
    (h : ∀ (d : Fin 16) i, IsR (Layout.block ⟨2, ![1024, 64]⟩ ⟨2, ![1024, 1024]⟩ 1 16 d w (by decide) i)) (i) : IsR (w i) := by
  obtain ⟨a, b, rfl⟩ := exists_ix2 i
  obtain ⟨d, k, rfl⟩ := exists_cat b
  exact block_cols w d a k ▸ h d (ix2 a k)

theorem isR_rows {w : (⟨2, ![1024, 1024]⟩ : Shape).Idx → EReal}
    (h : ∀ (d : Fin 16) i, IsR (Layout.block ⟨2, ![64, 1024]⟩ ⟨2, ![1024, 1024]⟩ 0 16 d w (by decide) i)) (i) : IsR (w i) := by
  obtain ⟨a, b, rfl⟩ := exists_ix2 i
  obtain ⟨d, k, rfl⟩ := exists_cat a
  exact block_rows w d k b ▸ h d (ix2 k b)

/-- What the precondition says of a device's arrays. -/
theorem pre_isR (m : (ℓ : Loc nD τ sig) → Buf (Elt Ideal) ℓ) (h : Cert.Pre_KernelIdeal_scores_finite_KernelIdeal (hPre_scores_finite_KernelIdeal := preK) m) (c : Dev nD) :
    (∀ i, IsR (m ((c : Thread nD τ).loc main_arg0) i)) ∧ (∀ i, IsR (m ((c : Thread nD τ).loc main_arg1) i)) ∧ (∀ i, IsR (m ((c : Thread nD τ).loc main_arg2) i))
      ∧ (∀ i, IsR (m ((c : Thread nD τ).loc main_arg4) i)) ∧ (∀ i, IsR (m ((c : Thread nD τ).loc main_arg5) i)) ∧ (∀ i, IsR (m ((c : Thread nD τ).loc main_arg6) i)) := by
  obtain ⟨h0, h1, h2, h4, h5, h6⟩ := h c
  exact ⟨Cert.Finite.word_at (s := S2x256x1024) _ (by decide) (by decide) h0, Cert.Finite.word_at (s := S1024x64) _ (by decide) (by decide) h1,
    Cert.Finite.word_at (s := S64x1024) _ (by decide) (by decide) h2, Cert.Finite.word_at (s := S1024x1024) _ (by decide) (by decide) h4,
    Cert.Finite.word_at (s := S1024x512) _ (by decide) (by decide) h5, Cert.Finite.word_at (s := S1024x32) _ (by decide) (by decide) h6⟩

theorem algebraic : Cert.algebraic_KernelIdeal_ReferenceIdeal_pre_scores_finite_KernelIdeal (hPre_scores_finite_KernelIdeal := preK) := by
  intro m ρ m' ρ' hp ha
  have f := pre_isR m hp
  have a0 := fun c => (ha c).1
  have a1 := fun c => (ha c).2.1
  have a2 := fun c => (ha c).2.2.1
  have a3 := fun c => (ha c).2.2.2.1
  have a4 := fun c => (ha c).2.2.2.2.1
  have a5 := fun c => (ha c).2.2.2.2.2.1
  have a6 := fun c => (ha c).2.2.2.2.2.2.1
  have a7 := fun c => (ha c).2.2.2.2.2.2.2
  have gd (d : Dev nD) := (f d).2.1
  have gk (d : Dev nD) := (f d).2.2.1
  simp only [a1] at gd
  simp only [a2] at gk
  have fX := (f 0).1
  have fd := isR_cols gd
  have fk := isR_rows gk
  have fq := (f 0).2.2.2.1
  have fqr := (f 0).2.2.2.2.1
  have fkr := (f 0).2.2.2.2.2
  rw [a0 0] at fX
  rw [a4 0] at fq
  rw [a5 0] at fqr
  rw [a6 0] at fkr
  have e (c : Dev nD) := out_eq m (fun c => (in0_eq m c).trans (a0 c)) (fun c => (in1_eq m c).trans (a1 c)) (fun c => (in2_eq m c).trans (a2 c))
    (fun c => (in3_eq m c).trans (a3 c)) (fun c => (in4_eq m c).trans (a4 c)) (fun c => (in5_eq m c).trans (a5 c)) (fun c => (in6_eq m c).trans (a6 c))
    (fun c => (in7_eq m c).trans (a7 c)) fX fd fk fq fqr fkr c
  refine ⟨Cert.ReferenceIdeal.Value.res_main_v37 m' 0, ?_, ?_⟩
  · exact (θ_run Cert.KernelIdeal.defs _ _).mono (fun r h c =>
      ⟨(result_is m ρ h.1 c).trans ((final_out m ρ c).trans ((e c).trans (Cert.RefV.res_eq m' 0).symm)), args_kept m ρ h.1 c⟩) (run_main (F := Ideal) m ρ)
  · exact (θ_run Cert.ReferenceIdeal.defs _ _).mono (fun r h => h 0) (Cert.ReferenceIdeal.Value.run (F := Ideal) m' ρ')

end Cert.Exch

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Exch.preK, Cert.Exch.preR,
  Cert.Exch.frame_kernel, Cert.Exch.frame_kernelIdeal, fun m ρ _ => Cert.Exch.frame_kernelIdeal m ρ trivial,
  Cert.Exch.frame_reference, fun m ρ _ => Cert.Exch.frame_reference m ρ trivial, trivial, Cert.Exch.algebraic⟩

end Cert.Proof

end
